-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.PackStatement Cert.KernelIdeal.S64x128
  ∧ IdealRules.bf16_pair.Statement Cert.KernelIdeal.S8x2x128 Cert.KernelIdeal.S8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x5120 : Shape := ⟨3, ![64, 1, 5120]⟩
abbrev S5120 : Shape := ⟨1, ![5120]⟩
abbrev S64x1 : Shape := ⟨2, ![64, 1]⟩
abbrev S5120x160x16 : Shape := ⟨3, ![5120, 160, 16]⟩
abbrev S5120x160 : Shape := ⟨2, ![5120, 160]⟩
abbrev S1024x160x16 : Shape := ⟨3, ![1024, 160, 16]⟩
abbrev S1024x160 : Shape := ⟨2, ![1024, 160]⟩
abbrev S128 : Shape := ⟨1, ![128]⟩
abbrev S1x128 : Shape := ⟨2, ![1, 128]⟩
abbrev S64x5120 : Shape := ⟨2, ![64, 5120]⟩
abbrev S40x128 : Shape := ⟨2, ![40, 128]⟩
abbrev S1x64 : Shape := ⟨2, ![1, 64]⟩
abbrev S160x16x5120 : Shape := ⟨3, ![160, 16, 5120]⟩
abbrev S160x2x8x40x128 : Shape := ⟨5, ![160, 2, 8, 40, 128]⟩
abbrev S160x2x40x8x128 : Shape := ⟨5, ![160, 2, 40, 8, 128]⟩
abbrev S320x320x128 : Shape := ⟨3, ![320, 320, 128]⟩
abbrev S160x5120 : Shape := ⟨2, ![160, 5120]⟩
abbrev S160x16x1024 : Shape := ⟨3, ![160, 16, 1024]⟩
abbrev S160x2x8x8x128 : Shape := ⟨5, ![160, 2, 8, 8, 128]⟩
abbrev S320x64x128 : Shape := ⟨3, ![320, 64, 128]⟩
abbrev S160x1024 : Shape := ⟨2, ![160, 1024]⟩
abbrev S64x40x128 : Shape := ⟨3, ![64, 40, 128]⟩
abbrev S64x8x128 : Shape := ⟨3, ![64, 8, 128]⟩
abbrev S40x64x128 : Shape := ⟨3, ![40, 64, 128]⟩
abbrev S64x128 : Shape := ⟨2, ![64, 128]⟩
abbrev S4 : Shape := ⟨1, ![4]⟩
abbrev S20 : Shape := ⟨1, ![20]⟩
abbrev S3 : Shape := ⟨1, ![3]⟩
abbrev S1 : Shape := ⟨1, ![1]⟩
abbrev S_ : Shape := ⟨0, ![]⟩
abbrev S8x5120 : Shape := ⟨2, ![8, 5120]⟩
abbrev S8x1024 : Shape := ⟨2, ![8, 1024]⟩
abbrev S16x320x128 : Shape := ⟨3, ![16, 320, 128]⟩
abbrev S16x64x128 : Shape := ⟨3, ![16, 64, 128]⟩
abbrev S64x64 : Shape := ⟨2, ![64, 64]⟩
abbrev S64 : Shape := ⟨1, ![64]⟩
abbrev S64x128x1 : Shape := ⟨3, ![64, 128, 1]⟩
abbrev S1x64x128 : Shape := ⟨3, ![1, 64, 128]⟩
abbrev S8x8x128 : Shape := ⟨3, ![8, 8, 128]⟩
abbrev S64x256 : Shape := ⟨2, ![64, 256]⟩
abbrev S8x128 : Shape := ⟨2, ![8, 128]⟩
abbrev S16x128 : Shape := ⟨2, ![16, 128]⟩
abbrev S1x32x128 : Shape := ⟨3, ![1, 32, 128]⟩
abbrev S32x128 : Shape := ⟨2, ![32, 128]⟩
abbrev S8x1x128 : Shape := ⟨3, ![8, 1, 128]⟩
abbrev S256x128 : Shape := ⟨2, ![256, 128]⟩
abbrev S256x256 : Shape := ⟨2, ![256, 256]⟩
abbrev S64x20x128 : Shape := ⟨3, ![64, 20, 128]⟩
abbrev S1280x128 : Shape := ⟨2, ![1280, 128]⟩
abbrev S8x2x128 : Shape := ⟨3, ![8, 2, 128]⟩
abbrev S64x4x128 : Shape := ⟨3, ![64, 4, 128]⟩

abbrev nBuf : Space → Nat
  | .hbm => 32
  | .vmem => 17
  | .smem => 0
  | _ => 0

abbrev bufTy : (tb : Table) → Fin (tcTables nBuf tb) → BufTy
  | .hbm, ⟨0, _⟩ => ⟨S64x1x5120, .bf16⟩
  | .hbm, ⟨1, _⟩ => ⟨S5120, .bf16⟩
  | .hbm, ⟨2, _⟩ => ⟨S64x1, .i32⟩
  | .hbm, ⟨3, _⟩ => ⟨S5120x160x16, .i8⟩
  | .hbm, ⟨4, _⟩ => ⟨S5120x160, .bf16⟩
  | .hbm, ⟨5, _⟩ => ⟨S1024x160x16, .i8⟩
  | .hbm, ⟨6, _⟩ => ⟨S1024x160, .bf16⟩
  | .hbm, ⟨7, _⟩ => ⟨S1024x160x16, .i8⟩
  | .hbm, ⟨8, _⟩ => ⟨S1024x160, .bf16⟩
  | .hbm, ⟨9, _⟩ => ⟨S128, .f32⟩
  | .hbm, ⟨10, _⟩ => ⟨S1x128, .f32⟩
  | .hbm, ⟨11, _⟩ => ⟨S64x5120, .bf16⟩
  | .hbm, ⟨12, _⟩ => ⟨S40x128, .bf16⟩
  | .hbm, ⟨13, _⟩ => ⟨S1x64, .i32⟩
  | .hbm, ⟨14, _⟩ => ⟨S160x16x5120, .i8⟩
  | .hbm, ⟨15, _⟩ => ⟨S160x2x8x40x128, .i8⟩
  | .hbm, ⟨16, _⟩ => ⟨S160x2x40x8x128, .i8⟩
  | .hbm, ⟨17, _⟩ => ⟨S320x320x128, .i8⟩
  | .hbm, ⟨18, _⟩ => ⟨S160x5120, .bf16⟩
  | .hbm, ⟨19, _⟩ => ⟨S160x16x1024, .i8⟩
  | .hbm, ⟨20, _⟩ => ⟨S160x2x8x8x128, .i8⟩
  | .hbm, ⟨21, _⟩ => ⟨S160x2x8x8x128, .i8⟩
  | .hbm, ⟨22, _⟩ => ⟨S320x64x128, .i8⟩
  | .hbm, ⟨23, _⟩ => ⟨S160x1024, .bf16⟩
  | .hbm, ⟨24, _⟩ => ⟨S160x16x1024, .i8⟩
  | .hbm, ⟨25, _⟩ => ⟨S160x2x8x8x128, .i8⟩
  | .hbm, ⟨26, _⟩ => ⟨S160x2x8x8x128, .i8⟩
  | .hbm, ⟨27, _⟩ => ⟨S320x64x128, .i8⟩
  | .hbm, ⟨28, _⟩ => ⟨S160x1024, .bf16⟩
  | .hbm, ⟨29, _⟩ => ⟨S64x40x128, .bf16⟩
  | .hbm, ⟨30, _⟩ => ⟨S64x8x128, .bf16⟩
  | .hbm, ⟨31, _⟩ => ⟨S64x8x128, .bf16⟩
  | .local _ .vmem, ⟨0, _⟩ => ⟨S64x5120, .bf16⟩
  | .local _ .vmem, ⟨1, _⟩ => ⟨S40x128, .bf16⟩
  | .local _ .vmem, ⟨2, _⟩ => ⟨S40x128, .f32⟩
  | .local _ .vmem, ⟨3, _⟩ => ⟨S1x64, .i32⟩
  | .local _ .vmem, ⟨4, _⟩ => ⟨S1x128, .f32⟩
  | .local _ .vmem, ⟨5, _⟩ => ⟨S320x320x128, .i8⟩
  | .local _ .vmem, ⟨6, _⟩ => ⟨S320x64x128, .i8⟩
  | .local _ .vmem, ⟨7, _⟩ => ⟨S320x64x128, .i8⟩
  | .local _ .vmem, ⟨8, _⟩ => ⟨S160x5120, .bf16⟩
  | .local _ .vmem, ⟨9, _⟩ => ⟨S160x1024, .bf16⟩
  | .local _ .vmem, ⟨10, _⟩ => ⟨S160x1024, .bf16⟩
  | .local _ .vmem, ⟨11, _⟩ => ⟨S40x64x128, .bf16⟩
  | .local _ .vmem, ⟨12, _⟩ => ⟨S64x128, .f32⟩
  | .local _ .vmem, ⟨13, _⟩ => ⟨S64x128, .f32⟩
  | .local _ .vmem, ⟨14, _⟩ => ⟨S64x40x128, .bf16⟩
  | .local _ .vmem, ⟨15, _⟩ => ⟨S64x8x128, .bf16⟩
  | .local _ .vmem, ⟨16, _⟩ => ⟨S64x8x128, .bf16⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩

abbrev nD : Nat := 1
abbrev τ : Topo := Topo.v7x

variable {F : FTy → Type} [BitOps F]

abbrev grid0 : Pipeline.Grid := .none

@[reducible] def k0_t1_loop : Scf.Loop 32 :=
  let c0_i32_0 : BitVec 32 := 0#32
  let c10_i32 : BitVec 32 := 10#32
  let v8 : BitVec 32 := Scalar.addi c0_i32_0 c10_i32
  let c1_i32_1 : BitVec 32 := 1#32
  ⟨c0_i32_0, v8, c1_i32_1⟩
def k0_off1 (k0_t1 : Fin k0_t1_loop.trips) : Fin 1 → Nat :=
  let c0_i32_0 : BitVec 32 := 0#32
  let c1_i32_1 : BitVec 32 := 1#32
  let arg33 : BitVec 32 := Scf.iv c0_i32_0 c1_i32_1 k0_t1
  ![arg33.toNat]
def k0_off2 (k0_t1 : Fin k0_t1_loop.trips) : Fin 2 → Nat :=
  let c0_i32_0 : BitVec 32 := 0#32
  let c1_i32_1 : BitVec 32 := 1#32
  let arg33 : BitVec 32 := Scf.iv c0_i32_0 c1_i32_1 k0_t1
  let c8_i32_344 : BitVec 32 := 8#32
  let v980 : BitVec 32 := Scalar.muli arg33 c8_i32_344
  let c0_i32_345 : BitVec 32 := 0#32
  ![v980.toNat, 0]
def k0_off3 (k0_t1 : Fin k0_t1_loop.trips) : Fin 2 → Nat :=
  let c0_i32_0 : BitVec 32 := 0#32
  let c1_i32_1 : BitVec 32 := 1#32
  let arg33 : BitVec 32 := Scf.iv c0_i32_0 c1_i32_1 k0_t1
  let c8_i32_344 : BitVec 32 := 8#32
  let v980 : BitVec 32 := Scalar.muli arg33 c8_i32_344
  let c0_i32_347 : BitVec 32 := 0#32
  ![v980.toNat, 0]
def k0_off4 (k0_t1 : Fin k0_t1_loop.trips) : Fin 3 → Nat :=
  let c0_i32_0 : BitVec 32 := 0#32
  let c1_i32_1 : BitVec 32 := 1#32
  let arg33 : BitVec 32 := Scf.iv c0_i32_0 c1_i32_1 k0_t1
  let c16_i32_343 : BitVec 32 := 16#32
  let v979 : BitVec 32 := Scalar.muli arg33 c16_i32_343
  let c0_i32_351 : BitVec 32 := 0#32
  let c0_i32_352 : BitVec 32 := 0#32
  ![v979.toNat, 0, 0]
def k0_off5 (k0_t1 : Fin k0_t1_loop.trips) : Fin 3 → Nat :=
  let c0_i32_0 : BitVec 32 := 0#32
  let c1_i32_1 : BitVec 32 := 1#32
  let arg33 : BitVec 32 := Scf.iv c0_i32_0 c1_i32_1 k0_t1
  let c16_i32_343 : BitVec 32 := 16#32
  let v979 : BitVec 32 := Scalar.muli arg33 c16_i32_343
  let c0_i32_355 : BitVec 32 := 0#32
  let c0_i32_356 : BitVec 32 := 0#32
  ![v979.toNat, 0, 0]
@[reducible] def k0_t2_loop : Scf.Loop 32 :=
  let c0_i32_17 : BitVec 32 := 0#32
  let c40_i32 : BitVec 32 := 40#32
  let v47 : BitVec 32 := Scalar.addi c0_i32_17 c40_i32
  let c1_i32_18 : BitVec 32 := 1#32
  ⟨c0_i32_17, v47, c1_i32_18⟩
def k0_mult1 (k0_t2 : Fin k0_t2_loop.trips) : BitVec 32 :=
  let c0_i32_17 : BitVec 32 := 0#32
  let c1_i32_18 : BitVec 32 := 1#32
  let arg33 : BitVec 32 := Scf.iv c0_i32_17 c1_i32_18 k0_t2
  let c128_i32_343 : BitVec 32 := 128#32
  let v979 : BitVec 32 := Scalar.muli arg33 c128_i32_343
  v979
def k0_off6 (k0_t2 : Fin k0_t2_loop.trips) : Fin 2 → Nat :=
  let c0_344 : Index := 0#32
  let c0_i32_17 : BitVec 32 := 0#32
  let c1_i32_18 : BitVec 32 := 1#32
  let arg33 : BitVec 32 := Scf.iv c0_i32_17 c1_i32_18 k0_t2
  let c128_i32_343 : BitVec 32 := 128#32
  let v979 : BitVec 32 := Scalar.muli arg33 c128_i32_343
  let v980 : BitVec 32 := v979
  let v981 : Index := Scalar.indexCast v980
  ![0, v981.toNat]
def k0_mult2 : BitVec 32 :=
  let c0_i32_58 : BitVec 32 := 0#32
  c0_i32_58
def k0_mult3 : BitVec 32 :=
  let c128_i32_66 : BitVec 32 := 128#32
  c128_i32_66
def k0_mult4 : BitVec 32 :=
  let c256_i32 : BitVec 32 := 256#32
  c256_i32
def k0_mult5 : BitVec 32 :=
  let c384_i32 : BitVec 32 := 384#32
  c384_i32
def k0_mult6 : BitVec 32 :=
  let c512_i32 : BitVec 32 := 512#32
  c512_i32
def k0_mult7 : BitVec 32 :=
  let c640_i32 : BitVec 32 := 640#32
  c640_i32
def k0_mult8 : BitVec 32 :=
  let c768_i32 : BitVec 32 := 768#32
  c768_i32
def k0_mult9 : BitVec 32 :=
  let c896_i32 : BitVec 32 := 896#32
  c896_i32
def k0_mult10 : BitVec 32 :=
  let c1024_i32 : BitVec 32 := 1024#32
  c1024_i32
def k0_mult11 : BitVec 32 :=
  let c1152_i32 : BitVec 32 := 1152#32
  c1152_i32
def k0_mult12 : BitVec 32 :=
  let c1280_i32 : BitVec 32 := 1280#32
  c1280_i32
def k0_mult13 : BitVec 32 :=
  let c1408_i32 : BitVec 32 := 1408#32
  c1408_i32
def k0_mult14 : BitVec 32 :=
  let c1536_i32 : BitVec 32 := 1536#32
  c1536_i32
def k0_mult15 : BitVec 32 :=
  let c1664_i32 : BitVec 32 := 1664#32
  c1664_i32
def k0_mult16 : BitVec 32 :=
  let c1792_i32 : BitVec 32 := 1792#32
  c1792_i32
def k0_mult17 : BitVec 32 :=
  let c1920_i32 : BitVec 32 := 1920#32
  c1920_i32
def k0_mult18 : BitVec 32 :=
  let c2048_i32 : BitVec 32 := 2048#32
  c2048_i32
def k0_mult19 : BitVec 32 :=
  let c2176_i32 : BitVec 32 := 2176#32
  c2176_i32
def k0_mult20 : BitVec 32 :=
  let c2304_i32 : BitVec 32 := 2304#32
  c2304_i32
def k0_mult21 : BitVec 32 :=
  let c2432_i32 : BitVec 32 := 2432#32
  c2432_i32
def k0_mult22 : BitVec 32 :=
  let c2560_i32 : BitVec 32 := 2560#32
  c2560_i32
def k0_mult23 : BitVec 32 :=
  let c2688_i32 : BitVec 32 := 2688#32
  c2688_i32
def k0_mult24 : BitVec 32 :=
  let c2816_i32 : BitVec 32 := 2816#32
  c2816_i32
def k0_mult25 : BitVec 32 :=
  let c2944_i32 : BitVec 32 := 2944#32
  c2944_i32
def k0_mult26 : BitVec 32 :=
  let c3072_i32 : BitVec 32 := 3072#32
  c3072_i32
def k0_mult27 : BitVec 32 :=
  let c3200_i32 : BitVec 32 := 3200#32
  c3200_i32
def k0_mult28 : BitVec 32 :=
  let c3328_i32 : BitVec 32 := 3328#32
  c3328_i32
def k0_mult29 : BitVec 32 :=
  let c3456_i32 : BitVec 32 := 3456#32
  c3456_i32
def k0_mult30 : BitVec 32 :=
  let c3584_i32 : BitVec 32 := 3584#32
  c3584_i32
def k0_mult31 : BitVec 32 :=
  let c3712_i32 : BitVec 32 := 3712#32
  c3712_i32
def k0_mult32 : BitVec 32 :=
  let c3840_i32 : BitVec 32 := 3840#32
  c3840_i32
def k0_mult33 : BitVec 32 :=
  let c3968_i32 : BitVec 32 := 3968#32
  c3968_i32
def k0_mult34 : BitVec 32 :=
  let c4096_i32 : BitVec 32 := 4096#32
  c4096_i32
def k0_mult35 : BitVec 32 :=
  let c4224_i32 : BitVec 32 := 4224#32
  c4224_i32
def k0_mult36 : BitVec 32 :=
  let c4352_i32 : BitVec 32 := 4352#32
  c4352_i32
def k0_mult37 : BitVec 32 :=
  let c4480_i32 : BitVec 32 := 4480#32
  c4480_i32
def k0_mult38 : BitVec 32 :=
  let c4608_i32 : BitVec 32 := 4608#32
  c4608_i32
def k0_mult39 : BitVec 32 :=
  let c4736_i32 : BitVec 32 := 4736#32
  c4736_i32
def k0_mult40 : BitVec 32 :=
  let c4864_i32 : BitVec 32 := 4864#32
  c4864_i32
def k0_mult41 : BitVec 32 :=
  let c4992_i32 : BitVec 32 := 4992#32
  c4992_i32
@[reducible] def k0_t3_loop : Scf.Loop 32 :=
  let c0_i32_343_r0 : BitVec 32 := 0#32
  let c20_i32_r0 : BitVec 32 := 20#32
  let v979_r0 : BitVec 32 := Scalar.addi c0_i32_343_r0 c20_i32_r0
  let c1_i32_344_r0 : BitVec 32 := 1#32
  ⟨c0_i32_343_r0, v979_r0, c1_i32_344_r0⟩
def k0_off7 (k0_t3 : Fin k0_t3_loop.trips) : Fin 1 → Nat :=
  let c0_i32_343_r0 : BitVec 32 := 0#32
  let c1_i32_344_r0 : BitVec 32 := 1#32
  let arg33_r0 : BitVec 32 := Scf.iv c0_i32_343_r0 c1_i32_344_r0 k0_t3
  ![arg33_r0.toNat]
def k0_off8 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_878_r0 : BitVec 32 := 8#32
  let v2731_r0 : BitVec 32 := Scalar.muli arg33_r0 c8_i32_878_r0
  let c0_i32_879_r0 : BitVec 32 := 0#32
  ![v2731_r0.toNat, 0]
def k0_off9 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_878_r0 : BitVec 32 := 8#32
  let v2731_r0 : BitVec 32 := Scalar.muli arg33_r0 c8_i32_878_r0
  let c0_i32_881_r0 : BitVec 32 := 0#32
  ![v2731_r0.toNat, 0]
def k0_off10 (k0_t3 : Fin k0_t3_loop.trips) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_877_r0 : BitVec 32 := 16#32
  let v2730_r0 : BitVec 32 := Scalar.muli arg33_r0 c16_i32_877_r0
  let c0_i32_885_r0 : BitVec 32 := 0#32
  let c0_i32_886_r0 : BitVec 32 := 0#32
  ![v2730_r0.toNat, 0, 0]
def k0_off11 (k0_t3 : Fin k0_t3_loop.trips) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_877_r0 : BitVec 32 := 16#32
  let v2730_r0 : BitVec 32 := Scalar.muli arg33_r0 c16_i32_877_r0
  let c0_i32_889_r0 : BitVec 32 := 0#32
  let c0_i32_890_r0 : BitVec 32 := 0#32
  ![v2730_r0.toNat, 0, 0]
def k0_cond1 (k0_t3 : Fin k0_t3_loop.trips) : BitVec 1 :=
  let c0_i32_343_r0 : BitVec 32 := 0#32
  let c1_i32_344_r0 : BitVec 32 := 1#32
  let arg33_r0 : BitVec 32 := Scf.iv c0_i32_343_r0 c1_i32_344_r0 k0_t3
  let c10_i32_897_r0 : BitVec 32 := 10#32
  let v2756_r0 : BitVec 32 := Scalar.addi arg33_r0 c10_i32_897_r0
  let c20_i32_898_r0 : BitVec 32 := 20#32
  let v2757_r0 : BitVec 1 := Scalar.cmpi .slt v2756_r0 c20_i32_898_r0
  let v2758_r0 : BitVec 32 := Scalar.extui v2757_r0
  let c0_i32_899_r0 : BitVec 32 := 0#32
  let v2759_r0 : BitVec 1 := Scalar.cmpi .ne v2758_r0 c0_i32_899_r0
  v2759_r0

def k0_off12 (k0_t3 : Fin k0_t3_loop.trips) : Fin 1 → Nat :=
  let c0_i32_343_r0 : BitVec 32 := 0#32
  let c1_i32_344_r0 : BitVec 32 := 1#32
  let arg33_r0 : BitVec 32 := Scf.iv c0_i32_343_r0 c1_i32_344_r0 k0_t3
  let c10_i32_2322_r0 : BitVec 32 := 10#32
  let v9519_r0 : BitVec 32 := Scalar.addi arg33_r0 c10_i32_2322_r0
  ![v9519_r0.toNat]
def k0_off13 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c10_i32_2322_r0 : BitVec 32 := 10#32
  let v9519_r0 : BitVec 32 := Scalar.addi arg33_r0 c10_i32_2322_r0
  let c8_i32_2324_r0 : BitVec 32 := 8#32
  let v9521_r0 : BitVec 32 := Scalar.muli v9519_r0 c8_i32_2324_r0
  let c0_i32_2325_r0 : BitVec 32 := 0#32
  ![v9521_r0.toNat, 0]
def k0_off14 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c10_i32_2322_r0 : BitVec 32 := 10#32
  let v9519_r0 : BitVec 32 := Scalar.addi arg33_r0 c10_i32_2322_r0
  let c8_i32_2324_r0 : BitVec 32 := 8#32
  let v9521_r0 : BitVec 32 := Scalar.muli v9519_r0 c8_i32_2324_r0
  let c0_i32_2327_r0 : BitVec 32 := 0#32
  ![v9521_r0.toNat, 0]
def k0_off15 (k0_t3 : Fin k0_t3_loop.trips) : Fin 3 → Nat :=
  let c0_i32_343_r0 : BitVec 32 := 0#32
  let c1_i32_344_r0 : BitVec 32 := 1#32
  let arg33_r0 : BitVec 32 := Scf.iv c0_i32_343_r0 c1_i32_344_r0 k0_t3
  let c10_i32_2322_r0 : BitVec 32 := 10#32
  let v9519_r0 : BitVec 32 := Scalar.addi arg33_r0 c10_i32_2322_r0
  let c16_i32_2323_r0 : BitVec 32 := 16#32
  let v9520_r0 : BitVec 32 := Scalar.muli v9519_r0 c16_i32_2323_r0
  let c0_i32_2331_r0 : BitVec 32 := 0#32
  let c0_i32_2332_r0 : BitVec 32 := 0#32
  ![v9520_r0.toNat, 0, 0]
def k0_off16 (k0_t3 : Fin k0_t3_loop.trips) : Fin 3 → Nat :=
  let c0_i32_343_r0 : BitVec 32 := 0#32
  let c1_i32_344_r0 : BitVec 32 := 1#32
  let arg33_r0 : BitVec 32 := Scf.iv c0_i32_343_r0 c1_i32_344_r0 k0_t3
  let c10_i32_2322_r0 : BitVec 32 := 10#32
  let v9519_r0 : BitVec 32 := Scalar.addi arg33_r0 c10_i32_2322_r0
  let c16_i32_2323_r0 : BitVec 32 := 16#32
  let v9520_r0 : BitVec 32 := Scalar.muli v9519_r0 c16_i32_2323_r0
  let c0_i32_2335_r0 : BitVec 32 := 0#32
  let c0_i32_2336_r0 : BitVec 32 := 0#32
  ![v9520_r0.toNat, 0, 0]
def k0_off17 (k0_t3 : Fin k0_t3_loop.trips) (c0_i32_901_r0 : BitVec 32) : Fin 3 → Nat :=
  let c2_i32_900_r0 : BitVec 32 := 2#32
  let c0_i32_343_r0 : BitVec 32 := 0#32
  let c1_i32_344_r0 : BitVec 32 := 1#32
  let arg33_r0 : BitVec 32 := Scf.iv c0_i32_343_r0 c1_i32_344_r0 k0_t3
  let v2760_r0 : BitVec 32 := Scalar.muli c2_i32_900_r0 arg33_r0
  let v2761_r0 : BitVec 32 := Scalar.addi v2760_r0 c0_i32_901_r0
  let v2762_r0 : Index := Scalar.indexCast v2761_r0
  let c0_902_r0 : Index := 0#32
  let c0_903_r0 : Index := 0#32
  ![v2762_r0.toNat, 0, 0]
def k0_off18 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_908_r0 : BitVec 32 := 8#32
  let v2771_r0 : BitVec 32 := Scalar.muli arg33_r0 c8_i32_908_r0
  let v2772_r0 : Index := Scalar.indexCast v2771_r0
  let c0_909_r0 : Index := 0#32
  ![v2772_r0.toNat, 0]
def k0_off19 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_910_r0 : BitVec 32 := 8#32
  let v2774_r0 : BitVec 32 := Scalar.muli arg33_r0 c8_i32_910_r0
  let v2775_r0 : Index := Scalar.indexCast v2774_r0
  let c128_911_r0 : Index := 128#32
  ![v2775_r0.toNat, 128]
def k0_off20 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_912_r0 : BitVec 32 := 8#32
  let v2777_r0 : BitVec 32 := Scalar.muli arg33_r0 c8_i32_912_r0
  let v2778_r0 : Index := Scalar.indexCast v2777_r0
  let c256_r0 : Index := 256#32
  ![v2778_r0.toNat, 256]
def k0_off21 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_913_r0 : BitVec 32 := 8#32
  let v2780_r0 : BitVec 32 := Scalar.muli arg33_r0 c8_i32_913_r0
  let v2781_r0 : Index := Scalar.indexCast v2780_r0
  let c384_r0 : Index := 384#32
  ![v2781_r0.toNat, 384]
def k0_off22 (k0_t3 : Fin k0_t3_loop.trips) (c0_i32_915_r0 : BitVec 32) (c0_i32_916_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_914_r0 : BitVec 32 := 16#32
  let v2795_r0 : BitVec 32 := Scalar.muli arg33_r0 c16_i32_914_r0
  let v2796_r0 : BitVec 32 := Scalar.addi v2795_r0 c0_i32_915_r0
  let v2797_r0 : BitVec 32 := Scalar.addi v2796_r0 c0_i32_916_r0
  let v2798_r0 : Index := Scalar.indexCast v2797_r0
  let c0_917_r0 : Index := 0#32
  let c0_918_r0 : Index := 0#32
  ![v2798_r0.toNat, 0, 0]
def k0_off23 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1006_r0 : BitVec 32 := 8#32
  let v3253_r0 : BitVec 32 := Scalar.muli arg33_r0 c8_i32_1006_r0
  let v3254_r0 : Index := Scalar.indexCast v3253_r0
  let c512_r0 : Index := 512#32
  ![v3254_r0.toNat, 512]
def k0_off24 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1007_r0 : BitVec 32 := 8#32
  let v3256_r0 : BitVec 32 := Scalar.muli arg33_r0 c8_i32_1007_r0
  let v3257_r0 : Index := Scalar.indexCast v3256_r0
  let c640_1008_r0 : Index := 640#32
  ![v3257_r0.toNat, 640]
def k0_off25 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1009_r0 : BitVec 32 := 8#32
  let v3259_r0 : BitVec 32 := Scalar.muli arg33_r0 c8_i32_1009_r0
  let v3260_r0 : Index := Scalar.indexCast v3259_r0
  let c768_r0 : Index := 768#32
  ![v3260_r0.toNat, 768]
def k0_off26 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1010_r0 : BitVec 32 := 8#32
  let v3262_r0 : BitVec 32 := Scalar.muli arg33_r0 c8_i32_1010_r0
  let v3263_r0 : Index := Scalar.indexCast v3262_r0
  let c896_r0 : Index := 896#32
  ![v3263_r0.toNat, 896]
def k0_off27 (k0_t3 : Fin k0_t3_loop.trips) (c0_i32_1012_r0 : BitVec 32) (c0_i32_1013_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1011_r0 : BitVec 32 := 16#32
  let v3277_r0 : BitVec 32 := Scalar.muli arg33_r0 c16_i32_1011_r0
  let v3278_r0 : BitVec 32 := Scalar.addi v3277_r0 c0_i32_1012_r0
  let v3279_r0 : BitVec 32 := Scalar.addi v3278_r0 c0_i32_1013_r0
  let v3280_r0 : Index := Scalar.indexCast v3279_r0
  let c32_1014_r0 : Index := 32#32
  let c0_1015_r0 : Index := 0#32
  ![v3280_r0.toNat, 32, 0]
def k0_off28 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1107_r0 : BitVec 32 := 8#32
  let v3735_r0 : BitVec 32 := Scalar.muli arg33_r0 c8_i32_1107_r0
  let v3736_r0 : Index := Scalar.indexCast v3735_r0
  let c1024_r0 : Index := 1024#32
  ![v3736_r0.toNat, 1024]
def k0_off29 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1108_r0 : BitVec 32 := 8#32
  let v3738_r0 : BitVec 32 := Scalar.muli arg33_r0 c8_i32_1108_r0
  let v3739_r0 : Index := Scalar.indexCast v3738_r0
  let c1152_r0 : Index := 1152#32
  ![v3739_r0.toNat, 1152]
def k0_off30 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1109_r0 : BitVec 32 := 8#32
  let v3741_r0 : BitVec 32 := Scalar.muli arg33_r0 c8_i32_1109_r0
  let v3742_r0 : Index := Scalar.indexCast v3741_r0
  let c1280_r0 : Index := 1280#32
  ![v3742_r0.toNat, 1280]
def k0_off31 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1110_r0 : BitVec 32 := 8#32
  let v3744_r0 : BitVec 32 := Scalar.muli arg33_r0 c8_i32_1110_r0
  let v3745_r0 : Index := Scalar.indexCast v3744_r0
  let c1408_r0 : Index := 1408#32
  ![v3745_r0.toNat, 1408]
def k0_off32 (k0_t3 : Fin k0_t3_loop.trips) (c0_i32_1112_r0 : BitVec 32) (c0_i32_1113_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1111_r0 : BitVec 32 := 16#32
  let v3759_r0 : BitVec 32 := Scalar.muli arg33_r0 c16_i32_1111_r0
  let v3760_r0 : BitVec 32 := Scalar.addi v3759_r0 c0_i32_1112_r0
  let v3761_r0 : BitVec 32 := Scalar.addi v3760_r0 c0_i32_1113_r0
  let v3762_r0 : Index := Scalar.indexCast v3761_r0
  let c64_1114_r0 : Index := 64#32
  let c0_1115_r0 : Index := 0#32
  ![v3762_r0.toNat, 64, 0]
def k0_off33 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1207_r0 : BitVec 32 := 8#32
  let v4217_r0 : BitVec 32 := Scalar.muli arg33_r0 c8_i32_1207_r0
  let v4218_r0 : Index := Scalar.indexCast v4217_r0
  let c1536_r0 : Index := 1536#32
  ![v4218_r0.toNat, 1536]
def k0_off34 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1208_r0 : BitVec 32 := 8#32
  let v4220_r0 : BitVec 32 := Scalar.muli arg33_r0 c8_i32_1208_r0
  let v4221_r0 : Index := Scalar.indexCast v4220_r0
  let c1664_r0 : Index := 1664#32
  ![v4221_r0.toNat, 1664]
def k0_off35 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1209_r0 : BitVec 32 := 8#32
  let v4223_r0 : BitVec 32 := Scalar.muli arg33_r0 c8_i32_1209_r0
  let v4224_r0 : Index := Scalar.indexCast v4223_r0
  let c1792_r0 : Index := 1792#32
  ![v4224_r0.toNat, 1792]
def k0_off36 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1210_r0 : BitVec 32 := 8#32
  let v4226_r0 : BitVec 32 := Scalar.muli arg33_r0 c8_i32_1210_r0
  let v4227_r0 : Index := Scalar.indexCast v4226_r0
  let c1920_r0 : Index := 1920#32
  ![v4227_r0.toNat, 1920]
def k0_off37 (k0_t3 : Fin k0_t3_loop.trips) (c0_i32_1212_r0 : BitVec 32) (c0_i32_1213_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1211_r0 : BitVec 32 := 16#32
  let v4241_r0 : BitVec 32 := Scalar.muli arg33_r0 c16_i32_1211_r0
  let v4242_r0 : BitVec 32 := Scalar.addi v4241_r0 c0_i32_1212_r0
  let v4243_r0 : BitVec 32 := Scalar.addi v4242_r0 c0_i32_1213_r0
  let v4244_r0 : Index := Scalar.indexCast v4243_r0
  let c96_1214_r0 : Index := 96#32
  let c0_1215_r0 : Index := 0#32
  ![v4244_r0.toNat, 96, 0]
def k0_off38 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1307_r0 : BitVec 32 := 8#32
  let v4699_r0 : BitVec 32 := Scalar.muli arg33_r0 c8_i32_1307_r0
  let v4700_r0 : Index := Scalar.indexCast v4699_r0
  let c2048_r0 : Index := 2048#32
  ![v4700_r0.toNat, 2048]
def k0_off39 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1308_r0 : BitVec 32 := 8#32
  let v4702_r0 : BitVec 32 := Scalar.muli arg33_r0 c8_i32_1308_r0
  let v4703_r0 : Index := Scalar.indexCast v4702_r0
  let c2176_r0 : Index := 2176#32
  ![v4703_r0.toNat, 2176]
def k0_off40 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1309_r0 : BitVec 32 := 8#32
  let v4705_r0 : BitVec 32 := Scalar.muli arg33_r0 c8_i32_1309_r0
  let v4706_r0 : Index := Scalar.indexCast v4705_r0
  let c2304_r0 : Index := 2304#32
  ![v4706_r0.toNat, 2304]
def k0_off41 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1310_r0 : BitVec 32 := 8#32
  let v4708_r0 : BitVec 32 := Scalar.muli arg33_r0 c8_i32_1310_r0
  let v4709_r0 : Index := Scalar.indexCast v4708_r0
  let c2432_r0 : Index := 2432#32
  ![v4709_r0.toNat, 2432]
def k0_off42 (k0_t3 : Fin k0_t3_loop.trips) (c0_i32_1312_r0 : BitVec 32) (c0_i32_1313_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1311_r0 : BitVec 32 := 16#32
  let v4723_r0 : BitVec 32 := Scalar.muli arg33_r0 c16_i32_1311_r0
  let v4724_r0 : BitVec 32 := Scalar.addi v4723_r0 c0_i32_1312_r0
  let v4725_r0 : BitVec 32 := Scalar.addi v4724_r0 c0_i32_1313_r0
  let v4726_r0 : Index := Scalar.indexCast v4725_r0
  let c128_1314_r0 : Index := 128#32
  let c0_1315_r0 : Index := 0#32
  ![v4726_r0.toNat, 128, 0]
def k0_off43 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1407_r0 : BitVec 32 := 8#32
  let v5181_r0 : BitVec 32 := Scalar.muli arg33_r0 c8_i32_1407_r0
  let v5182_r0 : Index := Scalar.indexCast v5181_r0
  let c2560_r0 : Index := 2560#32
  ![v5182_r0.toNat, 2560]
def k0_off44 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1408_r0 : BitVec 32 := 8#32
  let v5184_r0 : BitVec 32 := Scalar.muli arg33_r0 c8_i32_1408_r0
  let v5185_r0 : Index := Scalar.indexCast v5184_r0
  let c2688_r0 : Index := 2688#32
  ![v5185_r0.toNat, 2688]
def k0_off45 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1409_r0 : BitVec 32 := 8#32
  let v5187_r0 : BitVec 32 := Scalar.muli arg33_r0 c8_i32_1409_r0
  let v5188_r0 : Index := Scalar.indexCast v5187_r0
  let c2816_r0 : Index := 2816#32
  ![v5188_r0.toNat, 2816]
def k0_off46 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1410_r0 : BitVec 32 := 8#32
  let v5190_r0 : BitVec 32 := Scalar.muli arg33_r0 c8_i32_1410_r0
  let v5191_r0 : Index := Scalar.indexCast v5190_r0
  let c2944_r0 : Index := 2944#32
  ![v5191_r0.toNat, 2944]
def k0_off47 (k0_t3 : Fin k0_t3_loop.trips) (c0_i32_1412_r0 : BitVec 32) (c0_i32_1413_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1411_r0 : BitVec 32 := 16#32
  let v5205_r0 : BitVec 32 := Scalar.muli arg33_r0 c16_i32_1411_r0
  let v5206_r0 : BitVec 32 := Scalar.addi v5205_r0 c0_i32_1412_r0
  let v5207_r0 : BitVec 32 := Scalar.addi v5206_r0 c0_i32_1413_r0
  let v5208_r0 : Index := Scalar.indexCast v5207_r0
  let c160_1414_r0 : Index := 160#32
  let c0_1415_r0 : Index := 0#32
  ![v5208_r0.toNat, 160, 0]
def k0_off48 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1507_r0 : BitVec 32 := 8#32
  let v5663_r0 : BitVec 32 := Scalar.muli arg33_r0 c8_i32_1507_r0
  let v5664_r0 : Index := Scalar.indexCast v5663_r0
  let c3072_r0 : Index := 3072#32
  ![v5664_r0.toNat, 3072]
def k0_off49 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1508_r0 : BitVec 32 := 8#32
  let v5666_r0 : BitVec 32 := Scalar.muli arg33_r0 c8_i32_1508_r0
  let v5667_r0 : Index := Scalar.indexCast v5666_r0
  let c3200_r0 : Index := 3200#32
  ![v5667_r0.toNat, 3200]
def k0_off50 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1509_r0 : BitVec 32 := 8#32
  let v5669_r0 : BitVec 32 := Scalar.muli arg33_r0 c8_i32_1509_r0
  let v5670_r0 : Index := Scalar.indexCast v5669_r0
  let c3328_r0 : Index := 3328#32
  ![v5670_r0.toNat, 3328]
def k0_off51 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1510_r0 : BitVec 32 := 8#32
  let v5672_r0 : BitVec 32 := Scalar.muli arg33_r0 c8_i32_1510_r0
  let v5673_r0 : Index := Scalar.indexCast v5672_r0
  let c3456_r0 : Index := 3456#32
  ![v5673_r0.toNat, 3456]
def k0_off52 (k0_t3 : Fin k0_t3_loop.trips) (c0_i32_1512_r0 : BitVec 32) (c0_i32_1513_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1511_r0 : BitVec 32 := 16#32
  let v5687_r0 : BitVec 32 := Scalar.muli arg33_r0 c16_i32_1511_r0
  let v5688_r0 : BitVec 32 := Scalar.addi v5687_r0 c0_i32_1512_r0
  let v5689_r0 : BitVec 32 := Scalar.addi v5688_r0 c0_i32_1513_r0
  let v5690_r0 : Index := Scalar.indexCast v5689_r0
  let c192_1514_r0 : Index := 192#32
  let c0_1515_r0 : Index := 0#32
  ![v5690_r0.toNat, 192, 0]
def k0_off53 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1607_r0 : BitVec 32 := 8#32
  let v6145_r0 : BitVec 32 := Scalar.muli arg33_r0 c8_i32_1607_r0
  let v6146_r0 : Index := Scalar.indexCast v6145_r0
  let c3584_r0 : Index := 3584#32
  ![v6146_r0.toNat, 3584]
def k0_off54 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1608_r0 : BitVec 32 := 8#32
  let v6148_r0 : BitVec 32 := Scalar.muli arg33_r0 c8_i32_1608_r0
  let v6149_r0 : Index := Scalar.indexCast v6148_r0
  let c3712_r0 : Index := 3712#32
  ![v6149_r0.toNat, 3712]
def k0_off55 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1609_r0 : BitVec 32 := 8#32
  let v6151_r0 : BitVec 32 := Scalar.muli arg33_r0 c8_i32_1609_r0
  let v6152_r0 : Index := Scalar.indexCast v6151_r0
  let c3840_r0 : Index := 3840#32
  ![v6152_r0.toNat, 3840]
def k0_off56 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1610_r0 : BitVec 32 := 8#32
  let v6154_r0 : BitVec 32 := Scalar.muli arg33_r0 c8_i32_1610_r0
  let v6155_r0 : Index := Scalar.indexCast v6154_r0
  let c3968_r0 : Index := 3968#32
  ![v6155_r0.toNat, 3968]
def k0_off57 (k0_t3 : Fin k0_t3_loop.trips) (c0_i32_1612_r0 : BitVec 32) (c0_i32_1613_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1611_r0 : BitVec 32 := 16#32
  let v6169_r0 : BitVec 32 := Scalar.muli arg33_r0 c16_i32_1611_r0
  let v6170_r0 : BitVec 32 := Scalar.addi v6169_r0 c0_i32_1612_r0
  let v6171_r0 : BitVec 32 := Scalar.addi v6170_r0 c0_i32_1613_r0
  let v6172_r0 : Index := Scalar.indexCast v6171_r0
  let c224_1614_r0 : Index := 224#32
  let c0_1615_r0 : Index := 0#32
  ![v6172_r0.toNat, 224, 0]
def k0_off58 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1707_r0 : BitVec 32 := 8#32
  let v6627_r0 : BitVec 32 := Scalar.muli arg33_r0 c8_i32_1707_r0
  let v6628_r0 : Index := Scalar.indexCast v6627_r0
  let c4096_r0 : Index := 4096#32
  ![v6628_r0.toNat, 4096]
def k0_off59 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1708_r0 : BitVec 32 := 8#32
  let v6630_r0 : BitVec 32 := Scalar.muli arg33_r0 c8_i32_1708_r0
  let v6631_r0 : Index := Scalar.indexCast v6630_r0
  let c4224_r0 : Index := 4224#32
  ![v6631_r0.toNat, 4224]
def k0_off60 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1709_r0 : BitVec 32 := 8#32
  let v6633_r0 : BitVec 32 := Scalar.muli arg33_r0 c8_i32_1709_r0
  let v6634_r0 : Index := Scalar.indexCast v6633_r0
  let c4352_r0 : Index := 4352#32
  ![v6634_r0.toNat, 4352]
def k0_off61 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1710_r0 : BitVec 32 := 8#32
  let v6636_r0 : BitVec 32 := Scalar.muli arg33_r0 c8_i32_1710_r0
  let v6637_r0 : Index := Scalar.indexCast v6636_r0
  let c4480_r0 : Index := 4480#32
  ![v6637_r0.toNat, 4480]
def k0_off62 (k0_t3 : Fin k0_t3_loop.trips) (c0_i32_1712_r0 : BitVec 32) (c0_i32_1713_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1711_r0 : BitVec 32 := 16#32
  let v6651_r0 : BitVec 32 := Scalar.muli arg33_r0 c16_i32_1711_r0
  let v6652_r0 : BitVec 32 := Scalar.addi v6651_r0 c0_i32_1712_r0
  let v6653_r0 : BitVec 32 := Scalar.addi v6652_r0 c0_i32_1713_r0
  let v6654_r0 : Index := Scalar.indexCast v6653_r0
  let c256_1714_r0 : Index := 256#32
  let c0_1715_r0 : Index := 0#32
  ![v6654_r0.toNat, 256, 0]
def k0_off63 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1807_r0 : BitVec 32 := 8#32
  let v7109_r0 : BitVec 32 := Scalar.muli arg33_r0 c8_i32_1807_r0
  let v7110_r0 : Index := Scalar.indexCast v7109_r0
  let c4608_r0 : Index := 4608#32
  ![v7110_r0.toNat, 4608]
def k0_off64 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1808_r0 : BitVec 32 := 8#32
  let v7112_r0 : BitVec 32 := Scalar.muli arg33_r0 c8_i32_1808_r0
  let v7113_r0 : Index := Scalar.indexCast v7112_r0
  let c4736_r0 : Index := 4736#32
  ![v7113_r0.toNat, 4736]
def k0_off65 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1809_r0 : BitVec 32 := 8#32
  let v7115_r0 : BitVec 32 := Scalar.muli arg33_r0 c8_i32_1809_r0
  let v7116_r0 : Index := Scalar.indexCast v7115_r0
  let c4864_r0 : Index := 4864#32
  ![v7116_r0.toNat, 4864]
def k0_off66 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1810_r0 : BitVec 32 := 8#32
  let v7118_r0 : BitVec 32 := Scalar.muli arg33_r0 c8_i32_1810_r0
  let v7119_r0 : Index := Scalar.indexCast v7118_r0
  let c4992_r0 : Index := 4992#32
  ![v7119_r0.toNat, 4992]
def k0_off67 (k0_t3 : Fin k0_t3_loop.trips) (c0_i32_1812_r0 : BitVec 32) (c0_i32_1813_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1811_r0 : BitVec 32 := 16#32
  let v7133_r0 : BitVec 32 := Scalar.muli arg33_r0 c16_i32_1811_r0
  let v7134_r0 : BitVec 32 := Scalar.addi v7133_r0 c0_i32_1812_r0
  let v7135_r0 : BitVec 32 := Scalar.addi v7134_r0 c0_i32_1813_r0
  let v7136_r0 : Index := Scalar.indexCast v7135_r0
  let c288_r0 : Index := 288#32
  let c0_1814_r0 : Index := 0#32
  ![v7136_r0.toNat, 288, 0]
def k0_off68 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1906_r0 : BitVec 32 := 8#32
  let v7591_r0 : BitVec 32 := Scalar.muli arg33_r0 c8_i32_1906_r0
  let v7592_r0 : Index := Scalar.indexCast v7591_r0
  let c0_1907_r0 : Index := 0#32
  ![v7592_r0.toNat, 0]
def k0_off69 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1908_r0 : BitVec 32 := 8#32
  let v7594_r0 : BitVec 32 := Scalar.muli arg33_r0 c8_i32_1908_r0
  let v7595_r0 : Index := Scalar.indexCast v7594_r0
  let c128_1909_r0 : Index := 128#32
  ![v7595_r0.toNat, 128]
def k0_off70 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1910_r0 : BitVec 32 := 8#32
  let v7597_r0 : BitVec 32 := Scalar.muli arg33_r0 c8_i32_1910_r0
  let v7598_r0 : Index := Scalar.indexCast v7597_r0
  let c256_1911_r0 : Index := 256#32
  ![v7598_r0.toNat, 256]
def k0_off71 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_1912_r0 : BitVec 32 := 8#32
  let v7600_r0 : BitVec 32 := Scalar.muli arg33_r0 c8_i32_1912_r0
  let v7601_r0 : Index := Scalar.indexCast v7600_r0
  let c384_1913_r0 : Index := 384#32
  ![v7601_r0.toNat, 384]
def k0_off72 (k0_t3 : Fin k0_t3_loop.trips) (c0_i32_1915_r0 : BitVec 32) (c0_i32_1916_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_1914_r0 : BitVec 32 := 16#32
  let v7615_r0 : BitVec 32 := Scalar.muli arg33_r0 c16_i32_1914_r0
  let v7616_r0 : BitVec 32 := Scalar.addi v7615_r0 c0_i32_1915_r0
  let v7617_r0 : BitVec 32 := Scalar.addi v7616_r0 c0_i32_1916_r0
  let v7618_r0 : Index := Scalar.indexCast v7617_r0
  let c0_1917_r0 : Index := 0#32
  let c0_1918_r0 : Index := 0#32
  ![v7618_r0.toNat, 0, 0]
def k0_off73 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_2010_r0 : BitVec 32 := 8#32
  let v8073_r0 : BitVec 32 := Scalar.muli arg33_r0 c8_i32_2010_r0
  let v8074_r0 : Index := Scalar.indexCast v8073_r0
  let c512_2011_r0 : Index := 512#32
  ![v8074_r0.toNat, 512]
def k0_off74 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_2012_r0 : BitVec 32 := 8#32
  let v8076_r0 : BitVec 32 := Scalar.muli arg33_r0 c8_i32_2012_r0
  let v8077_r0 : Index := Scalar.indexCast v8076_r0
  let c640_2013_r0 : Index := 640#32
  ![v8077_r0.toNat, 640]
def k0_off75 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_2014_r0 : BitVec 32 := 8#32
  let v8079_r0 : BitVec 32 := Scalar.muli arg33_r0 c8_i32_2014_r0
  let v8080_r0 : Index := Scalar.indexCast v8079_r0
  let c768_2015_r0 : Index := 768#32
  ![v8080_r0.toNat, 768]
def k0_off76 (k0_t3 : Fin k0_t3_loop.trips) : Fin 2 → Nat :=
  let c0_i32_343_r0 : BitVec 32 := 0#32
  let c1_i32_344_r0 : BitVec 32 := 1#32
  let arg33_r0 : BitVec 32 := Scf.iv c0_i32_343_r0 c1_i32_344_r0 k0_t3
  let c8_i32_2016_r0 : BitVec 32 := 8#32
  let v8082_r0 : BitVec 32 := Scalar.muli arg33_r0 c8_i32_2016_r0
  let v8083_r0 : Index := Scalar.indexCast v8082_r0
  let c896_2017_r0 : Index := 896#32
  ![v8083_r0.toNat, 896]
def k0_off77 (k0_t3 : Fin k0_t3_loop.trips) (c0_i32_2019_r0 : BitVec 32) (c0_i32_2020_r0 : BitVec 32) : Fin 3 → Nat :=
  let c0_i32_343_r0 : BitVec 32 := 0#32
  let c1_i32_344_r0 : BitVec 32 := 1#32
  let arg33_r0 : BitVec 32 := Scf.iv c0_i32_343_r0 c1_i32_344_r0 k0_t3
  let c16_i32_2018_r0 : BitVec 32 := 16#32
  let v8097_r0 : BitVec 32 := Scalar.muli arg33_r0 c16_i32_2018_r0
  let v8098_r0 : BitVec 32 := Scalar.addi v8097_r0 c0_i32_2019_r0
  let v8099_r0 : BitVec 32 := Scalar.addi v8098_r0 c0_i32_2020_r0
  let v8100_r0 : Index := Scalar.indexCast v8099_r0
  let c32_2021_r0 : Index := 32#32
  let c0_2022_r0 : Index := 0#32
  ![v8100_r0.toNat, 32, 0]
-- ==== KernelIdeal.lean ====
variable {F : FTy → Type} [FloatOps F]
-- ==== ReferenceIdeal.lean ====
abbrev S64x1x5120 : Shape := ⟨3, ![64, 1, 5120]⟩
abbrev S5120 : Shape := ⟨1, ![5120]⟩
abbrev S64x1 : Shape := ⟨2, ![64, 1]⟩
abbrev S5120x160x16 : Shape := ⟨3, ![5120, 160, 16]⟩
abbrev S5120x160 : Shape := ⟨2, ![5120, 160]⟩
abbrev S1024x160x16 : Shape := ⟨3, ![1024, 160, 16]⟩
abbrev S1024x160 : Shape := ⟨2, ![1024, 160]⟩
abbrev S64 : Shape := ⟨1, ![64]⟩
abbrev S_ : Shape := ⟨0, ![]⟩
abbrev S64x1x1 : Shape := ⟨3, ![64, 1, 1]⟩
abbrev S1x1x5120 : Shape := ⟨3, ![1, 1, 5120]⟩
abbrev S64x1x160x32 : Shape := ⟨4, ![64, 1, 160, 32]⟩
abbrev S64x1x160x16 : Shape := ⟨4, ![64, 1, 160, 16]⟩
abbrev S5120x160x1 : Shape := ⟨3, ![5120, 160, 1]⟩
abbrev S64x1x40x128 : Shape := ⟨4, ![64, 1, 40, 128]⟩
abbrev S1024x160x1 : Shape := ⟨3, ![1024, 160, 1]⟩
abbrev S64x1x1024 : Shape := ⟨3, ![64, 1, 1024]⟩
abbrev S64x1x8x128 : Shape := ⟨4, ![64, 1, 8, 128]⟩
abbrev S64x1x1x1 : Shape := ⟨4, ![64, 1, 1, 1]⟩
abbrev S1x1x1x64 : Shape := ⟨4, ![1, 1, 1, 64]⟩
abbrev S64x1x1x64 : Shape := ⟨4, ![64, 1, 1, 64]⟩
abbrev S64x1x40x64 : Shape := ⟨4, ![64, 1, 40, 64]⟩
abbrev S64x1x8x64 : Shape := ⟨4, ![64, 1, 8, 64]⟩
abbrev S64x40x128 : Shape := ⟨3, ![64, 40, 128]⟩
abbrev S64x8x128 : Shape := ⟨3, ![64, 8, 128]⟩

abbrev nBuf : Space → Nat
  | .hbm => 150
  | .vmem => 0
  | .smem => 0
  | _ => 0

abbrev hbmTy0_0 (i : Nat) : BufTy := match i % 128 with
  | 0 => ⟨S64x1x5120, .bf16⟩
  | 1 => ⟨S5120, .bf16⟩
  | 2 => ⟨S64x1, .i32⟩
  | 3 => ⟨S5120x160x16, .i8⟩
  | 4 => ⟨S5120x160, .bf16⟩
  | 5 => ⟨S1024x160x16, .i8⟩
  | 6 => ⟨S1024x160, .bf16⟩
  | 7 => ⟨S1024x160x16, .i8⟩
  | 8 => ⟨S1024x160, .bf16⟩
  | 9 => ⟨S64, .f32⟩
  | 10 => ⟨S64x1x5120, .f32⟩
  | 11 => ⟨S64x1x5120, .f32⟩
  | 12 => ⟨S_, .f32⟩
  | 13 => ⟨S64x1, .f32⟩
  | 14 => ⟨S64x1x1, .f32⟩
  | 15 => ⟨S_, .f32⟩
  | 16 => ⟨S64x1x1, .f32⟩
  | 17 => ⟨S64x1x1, .f32⟩
  | 18 => ⟨S_, .f32⟩
  | 19 => ⟨S64x1x1, .f32⟩
  | 20 => ⟨S64x1x1, .f32⟩
  | 21 => ⟨S64x1x1, .f32⟩
  | 22 => ⟨S64x1x5120, .f32⟩
  | 23 => ⟨S64x1x5120, .f32⟩
  | 24 => ⟨S5120, .f32⟩
  | 25 => ⟨S1x1x5120, .f32⟩
  | 26 => ⟨S64x1x5120, .f32⟩
  | 27 => ⟨S64x1x5120, .f32⟩
  | 28 => ⟨S64x1x5120, .bf16⟩
  | 29 => ⟨S64x1x160x32, .bf16⟩
  | 30 => ⟨S64x1x160x16, .bf16⟩
  | 31 => ⟨S64x1x160x16, .bf16⟩
  | 32 => ⟨S5120x160x16, .i32⟩
  | 33 => ⟨S_, .i32⟩
  | 34 => ⟨S5120x160x16, .i32⟩
  | 35 => ⟨S5120x160x16, .i32⟩
  | 36 => ⟨S5120x160x16, .bf16⟩
  | 37 => ⟨S_, .bf16⟩
  | 38 => ⟨S5120x160x16, .bf16⟩
  | 39 => ⟨S5120x160x16, .bf16⟩
  | 40 => ⟨S5120x160x1, .bf16⟩
  | 41 => ⟨S5120x160x16, .bf16⟩
  | 42 => ⟨S5120x160x16, .bf16⟩
  | 43 => ⟨S5120x160x16, .i32⟩
  | 44 => ⟨S_, .i32⟩
  | 45 => ⟨S5120x160x16, .i32⟩
  | 46 => ⟨S5120x160x16, .i32⟩
  | 47 => ⟨S5120x160x16, .bf16⟩
  | 48 => ⟨S_, .bf16⟩
  | 49 => ⟨S5120x160x16, .bf16⟩
  | 50 => ⟨S5120x160x16, .bf16⟩
  | 51 => ⟨S5120x160x1, .bf16⟩
  | 52 => ⟨S5120x160x16, .bf16⟩
  | 53 => ⟨S5120x160x16, .bf16⟩
  | 54 => ⟨S64x1x5120, .f32⟩
  | 55 => ⟨S64x1x5120, .f32⟩
  | 56 => ⟨S64x1x5120, .f32⟩
  | 57 => ⟨S64x1x40x128, .f32⟩
  | 58 => ⟨S1024x160x16, .i32⟩
  | 59 => ⟨S_, .i32⟩
  | 60 => ⟨S1024x160x16, .i32⟩
  | 61 => ⟨S1024x160x16, .i32⟩
  | 62 => ⟨S1024x160x16, .bf16⟩
  | 63 => ⟨S_, .bf16⟩
  | 64 => ⟨S1024x160x16, .bf16⟩
  | 65 => ⟨S1024x160x16, .bf16⟩
  | 66 => ⟨S1024x160x1, .bf16⟩
  | 67 => ⟨S1024x160x16, .bf16⟩
  | 68 => ⟨S1024x160x16, .bf16⟩
  | 69 => ⟨S1024x160x16, .i32⟩
  | 70 => ⟨S_, .i32⟩
  | 71 => ⟨S1024x160x16, .i32⟩
  | 72 => ⟨S1024x160x16, .i32⟩
  | 73 => ⟨S1024x160x16, .bf16⟩
  | 74 => ⟨S_, .bf16⟩
  | 75 => ⟨S1024x160x16, .bf16⟩
  | 76 => ⟨S1024x160x16, .bf16⟩
  | 77 => ⟨S1024x160x1, .bf16⟩
  | 78 => ⟨S1024x160x16, .bf16⟩
  | 79 => ⟨S1024x160x16, .bf16⟩
  | 80 => ⟨S64x1x1024, .f32⟩
  | 81 => ⟨S64x1x1024, .f32⟩
  | 82 => ⟨S64x1x1024, .f32⟩
  | 83 => ⟨S64x1x8x128, .f32⟩
  | 84 => ⟨S1024x160x16, .i32⟩
  | 85 => ⟨S_, .i32⟩
  | 86 => ⟨S1024x160x16, .i32⟩
  | 87 => ⟨S1024x160x16, .i32⟩
  | 88 => ⟨S1024x160x16, .bf16⟩
  | 89 => ⟨S_, .bf16⟩
  | 90 => ⟨S1024x160x16, .bf16⟩
  | 91 => ⟨S1024x160x16, .bf16⟩
  | 92 => ⟨S1024x160x1, .bf16⟩
  | 93 => ⟨S1024x160x16, .bf16⟩
  | 94 => ⟨S1024x160x16, .bf16⟩
  | 95 => ⟨S1024x160x16, .i32⟩
  | 96 => ⟨S_, .i32⟩
  | 97 => ⟨S1024x160x16, .i32⟩
  | 98 => ⟨S1024x160x16, .i32⟩
  | 99 => ⟨S1024x160x16, .bf16⟩
  | 100 => ⟨S_, .bf16⟩
  | 101 => ⟨S1024x160x16, .bf16⟩
  | 102 => ⟨S1024x160x16, .bf16⟩
  | 103 => ⟨S1024x160x1, .bf16⟩
  | 104 => ⟨S1024x160x16, .bf16⟩
  | 105 => ⟨S1024x160x16, .bf16⟩
  | 106 => ⟨S64x1x1024, .f32⟩
  | 107 => ⟨S64x1x1024, .f32⟩
  | 108 => ⟨S64x1x1024, .f32⟩
  | 109 => ⟨S64x1x8x128, .f32⟩
  | 110 => ⟨S64x1, .f32⟩
  | 111 => ⟨S64x1x1x1, .f32⟩
  | 112 => ⟨S1x1x1x64, .f32⟩
  | 113 => ⟨S64x1x1x64, .f32⟩
  | 114 => ⟨S64x1x1x64, .f32⟩
  | 115 => ⟨S64x1x1x64, .f32⟩
  | 116 => ⟨S64x1x1x64, .f32⟩
  | 117 => ⟨S64x1x1x64, .f32⟩
  | 118 => ⟨S64x1x40x64, .f32⟩
  | 119 => ⟨S64x1x40x64, .f32⟩
  | 120 => ⟨S64x1x40x64, .f32⟩
  | 121 => ⟨S64x1x40x64, .f32⟩
  | 122 => ⟨S64x1x40x64, .f32⟩
  | 123 => ⟨S64x1x40x64, .f32⟩
  | 124 => ⟨S64x1x40x64, .f32⟩
  | 125 => ⟨S64x1x40x64, .f32⟩
  | 126 => ⟨S64x1x40x64, .f32⟩
  | 127 => ⟨S64x1x40x64, .f32⟩
  | _ => ⟨S64x1x5120, .bf16⟩

abbrev hbmTy0_1 (i : Nat) : BufTy := match i % 128 with
  | 0 => ⟨S64x1x40x64, .f32⟩
  | 1 => ⟨S64x1x40x64, .f32⟩
  | 2 => ⟨S64x1x40x128, .f32⟩
  | 3 => ⟨S64x1x40x128, .bf16⟩
  | 4 => ⟨S64x1x8x64, .f32⟩
  | 5 => ⟨S64x1x8x64, .f32⟩
  | 6 => ⟨S64x1x8x64, .f32⟩
  | 7 => ⟨S64x1x8x64, .f32⟩
  | 8 => ⟨S64x1x8x64, .f32⟩
  | 9 => ⟨S64x1x8x64, .f32⟩
  | 10 => ⟨S64x1x8x64, .f32⟩
  | 11 => ⟨S64x1x8x64, .f32⟩
  | 12 => ⟨S64x1x8x64, .f32⟩
  | 13 => ⟨S64x1x8x64, .f32⟩
  | 14 => ⟨S64x1x8x64, .f32⟩
  | 15 => ⟨S64x1x8x64, .f32⟩
  | 16 => ⟨S64x1x8x128, .f32⟩
  | 17 => ⟨S64x1x8x128, .bf16⟩
  | 18 => ⟨S64x1x8x128, .bf16⟩
  | 19 => ⟨S64x40x128, .bf16⟩
  | 20 => ⟨S64x8x128, .bf16⟩
  | 21 => ⟨S64x8x128, .bf16⟩
  | _ => ⟨S64x1x5120, .bf16⟩

abbrev hbmTy (i : Nat) : BufTy := match i / 128 with
  | 0 => hbmTy0_0 i
  | 1 => hbmTy0_1 i
  | _ => ⟨S64x1x5120, .bf16⟩

abbrev bufTy : (tb : Table) → Fin (tcTables nBuf tb) → BufTy
  | .hbm, ⟨i, _⟩ => hbmTy i
  | _, _ => ⟨S64x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩

abbrev nD : Nat := 1
abbrev τ : Topo := Topo.v7x

variable {F : FTy → Type} [FloatOps F]
-- ==== Proof.Block.lean ====
/-
  One block of the contraction: for one pair of heads per matrix unit, the four rows of scales and the sixteen weight
  tiles of one chunk are loaded, dequantised, pushed as a 256 by 256 tile on each of the two units, and the chunk of
  activations is accumulated against them. Written in continuation form over any memrefs, with its rule.
-/
module

public import Idealize.ShloMosaic.Lib.Mxu
public import Idealize.ShloMosaic.Lib.Mxu.Lemmas
public import Idealize.ShloMosaic.Lib.Tactic
public import Idealize.ShloMosaic.PureOps

@[expose] public section

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev T1x128 : Shape := ⟨2, ![1, 128]⟩
abbrev T8x128 : Shape := ⟨2, ![8, 128]⟩
abbrev T16x128 : Shape := ⟨2, ![16, 128]⟩
abbrev T32x128 : Shape := ⟨2, ![32, 128]⟩
abbrev T64x128 : Shape := ⟨2, ![64, 128]⟩
abbrev T64x256 : Shape := ⟨2, ![64, 256]⟩
abbrev T256x128 : Shape := ⟨2, ![256, 128]⟩
abbrev T256x256 : Shape := ⟨2, ![256, 256]⟩
abbrev T1x32x128 : Shape := ⟨3, ![1, 32, 128]⟩
abbrev T8x1x128 : Shape := ⟨3, ![8, 1, 128]⟩
abbrev T8x8x128 : Shape := ⟨3, ![8, 8, 128]⟩

theorem slices_row : ∀ g : Fin 8, T8x128.Slices ![g.val, 0] T1x128 := by decide
theorem slices_tile : ∀ i : Fin 4, T64x128.Slices ![16 * i.val, 0] T16x128 := by decide
theorem concatenates_rows : Shape.Concatenates ((List.ofFn fun _ : Fin 16 => T16x128)) T256x128 0 := by decide
theorem concatenates_cols : Shape.Concatenates [T256x128, T256x128] T256x256 1 := by decide

/-- Row `g` of eight rows of scales, repeated over the sixteen rows of a tile. -/
def scaleRow (s : Vec F T8x128 .bf16) (g : Fin 8) : FVec F T16x128 .bf16 :=
  broadcastTo T16x128 (shapeCast T1x128 (extractStridedSlice T1x128 ![g.val, 0] s (slices_row g)) (by decide)) (by decide)

/-- The sixty-four rows of signed four-bit weights that thirty-two rows of bytes hold, as `bf16`. -/
def nibbleRows (down up : IVec T8x8x128 32) (w : Vec F T1x32x128 .i8) : FVec F T64x128 .bf16 :=
  sitofp .bf16 (shapeCast T64x128 (shrsi (shli (broadcastTo T8x8x128
    (shapeCast T8x1x128 (xori (bitcast T8x128 32 (shapeCast T32x128 w (by decide)) (by decide)) (broadcast T8x128 2290649224#32)) (by decide))
    (by decide)) up) down) (by decide))

/-- Sixteen rows of dequantised weights: rows `16 i` on of a weight tile, times their group's scales. -/
def piece (down up : IVec T8x8x128 32) (i : Fin 4) (s : Vec F T8x128 .bf16) (g : Fin 8) (w : Vec F T1x32x128 .i8) : FVec F T16x128 .bf16 :=
  mulf (extractStridedSlice T16x128 ![16 * i.val, 0] (nibbleRows down up w) (slices_tile i)) (scaleRow s g)

/-- The group of the chunk that weight tile `n` of sixteen belongs to. -/
def grp (n : Fin 16) : Fin 8 := ⟨n.val / 2, by omega⟩

/-- The 256 rows of dequantised weights of one lane tile of a chunk. -/
def column (down up : IVec T8x8x128 32) (i : Fin 4) (s : Vec F T8x128 .bf16) (w : Fin 16 → Vec F T1x32x128 .i8) : FVec F T256x128 .bf16 :=
  concatenate T256x128 0 (List.ofFn fun n => ⟨T16x128, piece down up i s (grp n) (w n)⟩) (by rw [List.map_ofFn]; exact concatenates_rows)

/-- The 256 by 256 tile pushed on one unit: two lane tiles side by side. -/
def rhs (down up : IVec T8x8x128 32) (i i' : Fin 4) (s s' : Vec F T8x128 .bf16) (w : Fin 16 → Vec F T1x32x128 .i8) : FVec F T256x256 .bf16 :=
  concatenate T256x256 1 [⟨T256x128, column down up i s w⟩, ⟨T256x128, column down up i' s' w⟩] concatenates_cols

/-- The unit's state after the block, from state `u`. -/
def blockVal (down up : IVec T8x8x128 32) (r : Fin 2) (A : ℕ) (hA : Mxu.Fits A 64) (h : FVec F T64x256 .bf16)
    (s : Fin 4 → Vec F T8x128 .bf16) (w : Fin 16 → Vec F T1x32x128 .i8) (u : Mxu F) : Mxu F :=
  (((u.pushed 0 r false (rhs down up 0 1 (s 0) (s 1) w)).pushed 1 r false (rhs down up 2 3 (s 2) (s 3) w)).accLhs 0 r A h hA).accLhs 1 r A h hA

section Prog
variable {nD : ℕ} {τ : Topo} {sig : RefSig} {Λ : Labels} {α : Type}

/-- Loads through `n` rectangles of one size in turn, the continuation handed the values read. -/
def loadAll {rk : ℕ} {d : Fin rk → ℕ} {e : EltTy} (m : Memref sig .tc .vmem ⟨rk, d⟩ e) (sz : Fin rk → ℕ) (h0 : 0 < (⟨rk, sz⟩ : Shape).numel) :
    (n : ℕ) → (off : Fin n → Fin rk → ℕ) → (hs : ∀ i, ∀ a, off i a + sz a ≤ d a) →
    ((Fin n → (⟨rk, sz⟩ : Shape).Idx → Elt F e) → Prog (TpuEff nD τ sig (Elt F) Λ .tc) α) → Prog (TpuEff nD τ sig (Elt F) Λ .tc) α
  | 0, _, _, k => k Fin.elim0
  | n + 1, off, hs, k => .op (.load m (Rect.unit (s := ⟨rk, d⟩) (off 0) sz (hs 0)).toLoadRect (View.loadsAt_vmem h0)) fun v =>
      loadAll m sz h0 n (fun i => off i.succ) (fun i => hs i.succ) fun vs => k (Fin.cons v vs)

/-- The block: four loads of scales from `ms`, sixteen of weights from `mw`, the two pushes into register `r` of the two
    units and the two accumulates of `h` at address `A`. -/
def blockK {nw ns : ℕ} (ms : Memref sig .tc .vmem ⟨2, ![160, ns]⟩ .bf16) (mw : Memref sig .tc .vmem ⟨3, ![320, nw, 128]⟩ .i8)
    (offS : Fin 4 → Fin 2 → ℕ) (hS : ∀ i a, offS i a + T8x128.size a ≤ (![160, ns] : Fin 2 → ℕ) a)
    (offW : BitVec 32 → BitVec 32 → Fin 3 → ℕ)
    (hW : ∀ (g : Fin 8) (b : Fin 2), ∀ a, offW (BitVec.ofNat 32 (2 * g.val)) (BitVec.ofNat 32 b.val) a + T1x32x128.size a ≤ (![320, nw, 128] : Fin 3 → ℕ) a)
    (down up : IVec T8x8x128 32) (r : Fin 2) (A : ℕ) (hA : Mxu.Fits A 64) (h : FVec F T64x256 .bf16) (u : Mxu F)
    (k : Mxu F → Prog (TpuEff nD τ sig (Elt F) Λ .tc) α) : Prog (TpuEff nD τ sig (Elt F) Λ .tc) α :=
  loadAll ms T8x128.size (by decide) 4 offS hS fun s =>
  loadAll mw T1x32x128.size (by decide) 16 (fun n => offW (BitVec.ofNat 32 (2 * (n.val / 2))) (BitVec.ofNat 32 (n.val % 2)))
    (fun n => hW ⟨n.val / 2, by omega⟩ ⟨n.val % 2, by omega⟩) fun w =>
  Prog.bind (u.pushRhs 0 r false (rhs down up 0 1 (s 0) (s 1) w)) fun u1 =>
  Prog.bind (u1.pushRhs 1 r false (rhs down up 2 3 (s 2) (s 3) w)) fun u2 =>
  k ((u2.accLhs 0 r A h hA).accLhs 1 r A h hA)

section Rules
variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
local notation "𝕄" => MT nD τ sig Ix (Elt F) Name U Lvl

/-- Holding elements that include those read, the loads read what the buffer holds. -/
theorem wp_loadAll {Q : α → sProp 𝕄} {rk : ℕ} {d : Fin rk → ℕ} {e : EltTy} (m : Memref sig .tc .vmem ⟨rk, d⟩ e) (sz : Fin rk → ℕ) (h0 : 0 < (⟨rk, sz⟩ : Shape).numel)
    {q : PosShare TreeShare} {S : Finset (Idx (m.view.loc (c : Thread nD τ)))} {f : Buf (Elt F) (m.view.loc (c : Thread nD τ))}
    (n : ℕ) (off : Fin n → Fin rk → ℕ) (hs : ∀ i, ∀ a, off i a + sz a ≤ d a)
    (hin : ∀ i, m.view.setOn (Rect.unit (s := ⟨rk, d⟩) (off i) sz (hs i)).toLoadRect.set ⊆ S)
    (k : (Fin n → (⟨rk, sz⟩ : Shape).Idx → Elt F e) → Prog (TpuEff nD τ sig (Elt F) Λ .tc) α) :
    (m.view.loc (c : Thread nD τ) ↦[S]{q} f : sProp 𝕄)
      ⊢ iprop(((m.view.loc (c : Thread nD τ) ↦[S]{q} f)
          -∗ wp frame (wpE defs 𝒱 (c : Thread nD τ) bd) E (k fun i => m.view.readAt (Elt F) (Rect.unit (s := ⟨rk, d⟩) (off i) sz (hs i)).toLoadRect f) Q)
        -∗ wp frame (wpE defs 𝒱 (c : Thread nD τ) bd) E (loadAll m sz h0 n off hs k) Q) := by
  induction n with
  | zero =>
    unfold loadAll
    iintro H Hk
    rw [show (fun i : Fin 0 => m.view.readAt (Elt F) (Rect.unit (s := ⟨rk, d⟩) (off i) sz (hs i)).toLoadRect f) = (Fin.elim0 : Fin 0 → (⟨rk, sz⟩ : Shape).Idx → Elt F e) from funext fun i => i.elim0]
    iapply Hk; iexact H
  | succ n ih =>
    unfold loadAll
    iintro H Hk
    iapply (wp_load 𝒱 (c : Thread nD τ) bd E (hin 0)) $$ H
    iintro H
    iapply (ih (fun i => off i.succ) (fun i => hs i.succ) (fun i => hin i.succ) _) $$ H
    iintro H
    have he : (Fin.cons (m.view.readAt (Elt F) (Rect.unit (s := ⟨rk, d⟩) (off 0) sz (hs 0)).toLoadRect f)
        (fun i : Fin n => m.view.readAt (Elt F) (Rect.unit (s := ⟨rk, d⟩) (off i.succ) sz (hs i.succ)).toLoadRect f) : Fin (n + 1) → (⟨rk, sz⟩ : Shape).Idx → Elt F e)
        = fun i => m.view.readAt (Elt F) (Rect.unit (s := ⟨rk, d⟩) (off i) sz (hs i)).toLoadRect f := by
      funext i; refine Fin.cases ?_ (fun i => ?_) i <;> rfl
    rw [he]
    iapply Hk; iexact H

/-- The values the block loads, given what the two buffers hold. -/
def scalesAt {ns : ℕ} (ms : Memref sig .tc .vmem ⟨2, ![160, ns]⟩ .bf16)
    (offS : Fin 4 → Fin 2 → ℕ) (hS : ∀ i a, offS i a + T8x128.size a ≤ (![160, ns] : Fin 2 → ℕ) a) (fs : Buf (Elt F) (ms.view.loc (c : Thread nD τ))) :
    Fin 4 → FVec F T8x128 .bf16 :=
  fun i => ms.view.readAt (Elt F) (Rect.unit (s := ⟨2, ![160, ns]⟩) (offS i) T8x128.size (hS i)).toLoadRect fs

@[inherit_doc scalesAt]
def weightsAt {nw : ℕ} (mw : Memref sig .tc .vmem ⟨3, ![320, nw, 128]⟩ .i8) (offW : BitVec 32 → BitVec 32 → Fin 3 → ℕ)
    (hW : ∀ (g : Fin 8) (b : Fin 2), ∀ a, offW (BitVec.ofNat 32 (2 * g.val)) (BitVec.ofNat 32 b.val) a + T1x32x128.size a ≤ (![320, nw, 128] : Fin 3 → ℕ) a)
    (fw : Buf (Elt F) (mw.view.loc (c : Thread nD τ))) : Fin 16 → IVec T1x32x128 8 :=
  fun n => mw.view.readAt (Elt F) (Rect.unit (s := ⟨3, ![320, nw, 128]⟩) (offW (BitVec.ofNat 32 (2 * (n.val / 2))) (BitVec.ofNat 32 (n.val % 2))) T1x32x128.size
    (hW ⟨n.val / 2, by omega⟩ ⟨n.val % 2, by omega⟩)).toLoadRect fw

theorem reg_blockVal (down up : IVec T8x8x128 32) (r r' : Fin 2) (A : ℕ) (hA : Mxu.Fits A 64) (h : FVec F T64x256 .bf16)
    (s : Fin 4 → FVec F T8x128 .bf16) (w : Fin 16 → IVec T1x32x128 8) (u : Mxu F) (hu : ∀ q r, u.reg q r = none) (q : Fin 2) :
    (blockVal down up r A hA h s w u).reg q r' = none := by
  have hne : ∀ (q' : Fin 2), ((u.pushed 0 r false (rhs down up 0 1 (s 0) (s 1) w)).pushed 1 r false (rhs down up 2 3 (s 2) (s 3) w)).reg q' r' = none ∨ r' = r := by
    intro q'
    by_cases hr : r' = r
    · exact .inr hr
    · rw [Mxu.reg_pushed_ne (hne := fun h => hr h.2), Mxu.reg_pushed_ne (hne := fun h => hr h.2)]; exact .inl (hu q' r')
  unfold blockVal
  fin_cases q
  · by_cases hr : r' = r
    · subst hr
      rw [Mxu.reg_accLhs_ne (hne := by simp)]; exact Mxu.reg_accLhs ..
    · rw [Mxu.reg_accLhs_ne (hne := by simp), Mxu.reg_accLhs_ne (hne := fun h => hr h.2)]
      exact (hne _).resolve_right hr
  · by_cases hr : r' = r
    · subst hr
      exact Mxu.reg_accLhs ..
    · rw [Mxu.reg_accLhs_ne (hne := fun h => hr h.2), Mxu.reg_accLhs_ne (hne := fun h => hr h.2)]
      exact (hne _).resolve_right hr

/-- The block, from empty staging registers: the unit's new state. Of the two buffers only the elements `Ss` and `Sw` are held. -/
theorem wp_blockK {Q : α → sProp 𝕄} {nw ns : ℕ} (ms : Memref sig .tc .vmem ⟨2, ![160, ns]⟩ .bf16) (mw : Memref sig .tc .vmem ⟨3, ![320, nw, 128]⟩ .i8)
    (offS : Fin 4 → Fin 2 → ℕ) (hS : ∀ i a, offS i a + T8x128.size a ≤ (![160, ns] : Fin 2 → ℕ) a)
    (offW : BitVec 32 → BitVec 32 → Fin 3 → ℕ)
    (hW : ∀ (g : Fin 8) (b : Fin 2), ∀ a, offW (BitVec.ofNat 32 (2 * g.val)) (BitVec.ofNat 32 b.val) a + T1x32x128.size a ≤ (![320, nw, 128] : Fin 3 → ℕ) a)
    (down up : IVec T8x8x128 32) (r : Fin 2) (A : ℕ) (hA : Mxu.Fits A 64) (h : FVec F T64x256 .bf16) (u : Mxu F)
    (k : Mxu F → Prog (TpuEff nD τ sig (Elt F) Λ .tc) α) (hu : ∀ q r, u.reg q r = none)
    (fs : Buf (Elt F) (ms.view.loc (c : Thread nD τ))) (fw : Buf (Elt F) (mw.view.loc (c : Thread nD τ))) {q q' : PosShare TreeShare}
    {Ss : Finset (Idx (ms.view.loc (c : Thread nD τ)))} {Sw : Finset (Idx (mw.view.loc (c : Thread nD τ)))}
    (hinS : ∀ i, ms.view.setOn (Rect.unit (s := ⟨2, ![160, ns]⟩) (offS i) T8x128.size (hS i)).toLoadRect.set ⊆ Ss)
    (hinW : ∀ (g : Fin 8) (b : Fin 2), mw.view.setOn (Rect.unit (s := ⟨3, ![320, nw, 128]⟩) (offW (BitVec.ofNat 32 (2 * g.val)) (BitVec.ofNat 32 b.val)) T1x32x128.size (hW g b)).toLoadRect.set ⊆ Sw) :
    iprop((ms.view.loc (c : Thread nD τ) ↦[Ss]{q} fs) ∗ (mw.view.loc (c : Thread nD τ) ↦[Sw]{q'} fw) : sProp 𝕄)
      ⊢ iprop(((ms.view.loc (c : Thread nD τ) ↦[Ss]{q} fs) -∗ (mw.view.loc (c : Thread nD τ) ↦[Sw]{q'} fw)
          -∗ wp frame (wpE defs 𝒱 (c : Thread nD τ) bd) E
            (k (blockVal down up r A hA h (scalesAt c ms offS hS fs) (weightsAt c mw offW hW fw) u)) Q)
        -∗ wp frame (wpE defs 𝒱 (c : Thread nD τ) bd) E (blockK ms mw offS hS offW hW down up r A hA h u k) Q) := by
  unfold blockK
  iintro ⟨Hs, Hw⟩ Hk
  iapply (wp_loadAll 𝒱 c bd E ms T8x128.size _ 4 offS hS hinS _) $$ Hs
  iintro Hs
  iapply (wp_loadAll 𝒱 c bd E mw T1x32x128.size _ 16 _ _ (fun n => hinW ⟨n.val / 2, by omega⟩ ⟨n.val % 2, by omega⟩) _) $$ Hw
  iintro Hw
  iapply (Mxu.wp_pushRhs _ (Mxu.pushOk_of_none _ _ _ _ (hu 0 r)))
  iapply (Mxu.wp_pushRhs _ (Mxu.pushOk_of_none _ _ _ _ ((Mxu.reg_pushed_ne _ 0 r _ _ 1 r (by simp)).trans (hu 1 r))))
  ispecialize Hk $$ Hs
  ispecialize Hk $$ Hw
  iexact Hk

/-! The block at closed offsets: chunk `n`, pair `q` of its array. -/

/-- Where the four tiles of scales start. -/
def uS (n q : ℕ) : Fin 4 → Fin 2 → ℕ := fun i => ![8 * n, 512 * q + 128 * i.val]
/-- Where the rows of packed weights start. -/
def uW (n q : ℕ) : BitVec 32 → BitVec 32 → Fin 3 → ℕ := fun a b => ![16 * n + a.toNat + b.toNat, 32 * q, 0]

theorem uS_inb {ns : ℕ} (n : Fin 20) (q : ℕ) (h : 512 * q + 512 ≤ ns) : ∀ i a, uS n.val q i a + T8x128.size a ≤ (![160, ns] : Fin 2 → ℕ) a := by
  intro i a
  have := n.isLt; have := i.isLt
  fin_cases a
  · show 8 * n.val + 8 ≤ 160; omega
  · show 512 * q + 128 * i.val + 128 ≤ ns; omega

theorem toNat_row (g : Fin 8) : (BitVec.ofNat 32 (2 * g.val)).toNat = 2 * g.val := by
  have := g.isLt; rw [BitVec.toNat_ofNat]; omega
theorem toNat_half (b : Fin 2) : (BitVec.ofNat 32 b.val).toNat = b.val := by
  have := b.isLt; rw [BitVec.toNat_ofNat]; omega

theorem uW_eq (n q : ℕ) (g : Fin 8) (b : Fin 2) : uW n q (BitVec.ofNat 32 (2 * g.val)) (BitVec.ofNat 32 b.val) = ![16 * n + 2 * g.val + b.val, 32 * q, 0] := by
  unfold uW; rw [toNat_row, toNat_half]

theorem uW_inb {nw : ℕ} (n : Fin 20) (q : ℕ) (h : 32 * q + 32 ≤ nw) (g : Fin 8) (b : Fin 2) :
    ∀ a, uW n.val q (BitVec.ofNat 32 (2 * g.val)) (BitVec.ofNat 32 b.val) a + T1x32x128.size a ≤ (![320, nw, 128] : Fin 3 → ℕ) a := by
  rw [uW_eq]; intro a
  have := n.isLt; have := g.isLt; have := b.isLt
  fin_cases a
  · show 16 * n.val + 2 * g.val + b.val + 1 ≤ 320; omega
  · show 32 * q + 32 ≤ nw; omega
  · show 0 + 128 ≤ 128; omega

theorem wp_blockU {Q : α → sProp 𝕄} {nw ns : ℕ} (ms : Memref sig .tc .vmem ⟨2, ![160, ns]⟩ .bf16) (mw : Memref sig .tc .vmem ⟨3, ![320, nw, 128]⟩ .i8)
    (n : Fin 20) (q : ℕ) (hqs : 512 * q + 512 ≤ ns) (hqw : 32 * q + 32 ≤ nw)
    (offS : Fin 4 → Fin 2 → ℕ) (hS : ∀ i a, offS i a + T8x128.size a ≤ (![160, ns] : Fin 2 → ℕ) a)
    (offW : BitVec 32 → BitVec 32 → Fin 3 → ℕ)
    (hW : ∀ (g : Fin 8) (b : Fin 2), ∀ a, offW (BitVec.ofNat 32 (2 * g.val)) (BitVec.ofNat 32 b.val) a + T1x32x128.size a ≤ (![320, nw, 128] : Fin 3 → ℕ) a)
    (heS : ∀ i, offS i = uS n.val q i)
    (heW : ∀ (g : Fin 8) (b : Fin 2), offW (BitVec.ofNat 32 (2 * g.val)) (BitVec.ofNat 32 b.val) = ![16 * n.val + 2 * g.val + b.val, 32 * q, 0])
    (down up : IVec T8x8x128 32) (r : Fin 2) (A : ℕ) (hA : Mxu.Fits A 64) (h : FVec F T64x256 .bf16) (u : Mxu F)
    (k : Mxu F → Prog (TpuEff nD τ sig (Elt F) Λ .tc) α) (hu : ∀ q r, u.reg q r = none)
    (fs : Buf (Elt F) (ms.view.loc (c : Thread nD τ))) (fw : Buf (Elt F) (mw.view.loc (c : Thread nD τ))) {q₁ q₂ : PosShare TreeShare}
    {Ss : Finset (Idx (ms.view.loc (c : Thread nD τ)))} {Sw : Finset (Idx (mw.view.loc (c : Thread nD τ)))}
    (hinS : ∀ (off : Fin 2 → ℕ) (hoff : ∀ a, off a + T8x128.size a ≤ (![160, ns] : Fin 2 → ℕ) a), off 0 = 8 * n.val →
      ms.view.setOn (Rect.unit (s := ⟨2, ![160, ns]⟩) off T8x128.size hoff).toLoadRect.set ⊆ Ss)
    (hinW : ∀ (off : Fin 3 → ℕ) (hoff : ∀ a, off a + T1x32x128.size a ≤ (![320, nw, 128] : Fin 3 → ℕ) a), 16 * n.val ≤ off 0 → off 0 < 16 * n.val + 16 →
      mw.view.setOn (Rect.unit (s := ⟨3, ![320, nw, 128]⟩) off T1x32x128.size hoff).toLoadRect.set ⊆ Sw) :
    iprop((ms.view.loc (c : Thread nD τ) ↦[Ss]{q₁} fs) ∗ (mw.view.loc (c : Thread nD τ) ↦[Sw]{q₂} fw) : sProp 𝕄)
      ⊢ iprop(((ms.view.loc (c : Thread nD τ) ↦[Ss]{q₁} fs) -∗ (mw.view.loc (c : Thread nD τ) ↦[Sw]{q₂} fw)
          -∗ wp frame (wpE defs 𝒱 (c : Thread nD τ) bd) E
            (k (blockVal down up r A hA h (scalesAt c ms (uS n.val q) (uS_inb n q hqs) fs) (weightsAt c mw (uW n.val q) (uW_inb n q hqw) fw) u)) Q)
        -∗ wp frame (wpE defs 𝒱 (c : Thread nD τ) bd) E (blockK ms mw offS hS offW hW down up r A hA h u k) Q) := by
  obtain rfl : offS = uS n.val q := funext heS
  have hw : weightsAt c mw offW hW fw = weightsAt c mw (uW n.val q) (uW_inb n q hqw) fw := by
    funext m
    have key : ∀ (o o' : Fin 3 → ℕ) (h h'), o = o' → mw.view.readAt (Elt F) (Rect.unit (s := ⟨3, ![320, nw, 128]⟩) o T1x32x128.size h).toLoadRect fw
        = mw.view.readAt (Elt F) (Rect.unit (s := ⟨3, ![320, nw, 128]⟩) o' T1x32x128.size h').toLoadRect fw := by rintro o _ h h' rfl; rfl
    exact key _ _ _ _ ((heW ⟨m.val / 2, by omega⟩ ⟨m.val % 2, by omega⟩).trans (uW_eq n.val q ⟨m.val / 2, by omega⟩ ⟨m.val % 2, by omega⟩).symm)
  rw [← hw]
  refine wp_blockK 𝒱 c bd E ms mw _ hS offW hW down up r A hA h u k hu fs fw (fun i => hinS _ _ rfl) (fun g b => hinW _ _ ?_ ?_)
  · rw [heW]; show 16 * n.val ≤ 16 * n.val + 2 * g.val + b.val; omega
  · rw [heW]; have := g.isLt; have := b.isLt; show 16 * n.val + 2 * g.val + b.val < _; omega

end Rules
end Prog

end Cert.Qkv
-- ==== Proof.Dma.lean ====
/-
  Six copies on one semaphore, issued together and waited for together: the copies of one chunk of the weights and scales.
  Between issue and wait they are one `MixedBatch`; after the waits the six destinations hold what the sources held.
-/
module

public import Idealize.ShloMosaic.Lib.MixedBatch
public import Idealize.ShloMosaic.Lib.Ring
public import Idealize.ShloMosaic.Lib.Tactic

@[expose] public section

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One copy: its two ends. -/
structure Cp (sig : RefSig) where
  s : Shape
  e : EltTy
  src : Memref sig .tc .hbm s e
  dst : Memref sig .tc .vmem s e
  hs : src.view.WordExact
  hd : dst.view.WordExact

variable {nD : ℕ} {τ : Topo} {sig : RefSig} {Λ : Labels} {Val : EltTy → Type} {α : Type}

/-- One copy issued. -/
def enq (p : Cp sig) (sem : DmaSem sig) (k : PUnit → Prog (TpuEff nD τ sig Val Λ .tc) α) : Prog (TpuEff nD τ sig Val Λ .tc) α :=
  .op (.enqueueDma p.src (.here p.dst) (.dma sem) p.hs p.hd ⟨Or.inl rfl, trivial⟩) k

/-- One copy waited for. -/
def wait (p : Cp sig) (sem : DmaSem sig) (k : PUnit → Prog (TpuEff nD τ sig Val Λ .tc) α) : Prog (TpuEff nD τ sig Val Λ .tc) α :=
  .op (.waitDma2 sem p.src p.dst p.hs p.hd) k

/-- The six issued in order. -/
def enq6 (P : Fin 6 → Cp sig) (sem : DmaSem sig) : Prog (TpuEff nD τ sig Val Λ .tc) PUnit :=
  enq (P 0) sem fun _ => enq (P 1) sem fun _ => enq (P 2) sem fun _ => enq (P 3) sem fun _ => enq (P 4) sem fun _ => enq (P 5) sem fun _ => .ret ⟨⟩

/-- The six waited for in order. -/
def wait6 (P : Fin 6 → Cp sig) (sem : DmaSem sig) : Prog (TpuEff nD τ sig Val Λ .tc) PUnit :=
  wait (P 0) sem fun _ => wait (P 1) sem fun _ => wait (P 2) sem fun _ => wait (P 3) sem fun _ => wait (P 4) sem fun _ => wait (P 5) sem fun _ => .ret ⟨⟩

/-- What a whole write of what `v` reads leaves, where the two views read the same. -/
theorem land_gen {κ κ' : Kind} {sp sp' : Space} {s : Shape} {e : EltTy} (v : View sig κ sp s e) (v' : View sig κ' sp' s e)
    (f : v.ty.Contents Val) (g : v'.ty.Contents Val) (h : v'.read Val g = v.read Val f) (fd : v'.ty.Contents Val) :
    ∀ i ∈ v'.set, v'.write Val fd (v.read Val f) Finset.univ i = g i := by
  intro i hi
  obtain ⟨x, -, rfl⟩ := Finset.mem_map.mp hi
  rw [View.write_emb_of_mem fd _ (Finset.mem_univ x), ← h, View.read_apply]
  exact cast_cast _ _ _ |>.trans (cast_eq _ _)

section Rules

variable {Ix : Type} [DecidableEq Ix] {Name : Type} [DecidableEq Name] [Infinite Name]
variable {U : Type} [URA U] {Lvl : Type} [Preorder Lvl]
local notation "𝕄" => MT nD τ sig Ix Val Name U Lvl
variable (EC : UEmb Counters (MT nD τ sig Ix Val Name U Lvl))
variable {defs : Defs nD τ sig Val Λ} (𝒱 : Variants) (c : Dev nD) (bd : Option 𝒱.V)
variable (P : Fin 6 → Cp sig)
  (fs : ∀ j, Buf Val ((P j).src.view.loc (c : Thread nD τ))) (G : ∀ j, Buf Val ((P j).dst.view.loc (c : Thread nD τ)))

omit [Infinite Name] [Preorder Lvl] in
theorem bigSep6 (Φ : Fin 6 → sProp 𝕄) : bigSep Finset.univ Φ = iprop(Φ 0 ∗ Φ 1 ∗ Φ 2 ∗ Φ 3 ∗ Φ 4 ∗ Φ 5) := by
  rw [BI.bigSep_eq_bigSepL_of_eq [0, 1, 2, 3, 4, 5] (by decide) (by decide)]; rfl

/-- What copy `j` delivers: its destination at the final contents, its source back. -/
def deliver (j : Fin 6) : sProp 𝕄 :=
  iprop(((P j).dst.view.loc (c : Thread nD τ) ↦[(P j).dst.view.set]{fullShare} G j)
    ∗ ((P j).src.view.loc (c : Thread nD τ) ↦[(P j).src.view.set]{fullShare} fs j))

instance deliver_storable (j : Fin 6) : Storable (upEmb : UEmb _ 𝕄) (deliver c P fs G j) := by
  unfold deliver; infer_instance

/-- What a copy needs: its source, its destination at anything. -/
def ends (j : Fin 6) : sProp 𝕄 :=
  iprop((∃ f, (P j).dst.view.loc (c : Thread nD τ) ↦[(P j).dst.view.set]{fullShare} f)
    ∗ ((P j).src.view.loc (c : Thread nD τ) ↦[(P j).src.view.set]{fullShare} fs j))

/-- The semaphore units of the six. -/
def amounts (j : Fin 6) : ℕ := (P j).dst.view.dmaCredit

/-- Nothing issued. -/
def idle (sem : DmaSem sig) : sProp 𝕄 :=
  iprop(semVal ((c : Thread nD τ), SemLoc.dma sem) 0 ∗ bigSep Finset.univ (ends c P fs))

/-- All six issued, none waited for. -/
def flight (sem : DmaSem sig) (ι : Ix) : sProp 𝕄 :=
  Transfers.MixedBatch EC (c : Thread nD τ) (.dma sem) ι (amounts P) (deliver c P fs G) 6 (Transfers.sumTo (amounts P) 0)

/-- All six landed. -/
def landed (sem : DmaSem sig) : sProp 𝕄 :=
  iprop(semVal ((c : Thread nD τ), SemLoc.dma sem) 0 ∗ bigSep Finset.univ (deliver c P fs G))

theorem wp_enq [EC.LandsIn (upEmb : UEmb _ 𝕄)] (sem : DmaSem sig) (ι : Ix) {Q : α → sProp 𝕄} (j : Fin 6)
    (hG : ∀ fd, ∀ i ∈ (P j).dst.view.set, (P j).dst.view.write Val fd ((P j).src.view.read Val (fs j)) Finset.univ i = G j i)
    (k : PUnit → Prog (TpuEff nD τ sig Val Λ .tc) α) :
    iprop(ends c P fs j ∗ Transfers.MixedBatch EC (c : Thread nD τ) (.dma sem) ι (amounts P) (deliver c P fs G) j.val 0)
      ⊢ iprop((Transfers.MixedBatch EC (c : Thread nD τ) (.dma sem) ι (amounts P) (deliver c P fs G) (j.val + 1) 0
            -∗ wp frame (wpE defs 𝒱 (c : Thread nD τ) bd) Set.univ (k ⟨⟩) Q)
          -∗ wp frame (wpE defs 𝒱 (c : Thread nD τ) bd) Set.univ (enq (P j) sem k) Q) := by
  unfold enq ends
  iintro ⟨⟨⟨%fd, Hd⟩, Hs⟩, HB⟩ Hk
  iapply (Transfers.wp_dmaMixedBatch EC 𝒱 (c : Thread nD τ) bd (via := ReadAs.same) (fs := fs j) (fd := fd) (D := deliver c P fs G) ι (amounts P) (Finset.Subset.refl _) j.isLt rfl (Nat.zero_le _)
    (Entails.of_eq (congrArg (fun X => iprop(X ∗ _)) (pointsTo_congr (hG fd))))) $$ [Hd Hs HB]
  · isplitl [Hs]; · iexact Hs
    isplitl [Hd]; · iexact Hd
    iexact HB
  iexact Hk

theorem wp_enq6 [EC.LandsIn (upEmb : UEmb _ 𝕄)] (sem : DmaSem sig) (ι : Ix) {Q : PUnit → sProp 𝕄}
    (hG : ∀ j fd, ∀ i ∈ (P j).dst.view.set, (P j).dst.view.write Val fd ((P j).src.view.read Val (fs j)) Finset.univ i = G j i) :
    idle c P fs sem ⊢ iprop((flight EC c P fs G sem ι -∗ Q ⟨⟩)
        -∗ wp frame (wpE defs 𝒱 (c : Thread nD τ) bd) Set.univ (enq6 P sem : Prog (TpuEff nD τ sig Val Λ .tc) PUnit) Q) := by
  unfold idle enq6
  rw [bigSep6]
  iintro ⟨Hv, H0, H1, H2, H3, H4, H5⟩ Hk
  imod (Transfers.mixedBatch_alloc' EC (c : Thread nD τ) ι (amounts P) (deliver c P fs G)) $$ Hv with HB
  iapply (wp_enq EC 𝒱 c bd P fs G sem ι 0 (hG 0) _) $$ [H0 HB]
  · isplitl [H0]; · iexact H0
    iexact HB
  iintro HB
  iapply (wp_enq EC 𝒱 c bd P fs G sem ι 1 (hG 1) _) $$ [H1 HB]
  · isplitl [H1]; · iexact H1
    iexact HB
  iintro HB
  iapply (wp_enq EC 𝒱 c bd P fs G sem ι 2 (hG 2) _) $$ [H2 HB]
  · isplitl [H2]; · iexact H2
    iexact HB
  iintro HB
  iapply (wp_enq EC 𝒱 c bd P fs G sem ι 3 (hG 3) _) $$ [H3 HB]
  · isplitl [H3]; · iexact H3
    iexact HB
  iintro HB
  iapply (wp_enq EC 𝒱 c bd P fs G sem ι 4 (hG 4) _) $$ [H4 HB]
  · isplitl [H4]; · iexact H4
    iexact HB
  iintro HB
  iapply (wp_enq EC 𝒱 c bd P fs G sem ι 5 (hG 5) _) $$ [H5 HB]
  · isplitl [H5]; · iexact H5
    iexact HB
  iintro HB
  rw [wp_ret]; imodintro
  iapply Hk
  unfold flight; iexact HB

theorem wp_wait [EC.LandsIn (upEmb : UEmb _ 𝕄)] (sem : DmaSem sig) (ι : Ix) {Q : α → sProp 𝕄} (j : Fin 6) {W : Waits sig Ix}
    (k : PUnit → Prog (TpuEff nD τ sig Val Λ .tc) α) (n : ℕ) (hn : n = j.val) :
    iprop(Transfers.MixedBatch EC (c : Thread nD τ) (.dma sem) ι (amounts P) (deliver c P fs G) 6 (Transfers.sumTo (amounts P) n) ∗ owes (c : Thread nD τ) 0 W)
      ⊢ iprop((iprop(Transfers.MixedBatch EC (c : Thread nD τ) (.dma sem) ι (amounts P) (deliver c P fs G) 6 (Transfers.sumTo (amounts P) (n + 1))
              ∗ owes (c : Thread nD τ) 0 (insert (SemLoc.dma sem, ι) W))
            -∗ wp frame (wpE defs 𝒱 (c : Thread nD τ) bd) Set.univ (k ⟨⟩) Q)
          -∗ wp frame (wpE defs 𝒱 (c : Thread nD τ) bd) Set.univ (wait (P j) sem k) Q) := by
  subst hn
  unfold wait
  have hs : Transfers.sumTo (amounts P) (j.val + 1) = Transfers.sumTo (amounts P) j.val + (P j).dst.view.dmaCredit := Transfers.sumTo_succ _ j.isLt
  have hle : Transfers.sumTo (amounts P) (j.val + 1) ≤ Transfers.sumTo (amounts P) 6 := by
    have hmono : Monotone (Transfers.sumTo (amounts P)) := monotone_nat_of_le_succ fun n => by
      show _ ≤ Transfers.sumTo (amounts P) n + _; exact Nat.le_add_right _ _
    exact hmono (by omega)
  rw [hs] at hle ⊢
  exact Transfers.wp_waitMixedBatch EC 𝒱 (c : Thread nD τ) bd ι rfl hle

theorem wp_wait6 [EC.LandsIn (upEmb : UEmb _ 𝕄)] (sem : DmaSem sig) (ι : Ix) {Q : PUnit → sProp 𝕄} {W : Waits sig Ix} (hA : ∀ j, 0 < amounts P j) :
    iprop(flight EC c P fs G sem ι ∗ owes (c : Thread nD τ) 0 W)
      ⊢ iprop((iprop(landed c P fs G sem ∗ ∃ W', owes (c : Thread nD τ) 0 W') -∗ Q ⟨⟩)
        -∗ wp frame (wpE defs 𝒱 (c : Thread nD τ) bd) Set.univ (wait6 P sem : Prog (TpuEff nD τ sig Val Λ .tc) PUnit) Q) := by
  unfold flight wait6
  iintro H Hk
  iapply (wp_wait EC 𝒱 c bd P fs G sem ι 0 _ 0 rfl) $$ H
  iintro H
  iapply (wp_wait EC 𝒱 c bd P fs G sem ι 1 _ 1 rfl) $$ H
  iintro H
  iapply (wp_wait EC 𝒱 c bd P fs G sem ι 2 _ 2 rfl) $$ H
  iintro H
  iapply (wp_wait EC 𝒱 c bd P fs G sem ι 3 _ 3 rfl) $$ H
  iintro H
  iapply (wp_wait EC 𝒱 c bd P fs G sem ι 4 _ 4 rfl) $$ H
  iintro H
  unfold wait
  iapply (Transfers.wp_waitMixedBatchAll EC 𝒱 (c : Thread nD τ) bd ι rfl hA (Transfers.sumTo_succ (amounts P) (by decide : 5 < 6)).symm) $$ H
  iintro ⟨HD, Hv, HO⟩
  rw [wp_ret]; imodintro
  iapply Hk
  unfold landed
  isplitl [HD Hv]
  · isplitl [Hv]; · iexact Hv
    iexact HD
  iexists _; iexact HO

end Rules

end Cert.Qkv
-- ==== Proof.Trip.lean ====
/-
  One trip of the contraction loop as a structured program: wait for the chunk's copies, issue those of the chunk ten ahead,
  read the chunk's activations, fourteen blocks.
-/
module

public import proofs.«01_k».proof.Proof.Gen.KernelIdeal
public import proofs.«01_k».proof.Proof.Block
public import proofs.«01_k».proof.Proof.Dma

@[expose] public section

set_option maxRecDepth 16384

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open Idealize.SL.Sem

variable {F : FTy → Type} [FloatOps F]

/-! The body's operands. -/
abbrev arg0 : Memref sig .tc .hbm S64x5120 .bf16 := Memref.whole main_v1
abbrev harg0 : (arg0).IsWhole := Memref.isWhole_whole _
abbrev arg1 : Memref sig .tc .hbm S40x128 .bf16 := Memref.whole main_v2
abbrev harg1 : (arg1).IsWhole := Memref.isWhole_whole _
abbrev arg2 : Memref sig .tc .hbm S1x64 .i32 := Memref.whole main_v3
abbrev harg2 : (arg2).IsWhole := Memref.isWhole_whole _
abbrev arg3 : Memref sig .tc .hbm S1x128 .f32 := Memref.whole main_v0
abbrev harg3 : (arg3).IsWhole := Memref.isWhole_whole _
abbrev arg4 : Memref sig .tc .hbm S320x320x128 .i8 := Memref.whole main_v7
abbrev harg4 : (arg4).IsWhole := Memref.isWhole_whole _
abbrev arg5 : Memref sig .tc .hbm S160x5120 .bf16 := Memref.whole main_v8
abbrev harg5 : (arg5).IsWhole := Memref.isWhole_whole _
abbrev arg6 : Memref sig .tc .hbm S320x64x128 .i8 := Memref.whole main_v12
abbrev harg6 : (arg6).IsWhole := Memref.isWhole_whole _
abbrev arg7 : Memref sig .tc .hbm S160x1024 .bf16 := Memref.whole main_v13
abbrev harg7 : (arg7).IsWhole := Memref.isWhole_whole _
abbrev arg8 : Memref sig .tc .hbm S320x64x128 .i8 := Memref.whole main_v17
abbrev harg8 : (arg8).IsWhole := Memref.isWhole_whole _
abbrev arg9 : Memref sig .tc .hbm S160x1024 .bf16 := Memref.whole main_v18
abbrev harg9 : (arg9).IsWhole := Memref.isWhole_whole _
abbrev arg10 : Memref sig .tc .hbm S64x40x128 .bf16 := Memref.whole main_v19_0
abbrev harg10 : (arg10).IsWhole := Memref.isWhole_whole _
abbrev arg11 : Memref sig .tc .hbm S64x8x128 .bf16 := Memref.whole main_v19_1
abbrev harg11 : (arg11).IsWhole := Memref.isWhole_whole _
abbrev arg12 : Memref sig .tc .hbm S64x8x128 .bf16 := Memref.whole main_v19_2
abbrev harg12 : (arg12).IsWhole := Memref.isWhole_whole _
abbrev arg13 : Memref sig .tc .vmem S64x5120 .bf16 := Memref.whole cc0_scratch0
abbrev harg13 : (arg13).IsWhole := Memref.isWhole_whole _
abbrev arg14 : Memref sig .tc .vmem S40x128 .bf16 := Memref.whole cc0_scratch1
abbrev harg14 : (arg14).IsWhole := Memref.isWhole_whole _
abbrev arg15 : Memref sig .tc .vmem S40x128 .f32 := Memref.whole cc0_scratch2
abbrev harg15 : (arg15).IsWhole := Memref.isWhole_whole _
abbrev arg16 : Memref sig .tc .vmem S1x64 .i32 := Memref.whole cc0_scratch3
abbrev harg16 : (arg16).IsWhole := Memref.isWhole_whole _
abbrev arg17 : Memref sig .tc .vmem S1x128 .f32 := Memref.whole cc0_scratch4
abbrev harg17 : (arg17).IsWhole := Memref.isWhole_whole _
abbrev arg18 : Memref sig .tc .vmem S320x320x128 .i8 := Memref.whole cc0_scratch5
abbrev harg18 : (arg18).IsWhole := Memref.isWhole_whole _
abbrev arg19 : Memref sig .tc .vmem S320x64x128 .i8 := Memref.whole cc0_scratch6
abbrev harg19 : (arg19).IsWhole := Memref.isWhole_whole _
abbrev arg20 : Memref sig .tc .vmem S320x64x128 .i8 := Memref.whole cc0_scratch7
abbrev harg20 : (arg20).IsWhole := Memref.isWhole_whole _
abbrev arg21 : Memref sig .tc .vmem S160x5120 .bf16 := Memref.whole cc0_scratch8
abbrev harg21 : (arg21).IsWhole := Memref.isWhole_whole _
abbrev arg22 : Memref sig .tc .vmem S160x1024 .bf16 := Memref.whole cc0_scratch9
abbrev harg22 : (arg22).IsWhole := Memref.isWhole_whole _
abbrev arg23 : Memref sig .tc .vmem S160x1024 .bf16 := Memref.whole cc0_scratch10
abbrev harg23 : (arg23).IsWhole := Memref.isWhole_whole _
abbrev arg24 : Memref sig .tc .vmem S40x64x128 .bf16 := Memref.whole cc0_scratch11
abbrev harg24 : (arg24).IsWhole := Memref.isWhole_whole _
abbrev arg25 : Memref sig .tc .vmem S64x128 .f32 := Memref.whole cc0_scratch12
abbrev harg25 : (arg25).IsWhole := Memref.isWhole_whole _
abbrev arg26 : Memref sig .tc .vmem S64x128 .f32 := Memref.whole cc0_scratch13
abbrev harg26 : (arg26).IsWhole := Memref.isWhole_whole _
abbrev arg27 : Memref sig .tc .vmem S64x40x128 .bf16 := Memref.whole cc0_scratch14
abbrev harg27 : (arg27).IsWhole := Memref.isWhole_whole _
abbrev arg28 : Memref sig .tc .vmem S64x8x128 .bf16 := Memref.whole cc0_scratch15
abbrev harg28 : (arg28).IsWhole := Memref.isWhole_whole _
abbrev arg29 : Memref sig .tc .vmem S64x8x128 .bf16 := Memref.whole cc0_scratch16
abbrev harg29 : (arg29).IsWhole := Memref.isWhole_whole _
abbrev arg30 : DmaSems sig S4 := cc0_scratch17
abbrev arg31 : DmaSems sig S20 := cc0_scratch18
abbrev arg32 : DmaSems sig S3 := cc0_scratch19

/-- The two shift tables: 28 everywhere, and 28 − 4·j. -/
abbrev downC : IVec T8x8x128 32 := broadcast S8x8x128 28#32
@[inherit_doc downC]
abbrev upC : IVec T8x8x128 32 := subi (broadcast S8x8x128 28#32) (muli (broadcast S8x8x128 4#32) (iota .tc S8x8x128 32 [1] iota_S8x8x128_d1_w32))

/-- The activations of a chunk: two tiles of 128 columns side by side. -/
abbrev hChunk (v w : Vec F S1x64x128 .bf16) : FVec F S64x256 .bf16 :=
  concatenate S64x256 1 [⟨S64x128, shapeCast S64x128 v shapeCasts_S1x64x128_S64x128⟩, ⟨S64x128, shapeCast S64x128 w shapeCasts_S1x64x128_S64x128⟩] concatenates_S64x128_S64x128_S64x256_d1

/-- The copies waited for at trip `k` of the contraction loop. -/
def cpsWait (k : Fin k0_t3_loop.trips) : Fin 6 → Cp sig :=
  ![⟨S8x5120, .bf16, arg5.slice (Rect.unit (s := S160x5120) (k0_off8 k) S8x5120.size (k0_off8_inb k)) (fun _ => rfl), arg21.slice (Rect.unit (s := S160x5120) (k0_off8 k) S8x5120.size (k0_off8_inb k)) (fun _ => rfl), harg5.wordExact_slice rfl _ (k0_off8_wordsbf16 k), harg21.wordExact_slice rfl _ (k0_off8_wordsbf16 k)⟩,
    ⟨S8x1024, .bf16, arg7.slice (Rect.unit (s := S160x1024) (k0_off9 k) S8x1024.size (k0_off9_inb k)) (fun _ => rfl), arg22.slice (Rect.unit (s := S160x1024) (k0_off9 k) S8x1024.size (k0_off9_inb k)) (fun _ => rfl), harg7.wordExact_slice rfl _ (k0_off9_wordsbf16 k), harg22.wordExact_slice rfl _ (k0_off9_wordsbf16 k)⟩,
    ⟨S8x1024, .bf16, arg9.slice (Rect.unit (s := S160x1024) (k0_off9 k) S8x1024.size (k0_off9_inb k)) (fun _ => rfl), arg23.slice (Rect.unit (s := S160x1024) (k0_off9 k) S8x1024.size (k0_off9_inb k)) (fun _ => rfl), harg9.wordExact_slice rfl _ (k0_off9_wordsbf16 k), harg23.wordExact_slice rfl _ (k0_off9_wordsbf16 k)⟩,
    ⟨S16x320x128, .i8, arg4.slice (Rect.unit (s := S320x320x128) (k0_off10 k) S16x320x128.size (k0_off10_inb k)) (fun _ => rfl), arg18.slice (Rect.unit (s := S320x320x128) (k0_off10 k) S16x320x128.size (k0_off10_inb k)) (fun _ => rfl), harg4.wordExact_slice rfl _ (k0_off10_wordsi8 k), harg18.wordExact_slice rfl _ (k0_off10_wordsi8 k)⟩,
    ⟨S16x64x128, .i8, arg6.slice (Rect.unit (s := S320x64x128) (k0_off11 k) S16x64x128.size (k0_off11_inb k)) (fun _ => rfl), arg19.slice (Rect.unit (s := S320x64x128) (k0_off11 k) S16x64x128.size (k0_off11_inb k)) (fun _ => rfl), harg6.wordExact_slice rfl _ (k0_off11_wordsi8 k), harg19.wordExact_slice rfl _ (k0_off11_wordsi8 k)⟩,
    ⟨S16x64x128, .i8, arg8.slice (Rect.unit (s := S320x64x128) (k0_off11 k) S16x64x128.size (k0_off11_inb k)) (fun _ => rfl), arg20.slice (Rect.unit (s := S320x64x128) (k0_off11 k) S16x64x128.size (k0_off11_inb k)) (fun _ => rfl), harg8.wordExact_slice rfl _ (k0_off11_wordsi8 k), harg20.wordExact_slice rfl _ (k0_off11_wordsi8 k)⟩]
/-- The copies issued at trip `k`. -/
def cpsAhead (k : Fin k0_t3_loop.trips) (h : k0_cond1 k = 1#1) : Fin 6 → Cp sig :=
  ![⟨S8x5120, .bf16, arg5.slice (Rect.unit (s := S160x5120) (k0_off13 k) S8x5120.size (k0_off13_inb k h)) (fun _ => rfl), arg21.slice (Rect.unit (s := S160x5120) (k0_off13 k) S8x5120.size (k0_off13_inb k h)) (fun _ => rfl), harg5.wordExact_slice rfl _ (k0_off13_wordsbf16 k h), harg21.wordExact_slice rfl _ (k0_off13_wordsbf16 k h)⟩,
    ⟨S8x1024, .bf16, arg7.slice (Rect.unit (s := S160x1024) (k0_off14 k) S8x1024.size (k0_off14_inb k h)) (fun _ => rfl), arg22.slice (Rect.unit (s := S160x1024) (k0_off14 k) S8x1024.size (k0_off14_inb k h)) (fun _ => rfl), harg7.wordExact_slice rfl _ (k0_off14_wordsbf16 k h), harg22.wordExact_slice rfl _ (k0_off14_wordsbf16 k h)⟩,
    ⟨S8x1024, .bf16, arg9.slice (Rect.unit (s := S160x1024) (k0_off14 k) S8x1024.size (k0_off14_inb k h)) (fun _ => rfl), arg23.slice (Rect.unit (s := S160x1024) (k0_off14 k) S8x1024.size (k0_off14_inb k h)) (fun _ => rfl), harg9.wordExact_slice rfl _ (k0_off14_wordsbf16 k h), harg23.wordExact_slice rfl _ (k0_off14_wordsbf16 k h)⟩,
    ⟨S16x320x128, .i8, arg4.slice (Rect.unit (s := S320x320x128) (k0_off15 k) S16x320x128.size (k0_off15_inb k h)) (fun _ => rfl), arg18.slice (Rect.unit (s := S320x320x128) (k0_off15 k) S16x320x128.size (k0_off15_inb k h)) (fun _ => rfl), harg4.wordExact_slice rfl _ (k0_off15_wordsi8 k h), harg18.wordExact_slice rfl _ (k0_off15_wordsi8 k h)⟩,
    ⟨S16x64x128, .i8, arg6.slice (Rect.unit (s := S320x64x128) (k0_off16 k) S16x64x128.size (k0_off16_inb k h)) (fun _ => rfl), arg19.slice (Rect.unit (s := S320x64x128) (k0_off16 k) S16x64x128.size (k0_off16_inb k h)) (fun _ => rfl), harg6.wordExact_slice rfl _ (k0_off16_wordsi8 k h), harg19.wordExact_slice rfl _ (k0_off16_wordsi8 k h)⟩,
    ⟨S16x64x128, .i8, arg8.slice (Rect.unit (s := S320x64x128) (k0_off16 k) S16x64x128.size (k0_off16_inb k h)) (fun _ => rfl), arg20.slice (Rect.unit (s := S320x64x128) (k0_off16 k) S16x64x128.size (k0_off16_inb k h)) (fun _ => rfl), harg8.wordExact_slice rfl _ (k0_off16_wordsi8 k h), harg20.wordExact_slice rfl _ (k0_off16_wordsi8 k h)⟩]
/-- The copies issued at trip `k` of the first loop. -/
def cpsFirst (k : Fin k0_t1_loop.trips) : Fin 6 → Cp sig :=
  ![⟨S8x5120, .bf16, arg5.slice (Rect.unit (s := S160x5120) (k0_off2 k) S8x5120.size (k0_off2_inb k)) (fun _ => rfl), arg21.slice (Rect.unit (s := S160x5120) (k0_off2 k) S8x5120.size (k0_off2_inb k)) (fun _ => rfl), harg5.wordExact_slice rfl _ (k0_off2_wordsbf16 k), harg21.wordExact_slice rfl _ (k0_off2_wordsbf16 k)⟩,
    ⟨S8x1024, .bf16, arg7.slice (Rect.unit (s := S160x1024) (k0_off3 k) S8x1024.size (k0_off3_inb k)) (fun _ => rfl), arg22.slice (Rect.unit (s := S160x1024) (k0_off3 k) S8x1024.size (k0_off3_inb k)) (fun _ => rfl), harg7.wordExact_slice rfl _ (k0_off3_wordsbf16 k), harg22.wordExact_slice rfl _ (k0_off3_wordsbf16 k)⟩,
    ⟨S8x1024, .bf16, arg9.slice (Rect.unit (s := S160x1024) (k0_off3 k) S8x1024.size (k0_off3_inb k)) (fun _ => rfl), arg23.slice (Rect.unit (s := S160x1024) (k0_off3 k) S8x1024.size (k0_off3_inb k)) (fun _ => rfl), harg9.wordExact_slice rfl _ (k0_off3_wordsbf16 k), harg23.wordExact_slice rfl _ (k0_off3_wordsbf16 k)⟩,
    ⟨S16x320x128, .i8, arg4.slice (Rect.unit (s := S320x320x128) (k0_off4 k) S16x320x128.size (k0_off4_inb k)) (fun _ => rfl), arg18.slice (Rect.unit (s := S320x320x128) (k0_off4 k) S16x320x128.size (k0_off4_inb k)) (fun _ => rfl), harg4.wordExact_slice rfl _ (k0_off4_wordsi8 k), harg18.wordExact_slice rfl _ (k0_off4_wordsi8 k)⟩,
    ⟨S16x64x128, .i8, arg6.slice (Rect.unit (s := S320x64x128) (k0_off5 k) S16x64x128.size (k0_off5_inb k)) (fun _ => rfl), arg19.slice (Rect.unit (s := S320x64x128) (k0_off5 k) S16x64x128.size (k0_off5_inb k)) (fun _ => rfl), harg6.wordExact_slice rfl _ (k0_off5_wordsi8 k), harg19.wordExact_slice rfl _ (k0_off5_wordsi8 k)⟩,
    ⟨S16x64x128, .i8, arg8.slice (Rect.unit (s := S320x64x128) (k0_off5 k) S16x64x128.size (k0_off5_inb k)) (fun _ => rfl), arg20.slice (Rect.unit (s := S320x64x128) (k0_off5 k) S16x64x128.size (k0_off5_inb k)) (fun _ => rfl), harg8.wordExact_slice rfl _ (k0_off5_wordsi8 k), harg20.wordExact_slice rfl _ (k0_off5_wordsi8 k)⟩]

/-- The fourteen blocks of a trip. -/
def blocks (k : Fin k0_t3_loop.trips) (h : FVec F S64x256 .bf16) (s0 : Mxu F) : Prog (TpuEff nD τ sig (Elt F) Λ₀ .tc) (Mxu F) :=
  blockK arg21 arg18 ![k0_off18 k, k0_off19 k, k0_off20 k, k0_off21 k] (fun | 0 => k0_off18_inb k | 1 => k0_off19_inb k | 2 => k0_off20_inb k | 3 => k0_off21_inb k)
    (k0_off22 k) (fun g b => k0_off22_inb k g b) downC upC 0 0 fits_0_64 h s0 fun s1 =>
  blockK arg21 arg18 ![k0_off23 k, k0_off24 k, k0_off25 k, k0_off26 k] (fun | 0 => k0_off23_inb k | 1 => k0_off24_inb k | 2 => k0_off25_inb k | 3 => k0_off26_inb k)
    (k0_off27 k) (fun g b => k0_off27_inb k g b) downC upC 1 16 fits_16_64 h s1 fun s2 =>
  blockK arg21 arg18 ![k0_off28 k, k0_off29 k, k0_off30 k, k0_off31 k] (fun | 0 => k0_off28_inb k | 1 => k0_off29_inb k | 2 => k0_off30_inb k | 3 => k0_off31_inb k)
    (k0_off32 k) (fun g b => k0_off32_inb k g b) downC upC 0 32 fits_32_64 h s2 fun s3 =>
  blockK arg21 arg18 ![k0_off33 k, k0_off34 k, k0_off35 k, k0_off36 k] (fun | 0 => k0_off33_inb k | 1 => k0_off34_inb k | 2 => k0_off35_inb k | 3 => k0_off36_inb k)
    (k0_off37 k) (fun g b => k0_off37_inb k g b) downC upC 1 48 fits_48_64 h s3 fun s4 =>
  blockK arg21 arg18 ![k0_off38 k, k0_off39 k, k0_off40 k, k0_off41 k] (fun | 0 => k0_off38_inb k | 1 => k0_off39_inb k | 2 => k0_off40_inb k | 3 => k0_off41_inb k)
    (k0_off42 k) (fun g b => k0_off42_inb k g b) downC upC 0 64 fits_64_64 h s4 fun s5 =>
  blockK arg21 arg18 ![k0_off43 k, k0_off44 k, k0_off45 k, k0_off46 k] (fun | 0 => k0_off43_inb k | 1 => k0_off44_inb k | 2 => k0_off45_inb k | 3 => k0_off46_inb k)
    (k0_off47 k) (fun g b => k0_off47_inb k g b) downC upC 1 80 fits_80_64 h s5 fun s6 =>
  blockK arg21 arg18 ![k0_off48 k, k0_off49 k, k0_off50 k, k0_off51 k] (fun | 0 => k0_off48_inb k | 1 => k0_off49_inb k | 2 => k0_off50_inb k | 3 => k0_off51_inb k)
    (k0_off52 k) (fun g b => k0_off52_inb k g b) downC upC 0 96 fits_96_64 h s6 fun s7 =>
  blockK arg21 arg18 ![k0_off53 k, k0_off54 k, k0_off55 k, k0_off56 k] (fun | 0 => k0_off53_inb k | 1 => k0_off54_inb k | 2 => k0_off55_inb k | 3 => k0_off56_inb k)
    (k0_off57 k) (fun g b => k0_off57_inb k g b) downC upC 1 112 fits_112_64 h s7 fun s8 =>
  blockK arg21 arg18 ![k0_off58 k, k0_off59 k, k0_off60 k, k0_off61 k] (fun | 0 => k0_off58_inb k | 1 => k0_off59_inb k | 2 => k0_off60_inb k | 3 => k0_off61_inb k)
    (k0_off62 k) (fun g b => k0_off62_inb k g b) downC upC 0 128 fits_128_64 h s8 fun s9 =>
  blockK arg21 arg18 ![k0_off63 k, k0_off64 k, k0_off65 k, k0_off66 k] (fun | 0 => k0_off63_inb k | 1 => k0_off64_inb k | 2 => k0_off65_inb k | 3 => k0_off66_inb k)
    (k0_off67 k) (fun g b => k0_off67_inb k g b) downC upC 1 144 fits_144_64 h s9 fun s10 =>
  blockK arg22 arg19 ![k0_off68 k, k0_off69 k, k0_off70 k, k0_off71 k] (fun | 0 => k0_off68_inb k | 1 => k0_off69_inb k | 2 => k0_off70_inb k | 3 => k0_off71_inb k)
    (k0_off72 k) (fun g b => k0_off72_inb k g b) downC upC 0 160 fits_160_64 h s10 fun s11 =>
  blockK arg22 arg19 ![k0_off73 k, k0_off74 k, k0_off75 k, k0_off76 k] (fun | 0 => k0_off73_inb k | 1 => k0_off74_inb k | 2 => k0_off75_inb k | 3 => k0_off76_inb k)
    (k0_off77 k) (fun g b => k0_off77_inb k g b) downC upC 1 176 fits_176_64 h s11 fun s12 =>
  blockK arg23 arg20 ![k0_off68 k, k0_off69 k, k0_off70 k, k0_off71 k] (fun | 0 => k0_off68_inb k | 1 => k0_off69_inb k | 2 => k0_off70_inb k | 3 => k0_off71_inb k)
    (k0_off72 k) (fun g b => k0_off72_inb k g b) downC upC 0 192 fits_192_64 h s12 fun s13 =>
  blockK arg23 arg20 ![k0_off73 k, k0_off74 k, k0_off75 k, k0_off76 k] (fun | 0 => k0_off73_inb k | 1 => k0_off74_inb k | 2 => k0_off75_inb k | 3 => k0_off76_inb k)
    (k0_off77 k) (fun g b => k0_off77_inb k g b) downC upC 1 208 fits_208_64 h s13 fun s14 =>
  .ret s14

/-- One trip. -/
def trip (k : Fin k0_t3_loop.trips) (s : Mxu F) : Prog (TpuEff nD τ sig (Elt F) Λ₀ .tc) (Mxu F) :=
  Prog.bind (wait6 (cpsWait k) ((arg31.slice (Rect.unit (s := S20) (k0_off7 k) S1.size (k0_off7_inb k))).squeeze S_ squeezes_S1_S_).sem) fun _ =>
  Prog.bind (if h : k0_cond1 k = 1#1 then enq6 (cpsAhead k h) ((arg31.slice (Rect.unit (s := S20) (k0_off12 k) S1.size (k0_off12_inb k h))).squeeze S_ squeezes_S1_S_).sem else .ret ⟨⟩) fun _ =>
  .op (.load arg24 (Rect.unit (s := S40x64x128) (k0_off17 k 0#32) S1x64x128.size (k0_off17_inb k 0)).toLoadRect (View.loadsAt_vmem h_S1x64x128)) fun v =>
  .op (.load arg24 (Rect.unit (s := S40x64x128) (k0_off17 k 1#32) S1x64x128.size (k0_off17_inb k 1)).toLoadRect (View.loadsAt_vmem h_S1x64x128)) fun w =>
  blocks k (hChunk v w) s

/-- One trip of the first loop. -/
def tripFirst (k : Fin k0_t1_loop.trips) : Prog (TpuEff nD τ sig (Elt F) Λ₀ .tc) PUnit :=
  enq6 (cpsFirst k) ((arg31.slice (Rect.unit (s := S20) (k0_off1 k) S1.size (k0_off1_inb k))).squeeze S_ squeezes_S1_S_).sem

end Cert.KernelIdeal.Hand
-- ==== Proof.Copies.lean ====
/-
  The copies of the weights and scales, chunk by chunk: the three loops name the same twenty groups of six copies, each
  group on a semaphore of its own.
-/
module

public import proofs.«01_k».proof.Proof.Trip
public import proofs.«01_k».proof.Proof.Dma

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem trips1 : k0_t1_loop.trips = 10 := by decide +kernel
theorem trips3 : k0_t3_loop.trips = 20 := by decide +kernel

/-- Chunk `n`'s place in the contraction loop. -/
abbrev at3 (n : Fin 20) : Fin k0_t3_loop.trips := n.cast trips3.symm

/-- The six copies of chunk `n`. -/
def cps (n : Fin 20) : Fin 6 → Cp sig := cpsWait (at3 n)

/-- The semaphore of chunk `n`. -/
def semOf (n : Fin 20) : DmaSem sig := ((arg31.slice (Rect.unit (s := S20) (k0_off7 (at3 n)) S1.size (k0_off7_inb (at3 n)))).squeeze S_ squeezes_S1_S_).sem

/-- Copy 0 of a group, at the block of `arg5` that starts at `off`. -/
def cp0 (off : Fin S160x5120.rank → ℕ) (inb : ∀ a, off a + S8x5120.size a ≤ S160x5120.size a) (w : (Rect.unit (s := S160x5120) off S8x5120.size inb).WholeWords (EltTy.packing .bf16)) : Cp sig :=
  ⟨S8x5120, .bf16, arg5.slice (Rect.unit (s := S160x5120) off S8x5120.size inb) (fun _ => rfl), arg21.slice (Rect.unit (s := S160x5120) off S8x5120.size inb) (fun _ => rfl), harg5.wordExact_slice rfl _ w, harg21.wordExact_slice rfl _ w⟩
theorem cp0_congr {off off' : Fin S160x5120.rank → ℕ} (h : off = off') {inb w} {inb' w'} : cp0 off inb w = cp0 off' inb' w' := by subst h; rfl

/-- Copy 1 of a group, at the block of `arg7` that starts at `off`. -/
def cp1 (off : Fin S160x1024.rank → ℕ) (inb : ∀ a, off a + S8x1024.size a ≤ S160x1024.size a) (w : (Rect.unit (s := S160x1024) off S8x1024.size inb).WholeWords (EltTy.packing .bf16)) : Cp sig :=
  ⟨S8x1024, .bf16, arg7.slice (Rect.unit (s := S160x1024) off S8x1024.size inb) (fun _ => rfl), arg22.slice (Rect.unit (s := S160x1024) off S8x1024.size inb) (fun _ => rfl), harg7.wordExact_slice rfl _ w, harg22.wordExact_slice rfl _ w⟩
theorem cp1_congr {off off' : Fin S160x1024.rank → ℕ} (h : off = off') {inb w} {inb' w'} : cp1 off inb w = cp1 off' inb' w' := by subst h; rfl

/-- Copy 2 of a group, at the block of `arg9` that starts at `off`. -/
def cp2 (off : Fin S160x1024.rank → ℕ) (inb : ∀ a, off a + S8x1024.size a ≤ S160x1024.size a) (w : (Rect.unit (s := S160x1024) off S8x1024.size inb).WholeWords (EltTy.packing .bf16)) : Cp sig :=
  ⟨S8x1024, .bf16, arg9.slice (Rect.unit (s := S160x1024) off S8x1024.size inb) (fun _ => rfl), arg23.slice (Rect.unit (s := S160x1024) off S8x1024.size inb) (fun _ => rfl), harg9.wordExact_slice rfl _ w, harg23.wordExact_slice rfl _ w⟩
theorem cp2_congr {off off' : Fin S160x1024.rank → ℕ} (h : off = off') {inb w} {inb' w'} : cp2 off inb w = cp2 off' inb' w' := by subst h; rfl

/-- Copy 3 of a group, at the block of `arg4` that starts at `off`. -/
def cp3 (off : Fin S320x320x128.rank → ℕ) (inb : ∀ a, off a + S16x320x128.size a ≤ S320x320x128.size a) (w : (Rect.unit (s := S320x320x128) off S16x320x128.size inb).WholeWords (EltTy.packing .i8)) : Cp sig :=
  ⟨S16x320x128, .i8, arg4.slice (Rect.unit (s := S320x320x128) off S16x320x128.size inb) (fun _ => rfl), arg18.slice (Rect.unit (s := S320x320x128) off S16x320x128.size inb) (fun _ => rfl), harg4.wordExact_slice rfl _ w, harg18.wordExact_slice rfl _ w⟩
theorem cp3_congr {off off' : Fin S320x320x128.rank → ℕ} (h : off = off') {inb w} {inb' w'} : cp3 off inb w = cp3 off' inb' w' := by subst h; rfl

/-- Copy 4 of a group, at the block of `arg6` that starts at `off`. -/
def cp4 (off : Fin S320x64x128.rank → ℕ) (inb : ∀ a, off a + S16x64x128.size a ≤ S320x64x128.size a) (w : (Rect.unit (s := S320x64x128) off S16x64x128.size inb).WholeWords (EltTy.packing .i8)) : Cp sig :=
  ⟨S16x64x128, .i8, arg6.slice (Rect.unit (s := S320x64x128) off S16x64x128.size inb) (fun _ => rfl), arg19.slice (Rect.unit (s := S320x64x128) off S16x64x128.size inb) (fun _ => rfl), harg6.wordExact_slice rfl _ w, harg19.wordExact_slice rfl _ w⟩
theorem cp4_congr {off off' : Fin S320x64x128.rank → ℕ} (h : off = off') {inb w} {inb' w'} : cp4 off inb w = cp4 off' inb' w' := by subst h; rfl

/-- Copy 5 of a group, at the block of `arg8` that starts at `off`. -/
def cp5 (off : Fin S320x64x128.rank → ℕ) (inb : ∀ a, off a + S16x64x128.size a ≤ S320x64x128.size a) (w : (Rect.unit (s := S320x64x128) off S16x64x128.size inb).WholeWords (EltTy.packing .i8)) : Cp sig :=
  ⟨S16x64x128, .i8, arg8.slice (Rect.unit (s := S320x64x128) off S16x64x128.size inb) (fun _ => rfl), arg20.slice (Rect.unit (s := S320x64x128) off S16x64x128.size inb) (fun _ => rfl), harg8.wordExact_slice rfl _ w, harg20.wordExact_slice rfl _ w⟩
theorem cp5_congr {off off' : Fin S320x64x128.rank → ℕ} (h : off = off') {inb w} {inb' w'} : cp5 off inb w = cp5 off' inb' w' := by subst h; rfl

theorem cpsWait_eq (k : Fin k0_t3_loop.trips) : cpsWait k =
    ![cp0 _ (k0_off8_inb k) (k0_off8_wordsbf16 k), cp1 _ (k0_off9_inb k) (k0_off9_wordsbf16 k), cp2 _ (k0_off9_inb k) (k0_off9_wordsbf16 k), cp3 _ (k0_off10_inb k) (k0_off10_wordsi8 k), cp4 _ (k0_off11_inb k) (k0_off11_wordsi8 k), cp5 _ (k0_off11_inb k) (k0_off11_wordsi8 k)] := rfl
theorem cpsFirst_eq' (k : Fin k0_t1_loop.trips) : cpsFirst k =
    ![cp0 _ (k0_off2_inb k) (k0_off2_wordsbf16 k), cp1 _ (k0_off3_inb k) (k0_off3_wordsbf16 k), cp2 _ (k0_off3_inb k) (k0_off3_wordsbf16 k), cp3 _ (k0_off4_inb k) (k0_off4_wordsi8 k), cp4 _ (k0_off5_inb k) (k0_off5_wordsi8 k), cp5 _ (k0_off5_inb k) (k0_off5_wordsi8 k)] := rfl
theorem cpsAhead_eq' (k : Fin k0_t3_loop.trips) (h : k0_cond1 k = 1#1) : cpsAhead k h =
    ![cp0 _ (k0_off13_inb k h) (k0_off13_wordsbf16 k h), cp1 _ (k0_off14_inb k h) (k0_off14_wordsbf16 k h), cp2 _ (k0_off14_inb k h) (k0_off14_wordsbf16 k h), cp3 _ (k0_off15_inb k h) (k0_off15_wordsi8 k h), cp4 _ (k0_off16_inb k h) (k0_off16_wordsi8 k h), cp5 _ (k0_off16_inb k h) (k0_off16_wordsi8 k h)] := rfl

theorem cpsFirst_eq (k : Fin k0_t1_loop.trips) (n : Fin 20) (h : k.val = n.val) : cpsFirst k = cps n := by
  have hn : (at3 n).val = k.val := h.symm
  unfold cps
  rw [cpsFirst_eq', cpsWait_eq]
  have e2 : k0_off2 k = k0_off8 (at3 n) := by simp only [k0_off2_eq, k0_off8_eq, hn, Nat.mul_add]
  have e3 : k0_off3 k = k0_off9 (at3 n) := by simp only [k0_off3_eq, k0_off9_eq, hn, Nat.mul_add]
  have e4 : k0_off4 k = k0_off10 (at3 n) := by simp only [k0_off4_eq, k0_off10_eq, hn, Nat.mul_add]
  have e5 : k0_off5 k = k0_off11 (at3 n) := by simp only [k0_off5_eq, k0_off11_eq, hn, Nat.mul_add]
  rw [cp0_congr e2, cp1_congr e3, cp2_congr e3, cp3_congr e4, cp4_congr e5, cp5_congr e5]

theorem cpsAhead_eq (k : Fin k0_t3_loop.trips) (hk : k0_cond1 k = 1#1) (n : Fin 20) (h : n.val = k.val + 10) : cpsAhead k hk = cps n := by
  have hn : (at3 n).val = k.val + 10 := h
  unfold cps
  rw [cpsAhead_eq', cpsWait_eq]
  have e13 : k0_off13 k = k0_off8 (at3 n) := by simp only [k0_off13_eq, k0_off8_eq, hn, Nat.mul_add]
  have e14 : k0_off14 k = k0_off9 (at3 n) := by simp only [k0_off14_eq, k0_off9_eq, hn, Nat.mul_add]
  have e15 : k0_off15 k = k0_off10 (at3 n) := by simp only [k0_off15_eq, k0_off10_eq, hn, Nat.mul_add]
  have e16 : k0_off16 k = k0_off11 (at3 n) := by simp only [k0_off16_eq, k0_off11_eq, hn, Nat.mul_add]
  rw [cp0_congr e13, cp1_congr e14, cp2_congr e14, cp3_congr e15, cp4_congr e16, cp5_congr e16]

theorem sem_congr {off off' : Fin S20.rank → ℕ} (h : off = off') {inb : ∀ a, off a + S1.size a ≤ S20.size a} {inb' : ∀ a, off' a + S1.size a ≤ S20.size a} :
    ((arg31.slice (Rect.unit (s := S20) off S1.size inb)).squeeze S_ squeezes_S1_S_).sem
      = ((arg31.slice (Rect.unit (s := S20) off' S1.size inb')).squeeze S_ squeezes_S1_S_).sem := by subst h; rfl

theorem semFirst_eq (k : Fin k0_t1_loop.trips) (n : Fin 20) (h : k.val = n.val) :
    ((arg31.slice (Rect.unit (s := S20) (k0_off1 k) S1.size (k0_off1_inb k))).squeeze S_ squeezes_S1_S_).sem = semOf n := by
  have hn : (at3 n).val = k.val := h.symm
  exact sem_congr (by simp only [k0_off1_eq, k0_off7_eq, hn])

theorem semAhead_eq (k : Fin k0_t3_loop.trips) (hk : k0_cond1 k = 1#1) (n : Fin 20) (h : n.val = k.val + 10) :
    ((arg31.slice (Rect.unit (s := S20) (k0_off12 k) S1.size (k0_off12_inb k hk))).squeeze S_ squeezes_S1_S_).sem = semOf n := by
  have hn : (at3 n).val = k.val + 10 := h
  exact sem_congr (by simp only [k0_off12_eq, k0_off7_eq, hn])

theorem semOf_val : ∀ n : Fin 20, (semOf n).val = 4 + n.val := by decide +kernel

theorem cond1_iff : ∀ k : Fin k0_t3_loop.trips, k0_cond1 k = 1#1 ↔ k.val < 10 := by decide +kernel

theorem amounts_pos : ∀ (n : Fin 20) (j : Fin 6), 0 < amounts (cps n) j := by decide +kernel

/-! What lands is what the source holds, at the same place. -/

section Contents

variable {F : FTy → Type} [FloatOps F] (c : Dev nD)

/-- What the six arrays of weights and scales hold. -/
structure Src (F : FTy → Type) [FloatOps F] where
  f0 : S160x5120.Idx → Elt F .bf16
  f1 : S160x1024.Idx → Elt F .bf16
  f2 : S160x1024.Idx → Elt F .bf16
  f3 : S320x320x128.Idx → Elt F .i8
  f4 : S320x64x128.Idx → Elt F .i8
  f5 : S320x64x128.Idx → Elt F .i8

variable (M : Src F)

/-- What the six sources of a group hold. -/
def srcs (n : Fin 20) : ∀ j, Buf (Elt F) ((cps n j).src.view.loc (c : Thread nD τ))
  | 0 => M.f0
  | 1 => M.f1
  | 2 => M.f2
  | 3 => M.f3
  | 4 => M.f4
  | 5 => M.f5

/-- What the six destinations of a group are to hold. -/
def dsts (n : Fin 20) : ∀ j, Buf (Elt F) ((cps n j).dst.view.loc (c : Thread nD τ))
  | 0 => M.f0
  | 1 => M.f1
  | 2 => M.f2
  | 3 => M.f3
  | 4 => M.f4
  | 5 => M.f5

theorem land0 (off inb w) (f fd : S160x5120.Idx → Elt F .bf16) :
    ∀ i ∈ (cp0 off inb w).dst.view.set, (cp0 off inb w).dst.view.write (Elt F) fd ((cp0 off inb w).src.view.read (Elt F) f) Finset.univ i = f i :=
  land_gen (cp0 off inb w).src.view (cp0 off inb w).dst.view f f (by sl_kernel_rfl) fd

theorem land1 (off inb w) (f fd : S160x1024.Idx → Elt F .bf16) :
    ∀ i ∈ (cp1 off inb w).dst.view.set, (cp1 off inb w).dst.view.write (Elt F) fd ((cp1 off inb w).src.view.read (Elt F) f) Finset.univ i = f i :=
  land_gen (cp1 off inb w).src.view (cp1 off inb w).dst.view f f (by sl_kernel_rfl) fd

theorem land2 (off inb w) (f fd : S160x1024.Idx → Elt F .bf16) :
    ∀ i ∈ (cp2 off inb w).dst.view.set, (cp2 off inb w).dst.view.write (Elt F) fd ((cp2 off inb w).src.view.read (Elt F) f) Finset.univ i = f i :=
  land_gen (cp2 off inb w).src.view (cp2 off inb w).dst.view f f (by sl_kernel_rfl) fd

theorem land3 (off inb w) (f fd : S320x320x128.Idx → Elt F .i8) :
    ∀ i ∈ (cp3 off inb w).dst.view.set, (cp3 off inb w).dst.view.write (Elt F) fd ((cp3 off inb w).src.view.read (Elt F) f) Finset.univ i = f i :=
  land_gen (cp3 off inb w).src.view (cp3 off inb w).dst.view f f (by sl_kernel_rfl) fd

theorem land4 (off inb w) (f fd : S320x64x128.Idx → Elt F .i8) :
    ∀ i ∈ (cp4 off inb w).dst.view.set, (cp4 off inb w).dst.view.write (Elt F) fd ((cp4 off inb w).src.view.read (Elt F) f) Finset.univ i = f i :=
  land_gen (cp4 off inb w).src.view (cp4 off inb w).dst.view f f (by sl_kernel_rfl) fd

theorem land5 (off inb w) (f fd : S320x64x128.Idx → Elt F .i8) :
    ∀ i ∈ (cp5 off inb w).dst.view.set, (cp5 off inb w).dst.view.write (Elt F) fd ((cp5 off inb w).src.view.read (Elt F) f) Finset.univ i = f i :=
  land_gen (cp5 off inb w).src.view (cp5 off inb w).dst.view f f (by sl_kernel_rfl) fd

theorem land (n : Fin 20) : ∀ j fd, ∀ i ∈ (cps n j).dst.view.set,
    (cps n j).dst.view.write (Elt F) fd ((cps n j).src.view.read (Elt F) (srcs c M n j)) Finset.univ i = dsts c M n j i
  | 0, fd => land0 _ _ (k0_off8_wordsbf16 (at3 n)) M.f0 fd
  | 1, fd => land1 _ _ (k0_off9_wordsbf16 (at3 n)) M.f1 fd
  | 2, fd => land2 _ _ (k0_off9_wordsbf16 (at3 n)) M.f2 fd
  | 3, fd => land3 _ _ (k0_off10_wordsi8 (at3 n)) M.f3 fd
  | 4, fd => land4 _ _ (k0_off11_wordsi8 (at3 n)) M.f4 fd
  | 5, fd => land5 _ _ (k0_off11_wordsi8 (at3 n)) M.f5 fd

end Contents

/-! Each array is its twenty blocks. -/

theorem src0_blocks {F : FTy → Type} [FloatOps F] {Ix : Type} [DecidableEq Ix] {Name : Type} [DecidableEq Name] {U : Type} [URA U] {Lvl : Type} (c : Dev nD)
    (f : S160x5120.Idx → Elt F .bf16) :
    (arg5.view.loc (c : Thread nD τ) ↦{fullShare} f : sProp (MT nD τ sig Ix (Elt F) Name U Lvl))
      = bigSep Finset.univ fun n : Fin 20 => arg5.view.loc (c : Thread nD τ) ↦[(Rect.unit (s := S160x5120) (k0_off8 (at3 n)) S8x5120.size (k0_off8_inb (at3 n))).set]{fullShare} f :=
  Ring.pointsTo_blocks (ℓ := arg5.view.loc (c : Thread nD τ)) (fun n : Fin 20 => (Rect.unit (s := S160x5120) (k0_off8 (at3 n)) S8x5120.size (k0_off8_inb (at3 n))).set)
    (Ring.lead_disjoint (s := S160x5120) 0 8 (fun n => k0_off8 (at3 n)) S8x5120.size (fun n => k0_off8_inb (at3 n))
      (fun n => by rw [k0_off8_eq]; rfl) rfl)
    (Ring.lead_cover (s := S160x5120) 0 8 (fun n => k0_off8 (at3 n)) S8x5120.size (fun n => k0_off8_inb (at3 n))
      (fun n => by rw [k0_off8_eq]; rfl) (fun n a ha => by rw [k0_off8_eq]; fin_cases a <;> first | exact absurd rfl ha | rfl) rfl
      (fun a ha => by fin_cases a <;> first | exact absurd rfl ha | rfl) rfl) f

theorem dst0_blocks {F : FTy → Type} [FloatOps F] {Ix : Type} [DecidableEq Ix] {Name : Type} [DecidableEq Name] {U : Type} [URA U] {Lvl : Type} (c : Dev nD)
    (f : S160x5120.Idx → Elt F .bf16) :
    (arg21.view.loc (c : Thread nD τ) ↦{fullShare} f : sProp (MT nD τ sig Ix (Elt F) Name U Lvl))
      = bigSep Finset.univ fun n : Fin 20 => arg21.view.loc (c : Thread nD τ) ↦[(Rect.unit (s := S160x5120) (k0_off8 (at3 n)) S8x5120.size (k0_off8_inb (at3 n))).set]{fullShare} f :=
  Ring.pointsTo_blocks (ℓ := arg21.view.loc (c : Thread nD τ)) (fun n : Fin 20 => (Rect.unit (s := S160x5120) (k0_off8 (at3 n)) S8x5120.size (k0_off8_inb (at3 n))).set)
    (Ring.lead_disjoint (s := S160x5120) 0 8 (fun n => k0_off8 (at3 n)) S8x5120.size (fun n => k0_off8_inb (at3 n))
      (fun n => by rw [k0_off8_eq]; rfl) rfl)
    (Ring.lead_cover (s := S160x5120) 0 8 (fun n => k0_off8 (at3 n)) S8x5120.size (fun n => k0_off8_inb (at3 n))
      (fun n => by rw [k0_off8_eq]; rfl) (fun n a ha => by rw [k0_off8_eq]; fin_cases a <;> first | exact absurd rfl ha | rfl) rfl
      (fun a ha => by fin_cases a <;> first | exact absurd rfl ha | rfl) rfl) f

theorem src1_blocks {F : FTy → Type} [FloatOps F] {Ix : Type} [DecidableEq Ix] {Name : Type} [DecidableEq Name] {U : Type} [URA U] {Lvl : Type} (c : Dev nD)
    (f : S160x1024.Idx → Elt F .bf16) :
    (arg7.view.loc (c : Thread nD τ) ↦{fullShare} f : sProp (MT nD τ sig Ix (Elt F) Name U Lvl))
      = bigSep Finset.univ fun n : Fin 20 => arg7.view.loc (c : Thread nD τ) ↦[(Rect.unit (s := S160x1024) (k0_off9 (at3 n)) S8x1024.size (k0_off9_inb (at3 n))).set]{fullShare} f :=
  Ring.pointsTo_blocks (ℓ := arg7.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem dst1_blocks {F : FTy → Type} [FloatOps F] {Ix : Type} [DecidableEq Ix] {Name : Type} [DecidableEq Name] {U : Type} [URA U] {Lvl : Type} (c : Dev nD)
    (f : S160x1024.Idx → Elt F .bf16) :
    (arg22.view.loc (c : Thread nD τ) ↦{fullShare} f : sProp (MT nD τ sig Ix (Elt F) Name U Lvl))
      = bigSep Finset.univ fun n : Fin 20 => arg22.view.loc (c : Thread nD τ) ↦[(Rect.unit (s := S160x1024) (k0_off9 (at3 n)) S8x1024.size (k0_off9_inb (at3 n))).set]{fullShare} f :=
  Ring.pointsTo_blocks (ℓ := arg22.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem src2_blocks {F : FTy → Type} [FloatOps F] {Ix : Type} [DecidableEq Ix] {Name : Type} [DecidableEq Name] {U : Type} [URA U] {Lvl : Type} (c : Dev nD)
    (f : S160x1024.Idx → Elt F .bf16) :
    (arg9.view.loc (c : Thread nD τ) ↦{fullShare} f : sProp (MT nD τ sig Ix (Elt F) Name U Lvl))
      = bigSep Finset.univ fun n : Fin 20 => arg9.view.loc (c : Thread nD τ) ↦[(Rect.unit (s := S160x1024) (k0_off9 (at3 n)) S8x1024.size (k0_off9_inb (at3 n))).set]{fullShare} f :=
  Ring.pointsTo_blocks (ℓ := arg9.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem dst2_blocks {F : FTy → Type} [FloatOps F] {Ix : Type} [DecidableEq Ix] {Name : Type} [DecidableEq Name] {U : Type} [URA U] {Lvl : Type} (c : Dev nD)
    (f : S160x1024.Idx → Elt F .bf16) :
    (arg23.view.loc (c : Thread nD τ) ↦{fullShare} f : sProp (MT nD τ sig Ix (Elt F) Name U Lvl))
      = bigSep Finset.univ fun n : Fin 20 => arg23.view.loc (c : Thread nD τ) ↦[(Rect.unit (s := S160x1024) (k0_off9 (at3 n)) S8x1024.size (k0_off9_inb (at3 n))).set]{fullShare} f :=
  Ring.pointsTo_blocks (ℓ := arg23.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem src3_blocks {F : FTy → Type} [FloatOps F] {Ix : Type} [DecidableEq Ix] {Name : Type} [DecidableEq Name] {U : Type} [URA U] {Lvl : Type} (c : Dev nD)
    (f : S320x320x128.Idx → Elt F .i8) :
    (arg4.view.loc (c : Thread nD τ) ↦{fullShare} f : sProp (MT nD τ sig Ix (Elt F) Name U Lvl))
      = bigSep Finset.univ fun n : Fin 20 => arg4.view.loc (c : Thread nD τ) ↦[(Rect.unit (s := S320x320x128) (k0_off10 (at3 n)) S16x320x128.size (k0_off10_inb (at3 n))).set]{fullShare} f :=
  Ring.pointsTo_blocks (ℓ := arg4.view.loc (c : Thread nD τ)) (fun n : Fin 20 => (Rect.unit (s := S320x320x128) (k0_off10 (at3 n)) S16x320x128.size (k0_off10_inb (at3 n))).set)
    (Ring.lead_disjoint (s := S320x320x128) 0 16 (fun n => k0_off10 (at3 n)) S16x320x128.size (fun n => k0_off10_inb (at3 n))
      (fun n => by rw [k0_off10_eq]; rfl) rfl)
    (Ring.lead_cover (s := S320x320x128) 0 16 (fun n => k0_off10 (at3 n)) S16x320x128.size (fun n => k0_off10_inb (at3 n))
      (fun n => by rw [k0_off10_eq]; rfl) (fun n a ha => by rw [k0_off10_eq]; fin_cases a <;> first | exact absurd rfl ha | rfl) rfl
      (fun a ha => by fin_cases a <;> first | exact absurd rfl ha | rfl) rfl) f

theorem dst3_blocks {F : FTy → Type} [FloatOps F] {Ix : Type} [DecidableEq Ix] {Name : Type} [DecidableEq Name] {U : Type} [URA U] {Lvl : Type} (c : Dev nD)
    (f : S320x320x128.Idx → Elt F .i8) :
    (arg18.view.loc (c : Thread nD τ) ↦{fullShare} f : sProp (MT nD τ sig Ix (Elt F) Name U Lvl))
      = bigSep Finset.univ fun n : Fin 20 => arg18.view.loc (c : Thread nD τ) ↦[(Rect.unit (s := S320x320x128) (k0_off10 (at3 n)) S16x320x128.size (k0_off10_inb (at3 n))).set]{fullShare} f :=
  Ring.pointsTo_blocks (ℓ := arg18.view.loc (c : Thread nD τ)) (fun n : Fin 20 => (Rect.unit (s := S320x320x128) (k0_off10 (at3 n)) S16x320x128.size (k0_off10_inb (at3 n))).set)
    (Ring.lead_disjoint (s := S320x320x128) 0 16 (fun n => k0_off10 (at3 n)) S16x320x128.size (fun n => k0_off10_inb (at3 n))
      (fun n => by rw [k0_off10_eq]; rfl) rfl)
    (Ring.lead_cover (s := S320x320x128) 0 16 (fun n => k0_off10 (at3 n)) S16x320x128.size (fun n => k0_off10_inb (at3 n))
      (fun n => by rw [k0_off10_eq]; rfl) (fun n a ha => by rw [k0_off10_eq]; fin_cases a <;> first | exact absurd rfl ha | rfl) rfl
      (fun a ha => by fin_cases a <;> first | exact absurd rfl ha | rfl) rfl) f

theorem src4_blocks {F : FTy → Type} [FloatOps F] {Ix : Type} [DecidableEq Ix] {Name : Type} [DecidableEq Name] {U : Type} [URA U] {Lvl : Type} (c : Dev nD)
    (f : S320x64x128.Idx → Elt F .i8) :
    (arg6.view.loc (c : Thread nD τ) ↦{fullShare} f : sProp (MT nD τ sig Ix (Elt F) Name U Lvl))
      = bigSep Finset.univ fun n : Fin 20 => arg6.view.loc (c : Thread nD τ) ↦[(Rect.unit (s := S320x64x128) (k0_off11 (at3 n)) S16x64x128.size (k0_off11_inb (at3 n))).set]{fullShare} f :=
  Ring.pointsTo_blocks (ℓ := arg6.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

theorem dst4_blocks {F : FTy → Type} [FloatOps F] {Ix : Type} [DecidableEq Ix] {Name : Type} [DecidableEq Name] {U : Type} [URA U] {Lvl : Type} (c : Dev nD)
    (f : S320x64x128.Idx → Elt F .i8) :
    (arg19.view.loc (c : Thread nD τ) ↦{fullShare} f : sProp (MT nD τ sig Ix (Elt F) Name U Lvl))
      = bigSep Finset.univ fun n : Fin 20 => arg19.view.loc (c : Thread nD τ) ↦[(Rect.unit (s := S320x64x128) (k0_off11 (at3 n)) S16x64x128.size (k0_off11_inb (at3 n))).set]{fullShare} f :=
  Ring.pointsTo_blocks (ℓ := arg19.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

theorem src5_blocks {F : FTy → Type} [FloatOps F] {Ix : Type} [DecidableEq Ix] {Name : Type} [DecidableEq Name] {U : Type} [URA U] {Lvl : Type} (c : Dev nD)
    (f : S320x64x128.Idx → Elt F .i8) :
    (arg8.view.loc (c : Thread nD τ) ↦{fullShare} f : sProp (MT nD τ sig Ix (Elt F) Name U Lvl))
      = bigSep Finset.univ fun n : Fin 20 => arg8.view.loc (c : Thread nD τ) ↦[(Rect.unit (s := S320x64x128) (k0_off11 (at3 n)) S16x64x128.size (k0_off11_inb (at3 n))).set]{fullShare} f :=
  Ring.pointsTo_blocks (ℓ := arg8.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

theorem dst5_blocks {F : FTy → Type} [FloatOps F] {Ix : Type} [DecidableEq Ix] {Name : Type} [DecidableEq Name] {U : Type} [URA U] {Lvl : Type} (c : Dev nD)
    (f : S320x64x128.Idx → Elt F .i8) :
    (arg20.view.loc (c : Thread nD τ) ↦{fullShare} f : sProp (MT nD τ sig Ix (Elt F) Name U Lvl))
      = bigSep Finset.univ fun n : Fin 20 => arg20.view.loc (c : Thread nD τ) ↦[(Rect.unit (s := S320x64x128) (k0_off11 (at3 n)) S16x64x128.size (k0_off11_inb (at3 n))).set]{fullShare} f :=
  Ring.pointsTo_blocks (ℓ := arg20.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

end Cert.KernelIdeal.Hand
-- ==== Proof.Step.lean ====
/-
  The fourteen blocks of one trip of the contraction loop, run on the chunk's own parts of the weight and scale buffers.
-/
module

public import proofs.«01_k».proof.Proof.Copies

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Chunk `n`'s part of an array of shape `S160x5120`. -/
abbrev part8 (n : Fin 20) : Finset S160x5120.Idx := (Rect.unit (s := S160x5120) (k0_off8 (at3 n)) S8x5120.size (k0_off8_inb (at3 n))).set

theorem mem_part8 (n : Fin 20) (i : S160x5120.Idx) (h : 8 * n.val ≤ (i 0).val) (h' : (i 0).val < 8 * n.val + 8) : i ∈ part8 n := by
  refine Rect.mem_set_unit.mpr fun a => ?_
  rw [k0_off8_eq]
  fin_cases a
  · exact ⟨h, h'⟩
  · exact ⟨Nat.zero_le _, lt_of_lt_of_eq (i 1).isLt (Nat.zero_add _).symm⟩

/-- Chunk `n`'s part of an array of shape `S160x1024`. -/
abbrev part9 (n : Fin 20) : Finset S160x1024.Idx := (Rect.unit (s := S160x1024) (k0_off9 (at3 n)) S8x1024.size (k0_off9_inb (at3 n))).set

theorem mem_part9 (n : Fin 20) (i : S160x1024.Idx) (h : 8 * n.val ≤ (i 0).val) (h' : (i 0).val < 8 * n.val + 8) : i ∈ part9 n := by
  refine Rect.mem_set_unit.mpr fun a => ?_
  rw [k0_off9_eq]
  fin_cases a
  · exact ⟨h, h'⟩
  · exact ⟨Nat.zero_le _, lt_of_lt_of_eq (i 1).isLt (Nat.zero_add _).symm⟩

/-- Chunk `n`'s part of an array of shape `S320x320x128`. -/
abbrev part10 (n : Fin 20) : Finset S320x320x128.Idx := (Rect.unit (s := S320x320x128) (k0_off10 (at3 n)) S16x320x128.size (k0_off10_inb (at3 n))).set

theorem mem_part10 (n : Fin 20) (i : S320x320x128.Idx) (h : 16 * n.val ≤ (i 0).val) (h' : (i 0).val < 16 * n.val + 16) : i ∈ part10 n := by
  refine Rect.mem_set_unit.mpr fun a => ?_
  rw [k0_off10_eq]
  fin_cases a
  · exact ⟨h, h'⟩
  · exact ⟨Nat.zero_le _, lt_of_lt_of_eq (i 1).isLt (Nat.zero_add _).symm⟩
  · exact ⟨Nat.zero_le _, lt_of_lt_of_eq (i 2).isLt (Nat.zero_add _).symm⟩

/-- Chunk `n`'s part of an array of shape `S320x64x128`. -/
abbrev part11 (n : Fin 20) : Finset S320x64x128.Idx := (Rect.unit (s := S320x64x128) (k0_off11 (at3 n)) S16x64x128.size (k0_off11_inb (at3 n))).set

theorem mem_part11 (n : Fin 20) (i : S320x64x128.Idx) (h : 16 * n.val ≤ (i 0).val) (h' : (i 0).val < 16 * n.val + 16) : i ∈ part11 n := by
  refine Rect.mem_set_unit.mpr fun a => ?_
  rw [k0_off11_eq]
  fin_cases a
  · exact ⟨h, h'⟩
  · exact ⟨Nat.zero_le _, lt_of_lt_of_eq (i 1).isLt (Nat.zero_add _).symm⟩
  · exact ⟨Nat.zero_le _, lt_of_lt_of_eq (i 2).isLt (Nat.zero_add _).symm⟩

theorem in21 (n : Fin 20) (off : Fin 2 → ℕ) (hoff : ∀ a, off a + T8x128.size a ≤ S160x5120.size a) (h : off 0 = 8 * n.val) :
    arg21.view.setOn (Rect.unit (s := S160x5120) off T8x128.size hoff).toLoadRect.set ⊆ part8 n := by
  intro i hi
  obtain ⟨x, hx, rfl⟩ := Finset.mem_map.mp hi
  have h0 := (Rect.mem_set_unit.mp hx) 0
  exact mem_part8 n x (by rw [← h]; exact h0.1) (by rw [← h]; exact h0.2)

theorem in22 (n : Fin 20) (off : Fin 2 → ℕ) (hoff : ∀ a, off a + T8x128.size a ≤ S160x1024.size a) (h : off 0 = 8 * n.val) :
    arg22.view.setOn (Rect.unit (s := S160x1024) off T8x128.size hoff).toLoadRect.set ⊆ part9 n := by
  intro i hi
  obtain ⟨x, hx, rfl⟩ := Finset.mem_map.mp hi
  have h0 := (Rect.mem_set_unit.mp hx) 0
  exact mem_part9 n x (by rw [← h]; exact h0.1) (by rw [← h]; exact h0.2)

theorem in23 (n : Fin 20) (off : Fin 2 → ℕ) (hoff : ∀ a, off a + T8x128.size a ≤ S160x1024.size a) (h : off 0 = 8 * n.val) :
    arg23.view.setOn (Rect.unit (s := S160x1024) off T8x128.size hoff).toLoadRect.set ⊆ part9 n := by
  intro i hi
  obtain ⟨x, hx, rfl⟩ := Finset.mem_map.mp hi
  have h0 := (Rect.mem_set_unit.mp hx) 0
  exact mem_part9 n x (by rw [← h]; exact h0.1) (by rw [← h]; exact h0.2)

theorem in18 (n : Fin 20) (off : Fin 3 → ℕ) (hoff : ∀ a, off a + T1x32x128.size a ≤ S320x320x128.size a) (h : 16 * n.val ≤ off 0) (h' : off 0 < 16 * n.val + 16) :
    arg18.view.setOn (Rect.unit (s := S320x320x128) off T1x32x128.size hoff).toLoadRect.set ⊆ part10 n := by
  intro i hi
  obtain ⟨x, hx, rfl⟩ := Finset.mem_map.mp hi
  have h0 := (Rect.mem_set_unit.mp hx) 0
  have h2 : (x 0).val < off 0 + 1 := h0.2
  have h1 : off 0 ≤ (x 0).val := h0.1
  exact mem_part10 n x (by omega) (by omega)

theorem in19 (n : Fin 20) (off : Fin 3 → ℕ) (hoff : ∀ a, off a + T1x32x128.size a ≤ S320x64x128.size a) (h : 16 * n.val ≤ off 0) (h' : off 0 < 16 * n.val + 16) :
    arg19.view.setOn (Rect.unit (s := S320x64x128) off T1x32x128.size hoff).toLoadRect.set ⊆ part11 n := by
  intro i hi
  obtain ⟨x, hx, rfl⟩ := Finset.mem_map.mp hi
  have h0 := (Rect.mem_set_unit.mp hx) 0
  have h2 : (x 0).val < off 0 + 1 := h0.2
  have h1 : off 0 ≤ (x 0).val := h0.1
  exact mem_part11 n x (by omega) (by omega)

theorem in20 (n : Fin 20) (off : Fin 3 → ℕ) (hoff : ∀ a, off a + T1x32x128.size a ≤ S320x64x128.size a) (h : 16 * n.val ≤ off 0) (h' : off 0 < 16 * n.val + 16) :
    arg20.view.setOn (Rect.unit (s := S320x64x128) off T1x32x128.size hoff).toLoadRect.set ⊆ part11 n := by
  intro i hi
  obtain ⟨x, hx, rfl⟩ := Finset.mem_map.mp hi
  have h0 := (Rect.mem_set_unit.mp hx) 0
  have h2 : (x 0).val < off 0 + 1 := h0.2
  have h1 : off 0 ≤ (x 0).val := h0.1
  exact mem_part11 n x (by omega) (by omega)

theorem fits (q : Fin 14) : Mxu.Fits (16 * q.val) 64 := by revert q; decide

section Blocks

variable {F : FTy → Type} [FloatOps F] (c : Dev nD) (M : Src F) (n : Fin 20) (h : FVec F S64x256 .bf16)

/-- The unit's state after one block of the first projection, of the second, of the third. -/
def qStep (q : Fin 10) (s : Mxu F) : Mxu F :=
  blockVal downC upC ⟨q.val % 2, Nat.mod_lt _ (by decide)⟩ (16 * q.val) (fits ⟨q.val, by omega⟩) h
    (scalesAt (τ := τ) c arg21 (uS n.val q.val) (uS_inb n q.val (by omega)) M.f0) (weightsAt (τ := τ) c arg18 (uW n.val q.val) (uW_inb n q.val (by omega)) M.f3) s
@[inherit_doc qStep]
def kStep (q : Fin 2) (s : Mxu F) : Mxu F :=
  blockVal downC upC q (16 * (10 + q.val)) (fits ⟨10 + q.val, by omega⟩) h
    (scalesAt (τ := τ) c arg22 (uS n.val q.val) (uS_inb n q.val (by omega)) M.f1) (weightsAt (τ := τ) c arg19 (uW n.val q.val) (uW_inb n q.val (by omega)) M.f4) s
@[inherit_doc qStep]
def vStep (q : Fin 2) (s : Mxu F) : Mxu F :=
  blockVal downC upC q (16 * (12 + q.val)) (fits ⟨12 + q.val, by omega⟩) h
    (scalesAt (τ := τ) c arg23 (uS n.val q.val) (uS_inb n q.val (by omega)) M.f2) (weightsAt (τ := τ) c arg20 (uW n.val q.val) (uW_inb n q.val (by omega)) M.f5) s

/-- Whether the staging registers are empty. -/
def Empty (s : Mxu F) : Prop := ∀ q r, s.reg q r = none

variable {c M n h}
theorem qStep_empty {q : Fin 10} {s : Mxu F} (hs : Empty s) : Empty (qStep c M n h q s) := fun q' r' => reg_blockVal _ _ _ r' _ _ _ _ _ s hs q'
theorem kStep_empty {q : Fin 2} {s : Mxu F} (hs : Empty s) : Empty (kStep c M n h q s) := fun q' r' => reg_blockVal _ _ _ r' _ _ _ _ _ s hs q'
theorem vStep_empty {q : Fin 2} {s : Mxu F} (hs : Empty s) : Empty (vStep c M n h q s) := fun q' r' => reg_blockVal _ _ _ r' _ _ _ _ _ s hs q'
variable (c M n h)

/-- The state after the fourteen blocks. -/
def step (s0 : Mxu F) : Mxu F :=
  vStep c M n h 1 <| vStep c M n h 0 <| kStep c M n h 1 <| kStep c M n h 0 <| qStep c M n h 9 <| qStep c M n h 8 <| qStep c M n h 7 <| qStep c M n h 6 <| qStep c M n h 5 <| qStep c M n h 4 <| qStep c M n h 3 <| qStep c M n h 2 <| qStep c M n h 1 <| qStep c M n h 0 s0

theorem step_empty {s : Mxu F} (hs : Empty s) : Empty (step c M n h s) :=
  vStep_empty <| vStep_empty <| kStep_empty <| kStep_empty <| qStep_empty <| qStep_empty <| qStep_empty <| qStep_empty <| qStep_empty <| qStep_empty <| qStep_empty <| qStep_empty <| qStep_empty <| qStep_empty hs

variable {Ix : Type} [DecidableEq Ix] {Name : Type} [DecidableEq Name] {U : Type} [URA U] {Lvl : Type} [Preorder Lvl]
variable {defs : Defs nD τ sig (Elt F) Λ₀} (𝒱 : Variants) (bd : Option 𝒱.V) (E : Set Name)
local notation "𝕄" => MT nD τ sig Ix (Elt F) Name U Lvl

theorem wp_q {Q : Mxu F → sProp 𝕄} (q : Fin 10)
    (offS : Fin 4 → Fin 2 → ℕ) (hS : ∀ i a, offS i a + T8x128.size a ≤ _) (offW : BitVec 32 → BitVec 32 → Fin 3 → ℕ) (hW : ∀ (g : Fin 8) (b : Fin 2), ∀ a, offW (BitVec.ofNat 32 (2 * g.val)) (BitVec.ofNat 32 b.val) a + T1x32x128.size a ≤ _)
    (heS : ∀ i, offS i = uS n.val q.val i)
    (heW : ∀ (g : Fin 8) (b : Fin 2), offW (BitVec.ofNat 32 (2 * g.val)) (BitVec.ofNat 32 b.val) = ![16 * n.val + 2 * g.val + b.val, 32 * q.val, 0])
    (u : Mxu F) (k : Mxu F → Prog (TpuEff nD τ sig (Elt F) Λ₀ .tc) (Mxu F)) (hu : Empty u) :
    iprop((arg21.view.loc (c : Thread nD τ) ↦[part8 n]{fullShare} M.f0) ∗ (arg18.view.loc (c : Thread nD τ) ↦[part10 n]{fullShare} M.f3) : sProp 𝕄)
      ⊢ iprop(((arg21.view.loc (c : Thread nD τ) ↦[part8 n]{fullShare} M.f0) -∗ (arg18.view.loc (c : Thread nD τ) ↦[part10 n]{fullShare} M.f3)
          -∗ wp frame (wpE defs 𝒱 (c : Thread nD τ) bd) E (k (qStep c M n h q u)) Q)
        -∗ wp frame (wpE defs 𝒱 (c : Thread nD τ) bd) E
            (blockK arg21 arg18 offS hS offW hW downC upC ⟨q.val % 2, Nat.mod_lt _ (by decide)⟩ (16 * q.val) (fits ⟨q.val, by omega⟩) h u k) Q) :=
  wp_blockU 𝒱 c bd E arg21 arg18 n q.val (by omega) (by omega) offS hS offW hW heS heW downC upC _ _ _ h u k hu M.f0 M.f3 (in21 n) (in18 n)

theorem wp_k {Q : Mxu F → sProp 𝕄} (q : Fin 2)
    (offS : Fin 4 → Fin 2 → ℕ) (hS : ∀ i a, offS i a + T8x128.size a ≤ _) (offW : BitVec 32 → BitVec 32 → Fin 3 → ℕ) (hW : ∀ (g : Fin 8) (b : Fin 2), ∀ a, offW (BitVec.ofNat 32 (2 * g.val)) (BitVec.ofNat 32 b.val) a + T1x32x128.size a ≤ _)
    (heS : ∀ i, offS i = uS n.val q.val i)
    (heW : ∀ (g : Fin 8) (b : Fin 2), offW (BitVec.ofNat 32 (2 * g.val)) (BitVec.ofNat 32 b.val) = ![16 * n.val + 2 * g.val + b.val, 32 * q.val, 0])
    (u : Mxu F) (k : Mxu F → Prog (TpuEff nD τ sig (Elt F) Λ₀ .tc) (Mxu F)) (hu : Empty u) :
    iprop((arg22.view.loc (c : Thread nD τ) ↦[part9 n]{fullShare} M.f1) ∗ (arg19.view.loc (c : Thread nD τ) ↦[part11 n]{fullShare} M.f4) : sProp 𝕄)
      ⊢ iprop(((arg22.view.loc (c : Thread nD τ) ↦[part9 n]{fullShare} M.f1) -∗ (arg19.view.loc (c : Thread nD τ) ↦[part11 n]{fullShare} M.f4)
          -∗ wp frame (wpE defs 𝒱 (c : Thread nD τ) bd) E (k (kStep c M n h q u)) Q)
        -∗ wp frame (wpE defs 𝒱 (c : Thread nD τ) bd) E
            (blockK arg22 arg19 offS hS offW hW downC upC q (16 * (10 + q.val)) (fits ⟨10 + q.val, by omega⟩) h u k) Q) :=
  wp_blockU 𝒱 c bd E arg22 arg19 n q.val (by omega) (by omega) offS hS offW hW heS heW downC upC _ _ _ h u k hu M.f1 M.f4 (in22 n) (in19 n)

theorem wp_v {Q : Mxu F → sProp 𝕄} (q : Fin 2)
    (offS : Fin 4 → Fin 2 → ℕ) (hS : ∀ i a, offS i a + T8x128.size a ≤ _) (offW : BitVec 32 → BitVec 32 → Fin 3 → ℕ) (hW : ∀ (g : Fin 8) (b : Fin 2), ∀ a, offW (BitVec.ofNat 32 (2 * g.val)) (BitVec.ofNat 32 b.val) a + T1x32x128.size a ≤ _)
    (heS : ∀ i, offS i = uS n.val q.val i)
    (heW : ∀ (g : Fin 8) (b : Fin 2), offW (BitVec.ofNat 32 (2 * g.val)) (BitVec.ofNat 32 b.val) = ![16 * n.val + 2 * g.val + b.val, 32 * q.val, 0])
    (u : Mxu F) (k : Mxu F → Prog (TpuEff nD τ sig (Elt F) Λ₀ .tc) (Mxu F)) (hu : Empty u) :
    iprop((arg23.view.loc (c : Thread nD τ) ↦[part9 n]{fullShare} M.f2) ∗ (arg20.view.loc (c : Thread nD τ) ↦[part11 n]{fullShare} M.f5) : sProp 𝕄)
      ⊢ iprop(((arg23.view.loc (c : Thread nD τ) ↦[part9 n]{fullShare} M.f2) -∗ (arg20.view.loc (c : Thread nD τ) ↦[part11 n]{fullShare} M.f5)
          -∗ wp frame (wpE defs 𝒱 (c : Thread nD τ) bd) E (k (vStep c M n h q u)) Q)
        -∗ wp frame (wpE defs 𝒱 (c : Thread nD τ) bd) E
            (blockK arg23 arg20 offS hS offW hW downC upC q (16 * (12 + q.val)) (fits ⟨12 + q.val, by omega⟩) h u k) Q) :=
  wp_blockU 𝒱 c bd E arg23 arg20 n q.val (by omega) (by omega) offS hS offW hW heS heW downC upC _ _ _ h u k hu M.f2 M.f5 (in23 n) (in20 n)

/-- The fourteen blocks: the chunk's parts are read, the state becomes `step`. -/
theorem wp_blocks {Q : Mxu F → sProp 𝕄} (s0 : Mxu F) (hs : Empty s0) :
    iprop((arg21.view.loc (c : Thread nD τ) ↦[part8 n]{fullShare} M.f0) ∗ (arg22.view.loc (c : Thread nD τ) ↦[part9 n]{fullShare} M.f1) ∗ (arg23.view.loc (c : Thread nD τ) ↦[part9 n]{fullShare} M.f2) ∗ (arg18.view.loc (c : Thread nD τ) ↦[part10 n]{fullShare} M.f3) ∗ (arg19.view.loc (c : Thread nD τ) ↦[part11 n]{fullShare} M.f4) ∗ (arg20.view.loc (c : Thread nD τ) ↦[part11 n]{fullShare} M.f5) : sProp 𝕄)
      ⊢ iprop((iprop((arg21.view.loc (c : Thread nD τ) ↦[part8 n]{fullShare} M.f0) ∗ (arg22.view.loc (c : Thread nD τ) ↦[part9 n]{fullShare} M.f1) ∗ (arg23.view.loc (c : Thread nD τ) ↦[part9 n]{fullShare} M.f2) ∗ (arg18.view.loc (c : Thread nD τ) ↦[part10 n]{fullShare} M.f3) ∗ (arg19.view.loc (c : Thread nD τ) ↦[part11 n]{fullShare} M.f4) ∗ (arg20.view.loc (c : Thread nD τ) ↦[part11 n]{fullShare} M.f5)) -∗ Q (step c M n h s0))
        -∗ wp frame (wpE defs 𝒱 (c : Thread nD τ) bd) Set.univ (blocks (at3 n) h s0) Q) := by
  unfold blocks step
  iintro ⟨H21, H22, H23, H18, H19, H20⟩ Hk
  iapply (wp_q c M n h 𝒱 bd Set.univ 0 _ _ _ _ (fun | 0 => k0_off18_eq _ | 1 => k0_off19_eq _ | 2 => k0_off20_eq _ | 3 => k0_off21_eq _) (k0_off22_eq (at3 n)) _ _ hs) $$ [H21 H18]
  · isplitl [H21]; · iexact H21
    iexact H18
  iintro H21 H18
  iapply (wp_q c M n h 𝒱 bd Set.univ 1 _ _ _ _ (fun | 0 => k0_off23_eq _ | 1 => k0_off24_eq _ | 2 => k0_off25_eq _ | 3 => k0_off26_eq _) (k0_off27_eq (at3 n)) _ _ (qStep_empty hs)) $$ [H21 H18]
  · isplitl [H21]; · iexact H21
    iexact H18
  iintro H21 H18
  iapply (wp_q c M n h 𝒱 bd Set.univ 2 _ _ _ _ (fun | 0 => k0_off28_eq _ | 1 => k0_off29_eq _ | 2 => k0_off30_eq _ | 3 => k0_off31_eq _) (k0_off32_eq (at3 n)) _ _ (qStep_empty (qStep_empty hs))) $$ [H21 H18]
  · isplitl [H21]; · iexact H21
    iexact H18
  iintro H21 H18
  iapply (wp_q c M n h 𝒱 bd Set.univ 3 _ _ _ _ (fun | 0 => k0_off33_eq _ | 1 => k0_off34_eq _ | 2 => k0_off35_eq _ | 3 => k0_off36_eq _) (k0_off37_eq (at3 n)) _ _ (qStep_empty (qStep_empty (qStep_empty hs)))) $$ [H21 H18]
  · isplitl [H21]; · iexact H21
    iexact H18
  iintro H21 H18
  iapply (wp_q c M n h 𝒱 bd Set.univ 4 _ _ _ _ (fun | 0 => k0_off38_eq _ | 1 => k0_off39_eq _ | 2 => k0_off40_eq _ | 3 => k0_off41_eq _) (k0_off42_eq (at3 n)) _ _ (qStep_empty (qStep_empty (qStep_empty (qStep_empty hs))))) $$ [H21 H18]
  · isplitl [H21]; · iexact H21
    iexact H18
  iintro H21 H18
  iapply (wp_q c M n h 𝒱 bd Set.univ 5 _ _ _ _ (fun | 0 => k0_off43_eq _ | 1 => k0_off44_eq _ | 2 => k0_off45_eq _ | 3 => k0_off46_eq _) (k0_off47_eq (at3 n)) _ _ (qStep_empty (qStep_empty (qStep_empty (qStep_empty (qStep_empty hs)))))) $$ [H21 H18]
  · isplitl [H21]; · iexact H21
    iexact H18
  iintro H21 H18
  iapply (wp_q c M n h 𝒱 bd Set.univ 6 _ _ _ _ (fun | 0 => k0_off48_eq _ | 1 => k0_off49_eq _ | 2 => k0_off50_eq _ | 3 => k0_off51_eq _) (k0_off52_eq (at3 n)) _ _ (qStep_empty (qStep_empty (qStep_empty (qStep_empty (qStep_empty (qStep_empty hs))))))) $$ [H21 H18]
  · isplitl [H21]; · iexact H21
    iexact H18
  iintro H21 H18
  iapply (wp_q c M n h 𝒱 bd Set.univ 7 _ _ _ _ (fun | 0 => k0_off53_eq _ | 1 => k0_off54_eq _ | 2 => k0_off55_eq _ | 3 => k0_off56_eq _) (k0_off57_eq (at3 n)) _ _ (qStep_empty (qStep_empty (qStep_empty (qStep_empty (qStep_empty (qStep_empty (qStep_empty hs)))))))) $$ [H21 H18]
  · isplitl [H21]; · iexact H21
    iexact H18
  iintro H21 H18
  iapply (wp_q c M n h 𝒱 bd Set.univ 8 _ _ _ _ (fun | 0 => k0_off58_eq _ | 1 => k0_off59_eq _ | 2 => k0_off60_eq _ | 3 => k0_off61_eq _) (k0_off62_eq (at3 n)) _ _ (qStep_empty (qStep_empty (qStep_empty (qStep_empty (qStep_empty (qStep_empty (qStep_empty (qStep_empty hs))))))))) $$ [H21 H18]
  · isplitl [H21]; · iexact H21
    iexact H18
  iintro H21 H18
  iapply (wp_q c M n h 𝒱 bd Set.univ 9 _ _ _ _ (fun | 0 => k0_off63_eq _ | 1 => k0_off64_eq _ | 2 => k0_off65_eq _ | 3 => k0_off66_eq _) (k0_off67_eq (at3 n)) _ _ (qStep_empty (qStep_empty (qStep_empty (qStep_empty (qStep_empty (qStep_empty (qStep_empty (qStep_empty (qStep_empty hs)))))))))) $$ [H21 H18]
  · isplitl [H21]; · iexact H21
    iexact H18
  iintro H21 H18
  iapply (wp_k c M n h 𝒱 bd Set.univ 0 _ _ _ _ (fun | 0 => k0_off68_eq _ | 1 => k0_off69_eq _ | 2 => k0_off70_eq _ | 3 => k0_off71_eq _) (k0_off72_eq (at3 n)) _ _ (qStep_empty (qStep_empty (qStep_empty (qStep_empty (qStep_empty (qStep_empty (qStep_empty (qStep_empty (qStep_empty (qStep_empty hs))))))))))) $$ [H22 H19]
  · isplitl [H22]; · iexact H22
    iexact H19
  iintro H22 H19
  iapply (wp_k c M n h 𝒱 bd Set.univ 1 _ _ _ _ (fun | 0 => k0_off73_eq _ | 1 => k0_off74_eq _ | 2 => k0_off75_eq _ | 3 => k0_off76_eq _) (k0_off77_eq (at3 n)) _ _ (kStep_empty (qStep_empty (qStep_empty (qStep_empty (qStep_empty (qStep_empty (qStep_empty (qStep_empty (qStep_empty (qStep_empty (qStep_empty hs)))))))))))) $$ [H22 H19]
  · isplitl [H22]; · iexact H22
    iexact H19
  iintro H22 H19
  iapply (wp_v c M n h 𝒱 bd Set.univ 0 _ _ _ _ (fun | 0 => k0_off68_eq _ | 1 => k0_off69_eq _ | 2 => k0_off70_eq _ | 3 => k0_off71_eq _) (k0_off72_eq (at3 n)) _ _ (kStep_empty (kStep_empty (qStep_empty (qStep_empty (qStep_empty (qStep_empty (qStep_empty (qStep_empty (qStep_empty (qStep_empty (qStep_empty (qStep_empty hs))))))))))))) $$ [H23 H20]
  · isplitl [H23]; · iexact H23
    iexact H20
  iintro H23 H20
  iapply (wp_v c M n h 𝒱 bd Set.univ 1 _ _ _ _ (fun | 0 => k0_off73_eq _ | 1 => k0_off74_eq _ | 2 => k0_off75_eq _ | 3 => k0_off76_eq _) (k0_off77_eq (at3 n)) _ _ (vStep_empty (kStep_empty (kStep_empty (qStep_empty (qStep_empty (qStep_empty (qStep_empty (qStep_empty (qStep_empty (qStep_empty (qStep_empty (qStep_empty (qStep_empty hs)))))))))))))) $$ [H23 H20]
  · isplitl [H23]; · iexact H23
    iexact H20
  iintro H23 H20
  rw [wp_ret]; imodintro
  iapply Hk
  isplitl [H21]; · iexact H21
  isplitl [H22]; · iexact H22
  isplitl [H23]; · iexact H23
  isplitl [H18]; · iexact H18
  isplitl [H19]; · iexact H19
  iexact H20

end Blocks

end Cert.KernelIdeal.Hand
-- ==== Proof.Rounds.lean ====
/-
  The two loops over the chunks of weights, trip by trip: the first starts ten chunks' copies; the second waits for a
  chunk's copies, starts those of the chunk ten ahead, reads the chunk's activations and runs the fourteen blocks.
-/
module

public import proofs.«01_k».proof.Proof.Step

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rounds

variable {F : FTy → Type} [FloatOps F] (c : Dev nD) (M : Src F)
variable {Ix : Type} [DecidableEq Ix] {Name : Type} [DecidableEq Name] [Infinite Name] {U : Type} [URA U] {Lvl : Type} [Preorder Lvl]
local notation "𝕄" => MT nD τ sig Ix (Elt F) Name U Lvl
variable (EC : UEmb Counters (MT nD τ sig Ix (Elt F) Name U Lvl)) (ι : Ix)
variable {defs : Defs nD τ sig (Elt F) Λ₀} (𝒱 : Variants) (bd : Option 𝒱.V)

/-- Chunk `n`'s copies not started, started, landed. -/
def Idle (n : Fin 20) : sProp 𝕄 := idle c (cps n) (srcs c M n) (semOf n)
@[inherit_doc Idle]
def Fly (n : Fin 20) : sProp 𝕄 := flight EC c (cps n) (srcs c M n) (dsts c M n) (semOf n) ι
@[inherit_doc Idle]
def Land (n : Fin 20) : sProp 𝕄 := landed c (cps n) (srcs c M n) (dsts c M n) (semOf n)

omit [Infinite Name] [Preorder Lvl] in
theorem cp0_dst (off : Fin 2 → ℕ) (inb w) (f : S160x5120.Idx → Elt F .bf16) :
    ((cp0 off inb w).dst.view.loc (c : Thread nD τ) ↦[(cp0 off inb w).dst.view.set]{fullShare} f : sProp 𝕄)
      = (arg21.view.loc (c : Thread nD τ) ↦[(Rect.unit (s := S160x5120) off S8x5120.size inb).set]{fullShare} f) :=
  congrArg (fun T : Finset S160x5120.Idx => (arg21.view.loc (c : Thread nD τ) ↦[T]{fullShare} f : sProp 𝕄)) (View.set_slice_whole _ _)

omit [Infinite Name] [Preorder Lvl] in
theorem cp0_src (off : Fin 2 → ℕ) (inb w) (f : S160x5120.Idx → Elt F .bf16) :
    ((cp0 off inb w).src.view.loc (c : Thread nD τ) ↦[(cp0 off inb w).src.view.set]{fullShare} f : sProp 𝕄)
      = (arg5.view.loc (c : Thread nD τ) ↦[(Rect.unit (s := S160x5120) off S8x5120.size inb).set]{fullShare} f) :=
  congrArg (fun T : Finset S160x5120.Idx => (arg5.view.loc (c : Thread nD τ) ↦[T]{fullShare} f : sProp 𝕄)) (View.set_slice_whole _ _)

omit [Infinite Name] [Preorder Lvl] in
theorem cp1_dst (off : Fin 2 → ℕ) (inb w) (f : S160x1024.Idx → Elt F .bf16) :
    ((cp1 off inb w).dst.view.loc (c : Thread nD τ) ↦[(cp1 off inb w).dst.view.set]{fullShare} f : sProp 𝕄)
      = (arg22.view.loc (c : Thread nD τ) ↦[(Rect.unit (s := S160x1024) off S8x1024.size inb).set]{fullShare} f) :=
  congrArg (fun T : Finset S160x1024.Idx => (arg22.view.loc (c : Thread nD τ) ↦[T]{fullShare} f : sProp 𝕄)) (View.set_slice_whole _ _)

omit [Infinite Name] [Preorder Lvl] in
theorem cp1_src (off : Fin 2 → ℕ) (inb w) (f : S160x1024.Idx → Elt F .bf16) :
    ((cp1 off inb w).src.view.loc (c : Thread nD τ) ↦[(cp1 off inb w).src.view.set]{fullShare} f : sProp 𝕄)
      = (arg7.view.loc (c : Thread nD τ) ↦[(Rect.unit (s := S160x1024) off S8x1024.size inb).set]{fullShare} f) :=
  congrArg (fun T : Finset S160x1024.Idx => (arg7.view.loc (c : Thread nD τ) ↦[T]{fullShare} f : sProp 𝕄)) (View.set_slice_whole _ _)

omit [Infinite Name] [Preorder Lvl] in
theorem cp2_dst (off : Fin 2 → ℕ) (inb w) (f : S160x1024.Idx → Elt F .bf16) :
    ((cp2 off inb w).dst.view.loc (c : Thread nD τ) ↦[(cp2 off inb w).dst.view.set]{fullShare} f : sProp 𝕄)
      = (arg23.view.loc (c : Thread nD τ) ↦[(Rect.unit (s := S160x1024) off S8x1024.size inb).set]{fullShare} f) :=
  congrArg (fun T : Finset S160x1024.Idx => (arg23.view.loc (c : Thread nD τ) ↦[T]{fullShare} f : sProp 𝕄)) (View.set_slice_whole _ _)

omit [Infinite Name] [Preorder Lvl] in
theorem cp2_src (off : Fin 2 → ℕ) (inb w) (f : S160x1024.Idx → Elt F .bf16) :
    ((cp2 off inb w).src.view.loc (c : Thread nD τ) ↦[(cp2 off inb w).src.view.set]{fullShare} f : sProp 𝕄)
      = (arg9.view.loc (c : Thread nD τ) ↦[(Rect.unit (s := S160x1024) off S8x1024.size inb).set]{fullShare} f) :=
  congrArg (fun T : Finset S160x1024.Idx => (arg9.view.loc (c : Thread nD τ) ↦[T]{fullShare} f : sProp 𝕄)) (View.set_slice_whole _ _)

omit [Infinite Name] [Preorder Lvl] in
theorem cp3_dst (off : Fin 3 → ℕ) (inb w) (f : S320x320x128.Idx → Elt F .i8) :
    ((cp3 off inb w).dst.view.loc (c : Thread nD τ) ↦[(cp3 off inb w).dst.view.set]{fullShare} f : sProp 𝕄)
      = (arg18.view.loc (c : Thread nD τ) ↦[(Rect.unit (s := S320x320x128) off S16x320x128.size inb).set]{fullShare} f) :=
  congrArg (fun T : Finset S320x320x128.Idx => (arg18.view.loc (c : Thread nD τ) ↦[T]{fullShare} f : sProp 𝕄)) (View.set_slice_whole _ _)

omit [Infinite Name] [Preorder Lvl] in
theorem cp3_src (off : Fin 3 → ℕ) (inb w) (f : S320x320x128.Idx → Elt F .i8) :
    ((cp3 off inb w).src.view.loc (c : Thread nD τ) ↦[(cp3 off inb w).src.view.set]{fullShare} f : sProp 𝕄)
      = (arg4.view.loc (c : Thread nD τ) ↦[(Rect.unit (s := S320x320x128) off S16x320x128.size inb).set]{fullShare} f) :=
  congrArg (fun T : Finset S320x320x128.Idx => (arg4.view.loc (c : Thread nD τ) ↦[T]{fullShare} f : sProp 𝕄)) (View.set_slice_whole _ _)

omit [Infinite Name] [Preorder Lvl] in
theorem cp4_dst (off : Fin 3 → ℕ) (inb w) (f : S320x64x128.Idx → Elt F .i8) :
    ((cp4 off inb w).dst.view.loc (c : Thread nD τ) ↦[(cp4 off inb w).dst.view.set]{fullShare} f : sProp 𝕄)
      = (arg19.view.loc (c : Thread nD τ) ↦[(Rect.unit (s := S320x64x128) off S16x64x128.size inb).set]{fullShare} f) :=
  congrArg (fun T : Finset S320x64x128.Idx => (arg19.view.loc (c : Thread nD τ) ↦[T]{fullShare} f : sProp 𝕄)) (View.set_slice_whole _ _)

omit [Infinite Name] [Preorder Lvl] in
theorem cp4_src (off : Fin 3 → ℕ) (inb w) (f : S320x64x128.Idx → Elt F .i8) :
    ((cp4 off inb w).src.view.loc (c : Thread nD τ) ↦[(cp4 off inb w).src.view.set]{fullShare} f : sProp 𝕄)
      = (arg6.view.loc (c : Thread nD τ) ↦[(Rect.unit (s := S320x64x128) off S16x64x128.size inb).set]{fullShare} f) :=
  congrArg (fun T : Finset S320x64x128.Idx => (arg6.view.loc (c : Thread nD τ) ↦[T]{fullShare} f : sProp 𝕄)) (View.set_slice_whole _ _)

omit [Infinite Name] [Preorder Lvl] in
theorem cp5_dst (off : Fin 3 → ℕ) (inb w) (f : S320x64x128.Idx → Elt F .i8) :
    ((cp5 off inb w).dst.view.loc (c : Thread nD τ) ↦[(cp5 off inb w).dst.view.set]{fullShare} f : sProp 𝕄)
      = (arg20.view.loc (c : Thread nD τ) ↦[(Rect.unit (s := S320x64x128) off S16x64x128.size inb).set]{fullShare} f) :=
  congrArg (fun T : Finset S320x64x128.Idx => (arg20.view.loc (c : Thread nD τ) ↦[T]{fullShare} f : sProp 𝕄)) (View.set_slice_whole _ _)

omit [Infinite Name] [Preorder Lvl] in
theorem cp5_src (off : Fin 3 → ℕ) (inb w) (f : S320x64x128.Idx → Elt F .i8) :
    ((cp5 off inb w).src.view.loc (c : Thread nD τ) ↦[(cp5 off inb w).src.view.set]{fullShare} f : sProp 𝕄)
      = (arg8.view.loc (c : Thread nD τ) ↦[(Rect.unit (s := S320x64x128) off S16x64x128.size inb).set]{fullShare} f) :=
  congrArg (fun T : Finset S320x64x128.Idx => (arg8.view.loc (c : Thread nD τ) ↦[T]{fullShare} f : sProp 𝕄)) (View.set_slice_whole _ _)

/-- What copy `j` of chunk `n` delivers, what it needs. -/
def pairOf (n : Fin 20) : Fin 6 → sProp 𝕄
  | 0 => iprop((arg21.view.loc (c : Thread nD τ) ↦[part8 n]{fullShare} M.f0) ∗ (arg5.view.loc (c : Thread nD τ) ↦[part8 n]{fullShare} M.f0))
  | 1 => iprop((arg22.view.loc (c : Thread nD τ) ↦[part9 n]{fullShare} M.f1) ∗ (arg7.view.loc (c : Thread nD τ) ↦[part9 n]{fullShare} M.f1))
  | 2 => iprop((arg23.view.loc (c : Thread nD τ) ↦[part9 n]{fullShare} M.f2) ∗ (arg9.view.loc (c : Thread nD τ) ↦[part9 n]{fullShare} M.f2))
  | 3 => iprop((arg18.view.loc (c : Thread nD τ) ↦[part10 n]{fullShare} M.f3) ∗ (arg4.view.loc (c : Thread nD τ) ↦[part10 n]{fullShare} M.f3))
  | 4 => iprop((arg19.view.loc (c : Thread nD τ) ↦[part11 n]{fullShare} M.f4) ∗ (arg6.view.loc (c : Thread nD τ) ↦[part11 n]{fullShare} M.f4))
  | 5 => iprop((arg20.view.loc (c : Thread nD τ) ↦[part11 n]{fullShare} M.f5) ∗ (arg8.view.loc (c : Thread nD τ) ↦[part11 n]{fullShare} M.f5))
@[inherit_doc pairOf]
def endsOf (n : Fin 20) : Fin 6 → sProp 𝕄
  | 0 => iprop((∃ f, arg21.view.loc (c : Thread nD τ) ↦[part8 n]{fullShare} f) ∗ (arg5.view.loc (c : Thread nD τ) ↦[part8 n]{fullShare} M.f0))
  | 1 => iprop((∃ f, arg22.view.loc (c : Thread nD τ) ↦[part9 n]{fullShare} f) ∗ (arg7.view.loc (c : Thread nD τ) ↦[part9 n]{fullShare} M.f1))
  | 2 => iprop((∃ f, arg23.view.loc (c : Thread nD τ) ↦[part9 n]{fullShare} f) ∗ (arg9.view.loc (c : Thread nD τ) ↦[part9 n]{fullShare} M.f2))
  | 3 => iprop((∃ f, arg18.view.loc (c : Thread nD τ) ↦[part10 n]{fullShare} f) ∗ (arg4.view.loc (c : Thread nD τ) ↦[part10 n]{fullShare} M.f3))
  | 4 => iprop((∃ f, arg19.view.loc (c : Thread nD τ) ↦[part11 n]{fullShare} f) ∗ (arg6.view.loc (c : Thread nD τ) ↦[part11 n]{fullShare} M.f4))
  | 5 => iprop((∃ f, arg20.view.loc (c : Thread nD τ) ↦[part11 n]{fullShare} f) ∗ (arg8.view.loc (c : Thread nD τ) ↦[part11 n]{fullShare} M.f5))

omit [Infinite Name] [Preorder Lvl] in
theorem land_eq (n : Fin 20) : (Land c M n : sProp 𝕄) = iprop(semVal ((c : Thread nD τ), SemLoc.dma (semOf n)) 0 ∗ ((arg21.view.loc (c : Thread nD τ) ↦[part8 n]{fullShare} M.f0) ∗ (arg5.view.loc (c : Thread nD τ) ↦[part8 n]{fullShare} M.f0)) ∗ ((arg22.view.loc (c : Thread nD τ) ↦[part9 n]{fullShare} M.f1) ∗ (arg7.view.loc (c : Thread nD τ) ↦[part9 n]{fullShare} M.f1)) ∗ ((arg23.view.loc (c : Thread nD τ) ↦[part9 n]{fullShare} M.f2) ∗ (arg9.view.loc (c : Thread nD τ) ↦[part9 n]{fullShare} M.f2)) ∗ ((arg18.view.loc (c : Thread nD τ) ↦[part10 n]{fullShare} M.f3) ∗ (arg4.view.loc (c : Thread nD τ) ↦[part10 n]{fullShare} M.f3)) ∗ ((arg19.view.loc (c : Thread nD τ) ↦[part11 n]{fullShare} M.f4) ∗ (arg6.view.loc (c : Thread nD τ) ↦[part11 n]{fullShare} M.f4)) ∗ ((arg20.view.loc (c : Thread nD τ) ↦[part11 n]{fullShare} M.f5) ∗ (arg8.view.loc (c : Thread nD τ) ↦[part11 n]{fullShare} M.f5))) := by
  unfold Land landed; rw [bigSep6]
  have e : ∀ j, (deliver c (cps n) (srcs c M n) (dsts c M n) j : sProp 𝕄) = pairOf c M n j
    | 0 => congrArg₂ BI.sep (cp0_dst c _ _ (k0_off8_wordsbf16 (at3 n)) M.f0) (cp0_src c _ _ (k0_off8_wordsbf16 (at3 n)) M.f0)
    | 1 => congrArg₂ BI.sep (cp1_dst c _ _ (k0_off9_wordsbf16 (at3 n)) M.f1) (cp1_src c _ _ (k0_off9_wordsbf16 (at3 n)) M.f1)
    | 2 => congrArg₂ BI.sep (cp2_dst c _ _ (k0_off9_wordsbf16 (at3 n)) M.f2) (cp2_src c _ _ (k0_off9_wordsbf16 (at3 n)) M.f2)
    | 3 => congrArg₂ BI.sep (cp3_dst c _ _ (k0_off10_wordsi8 (at3 n)) M.f3) (cp3_src c _ _ (k0_off10_wordsi8 (at3 n)) M.f3)
    | 4 => congrArg₂ BI.sep (cp4_dst c _ _ (k0_off11_wordsi8 (at3 n)) M.f4) (cp4_src c _ _ (k0_off11_wordsi8 (at3 n)) M.f4)
    | 5 => congrArg₂ BI.sep (cp5_dst c _ _ (k0_off11_wordsi8 (at3 n)) M.f5) (cp5_src c _ _ (k0_off11_wordsi8 (at3 n)) M.f5)
  rw [e 0, e 1, e 2, e 3, e 4, e 5]; rfl

omit [Infinite Name] [Preorder Lvl] in
theorem idle_eq (n : Fin 20) : (Idle c M n : sProp 𝕄) = iprop(semVal ((c : Thread nD τ), SemLoc.dma (semOf n)) 0 ∗ ((∃ f, arg21.view.loc (c : Thread nD τ) ↦[part8 n]{fullShare} f) ∗ (arg5.view.loc (c : Thread nD τ) ↦[part8 n]{fullShare} M.f0)) ∗ ((∃ f, arg22.view.loc (c : Thread nD τ) ↦[part9 n]{fullShare} f) ∗ (arg7.view.loc (c : Thread nD τ) ↦[part9 n]{fullShare} M.f1)) ∗ ((∃ f, arg23.view.loc (c : Thread nD τ) ↦[part9 n]{fullShare} f) ∗ (arg9.view.loc (c : Thread nD τ) ↦[part9 n]{fullShare} M.f2)) ∗ ((∃ f, arg18.view.loc (c : Thread nD τ) ↦[part10 n]{fullShare} f) ∗ (arg4.view.loc (c : Thread nD τ) ↦[part10 n]{fullShare} M.f3)) ∗ ((∃ f, arg19.view.loc (c : Thread nD τ) ↦[part11 n]{fullShare} f) ∗ (arg6.view.loc (c : Thread nD τ) ↦[part11 n]{fullShare} M.f4)) ∗ ((∃ f, arg20.view.loc (c : Thread nD τ) ↦[part11 n]{fullShare} f) ∗ (arg8.view.loc (c : Thread nD τ) ↦[part11 n]{fullShare} M.f5))) := by
  unfold Idle idle; rw [bigSep6]
  have e : ∀ j, (ends c (cps n) (srcs c M n) j : sProp 𝕄) = endsOf c M n j
    | 0 => congrArg₂ BI.sep (congrArg (fun Φ => iprop(∃ f, Φ f)) (funext fun f => cp0_dst c _ _ (k0_off8_wordsbf16 (at3 n)) f)) (cp0_src c _ _ (k0_off8_wordsbf16 (at3 n)) M.f0)
    | 1 => congrArg₂ BI.sep (congrArg (fun Φ => iprop(∃ f, Φ f)) (funext fun f => cp1_dst c _ _ (k0_off9_wordsbf16 (at3 n)) f)) (cp1_src c _ _ (k0_off9_wordsbf16 (at3 n)) M.f1)
    | 2 => congrArg₂ BI.sep (congrArg (fun Φ => iprop(∃ f, Φ f)) (funext fun f => cp2_dst c _ _ (k0_off9_wordsbf16 (at3 n)) f)) (cp2_src c _ _ (k0_off9_wordsbf16 (at3 n)) M.f2)
    | 3 => congrArg₂ BI.sep (congrArg (fun Φ => iprop(∃ f, Φ f)) (funext fun f => cp3_dst c _ _ (k0_off10_wordsi8 (at3 n)) f)) (cp3_src c _ _ (k0_off10_wordsi8 (at3 n)) M.f3)
    | 4 => congrArg₂ BI.sep (congrArg (fun Φ => iprop(∃ f, Φ f)) (funext fun f => cp4_dst c _ _ (k0_off11_wordsi8 (at3 n)) f)) (cp4_src c _ _ (k0_off11_wordsi8 (at3 n)) M.f4)
    | 5 => congrArg₂ BI.sep (congrArg (fun Φ => iprop(∃ f, Φ f)) (funext fun f => cp5_dst c _ _ (k0_off11_wordsi8 (at3 n)) f)) (cp5_src c _ _ (k0_off11_wordsi8 (at3 n)) M.f5)
  rw [e 0, e 1, e 2, e 3, e 4, e 5]; rfl

omit [Infinite Name] [Preorder Lvl] in
/-- One member of a family is changed. -/
theorem bigSep_change (f g : Fin 20 → sProp 𝕄) (n : Fin 20) (h : ∀ m, m ≠ n → f m = g m) :
    bigSep Finset.univ f ⊢ iprop(f n ∗ (g n -∗ bigSep Finset.univ g)) := by
  have ef : bigSep Finset.univ f = iprop(f n ∗ bigSep (Finset.univ.erase n) f) := BI.bigSep_erase (Finset.mem_univ n)
  have eg : bigSep Finset.univ g = iprop(g n ∗ bigSep (Finset.univ.erase n) g) := BI.bigSep_erase (Finset.mem_univ n)
  rw [ef, eg, show bigSep (Finset.univ.erase n) f = bigSep (Finset.univ.erase n) g from BI.bigSep_congr fun m hm => h m (Finset.ne_of_mem_erase hm)]
  iintro ⟨H, HR⟩
  isplitl [H]; · iexact H
  iintro Hg
  isplitl [Hg]; · iexact Hg
  iexact HR

/-- The chunks before trip `k` of the first loop. -/
def stage1 (k : ℕ) (n : Fin 20) : sProp 𝕄 := if n.val < k then Fly c M EC ι n else Idle c M n
/-- The chunks before trip `k` of the second loop. -/
def stage3 (k : ℕ) (n : Fin 20) : sProp 𝕄 := if n.val < k then Land c M n else if n.val < k + 10 then Fly c M EC ι n else Idle c M n
/-- The chunks in trip `k` of the second loop, the wait done. -/
def mid3 (k : ℕ) (n : Fin 20) : sProp 𝕄 := if n.val < k + 1 then Land c M n else if n.val < k + 10 then Fly c M EC ι n else Idle c M n

omit [Infinite Name] [Preorder Lvl] in
theorem stage_switch : (stage1 c M EC ι 10 : Fin 20 → sProp 𝕄) = stage3 c M EC ι 0 := by
  funext n; unfold stage1 stage3; simp

omit [Infinite Name] [Preorder Lvl] in
theorem stage1_zero : (stage1 c M EC ι 0 : Fin 20 → sProp 𝕄) = Idle c M := by
  funext n; unfold stage1; simp

omit [Infinite Name] [Preorder Lvl] in
theorem stage3_end : (stage3 c M EC ι 20 : Fin 20 → sProp 𝕄) = Land c M := by
  funext n; unfold stage3; simp

theorem wp_tripFirst [EC.LandsIn (upEmb : UEmb _ 𝕄)] {Q : PUnit → sProp 𝕄} (k : Fin k0_t1_loop.trips) :
    bigSep Finset.univ (stage1 c M EC ι k.val) ⊢ iprop((bigSep Finset.univ (stage1 c M EC ι (k.val + 1)) -∗ Q ⟨⟩)
      -∗ wp frame (wpE defs 𝒱 (c : Thread nD τ) bd) Set.univ (tripFirst k) Q) := by
  have hk : k.val < 10 := lt_of_lt_of_eq k.isLt trips1
  unfold tripFirst
  rw [cpsFirst_eq k ⟨k.val, by omega⟩ rfl, semFirst_eq k ⟨k.val, by omega⟩ rfl]
  refine (bigSep_change (stage1 c M EC ι k.val) (stage1 c M EC ι (k.val + 1)) ⟨k.val, by omega⟩ ?_).trans ?_
  · intro m hm
    have hne : m.val ≠ k.val := fun h => hm (Fin.ext h)
    unfold stage1
    by_cases h : m.val < k.val
    · rw [if_pos h, if_pos (by omega)]
    · rw [if_neg h, if_neg (by omega)]
  rw [show stage1 c M EC ι k.val (⟨k.val, by omega⟩ : Fin 20) = Idle c M (⟨k.val, by omega⟩ : Fin 20) from if_neg (lt_irrefl k.val),
    show stage1 c M EC ι (k.val + 1) (⟨k.val, by omega⟩ : Fin 20) = Fly c M EC ι (⟨k.val, by omega⟩ : Fin 20) from if_pos (Nat.lt_succ_self _)]
  iintro ⟨H, HR⟩ Hk
  unfold Idle
  iapply (wp_enq6 EC 𝒱 c bd _ _ _ _ ι (land c M _)) $$ H
  iintro H
  iapply Hk
  iapply HR
  unfold Fly
  iexact H

omit [Infinite Name] in
theorem wp_bind' {α β : Type} (p : Prog (TpuEff nD τ sig (Elt F) Λ₀ .tc) α) (k : α → Prog (TpuEff nD τ sig (Elt F) Λ₀ .tc) β) (Q : β → sProp 𝕄) (E : Set Name) :
    wp frame (wpE defs 𝒱 (c : Thread nD τ) bd) E (Prog.bind p k) Q = wp frame (wpE defs 𝒱 (c : Thread nD τ) bd) E p fun v => wp frame (wpE defs 𝒱 (c : Thread nD τ) bd) E (k v) Q := wp_bind ..

/-- The activations that the contraction reads at chunk `n`. -/
def hAt (H : S40x64x128.Idx → Elt F .bf16) (n : Fin 20) : FVec F S64x256 .bf16 :=
  hChunk (arg24.view.readAt (Elt F) (Rect.unit (s := S40x64x128) (k0_off17 (at3 n) 0#32) S1x64x128.size (k0_off17_inb (at3 n) 0)).toLoadRect H)
    (arg24.view.readAt (Elt F) (Rect.unit (s := S40x64x128) (k0_off17 (at3 n) 1#32) S1x64x128.size (k0_off17_inb (at3 n) 1)).toLoadRect H)

/-- The activations and the fourteen blocks, the chunk's copies landed. -/
theorem wp_rest {Q : Mxu F → sProp 𝕄} (H : S40x64x128.Idx → Elt F .bf16) (n : Fin 20) (s : Mxu F) (hs : Empty s) :
    iprop(bigSep Finset.univ (stage3 c M EC ι (n.val + 1)) ∗ (∃ W' : Waits sig Ix, owes (c : Thread nD τ) 0 W') ∗ (arg24.view.loc (c : Thread nD τ) ↦{fullShare} H))
      ⊢ iprop((iprop(bigSep Finset.univ (stage3 c M EC ι (n.val + 1)) ∗ (∃ W' : Waits sig Ix, owes (c : Thread nD τ) 0 W') ∗ (arg24.view.loc (c : Thread nD τ) ↦{fullShare} H)) -∗ Q (step c M n (hAt H n) s))
      -∗ wp frame (wpE defs 𝒱 (c : Thread nD τ) bd) Set.univ
        (.op (.load arg24 (Rect.unit (s := S40x64x128) (k0_off17 (at3 n) 0#32) S1x64x128.size (k0_off17_inb (at3 n) 0)).toLoadRect (View.loadsAt_vmem h_S1x64x128)) fun v =>
          .op (.load arg24 (Rect.unit (s := S40x64x128) (k0_off17 (at3 n) 1#32) S1x64x128.size (k0_off17_inb (at3 n) 1)).toLoadRect (View.loadsAt_vmem h_S1x64x128)) fun w =>
          blocks (at3 n) (hChunk v w) s) Q) := by
  iintro ⟨HS, HO, HH⟩ Hk
  iapply (wp_load 𝒱 (c : Thread nD τ) bd Set.univ (Finset.subset_univ _)) $$ HH
  iintro HH
  iapply (wp_load 𝒱 (c : Thread nD τ) bd Set.univ (Finset.subset_univ _)) $$ HH
  iintro HH
  ihave HS := (bigSep_change (stage3 c M EC ι (n.val + 1)) (stage3 c M EC ι (n.val + 1)) n (fun _ _ => rfl)) $$ HS
  rw [show stage3 c M EC ι (n.val + 1) n = Land c M n from if_pos (Nat.lt_succ_self _), land_eq]
  icases HS with ⟨⟨HV, ⟨H21, S21⟩, ⟨H22, S22⟩, ⟨H23, S23⟩, ⟨H18, S18⟩, ⟨H19, S19⟩, ⟨H20, S20⟩⟩, HS⟩
  iapply (wp_blocks c M n (hAt H n) 𝒱 bd s hs) $$ [H21 H22 H23 H18 H19 H20]
  · isplitl [H21]; · iexact H21
    isplitl [H22]; · iexact H22
    isplitl [H23]; · iexact H23
    isplitl [H18]; · iexact H18
    isplitl [H19]; · iexact H19
    iexact H20
  iintro ⟨H21, H22, H23, H18, H19, H20⟩
  iapply Hk
  isplitl [HS HV H21 H22 H23 H18 H19 H20 S21 S22 S23 S18 S19 S20]
  · iapply HS
    isplitl [HV]; · iexact HV
    isplitl [H21 S21]
    · isplitl [H21]; · iexact H21
      iexact S21
    isplitl [H22 S22]
    · isplitl [H22]; · iexact H22
      iexact S22
    isplitl [H23 S23]
    · isplitl [H23]; · iexact H23
      iexact S23
    isplitl [H18 S18]
    · isplitl [H18]; · iexact H18
      iexact S18
    isplitl [H19 S19]
    · isplitl [H19]; · iexact H19
      iexact S19
    isplitl [H20]; · iexact H20
    iexact S20
  isplitl [HO]; · iexact HO
  iexact HH

theorem wp_trip [EC.LandsIn (upEmb : UEmb _ 𝕄)] {Q : Mxu F → sProp 𝕄} {W : Waits sig Ix} (H : S40x64x128.Idx → Elt F .bf16) (n : Fin 20) (s : Mxu F) (hs : Empty s) :
    iprop(bigSep Finset.univ (stage3 c M EC ι n.val) ∗ owes (c : Thread nD τ) 0 W ∗ (arg24.view.loc (c : Thread nD τ) ↦{fullShare} H))
      ⊢ iprop((iprop(bigSep Finset.univ (stage3 c M EC ι (n.val + 1)) ∗ (∃ W', owes (c : Thread nD τ) 0 W') ∗ (arg24.view.loc (c : Thread nD τ) ↦{fullShare} H)) -∗ Q (step c M n (hAt H n) s))
      -∗ wp frame (wpE defs 𝒱 (c : Thread nD τ) bd) Set.univ (trip (at3 n) s) Q) := by
  unfold trip
  iintro ⟨HS, HO, HH⟩ Hk
  ihave HS := (bigSep_change (stage3 c M EC ι n.val) (mid3 c M EC ι n.val) n (by
    intro m hm
    have hne : m.val ≠ n.val := fun h => hm (Fin.ext h)
    unfold stage3 mid3
    by_cases h : m.val < n.val
    · rw [if_pos h, if_pos (by omega)]
    · rw [if_neg h, if_neg (show ¬ m.val < n.val + 1 by omega)])) $$ HS
  rw [show stage3 c M EC ι n.val n = Fly c M EC ι n from (if_neg (by omega)).trans (if_pos (by omega)),
    show mid3 c M EC ι n.val n = Land c M n from if_pos (by omega)]
  icases HS with ⟨HF, HS⟩
  rw [wp_bind']
  unfold Fly
  iapply (wp_wait6 EC 𝒱 c bd (cps n) _ _ (semOf n) ι (amounts_pos n)) $$ [HF HO]
  · isplitl [HF]; · iexact HF
    iexact HO
  iintro ⟨HL, HO⟩
  rw [wp_bind']
  -- the copies of the chunk ten ahead
  ihave HS := HS $$ [HL]
  · unfold Land; iexact HL
  by_cases h : k0_cond1 (at3 n) = 1#1
  · rw [dif_pos h]
    have hn : n.val < 10 := (cond1_iff (at3 n)).mp h
    rw [cpsAhead_eq (at3 n) h ⟨n.val + 10, by omega⟩ rfl, semAhead_eq (at3 n) h ⟨n.val + 10, by omega⟩ rfl]
    ihave HS := (bigSep_change (mid3 c M EC ι n.val) (stage3 c M EC ι (n.val + 1)) ⟨n.val + 10, by omega⟩ (by
      intro m hm
      have hne : m.val ≠ n.val + 10 := fun h => hm (Fin.ext h)
      unfold stage3 mid3
      by_cases h : m.val < n.val + 1
      · rw [if_pos h, if_pos h]
      · rw [if_neg h, if_neg h]
        by_cases h' : m.val < n.val + 10
        · rw [if_pos h', if_pos (by omega)]
        · rw [if_neg h', if_neg (by omega)])) $$ HS
    rw [show mid3 c M EC ι n.val (⟨n.val + 10, by omega⟩ : Fin 20) = Idle c M (⟨n.val + 10, by omega⟩ : Fin 20) from
        (if_neg (by show ¬ n.val + 10 < n.val + 1; omega)).trans (if_neg (by show ¬ n.val + 10 < n.val + 10; omega)),
      show stage3 c M EC ι (n.val + 1) (⟨n.val + 10, by omega⟩ : Fin 20) = Fly c M EC ι (⟨n.val + 10, by omega⟩ : Fin 20) from
        (if_neg (by show ¬ n.val + 10 < n.val + 1; omega)).trans (if_pos (by show n.val + 10 < n.val + 1 + 10; omega))]
    icases HS with ⟨HI, HS⟩
    unfold Idle
    iapply (wp_enq6 EC 𝒱 c bd _ _ _ _ ι (land c M _)) $$ HI
    iintro HI
    ihave HS := HS $$ [HI]
    · unfold Fly; iexact HI
    iapply (wp_rest c M EC ι 𝒱 bd H n s hs) $$ [HS HO HH] Hk
    isplitl [HS]; · iexact HS
    isplitl [HO]; · iexact HO
    iexact HH
  · rw [dif_neg h]
    have hn : ¬ n.val < 10 := fun hh => h ((cond1_iff (at3 n)).mpr hh)
    rw [wp_ret]; imodintro
    rw [show mid3 c M EC ι n.val = stage3 c M EC ι (n.val + 1) from funext fun m => by
      have := m.isLt
      unfold stage3 mid3
      by_cases h : m.val < n.val + 1
      · rw [if_pos h, if_pos h]
      · rw [if_neg h, if_neg h, if_pos (show m.val < n.val + 10 by omega), if_pos (show m.val < n.val + 1 + 10 by omega)]]
    iapply (wp_rest c M EC ι 𝒱 bd H n s hs) $$ [HS HO HH] Hk
    isplitl [HS]; · iexact HS
    isplitl [HO]; · iexact HO
    iexact HH

end Rounds

end Cert.KernelIdeal.Hand
-- ==== Proof.Tiles.lean ====
/-
  The normalised activations: forty tiles of 128 columns, each scaled, permuted along its lanes, rounded and stored.
-/
module

public import proofs.«01_k».proof.Proof.Rounds

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem inbX : ∀ t : Fin 40, ∀ a, (![0, 128 * t.val] : Fin 2 → ℕ) a + S64x128.size a ≤ S64x5120.size a := by decide
theorem inbN : ∀ t : Fin 40, ∀ a, (![t.val, 0] : Fin 2 → ℕ) a + S1x128.size a ≤ S40x128.size a := by decide
theorem inbH : ∀ t : Fin 40, ∀ a, (![t.val, 0, 0] : Fin 3 → ℕ) a + S1x64x128.size a ≤ S40x64x128.size a := by decide
theorem packedH : ∀ t : Fin 40, (Rect.unit (s := S40x64x128) ![t.val, 0, 0] S1x64x128.size (inbH t)).PackedRows (EltTy.packing .bf16) := by decide

/-- Tile `t` of the activations; row `t` of the norm's weights; tile `t` of the stored activations. -/
abbrev rX (t : Fin 40) : Rect S64x5120 := Rect.unit (s := S64x5120) ![0, 128 * t.val] S64x128.size (inbX t)
@[inherit_doc rX]
abbrev rN (t : Fin 40) : Rect S40x128 := Rect.unit (s := S40x128) ![t.val, 0] S1x128.size (inbN t)
@[inherit_doc rX]
abbrev rH (t : Fin 40) : Rect S40x64x128 := Rect.unit (s := S40x64x128) ![t.val, 0, 0] S1x64x128.size (inbH t)

/-- A tile times the rows' inverse norms times the norm's weights. -/
abbrev scaled (r : FVec F S64x128 .f32) (x : Vec F S64x128 .bf16) (n : Vec F S1x128 .f32) : FVec F S64x128 .f32 :=
  mulf (mulf (extf .f32 x bitsLt_bf16_f32) r) (broadcastTo S64x128 n broadcasts_S1x128_S64x128)

/-- The lanes gathered from, negative ones counted from the end. -/
abbrev idxOf (p : IVec S64x128 32) : IVec S64x128 32 := select (cmpi .slt p (broadcast S64x128 0#32)) (addi p (broadcast S64x128 128#32)) p

/-- A scaled tile permuted along its lanes and rounded. -/
abbrev tileVal (v : FVec F S64x128 .f32) (ix : IVec S64x128 32) : FVec F S1x64x128 .bf16 :=
  shapeCast S1x64x128 (truncf .bf16 (dynamicGather 1 v (shapeCast S64x128 (shapeCast S64x128x1 ix shapeCasts_S64x128_S64x128x1) shapeCasts_S64x128x1_S64x128)) bitsLt_bf16_f32) shapeCasts_S64x128_S1x64x128

variable {α : Type}

/-- A scaled tile stored. -/
def finish (t : Fin 40) (v : FVec F S64x128 .f32) (ix : IVec S64x128 32) (k : Prog (TpuEff nD τ sig (Elt F) Λ₀ .tc) α) : Prog (TpuEff nD τ sig (Elt F) Λ₀ .tc) α :=
  .op (.load arg24 (rH t).toLoadRect (View.loadsAt_vmem h_S1x64x128)) fun _ =>
  .op (.store arg24 (rH t) (tileVal v ix) Finset.univ (View.stores_vmem h_S1x64x128 (harg24.storeExact_slice rfl _ (packedH t)) (fun _ => rfl)) (.inl rfl)) fun _ => k

/-- A tile loaded and scaled. -/
def begin' (t : Fin 40) (r : FVec F S64x128 .f32) (k : FVec F S64x128 .f32 → Prog (TpuEff nD τ sig (Elt F) Λ₀ .tc) α) : Prog (TpuEff nD τ sig (Elt F) Λ₀ .tc) α :=
  .op (.load arg13 (rX t).toLoadRect (View.loadsAt_vmem h_S64x128)) fun x =>
  .op (.load arg15 (rN t).toLoadRect (View.loadsAt_vmem h_S1x128)) fun n => k (scaled r x n)

/-- The end of one tile, another, the beginning of a third. -/
def window (i : Fin 19) (r : FVec F S64x128 .f32) (p : IVec S64x128 32) (v : FVec F S64x128 .f32) (ix : IVec S64x128 32) :
    Prog (TpuEff nD τ sig (Elt F) Λ₀ .tc) (Σ' (_ : FVec F S64x128 .f32), IVec S64x128 32) :=
  finish ⟨2 * i.val + 1, by omega⟩ v ix <| begin' ⟨2 * i.val + 2, by omega⟩ r fun w =>
  finish ⟨2 * i.val + 2, by omega⟩ w (idxOf p) <| begin' ⟨2 * i.val + 3, by omega⟩ r fun u => .ret ⟨u, idxOf p⟩

theorem window0 (r : FVec F S64x128 .f32) (p v ix) : k0_part147 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 0 r p v ix := by sl_kernel_rfl
theorem window1 (r : FVec F S64x128 .f32) (p v ix) : k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 1 r p v ix := by sl_kernel_rfl
theorem window2 (r : FVec F S64x128 .f32) (p v ix) : k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 2 r p v ix := by sl_kernel_rfl
theorem window3 (r : FVec F S64x128 .f32) (p v ix) : k0_part150 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 3 r p v ix := by sl_kernel_rfl
theorem window4 (r : FVec F S64x128 .f32) (p v ix) : k0_part151 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 4 r p v ix := by sl_kernel_rfl
theorem window5 (r : FVec F S64x128 .f32) (p v ix) : k0_part152 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 5 r p v ix := by sl_kernel_rfl
theorem window6 (r : FVec F S64x128 .f32) (p v ix) : k0_part153 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 6 r p v ix := by sl_kernel_rfl
theorem window7 (r : FVec F S64x128 .f32) (p v ix) : k0_part154 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 7 r p v ix := by sl_kernel_rfl
theorem window8 (r : FVec F S64x128 .f32) (p v ix) : k0_part155 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 8 r p v ix := by sl_kernel_rfl
theorem window9 (r : FVec F S64x128 .f32) (p v ix) : k0_part156 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 9 r p v ix := by sl_kernel_rfl
theorem window10 (r : FVec F S64x128 .f32) (p v ix) : k0_part157 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 10 r p v ix := by sl_kernel_rfl
theorem window11 (r : FVec F S64x128 .f32) (p v ix) : k0_part158 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 11 r p v ix := by sl_kernel_rfl
theorem window12 (r : FVec F S64x128 .f32) (p v ix) : k0_part159 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 12 r p v ix := by sl_kernel_rfl
theorem window13 (r : FVec F S64x128 .f32) (p v ix) : k0_part160 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 13 r p v ix := by sl_kernel_rfl
theorem window14 (r : FVec F S64x128 .f32) (p v ix) : k0_part161 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 14 r p v ix := by sl_kernel_rfl
theorem window15 (r : FVec F S64x128 .f32) (p v ix) : k0_part162 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 15 r p v ix := by sl_kernel_rfl
theorem window16 (r : FVec F S64x128 .f32) (p v ix) : k0_part163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 16 r p v ix := by sl_kernel_rfl
theorem window17 (r : FVec F S64x128 .f32) (p v ix) : k0_part164 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 17 r p v ix := by sl_kernel_rfl
theorem window18 (r : FVec F S64x128 .f32) (p v ix) : k0_part165 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 18 r p v ix := by sl_kernel_rfl

section Rules

variable (c : Dev nD) (X : S64x5120.Idx → Elt F .bf16) (N : S40x128.Idx → Elt F .f32) (r : FVec F S64x128 .f32) (p : IVec S64x128 32)

/-- The scaled tile `t`, from the whole arrays. -/
def scaledAt (t : Fin 40) : FVec F S64x128 .f32 := scaled r (arg13.view.readAt (Elt F) (rX t).toLoadRect X) (arg15.view.readAt (Elt F) (rN t).toLoadRect N)

/-- The stored activations. -/
def hFun : S40x64x128.Idx → Elt F .bf16 := fun i => tileVal (scaledAt X N r (i 0)) (idxOf p) fun | 0 => ⟨0, Nat.one_pos⟩ | 1 => i 1 | 2 => i 2

/-- The stored activations, the tiles before `n` done. -/
def hTo (n : ℕ) (f : S40x64x128.Idx → Elt F .bf16) : S40x64x128.Idx → Elt F .bf16 := fun i => if (i 0).val < n then hFun X N r p i else f i

theorem hTo_all (f : S40x64x128.Idx → Elt F .bf16) : hTo X N r p 40 f = hFun X N r p := by
  funext i
  unfold hTo; rw [if_pos (show (i 0).val < 40 from (i 0).isLt)]

theorem hTo_zero (f : S40x64x128.Idx → Elt F .bf16) : hTo X N r p 0 f = f := by
  funext i
  unfold hTo; rw [if_neg (Nat.not_lt_zero _)]

theorem tile_emb (t : Fin 40) (x : S1x64x128.Idx) : hFun X N r p ((rH t).emb x) = tileVal (scaledAt X N r t) (idxOf p) x := by
  unfold hFun
  have h0 : (rH t).emb x 0 = t := Fin.ext (by
    show t.val + 1 * (x 0).val = t.val
    have : (x 0).val < 1 := (x 0).isLt
    omega)
  rw [h0]
  refine congrArg _ (funext fun a => ?_)
  fin_cases a
  · exact Fin.ext (by have : (x 0).val < 1 := (x 0).isLt; show 0 = (x 0).val; omega)
  · exact Fin.ext (by show 0 + 1 * (x 1).val = (x 1).val; omega)
  · exact Fin.ext (by show 0 + 1 * (x 2).val = (x 2).val; omega)

theorem write_tile (t : Fin 40) (f : S40x64x128.Idx → Elt F .bf16) :
    (arg24.access (rH t)).write (Elt F) (hTo X N r p t.val f) (tileVal (scaledAt X N r t) (idxOf p)) Finset.univ = hTo X N r p (t.val + 1) f := by
  have hw : tileVal (scaledAt X N r t) (idxOf p) = (arg24.access (rH t)).read (Elt F) (hFun X N r p) := funext fun x => (tile_emb X N r p t x).symm
  rw [hw, View.write_read_eq_piecewise]
  funext i
  have hm : i ∈ (arg24.access (rH t)).setOn Finset.univ ↔ (i 0).val = t.val := by
    rw [show (arg24.access (rH t)).setOn Finset.univ = (rH t).set from View.set_slice_whole _ _, Rect.mem_set_unit]
    constructor
    · intro h
      have h0 := h 0
      have h1 : t.val ≤ (i 0).val := h0.1
      have h2 : (i 0).val < t.val + 1 := h0.2
      omega
    · intro h a
      fin_cases a
      · exact ⟨h.ge, by show (i 0).val < t.val + 1; omega⟩
      · exact ⟨Nat.zero_le _, lt_of_lt_of_eq (i 1).isLt (Nat.zero_add _).symm⟩
      · exact ⟨Nat.zero_le _, lt_of_lt_of_eq (i 2).isLt (Nat.zero_add _).symm⟩
  unfold hTo
  by_cases h : (i 0).val = t.val
  · rw [Finset.piecewise_eq_of_mem _ _ _ (hm.mpr h), if_pos (by omega)]
  · rw [Finset.piecewise_eq_of_notMem _ _ _ (fun hh => h (hm.mp hh))]
    by_cases h' : (i 0).val < t.val
    · rw [if_pos h', if_pos (by omega)]
    · rw [if_neg h', if_neg (by omega)]

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (bd : Option 𝒱.V)

theorem wp_congr_prog {α : Type} {a b : Prog (TpuEff nD τ sig (Elt F) Λ₀ .tc) α} (h : a = b) {E : Set Name} {Q : α → sProp 𝕄} :
    wp frame (wpE defs 𝒱 (c : Thread nD τ) bd) E b Q ⊢ wp frame (wpE defs 𝒱 (c : Thread nD τ) bd) E a Q := by rw [h]

theorem wp_finish {Q : α → sProp 𝕄} (t : Fin 40) (f : S40x64x128.Idx → Elt F .bf16) (k : Prog (TpuEff nD τ sig (Elt F) Λ₀ .tc) α) :
    (arg24.view.loc (c : Thread nD τ) ↦{fullShare} hTo X N r p t.val f : sProp 𝕄)
      ⊢ iprop(((arg24.view.loc (c : Thread nD τ) ↦{fullShare} hTo X N r p (t.val + 1) f) -∗ wp frame (wpE defs 𝒱 (c : Thread nD τ) bd) Set.univ k Q)
        -∗ wp frame (wpE defs 𝒱 (c : Thread nD τ) bd) Set.univ (finish t (scaledAt X N r t) (idxOf p) k) Q) := by
  unfold finish
  iintro H Hk
  iapply (wp_load 𝒱 (c : Thread nD τ) bd Set.univ (Finset.subset_univ _)) $$ H
  iintro H
  iapply (wp_store 𝒱 (c : Thread nD τ) bd Set.univ (m := arg24) (r := rH t) (w := tileVal (scaledAt X N r t) (idxOf p)) (Mk := Finset.univ) (Finset.subset_univ _)) $$ H
  rw [write_tile X N r p t f]
  iintro H
  iapply Hk
  iexact H

theorem wp_begin {Q : α → sProp 𝕄} (t : Fin 40) (k : FVec F S64x128 .f32 → Prog (TpuEff nD τ sig (Elt F) Λ₀ .tc) α) :
    iprop((arg13.view.loc (c : Thread nD τ) ↦{fullShare} X) ∗ (arg15.view.loc (c : Thread nD τ) ↦{fullShare} N) : sProp 𝕄)
      ⊢ iprop((iprop((arg13.view.loc (c : Thread nD τ) ↦{fullShare} X) ∗ (arg15.view.loc (c : Thread nD τ) ↦{fullShare} N)) -∗ wp frame (wpE defs 𝒱 (c : Thread nD τ) bd) Set.univ (k (scaledAt X N r t)) Q)
        -∗ wp frame (wpE defs 𝒱 (c : Thread nD τ) bd) Set.univ (begin' t r k) Q) := by
  unfold begin'
  iintro ⟨HX, HN⟩ Hk
  iapply (wp_load 𝒱 (c : Thread nD τ) bd Set.univ (Finset.subset_univ _)) $$ HX
  iintro HX
  iapply (wp_load 𝒱 (c : Thread nD τ) bd Set.univ (Finset.subset_univ _)) $$ HN
  iintro HN
  iapply Hk
  isplitl [HX]; · iexact HX
  iexact HN

/-- A window: two tiles more are stored. -/
theorem wp_window {Q : (Σ' (_ : FVec F S64x128 .f32), IVec S64x128 32) → sProp 𝕄} (i : Fin 19) (a b : Fin 40) (ha : a.val = 2 * i.val + 1) (hb : b.val = 2 * i.val + 3) (f : S40x64x128.Idx → Elt F .bf16) :
    iprop((arg13.view.loc (c : Thread nD τ) ↦{fullShare} X) ∗ (arg15.view.loc (c : Thread nD τ) ↦{fullShare} N) ∗ (arg24.view.loc (c : Thread nD τ) ↦{fullShare} hTo X N r p a.val f) : sProp 𝕄)
      ⊢ iprop((iprop((arg13.view.loc (c : Thread nD τ) ↦{fullShare} X) ∗ (arg15.view.loc (c : Thread nD τ) ↦{fullShare} N) ∗ (arg24.view.loc (c : Thread nD τ) ↦{fullShare} hTo X N r p b.val f)) -∗ Q ⟨scaledAt X N r b, idxOf p⟩)
        -∗ wp frame (wpE defs 𝒱 (c : Thread nD τ) bd) Set.univ (window i r p (scaledAt X N r a) (idxOf p)) Q) := by
  have h1 : 2 * i.val + 1 < 40 := by clear ha hb; omega
  have h2 : 2 * i.val + 2 < 40 := by clear ha hb; omega
  have h3 : 2 * i.val + 3 < 40 := by clear ha hb; omega
  obtain rfl : a = ⟨2 * i.val + 1, h1⟩ := Fin.ext ha
  obtain rfl : b = ⟨2 * i.val + 3, h3⟩ := Fin.ext hb
  unfold window
  iintro ⟨HX, HN, HH⟩ Hk
  iapply (wp_finish c X N r p 𝒱 bd _ f _) $$ HH
  iintro HH
  iapply (wp_begin c X N r 𝒱 bd _ _) $$ [HX HN]
  · isplitl [HX]; · iexact HX
    iexact HN
  iintro ⟨HX, HN⟩
  iapply (wp_finish c X N r p 𝒱 bd ⟨2 * i.val + 2, h2⟩ f _) $$ HH
  iintro HH
  iapply (wp_begin c X N r 𝒱 bd _ _) $$ [HX HN]
  · isplitl [HX]; · iexact HX
    iexact HN
  iintro ⟨HX, HN⟩
  rw [wp_ret]; imodintro
  iapply Hk
  isplitl [HX]; · iexact HX
  isplitl [HN]; · iexact HN
  iexact HH

end Rules

end Cert.KernelIdeal.Hand
-- ==== Proof.Out.lean ====
/-
  The results: accumulators taken out of the matrix unit, rotated, rounded, stored two heads at a time, and copied out.
-/
module

public import proofs.«01_k».proof.Proof.Tiles
public import Idealize.ShloMosaic.Lib.Pipeline.Value

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A result's shape: 64 rows, `2 nw` heads, 128 lanes. -/
abbrev SOut (nw : ℕ) : Shape := ⟨3, ![64, 2 * nw, 128]⟩

theorem wholeTrig : ∀ a, (![0, 0] : Fin 2 → ℕ) a + S64x128.size a ≤ S64x128.size a := by decide
/-- A whole table of cosines or sines. -/
abbrev rTrig : Rect S64x128 := Rect.unit (s := S64x128) ![0, 0] S64x128.size wholeTrig

/-- A result's buffer, with what its stores need. -/
structure OutBuf where
  nw : ℕ
  m : Memref sig .tc .vmem (SOut nw) .bf16
  hm : m.IsWhole
  inb : ∀ (b : Fin 8) (w : Fin nw), ∀ a, (![8 * b.val, 2 * w.val, 0] : Fin 3 → ℕ) a + S8x2x128.size a ≤ (SOut nw).size a
  packed : ∀ (b : Fin 8) (w : Fin nw), (Rect.unit (s := SOut nw) ![8 * b.val, 2 * w.val, 0] S8x2x128.size (inb b w)).PackedRows (EltTy.packing .bf16)

/-- The results' buffers. -/
def outQ : OutBuf := ⟨20, arg27, harg27, by decide, by decide⟩
@[inherit_doc outQ]
def outK : OutBuf := ⟨4, arg28, harg28, by decide, by decide⟩
@[inherit_doc outQ]
def outV : OutBuf := ⟨4, arg29, harg29, by decide, by decide⟩

/-- Eight rows of two heads. -/
abbrev OutBuf.r (O : OutBuf) (b : Fin 8) (w : Fin O.nw) : Rect (SOut O.nw) := Rect.unit (s := SOut O.nw) ![8 * b.val, 2 * w.val, 0] S8x2x128.size (O.inb b w)

theorem slicesRows : ∀ b : Fin 8, S64x128.Slices ![8 * b.val, 0] S8x128 := by decide

/-- Eight rows of two heads side by side. -/
abbrev twoHeads (b : Fin 8) (lo hi : FVec F S64x128 .f32) : FVec F S8x2x128 .bf16 :=
  interleaveRows S8x2x128
    (shapeCast S8x1x128 (extractStridedSlice S8x128 ![8 * b.val, 0] (truncf .bf16 lo bitsLt_bf16_f32) (slicesRows b)) shapeCasts_S8x128_S8x1x128)
    (shapeCast S8x1x128 (extractStridedSlice S8x128 ![8 * b.val, 0] (truncf .bf16 hi bitsLt_bf16_f32) (slicesRows b)) shapeCasts_S8x128_S8x1x128)
    bitcasts_S8x2x128_w16_S8x1x128_w32

variable {α : Type}

/-- Eight rows of two heads stored. -/
def storeBlock (O : OutBuf) (b : Fin 8) (w : Fin O.nw) (lo hi : FVec F S64x128 .f32) (k : Prog (TpuEff nD τ sig (Elt F) Λ₀ .tc) α) : Prog (TpuEff nD τ sig (Elt F) Λ₀ .tc) α :=
  .op (.load O.m (O.r b w).toLoadRect (View.loadsAt_vmem h_S8x2x128)) fun _ =>
  .op (.store O.m (O.r b w) (twoHeads b lo hi) Finset.univ (View.stores_vmem h_S8x2x128 (O.hm.storeExact_slice rfl _ (O.packed b w)) (fun _ => rfl)) (.inl rfl)) fun _ => k

/-- Two heads stored. -/
def storeUnit (O : OutBuf) (w : Fin O.nw) (lo hi : FVec F S64x128 .f32) (k : Prog (TpuEff nD τ sig (Elt F) Λ₀ .tc) α) : Prog (TpuEff nD τ sig (Elt F) Λ₀ .tc) α :=
  storeBlock O 0 w lo hi <| storeBlock O 1 w lo hi <| storeBlock O 2 w lo hi <| storeBlock O 3 w lo hi <|
  storeBlock O 4 w lo hi <| storeBlock O 5 w lo hi <| storeBlock O 6 w lo hi <| storeBlock O 7 w lo hi k

/-- A head rotated, with the tables' values given. -/
abbrev roped (z c s : FVec F S64x128 .f32) : FVec F S64x128 .f32 :=
  addf (mulf z c) (mulf (dynamicRotate 1 64#32 none z rotates_S64x128_d1) s)

/-- A head rotated, or not. -/
def head (rope : Bool) (z : FVec F S64x128 .f32) (k : FVec F S64x128 .f32 → Prog (TpuEff nD τ sig (Elt F) Λ₀ .tc) α) : Prog (TpuEff nD τ sig (Elt F) Λ₀ .tc) α :=
  match rope with
  | true =>
    .op (.load arg25 rTrig.toLoadRect (View.loadsAt_vmem h_S64x128)) fun (c : Vec F S64x128 .f32) =>
    .op (.load arg26 rTrig.toLoadRect (View.loadsAt_vmem h_S64x128)) fun (s : Vec F S64x128 .f32) => k (roped z c s)
  | false => k z

/-- The two heads of a unit's accumulator. -/
abbrev left (z : FVec F S64x256 .f32) : FVec F S64x128 .f32 := extractStridedSlice S64x128 ![0, 0] z slices_S64x256_o0_0_S64x128
@[inherit_doc left]
abbrev right (z : FVec F S64x256 .f32) : FVec F S64x128 .f32 := extractStridedSlice S64x128 ![0, 128] z slices_S64x256_o0_128_S64x128

/-- A pair's two accumulators taken out. -/
abbrev accOf (u : Fin 2) (p : Fin 14) (s : Mxu F) : FVec F S64x256 .f32 := s.read u (16 * p.val) (fits p)
@[inherit_doc accOf]
abbrev popOf (u : Fin 2) (p : Fin 14) (s : Mxu F) : Mxu F := s.pop u (16 * p.val) 64 (fits p)

/-- A pair of accumulators taken out, rotated and stored. -/
def pair (O : OutBuf) (rope : Bool) (p : Fin 14) (w0 w1 : Fin O.nw) (s : Mxu F) (k : Mxu F → Prog (TpuEff nD τ sig (Elt F) Λ₀ .tc) α) : Prog (TpuEff nD τ sig (Elt F) Λ₀ .tc) α :=
  head rope (left (accOf 0 p s)) fun a => head rope (right (accOf 0 p s)) fun b =>
  head rope (left (accOf 1 p (popOf 0 p s))) fun c => head rope (right (accOf 1 p (popOf 0 p s))) fun d =>
  storeUnit O w0 a b <| storeUnit O w1 c d <| k (popOf 1 p (popOf 0 p s))

/-- The first `n` pairs of a result. -/
def pairs (O : OutBuf) (rope : Bool) (base : ℕ) : (n : ℕ) → (h : base + n ≤ 14) → (hw : 2 * n ≤ O.nw) → Mxu F → (Mxu F → Prog (TpuEff nD τ sig (Elt F) Λ₀ .tc) α) → Prog (TpuEff nD τ sig (Elt F) Λ₀ .tc) α
  | 0, _, _, s, k => k s
  | n + 1, h, hw, s, k => pairs O rope base n (by omega) (by omega) s fun s' =>
      pair O rope ⟨base + n, by omega⟩ ⟨2 * n, by omega⟩ ⟨2 * n + 1, by omega⟩ s' k

/-- The results' semaphores. -/
abbrev semQ : DmaSem sig := ((arg32.slice (Rect.unit (s := S3) ![0] S1.size inb_S3_S1_0)).squeeze S_ squeezes_S1_S_).sem
@[inherit_doc semQ]
abbrev semK : DmaSem sig := ((arg32.slice (Rect.unit (s := S3) ![1] S1.size inb_S3_S1_1)).squeeze S_ squeezes_S1_S_).sem
@[inherit_doc semQ]
abbrev semV : DmaSem sig := ((arg32.slice (Rect.unit (s := S3) ![2] S1.size inb_S3_S1_2)).squeeze S_ squeezes_S1_S_).sem

/-- The results: taken out, stored, sent away. -/
def outs (s : Mxu F) : Prog (TpuEff nD τ sig (Elt F) Λ₀ .tc) PUnit :=
  pairs outQ true 0 10 (by decide) (by decide) s fun s =>
  .op (.enqueueDma arg27 (.here arg10) (.dma semQ) harg27.wordExact harg10.wordExact ⟨Or.inl rfl, trivial⟩) fun _ =>
  pairs outK true 10 2 (by decide) (by decide) s fun s =>
  .op (.enqueueDma arg28 (.here arg11) (.dma semK) harg28.wordExact harg11.wordExact ⟨Or.inl rfl, trivial⟩) fun _ =>
  pairs outV false 12 2 (by decide) (by decide) s fun s =>
  .op (.enqueueDma arg29 (.here arg12) (.dma semV) harg29.wordExact harg12.wordExact ⟨Or.inl rfl, trivial⟩) fun _ =>
  .op (.waitDma2 semQ arg27 arg10 harg27.wordExact harg10.wordExact) fun _ =>
  .op (.waitDma2 semK arg28 arg11 harg28.wordExact harg11.wordExact) fun _ =>
  .op (.waitDma2 semV arg29 arg12 harg29.wordExact harg12.wordExact) fun _ =>
  Prog.bind s.exit fun _ => .ret ⟨⟩

/-! ### What is stored -/

/-- Where an element of a result lies within its head. -/
abbrev at2 (a : Fin 64) (b : Fin 128) : S64x128.Idx := fun | 0 => a | 1 => b

/-- A result from its heads. -/
def outFun (nw : ℕ) (hd : ℕ → FVec F S64x128 .f32) : (SOut nw).Idx → Elt F .bf16 := fun i => truncf .bf16 (hd (i 1).val) bitsLt_bf16_f32 (at2 (i 0) (i 2))

theorem twoHeads_apply (b : Fin 8) (lo hi : FVec F S64x128 .f32) (x : S8x2x128.Idx) (hx : 8 * b.val + (x 0).val < 64) :
    twoHeads b lo hi x = truncf .bf16 (if (x 1).val % 2 = 0 then lo else hi) bitsLt_bf16_f32 (at2 ⟨8 * b.val + (x 0).val, hx⟩ (x 2)) := by
  have h0 : (x 0).val < 8 := (x 0).isLt
  have h1 : (x 1).val < 2 := (x 1).isLt
  have h2 : (x 2).val < 128 := (x 2).isLt
  have key (v : FVec F S64x128 .f32) (y : S8x1x128.Idx) (hy0 : (y 0).val = (x 0).val) (hy2 : (y 2).val = (x 2).val) :
      shapeCast S8x1x128 (extractStridedSlice S8x128 ![8 * b.val, 0] (truncf .bf16 v bitsLt_bf16_f32) (slicesRows b)) shapeCasts_S8x128_S8x1x128 y = truncf .bf16 v bitsLt_bf16_f32 (at2 ⟨8 * b.val + (x 0).val, hx⟩ (x 2)) := by
    rw [Idealize.ShloMosaic.shapeCast_apply _ _ _ (fun | 0 => x 0 | 1 => x 2 : S8x128.Idx)]
    · unfold extractStridedSlice
      refine congrArg _ (funext fun a => ?_)
      fin_cases a
      · rfl
      · exact Fin.ext (Nat.zero_add _)
    · have hy1 : (y 1).val < 1 := (y 1).isLt
      rw [Shape.rowMajor_val_two, Shape.rowMajor_val_three]
      show (x 0).val * 128 + (x 2).val = ((y 0).val * 1 + (y 1).val) * 128 + (y 2).val
      rw [hy0, hy2]; omega
  unfold twoHeads interleaveRows
  have hr : S8x2x128.row x = (x 1).val := rfl
  rw [hr]
  by_cases h : (x 1).val % 2 = 0
  · rw [if_pos h, if_pos h]; exact key lo _ rfl rfl
  · rw [if_neg h, if_neg h]; exact key hi _ rfl rfl

theorem twoHeads_out (O : OutBuf) (b : Fin 8) (w : Fin O.nw) (hd : ℕ → FVec F S64x128 .f32) (x : (O.r b w).shape.Idx) :
    twoHeads b (hd (2 * w.val)) (hd (2 * w.val + 1)) x = outFun O.nw hd ((O.r b w).emb x) := by
  have h0 : (x 0).val < 8 := (x 0).isLt
  have h1 : (x 1).val < 2 := (x 1).isLt
  have hb := b.isLt
  rw [twoHeads_apply b _ _ x (by omega)]
  unfold outFun
  have e1 : ((O.r b w).emb x 1).val = 2 * w.val + (x 1).val := by
    show 2 * w.val + 1 * (x 1).val = _; omega
  have e2 : at2 ((O.r b w).emb x 0) ((O.r b w).emb x 2) = at2 ⟨8 * b.val + (x 0).val, by omega⟩ (x 2) := by
    funext a; fin_cases a
    · exact Fin.ext (by show 8 * b.val + 1 * (x 0).val = 8 * b.val + (x 0).val; omega)
    · exact Fin.ext (by show 0 + 1 * (x 2).val = (x 2).val; omega)
  rw [e2, e1]
  by_cases h : (x 1).val % 2 = 0
  · rw [if_pos h, show (x 1).val = 0 by omega]; rfl
  · rw [if_neg h, show (x 1).val = 1 by omega]

/-- Of a result's buffer: the eights of rows before the `n`-th, head pair by head pair, are stored. -/
def Stored (O : OutBuf) (hd : ℕ → FVec F S64x128 .f32) (n : ℕ) (f : O.m.view.ty.Contents (Elt F)) : Prop :=
  ∀ i : (SOut O.nw).Idx, 8 * ((i 1).val / 2) + (i 0).val / 8 < n → O.m.view.read (Elt F) f i = outFun O.nw hd i

theorem Stored.zero (O : OutBuf) (hd : ℕ → FVec F S64x128 .f32) (f) : Stored O hd 0 f := fun _ h => absurd h (Nat.not_lt_zero _)

theorem Stored.all {O : OutBuf} {hd : ℕ → FVec F S64x128 .f32} {f} (h : Stored O hd (8 * O.nw) f) : O.m.view.read (Elt F) f = outFun O.nw hd := by
  funext i
  refine h i ?_
  have h0 : (i 0).val < 64 := (i 0).isLt
  have h1 : (i 1).val < 2 * O.nw := (i 1).isLt
  omega

theorem Stored.next {O : OutBuf} {hd : ℕ → FVec F S64x128 .f32} {f} (b : Fin 8) (w : Fin O.nw) (h : Stored O hd (8 * w.val + b.val) f) :
    Stored O hd (8 * w.val + b.val + 1) ((O.m.access (O.r b w)).write (Elt F) f (twoHeads b (hd (2 * w.val)) (hd (2 * w.val + 1))) Finset.univ) := by
  intro i hi
  by_cases hm : i ∈ Finset.univ.map (O.r b w).emb
  · obtain ⟨x, -, rfl⟩ := Finset.mem_map.mp hm
    rw [← twoHeads_out]
    exact View.read_slice_write_emb (v := O.m.view) (O.r b w) f _ (Finset.mem_univ x)
  · refine (View.read_slice_write_of_not_mem (v := O.m.view) (O.r b w) f _ Finset.univ hm).trans (h i ?_)
    by_contra hn
    refine hm ?_
    have hs : i ∈ (O.r b w).set := by
      rw [Rect.mem_set_unit]
      have h0 : (i 0).val < 64 := (i 0).isLt
      have hb := b.isLt
      intro a
      fin_cases a
      · show 8 * b.val ≤ (i 0).val ∧ (i 0).val < 8 * b.val + 8
        omega
      · show 2 * w.val ≤ (i 1).val ∧ (i 1).val < 2 * w.val + 2
        omega
      · exact ⟨Nat.zero_le _, lt_of_lt_of_eq (i 2).isLt (Nat.zero_add _).symm⟩
    rw [Rect.map_emb_univ]; exact hs

/-- A head's value: rotated with the tables' contents, or not. -/
def rot (rope : Bool) (C S : S64x128.Idx → Elt F .f32) (z : FVec F S64x128 .f32) : FVec F S64x128 .f32 :=
  match rope with
  | true => roped z (arg25.view.readAt (Elt F) rTrig.toLoadRect C) (arg26.view.readAt (Elt F) rTrig.toLoadRect S)
  | false => z

/-- The pairs before `n` taken out. -/
def popTo (s : Mxu F) : ℕ → Mxu F
  | 0 => s
  | n + 1 => if h : n < 14 then popOf 1 ⟨n, h⟩ (popOf 0 ⟨n, h⟩ (popTo s n)) else popTo s n

theorem popTo_succ (s : Mxu F) (p : Fin 14) : popTo s (p.val + 1) = popOf 1 p (popOf 0 p (popTo s p.val)) := dif_pos p.isLt

theorem read_popTo (s : Mxu F) (u : Fin 2) (p : Fin 14) (n : ℕ) (h : n ≤ p.val) : accOf u p (popTo s n) = accOf u p s := by
  induction n with
  | zero => rfl
  | succ n ih =>
    have hp := p.isLt
    rw [popTo_succ s ⟨n, by omega⟩]
    unfold accOf popOf
    rw [Mxu.read_pop_ne (hne := .inr (by right; show 4 * (16 * n) + 64 ≤ 4 * (16 * p.val); omega)), Mxu.read_pop_ne (hne := .inr (by right; show 4 * (16 * n) + 64 ≤ 4 * (16 * p.val); omega))]
    exact ih (by omega)

theorem read_popOf (s : Mxu F) (p : Fin 14) : accOf 1 p (popOf 0 p s) = accOf 1 p s := by
  unfold accOf popOf
  exact Mxu.read_pop_ne (hne := .inl (by decide)) ..

theorem live_popTo (s : Mxu F) (n : ℕ) (hn : n ≤ 14) (q : Fin 2) (R : Fin 1024) : (popTo s n).live q R = if R.val < 64 * n then false else s.live q R := by
  induction n with
  | zero => rw [if_neg (by omega)]; rfl
  | succ n ih =>
    rw [popTo_succ s ⟨n, by omega⟩, Mxu.live_pop, Mxu.live_pop, ih (by omega)]
    show (if q = 1 ∧ 4 * (16 * n) ≤ R.val ∧ R.val < 4 * (16 * n) + 64 then _ else if q = 0 ∧ 4 * (16 * n) ≤ R.val ∧ R.val < 4 * (16 * n) + 64 then _ else _) = _
    have hq : q = 0 ∨ q = 1 := by clear ih; revert q; decide
    by_cases h : R.val < 64 * n
    · rw [if_pos h, if_pos (show R.val < 64 * (n + 1) by omega)]; split_ifs <;> rfl
    · rw [if_neg h]
      by_cases h' : R.val < 64 * (n + 1)
      · rw [if_pos h']
        rcases hq with rfl | rfl
        · rw [if_neg (by rintro ⟨h, -⟩; exact absurd h (by decide)), if_pos ⟨rfl, by omega, by omega⟩]
        · rw [if_pos ⟨rfl, by omega, by omega⟩]
      · rw [if_neg h', if_neg (by rintro ⟨-, -, h⟩; omega), if_neg (by rintro ⟨-, -, h⟩; omega)]

theorem reg_popTo (s : Mxu F) (n : ℕ) : (popTo s n).reg = s.reg := by
  induction n with
  | zero => rfl
  | succ n ih =>
    unfold popTo
    split_ifs
    · exact ih
    · exact ih

theorem popTo_drained (s : Mxu F) (hs : Empty s) (hl : ∀ q (R : Fin 1024), 896 ≤ R.val → s.live q R = false) : (popTo s 14).Drained := by
  refine ⟨fun q r => ?_, fun q R => ?_⟩
  · rw [reg_popTo, hs q r]; rfl
  · rw [live_popTo s 14 le_rfl]
    by_cases h : R.val < 64 * 14
    · rw [if_pos h]
    · rw [if_neg h]; exact hl q R (by omega)

/-- Head `i` of a result: the accumulator of its pair and unit, its half, rotated or not. -/
def headOf (s : Mxu F) (rope : Bool) (C S : S64x128.Idx → Elt F .f32) (base : ℕ) (i : ℕ) : FVec F S64x128 .f32 :=
  rot rope C S ((if i % 2 = 0 then left else right) (accOf (if i / 2 % 2 = 0 then 0 else 1) ⟨(base + i / 4) % 14, Nat.mod_lt _ (by decide)⟩ s))

section Rules

variable (c : Dev nD)
variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (bd : Option 𝒱.V)

/-- A result's buffer, partly stored. -/
def OutAt (O : OutBuf) (hd : ℕ → FVec F S64x128 .f32) (n : ℕ) : sProp 𝕄 :=
  iprop(∃ f, ⌜Stored O hd n f⌝ ∗ (O.m.view.loc (c : Thread nD τ) ↦{fullShare} f))

theorem wp_storeBlock {Q : α → sProp 𝕄} (O : OutBuf) (hd : ℕ → FVec F S64x128 .f32) (b : Fin 8) (w : Fin O.nw) (k : Prog (TpuEff nD τ sig (Elt F) Λ₀ .tc) α) :
    (OutAt c O hd (8 * w.val + b.val) : sProp 𝕄)
      ⊢ iprop((OutAt c O hd (8 * w.val + b.val + 1) -∗ wp frame (wpE defs 𝒱 (c : Thread nD τ) bd) Set.univ k Q)
        -∗ wp frame (wpE defs 𝒱 (c : Thread nD τ) bd) Set.univ (storeBlock O b w (hd (2 * w.val)) (hd (2 * w.val + 1)) k) Q) := by
  unfold storeBlock OutAt
  iintro ⟨%f, %hf, H⟩ Hk
  iapply (wp_load 𝒱 (c : Thread nD τ) bd Set.univ (Finset.subset_univ _)) $$ H
  iintro H
  iapply (wp_store 𝒱 (c : Thread nD τ) bd Set.univ (m := O.m) (r := O.r b w) (w := twoHeads b (hd (2 * w.val)) (hd (2 * w.val + 1))) (Mk := Finset.univ) (Finset.subset_univ _)) $$ H
  iintro H
  iapply Hk
  iexists ((O.m.access (O.r b w)).write (Elt F) f (twoHeads b (hd (2 * w.val)) (hd (2 * w.val + 1))) Finset.univ)
  isplitr
  · ipureintro; exact hf.next b w
  iexact H

theorem wp_storeUnit {Q : α → sProp 𝕄} (O : OutBuf) (hd : ℕ → FVec F S64x128 .f32) (w : Fin O.nw) (k : Prog (TpuEff nD τ sig (Elt F) Λ₀ .tc) α) :
    (OutAt c O hd (8 * w.val) : sProp 𝕄)
      ⊢ iprop((OutAt c O hd (8 * (w.val + 1)) -∗ wp frame (wpE defs 𝒱 (c : Thread nD τ) bd) Set.univ k Q)
        -∗ wp frame (wpE defs 𝒱 (c : Thread nD τ) bd) Set.univ (storeUnit O w (hd (2 * w.val)) (hd (2 * w.val + 1)) k) Q) := by
  unfold storeUnit
  iintro H Hk
  iapply (wp_storeBlock c 𝒱 bd O hd 0 w _) $$ H
  iintro H
  iapply (wp_storeBlock c 𝒱 bd O hd 1 w _) $$ H
  iintro H
  iapply (wp_storeBlock c 𝒱 bd O hd 2 w _) $$ H
  iintro H
  iapply (wp_storeBlock c 𝒱 bd O hd 3 w _) $$ H
  iintro H
  iapply (wp_storeBlock c 𝒱 bd O hd 4 w _) $$ H
  iintro H
  iapply (wp_storeBlock c 𝒱 bd O hd 5 w _) $$ H
  iintro H
  iapply (wp_storeBlock c 𝒱 bd O hd 6 w _) $$ H
  iintro H
  iapply (wp_storeBlock c 𝒱 bd O hd 7 w _) $$ H
  iexact Hk

variable (C S : S64x128.Idx → Elt F .f32)

/-- The two tables. -/
def Trig : sProp 𝕄 := iprop((arg25.view.loc (c : Thread nD τ) ↦{fullShare} C) ∗ (arg26.view.loc (c : Thread nD τ) ↦{fullShare} S))

theorem wp_head {Q : α → sProp 𝕄} (rope : Bool) (z : FVec F S64x128 .f32) (k : FVec F S64x128 .f32 → Prog (TpuEff nD τ sig (Elt F) Λ₀ .tc) α) :
    (Trig c C S : sProp 𝕄)
      ⊢ iprop((Trig c C S -∗ wp frame (wpE defs 𝒱 (c : Thread nD τ) bd) Set.univ (k (rot rope C S z)) Q)
        -∗ wp frame (wpE defs 𝒱 (c : Thread nD τ) bd) Set.univ (head rope z k) Q) := by
  cases rope
  · iintro H Hk
    iapply Hk
    iexact H
  · unfold Trig
    iintro ⟨H1, H2⟩ Hk
    unfold head
    iapply (wp_load 𝒱 (c : Thread nD τ) bd Set.univ (Finset.subset_univ _)) $$ H1
    iintro H1
    iapply (wp_load 𝒱 (c : Thread nD τ) bd Set.univ (Finset.subset_univ _)) $$ H2
    iintro H2
    iapply Hk
    isplitl [H1]; · iexact H1
    iexact H2

theorem wp_pair {Q : α → sProp 𝕄} (O : OutBuf) (rope : Bool) (base n : ℕ) (hb : base + n < 14) (hw : 2 * n + 1 < O.nw) (s : Mxu F) (k : Mxu F → Prog (TpuEff nD τ sig (Elt F) Λ₀ .tc) α) :
    iprop(Trig c C S ∗ OutAt c O (headOf s rope C S base) (8 * (2 * n)) : sProp 𝕄)
      ⊢ iprop((iprop(Trig c C S ∗ OutAt c O (headOf s rope C S base) (8 * (2 * (n + 1)))) -∗ wp frame (wpE defs 𝒱 (c : Thread nD τ) bd) Set.univ (k (popTo s (base + n + 1))) Q)
        -∗ wp frame (wpE defs 𝒱 (c : Thread nD τ) bd) Set.univ (pair O rope ⟨base + n, hb⟩ ⟨2 * n, by omega⟩ ⟨2 * n + 1, hw⟩ (popTo s (base + n)) k) Q) := by
  have hd (j : ℕ) (hj : j < 4) : headOf s rope C S base (4 * n + j) = rot rope C S ((if j % 2 = 0 then left else right) (accOf (if j / 2 = 0 then 0 else 1) ⟨base + n, hb⟩ s)) := by
    unfold headOf
    have e1 : (4 * n + j) % 2 = j % 2 := by omega
    have e2 : (4 * n + j) / 2 % 2 = j / 2 := by omega
    have e3 : (⟨(base + (4 * n + j) / 4) % 14, Nat.mod_lt _ (by decide)⟩ : Fin 14) = ⟨base + n, hb⟩ := Fin.ext (by show (base + (4 * n + j) / 4) % 14 = base + n; rw [show (4 * n + j) / 4 = n by omega]; exact Nat.mod_eq_of_lt hb)
    rw [e1, e2, e3]
  have h0 : rot rope C S (left (accOf 0 ⟨base + n, hb⟩ (popTo s (base + n)))) = headOf s rope C S base (2 * (2 * n)) := by
    rw [read_popTo s 0 ⟨base + n, hb⟩ (base + n) le_rfl, show 2 * (2 * n) = 4 * n + 0 by omega, hd 0 (by decide)]; rfl
  have h1 : rot rope C S (right (accOf 0 ⟨base + n, hb⟩ (popTo s (base + n)))) = headOf s rope C S base (2 * (2 * n) + 1) := by
    rw [read_popTo s 0 ⟨base + n, hb⟩ (base + n) le_rfl, show 2 * (2 * n) + 1 = 4 * n + 1 by omega, hd 1 (by decide)]; rfl
  have h2 : rot rope C S (left (accOf 1 ⟨base + n, hb⟩ (popOf 0 ⟨base + n, hb⟩ (popTo s (base + n))))) = headOf s rope C S base (2 * (2 * n + 1)) := by
    rw [read_popOf, read_popTo s 1 ⟨base + n, hb⟩ (base + n) le_rfl, show 2 * (2 * n + 1) = 4 * n + 2 by omega, hd 2 (by decide)]; rfl
  have h3 : rot rope C S (right (accOf 1 ⟨base + n, hb⟩ (popOf 0 ⟨base + n, hb⟩ (popTo s (base + n))))) = headOf s rope C S base (2 * (2 * n + 1) + 1) := by
    rw [read_popOf, read_popTo s 1 ⟨base + n, hb⟩ (base + n) le_rfl, show 2 * (2 * n + 1) + 1 = 4 * n + 3 by omega, hd 3 (by decide)]; rfl
  have hw0 : 2 * n < O.nw := by omega
  unfold pair
  iintro ⟨HT, HO⟩ Hk
  iapply (wp_head c 𝒱 bd C S rope _ _) $$ HT
  iintro HT
  iapply (wp_head c 𝒱 bd C S rope _ _) $$ HT
  iintro HT
  iapply (wp_head c 𝒱 bd C S rope _ _) $$ HT
  iintro HT
  iapply (wp_head c 𝒱 bd C S rope _ _) $$ HT
  iintro HT
  rw [h0, h1, h2, h3]
  iapply (wp_storeUnit c 𝒱 bd O (headOf s rope C S base) ⟨2 * n, hw0⟩ _) $$ HO
  iintro HO
  iapply (wp_storeUnit c 𝒱 bd O (headOf s rope C S base) ⟨2 * n + 1, hw⟩ _) $$ HO
  iintro HO
  rw [← popTo_succ s ⟨base + n, hb⟩]
  iapply Hk
  isplitl [HT]; · iexact HT
  iexact HO

theorem wp_pairs {Q : α → sProp 𝕄} (O : OutBuf) (rope : Bool) (base n : ℕ) (h : base + n ≤ 14) (hw : 2 * n ≤ O.nw) (s : Mxu F) (k : Mxu F → Prog (TpuEff nD τ sig (Elt F) Λ₀ .tc) α) :
    iprop(Trig c C S ∗ OutAt c O (headOf s rope C S base) 0 : sProp 𝕄)
      ⊢ iprop((iprop(Trig c C S ∗ OutAt c O (headOf s rope C S base) (8 * (2 * n))) -∗ wp frame (wpE defs 𝒱 (c : Thread nD τ) bd) Set.univ (k (popTo s (base + n))) Q)
        -∗ wp frame (wpE defs 𝒱 (c : Thread nD τ) bd) Set.univ (pairs O rope base n h hw (popTo s base) k) Q) := by
  induction n generalizing k with
  | zero =>
    iintro H Hk
    unfold pairs
    iapply Hk
    iexact H
  | succ n ih =>
    unfold pairs
    iintro H Hk
    have h1 : base + n ≤ 14 := by omega
    have h2 : 2 * n ≤ O.nw := by omega
    have h3 : base + n < 14 := by omega
    have h4 : 2 * n + 1 < O.nw := by omega
    iapply (ih h1 h2 _) $$ H
    iintro H
    iapply (wp_pair c 𝒱 bd C S O rope base n h3 h4 s k) $$ H
    iexact Hk

variable [Infinite Name] (EC : UEmb Counters (MT nD τ sig Ix (Elt F) Name U Lvl)) (ι : Ix)

/-- One whole copy under way. -/
def Sent {sp sp' : Space} {s : Shape} {e : EltTy} (src : Memref sig .tc sp s e) (dst : Memref sig .tc sp' s e) (sem : DmaSem sig)
    (fs : src.view.ty.Contents (Elt F)) : sProp 𝕄 :=
  iprop(∃ fd : dst.view.ty.Contents (Elt F), Transfers.Flight EC (c : Thread nD τ) (.dma sem) ι dst.view.dmaCredit
    iprop((dst.view.loc (c : Thread nD τ) ↦{fullShare} (dst.view.write (Elt F) fd (src.view.read (Elt F) fs) Finset.univ)) ∗ (src.view.loc (c : Thread nD τ) ↦{fullShare} fs)))

/-- A whole copy landed: the destination reads what the source reads. -/
def Got {sp' : Space} {s : Shape} {e : EltTy} (dst : Memref sig .tc sp' s e) (w : s.Idx → Elt F e) : sProp 𝕄 :=
  iprop(∃ g, ⌜dst.view.read (Elt F) g = w⌝ ∗ (dst.view.loc (c : Thread nD τ) ↦{fullShare} g))

theorem wp_send [EC.LandsIn (upEmb : UEmb _ 𝕄)] {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (p := (c : Thread nD τ).2) sp (.dma sem) (.here dst)}
    {Q : α → sProp 𝕄} (es : src.view.set = Finset.univ) (ha : 0 < dst.view.dmaCredit) (fs : src.view.ty.Contents (Elt F))
    (k : PUnit → Prog (TpuEff nD τ sig (Elt F) Λ₀ .tc) α) :
    iprop((src.view.loc (c : Thread nD τ) ↦{fullShare} fs) ∗ (∃ fd, dst.view.loc (c : Thread nD τ) ↦{fullShare} fd) ∗ semVal ((c : Thread nD τ), SemLoc.dma sem) 0)
      ⊢ iprop((Sent c EC ι src dst sem fs -∗ wp frame (wpE defs 𝒱 (c : Thread nD τ) bd) Set.univ (k ⟨⟩) Q)
        -∗ wp frame (wpE defs 𝒱 (c : Thread nD τ) bd) Set.univ (.op (.enqueueDma src (.here dst) (.dma sem) hsrc hdst hsem) k) Q) := by
  unfold Sent
  iintro ⟨Hs, ⟨%fd, Hd⟩, Hv⟩ Hk
  iapply (Transfers.wp_dmaLocal EC 𝒱 (c : Thread nD τ) bd (via := ReadAs.same) (q := fullShare) (fs := fs) (fd := fd) (Sd := Finset.univ) ι dst.view.dmaCredit rfl ha (Finset.subset_univ _)) $$ [Hs Hd Hv]
  · rw [es]
    isplitl [Hs]; · iexact Hs
    isplitl [Hd]; · iexact Hd
    iexact Hv
  rw [es]
  iintro H
  iapply Hk
  iexists fd
  iexact H

theorem wp_recv [EC.LandsIn (upEmb : UEmb _ 𝕄)] {sp sp' : Space} {s : Shape} {e : EltTy} {src : Memref sig .tc sp s e} {dst : Memref sig .tc sp' s e} {sem : DmaSem sig}
    {hsrc : src.view.WordExact} {hdst : dst.view.WordExact} {Q : α → sProp 𝕄} (fs : src.view.ty.Contents (Elt F)) {W : Waits sig Ix}
    (k : PUnit → Prog (TpuEff nD τ sig (Elt F) Λ₀ .tc) α) :
    iprop(Sent c EC ι src dst sem fs ∗ owes (c : Thread nD τ) 0 W)
      ⊢ iprop((iprop(Got c dst (src.view.read (Elt F) fs) ∗ (src.view.loc (c : Thread nD τ) ↦{fullShare} fs) ∗ semVal ((c : Thread nD τ), SemLoc.dma sem) 0 ∗ (∃ W', owes (c : Thread nD τ) 0 W'))
          -∗ wp frame (wpE defs 𝒱 (c : Thread nD τ) bd) Set.univ (k ⟨⟩) Q)
        -∗ wp frame (wpE defs 𝒱 (c : Thread nD τ) bd) Set.univ (.op (.waitDma2 sem src dst hsrc hdst) k) Q) := by
  unfold Sent Got
  iintro ⟨⟨%fd, HF⟩, HW⟩ Hk
  iapply (Transfers.wp_waitLocal EC 𝒱 (c : Thread nD τ) bd ι rfl) $$ [HF HW]
  · isplitl [HF]; · iexact HF
    iexact HW
  iintro ⟨⟨Hd, Hs⟩, Hv, HW⟩
  iapply Hk
  isplitl [Hd]
  · iexists _
    isplitr
    · ipureintro; exact View.read_write_univ fd _
    iexact Hd
  isplitl [Hs]; · iexact Hs
  isplitl [Hv]; · iexact Hv
  iexists _
  iexact HW

/-- What is left of a result's buffer and semaphore, and the result. -/
def Done (O : OutBuf) (dst : Memref sig .tc .hbm (SOut O.nw) .bf16) (sem : DmaSem sig) (hd : ℕ → FVec F S64x128 .f32) : sProp 𝕄 :=
  iprop(Got c dst (outFun O.nw hd) ∗ (∃ f, O.m.view.loc (c : Thread nD τ) ↦{fullShare} f) ∗ semVal ((c : Thread nD τ), SemLoc.dma sem) 0)

/-- What a result needs. -/
def Ready (O : OutBuf) (dst : Memref sig .tc .hbm (SOut O.nw) .bf16) (sem : DmaSem sig) : sProp 𝕄 :=
  iprop((∃ fd, dst.view.loc (c : Thread nD τ) ↦{fullShare} fd) ∗ (∃ f, O.m.view.loc (c : Thread nD τ) ↦{fullShare} f) ∗ semVal ((c : Thread nD τ), SemLoc.dma sem) 0)

theorem wp_out [EC.LandsIn (upEmb : UEmb _ 𝕄)] {Q : α → sProp 𝕄} (O : OutBuf) (dst : Memref sig .tc .hbm (SOut O.nw) .bf16) (sem : DmaSem sig)
    {hsrc : O.m.view.WordExact} {hdst : dst.view.WordExact} {hsem : DmaTarget.Typed (nD := nD) (p := (c : Thread nD τ).2) .vmem (.dma sem) (.here dst)}
    (es : O.m.view.set = Finset.univ) (ha : 0 < dst.view.dmaCredit)
    (rope : Bool) (base n : ℕ) (h : base + n ≤ 14) (hw : 2 * n ≤ O.nw) (hn : 2 * n = O.nw) (s : Mxu F) (k : Mxu F → Prog (TpuEff nD τ sig (Elt F) Λ₀ .tc) α) :
    iprop(Trig c C S ∗ Ready c O dst sem : sProp 𝕄)
      ⊢ iprop((∀ fs, iprop(⌜O.m.view.read (Elt F) fs = outFun O.nw (headOf s rope C S base)⌝ ∗ Trig c C S ∗ Sent c EC ι O.m dst sem fs) -∗ wp frame (wpE defs 𝒱 (c : Thread nD τ) bd) Set.univ (k (popTo s (base + n))) Q)
        -∗ wp frame (wpE defs 𝒱 (c : Thread nD τ) bd) Set.univ (pairs O rope base n h hw (popTo s base) fun s => .op (.enqueueDma O.m (.here dst) (.dma sem) hsrc hdst hsem) fun _ => k s) Q) := by
  unfold Ready
  iintro ⟨HT, Hd, ⟨%f, Hf⟩, Hv⟩ Hk
  iapply (wp_pairs c 𝒱 bd C S O rope base n h hw s _) $$ [HT Hf]
  · isplitl [HT]; · iexact HT
    unfold OutAt
    iexists f
    isplitr
    · ipureintro; exact Stored.zero O _ f
    iexact Hf
  unfold OutAt
  iintro ⟨HT, ⟨%fs, %hfs, Hf⟩⟩
  iapply (wp_send c 𝒱 bd EC ι es ha fs _) $$ [Hd Hf Hv]
  · isplitl [Hf]; · iexact Hf
    isplitl [Hd]; · iexact Hd
    iexact Hv
  iintro HS
  iapply Hk $$ %fs
  isplitr
  · ipureintro
    exact Stored.all (by rw [← hn]; exact hfs)
  isplitl [HT]; · iexact HT
  iexact HS

include ι in
theorem wp_outs [EC.LandsIn (upEmb : UEmb _ 𝕄)] {Q : PUnit → sProp 𝕄} (s : Mxu F) (hs : Empty s) (hl : ∀ q (R : Fin 1024), 896 ≤ R.val → s.live q R = false) {W : Waits sig Ix} :
    iprop(Trig c C S ∗ Ready c outQ arg10 semQ ∗ Ready c outK arg11 semK ∗ Ready c outV arg12 semV ∗ owes (c : Thread nD τ) 0 W : sProp 𝕄)
      ⊢ iprop((iprop(Trig c C S ∗ Done c outQ arg10 semQ (headOf s true C S 0) ∗ Done c outK arg11 semK (headOf s true C S 10) ∗ Done c outV arg12 semV (headOf s false C S 12) ∗ (∃ W', owes (c : Thread nD τ) 0 W')) -∗ Q ⟨⟩)
        -∗ wp frame (wpE defs 𝒱 (c : Thread nD τ) bd) Set.univ (outs s) Q) := by
  unfold outs
  iintro ⟨HT, HQ, HK, HV, HW⟩ Hk
  iapply (wp_out c 𝒱 bd C S EC ι outQ arg10 semQ (View.set_whole _) (by decide) true 0 10 _ _ rfl s _) $$ [HT HQ]
  · isplitl [HT]; · iexact HT
    iexact HQ
  iintro %fq ⟨%hq, HT, HQ⟩
  iapply (wp_out c 𝒱 bd C S EC ι outK arg11 semK (View.set_whole _) (by decide) true 10 2 _ _ rfl s _) $$ [HT HK]
  · isplitl [HT]; · iexact HT
    iexact HK
  iintro %fk ⟨%hk, HT, HK⟩
  iapply (wp_out c 𝒱 bd C S EC ι outV arg12 semV (View.set_whole _) (by decide) false 12 2 _ _ rfl s _) $$ [HT HV]
  · isplitl [HT]; · iexact HT
    iexact HV
  iintro %fv ⟨%hv, HT, HV⟩
  iapply (wp_recv c 𝒱 bd EC ι (src := outQ.m) (dst := arg10) fq _) $$ [HQ HW]
  · isplitl [HQ]; · iexact HQ
    iexact HW
  iintro ⟨HQ, HQb, HQs, ⟨%W1, HW⟩⟩
  iapply (wp_recv c 𝒱 bd EC ι (src := outK.m) (dst := arg11) fk _) $$ [HK HW]
  · isplitl [HK]; · iexact HK
    iexact HW
  iintro ⟨HK, HKb, HKs, ⟨%W2, HW⟩⟩
  iapply (wp_recv c 𝒱 bd EC ι (src := outV.m) (dst := arg12) fv _) $$ [HV HW]
  · isplitl [HV]; · iexact HV
    iexact HW
  iintro ⟨HV, HVb, HVs, HW⟩
  rw [hq, hk, hv]
  iapply (Mxu.wp_exit (popTo_drained s hs hl))
  rw [wp_ret]; imodintro
  iapply Hk
  unfold Done
  isplitl [HT]; · iexact HT
  isplitl [HQ HQb HQs]
  · isplitl [HQ]; · iexact HQ
    isplitl [HQb]
    · iexists fq; iexact HQb
    iexact HQs
  isplitl [HK HKb HKs]
  · isplitl [HK]; · iexact HK
    isplitl [HKb]
    · iexists fk; iexact HKb
    iexact HKs
  isplitl [HV HVb HVs]
  · isplitl [HV]; · iexact HV
    isplitl [HVb]
    · iexists fv; iexact HVb
    iexact HVs
  iexact HW

end Rules

end Cert.KernelIdeal.Hand
-- ==== Proof.Front.lean ====
/-
  The head of the kernel: the small copies, the tables of cosines and sines, the rows' inverse norms, the permutation of the
  lanes, and the first two tiles of activations.
-/
module

public import proofs.«01_k».proof.Proof.Out

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The permutation of the lanes, as the kernel computes it -/

/-- The lanes' numbers, and the first remainders taken of them. -/
def lanesA : Σ' (_ : IVec S64x128 32) (_ : BitVec 32) (_ : IVec S64x128 32) (_ : IVec S64x128 1) (_ : IVec S64x128 1), IVec S64x128 1 :=
  have v58 : IVec S64x128 32 := iota .tc S64x128 32 [1] iota_S64x128_d1_w32
  let c32_i32 : BitVec 32 := 32#32
  let c0_i32_23 : BitVec 32 := 0#32
  let v59 : BitVec 1 := Scalar.cmpi .eq c32_i32 c0_i32_23
  let c1_i32_24 : BitVec 32 := 1#32
  let v60 : BitVec 32 := Scalar.select v59 c1_i32_24 c32_i32
  have v61 : IVec S64x128 32 := broadcast S64x128 v60
  have v62 : IVec S64x128 32 := remsi v58 v61
  let c0_i32_25 : BitVec 32 := 0#32
  have v63 : IVec S64x128 32 := broadcast S64x128 c0_i32_25
  have v64 : IVec S64x128 1 := cmpi .ne v62 v63
  let c0_i32_26 : BitVec 32 := 0#32
  have v65 : IVec S64x128 32 := broadcast S64x128 c0_i32_26
  have v66 : IVec S64x128 1 := cmpi .slt v62 v65
  let c0_i32_27 : BitVec 32 := 0#32
  let v67 : BitVec 1 := Scalar.cmpi .slt v60 c0_i32_27
  have v68 : IVec S64x128 1 := broadcast S64x128 v67
  have v69 : IVec S64x128 1 := broadcastTo S64x128 v68 broadcasts_S64x128_S64x128
  ⟨v58, v60, v62, v64, v66, v69⟩

/-- The lane within its half, and the first two terms. -/
def lanesB (v58 : IVec S64x128 32) (v60 : BitVec 32) (v62 : IVec S64x128 32) (v64 : IVec S64x128 1) (v66 : IVec S64x128 1) (v69 : IVec S64x128 1) : Σ' (_ : IVec S64x128 32) (_ : IVec S64x128 32) (_ : IVec S64x128 32) (_ : IVec S64x128 1), BitVec 32 :=
  have v70 : IVec S64x128 1 := xori v66 v69
  have v71 : IVec S64x128 1 := andi v70 v64
  have v72 : IVec S64x128 32 := broadcast S64x128 v60
  have v73 : IVec S64x128 32 := addi v62 v72
  have v74 : IVec S64x128 32 := select v71 v73 v62
  have v75 : IVec S64x128 32 := subi v58 v74
  let c2_i32_28 : BitVec 32 := 2#32
  let c0_i32_29 : BitVec 32 := 0#32
  let v76 : BitVec 1 := Scalar.cmpi .eq c2_i32_28 c0_i32_29
  let c1_i32_30 : BitVec 32 := 1#32
  let v77 : BitVec 32 := Scalar.select v76 c1_i32_30 c2_i32_28
  have v78 : IVec S64x128 32 := broadcast S64x128 v77
  have v79 : IVec S64x128 32 := remsi v74 v78
  let c0_i32_31 : BitVec 32 := 0#32
  have v80 : IVec S64x128 32 := broadcast S64x128 c0_i32_31
  have v81 : IVec S64x128 1 := cmpi .ne v79 v80
  let c0_i32_32 : BitVec 32 := 0#32
  have v82 : IVec S64x128 32 := broadcast S64x128 c0_i32_32
  have v83 : IVec S64x128 1 := cmpi .slt v79 v82
  let c0_i32_33 : BitVec 32 := 0#32
  let v84 : BitVec 1 := Scalar.cmpi .slt v77 c0_i32_33
  have v85 : IVec S64x128 1 := broadcast S64x128 v84
  have v86 : IVec S64x128 1 := broadcastTo S64x128 v85 broadcasts_S64x128_S64x128
  have v87 : IVec S64x128 1 := xori v83 v86
  have v88 : IVec S64x128 1 := andi v87 v81
  have v89 : IVec S64x128 32 := broadcast S64x128 v77
  have v90 : IVec S64x128 32 := addi v79 v89
  have v91 : IVec S64x128 32 := select v88 v90 v79
  let c16_i32 : BitVec 32 := 16#32
  have v92 : IVec S64x128 32 := broadcast S64x128 c16_i32
  have v93 : IVec S64x128 32 := muli v92 v91
  have v94 : IVec S64x128 32 := addi v75 v93
  let c16_i32_34 : BitVec 32 := 16#32
  have v95 : IVec S64x128 32 := broadcast S64x128 c16_i32_34
  have v96 : IVec S64x128 32 := divsi v74 v95
  let c0_i32_35 : BitVec 32 := 0#32
  have v97 : IVec S64x128 32 := broadcast S64x128 c0_i32_35
  have v98 : IVec S64x128 1 := cmpi .sgt v74 v97
  have v99 : IVec S64x128 32 := extui 32 v98 natLt_1_32
  let c0_i32_36 : BitVec 32 := 0#32
  have v100 : IVec S64x128 32 := broadcast S64x128 c0_i32_36
  have v101 : IVec S64x128 1 := cmpi .slt v74 v100
  have v102 : IVec S64x128 32 := extui 32 v101 natLt_1_32
  have v103 : IVec S64x128 32 := subi v99 v102
  let c0_i32_37 : BitVec 32 := 0#32
  let v104 : BitVec 1 := Scalar.cmpi .sgt c16_i32_34 c0_i32_37
  let v105 : BitVec 32 := Scalar.extui v104
  let c0_i32_38 : BitVec 32 := 0#32
  let v106 : BitVec 1 := Scalar.cmpi .slt c16_i32_34 c0_i32_38
  let v107 : BitVec 32 := Scalar.extui v106
  let v108 : BitVec 32 := Scalar.subi v105 v107
  have v109 : IVec S64x128 32 := broadcast S64x128 v108
  have v110 : IVec S64x128 1 := cmpi .ne v103 v109
  have v111 : IVec S64x128 32 := broadcast S64x128 c16_i32_34
  have v112 : IVec S64x128 32 := remsi v74 v111
  let c0_i32_39 : BitVec 32 := 0#32
  have v113 : IVec S64x128 32 := broadcast S64x128 c0_i32_39
  have v114 : IVec S64x128 1 := cmpi .ne v112 v113
  have v115 : IVec S64x128 1 := andi v110 v114
  let c1_i32_40 : BitVec 32 := 1#32
  ⟨v74, v94, v96, v115, c1_i32_40⟩

/-- The other two terms. -/
def lanesC (v74 : IVec S64x128 32) (v94 : IVec S64x128 32) (v96 : IVec S64x128 32) (v115 : IVec S64x128 1) (c1_i32_40 : BitVec 32) : Σ' (_ : IVec S64x128 32), IVec S64x128 32 :=
  have v116 : IVec S64x128 32 := broadcast S64x128 c1_i32_40
  have v117 : IVec S64x128 32 := subi v96 v116
  have v118 : IVec S64x128 32 := select v115 v117 v96
  let c8_i32 : BitVec 32 := 8#32
  have v119 : IVec S64x128 32 := broadcast S64x128 c8_i32
  have v120 : IVec S64x128 32 := muli v119 v118
  have v121 : IVec S64x128 32 := addi v94 v120
  let c16_i32_41 : BitVec 32 := 16#32
  let c0_i32_42 : BitVec 32 := 0#32
  let v122 : BitVec 1 := Scalar.cmpi .eq c16_i32_41 c0_i32_42
  let c1_i32_43 : BitVec 32 := 1#32
  let v123 : BitVec 32 := Scalar.select v122 c1_i32_43 c16_i32_41
  have v124 : IVec S64x128 32 := broadcast S64x128 v123
  have v125 : IVec S64x128 32 := remsi v74 v124
  let c0_i32_44 : BitVec 32 := 0#32
  have v126 : IVec S64x128 32 := broadcast S64x128 c0_i32_44
  have v127 : IVec S64x128 1 := cmpi .ne v125 v126
  let c0_i32_45 : BitVec 32 := 0#32
  have v128 : IVec S64x128 32 := broadcast S64x128 c0_i32_45
  have v129 : IVec S64x128 1 := cmpi .slt v125 v128
  let c0_i32_46 : BitVec 32 := 0#32
  let v130 : BitVec 1 := Scalar.cmpi .slt v123 c0_i32_46
  have v131 : IVec S64x128 1 := broadcast S64x128 v130
  have v132 : IVec S64x128 1 := broadcastTo S64x128 v131 broadcasts_S64x128_S64x128
  have v133 : IVec S64x128 1 := xori v129 v132
  have v134 : IVec S64x128 1 := andi v133 v127
  have v135 : IVec S64x128 32 := broadcast S64x128 v123
  have v136 : IVec S64x128 32 := addi v125 v135
  have v137 : IVec S64x128 32 := select v134 v136 v125
  let c2_i32_47 : BitVec 32 := 2#32
  have v138 : IVec S64x128 32 := broadcast S64x128 c2_i32_47
  have v139 : IVec S64x128 32 := divsi v137 v138
  let c0_i32_48 : BitVec 32 := 0#32
  have v140 : IVec S64x128 32 := broadcast S64x128 c0_i32_48
  have v141 : IVec S64x128 1 := cmpi .sgt v137 v140
  have v142 : IVec S64x128 32 := extui 32 v141 natLt_1_32
  let c0_i32_49 : BitVec 32 := 0#32
  have v143 : IVec S64x128 32 := broadcast S64x128 c0_i32_49
  have v144 : IVec S64x128 1 := cmpi .slt v137 v143
  have v145 : IVec S64x128 32 := extui 32 v144 natLt_1_32
  have v146 : IVec S64x128 32 := subi v142 v145
  let c0_i32_50 : BitVec 32 := 0#32
  let v147 : BitVec 1 := Scalar.cmpi .sgt c2_i32_47 c0_i32_50
  let v148 : BitVec 32 := Scalar.extui v147
  let c0_i32_51 : BitVec 32 := 0#32
  let v149 : BitVec 1 := Scalar.cmpi .slt c2_i32_47 c0_i32_51
  let v150 : BitVec 32 := Scalar.extui v149
  let v151 : BitVec 32 := Scalar.subi v148 v150
  have v152 : IVec S64x128 32 := broadcast S64x128 v151
  have v153 : IVec S64x128 1 := cmpi .ne v146 v152
  have v154 : IVec S64x128 32 := broadcast S64x128 c2_i32_47
  have v155 : IVec S64x128 32 := remsi v137 v154
  let c0_i32_52 : BitVec 32 := 0#32
  have v156 : IVec S64x128 32 := broadcast S64x128 c0_i32_52
  have v157 : IVec S64x128 1 := cmpi .ne v155 v156
  have v158 : IVec S64x128 1 := andi v153 v157
  let c1_i32_53 : BitVec 32 := 1#32
  have v159 : IVec S64x128 32 := broadcast S64x128 c1_i32_53
  have v160 : IVec S64x128 32 := subi v139 v159
  have v161 : IVec S64x128 32 := select v158 v160 v139
  ⟨v121, v161⟩

/-- The lanes the permutation gathers from. -/
def perm : IVec S64x128 32 :=
  let a := lanesA
  let b := lanesB a.1 a.2.1 a.2.2.1 a.2.2.2.1 a.2.2.2.2.1 a.2.2.2.2.2
  let d := lanesC b.1 b.2.1 b.2.2.1 b.2.2.2.1 b.2.2.2.2
  addi d.1 d.2

/-! ### The tables, and the rows' inverse norms -/

/-- Position times inverse frequency. -/
def angle (pos : Vec F S1x64 .i32) (freq : Vec F S1x128 .f32) : FVec F S64x128 .f32 :=
  mulf (broadcastTo S64x128 (shapeCast S64x1 (multiReduction .add [1] S64
      (select (cmpi .eq (iota .tc S64x64 32 [0] iota_S64x64_d0_w32) (iota .tc S64x64 32 [1] iota_S64x64_d1_w32))
        (broadcastTo S64x64 (shapeCast S1x64 (sitofp .f32 pos) shapeCasts_S1x64_S1x64) broadcasts_S1x64_S64x64)
        (broadcast S64x64 (Scalar.ofBits .f32 0x00000000#32 : F .f32))) 0x00000000#32 reduces_S64x64_S64 (.inl rfl) rfl) shapeCasts_S64_S64x1) broadcasts_S64x1_S64x128)
    (broadcastTo S64x128 freq broadcasts_S1x128_S64x128)

/-- The lanes' numbers. -/
abbrev lanes : IVec S64x128 32 := iota .tc S64x128 32 [1] iota_S64x128_d1_w32

/-- The sines, negated in the first half of the lanes. -/
def signed (a : FVec F S64x128 .f32) (l : IVec S64x128 32) : FVec F S64x128 .f32 :=
  select (cmpi .slt l (broadcast S64x128 64#32)) (subf (broadcast S64x128 (Scalar.ofBits .f32 0x00000000#32 : F .f32)) (sin a)) (sin a)

/-- The rows' inverse norms, from their lanes' sums of squares. -/
def invNorm (s : FVec F S64x128 .f32) : FVec F S64x128 .f32 :=
  broadcastTo S64x128 (shapeCast S64x1 (rsqrt (addf (divf
      (shapeCast S64x1 (multiReduction .add [1] S64 s 0x00000000#32 reduces_S64x128_S64 (.inl rfl) rfl) shapeCasts_S64_S64x1)
      (broadcast S64x1 (Scalar.ofBits .f32 0x45A00000#32 : F .f32))) (broadcast S64x1 (Scalar.ofBits .f32 0x358637BD#32 : F .f32)))) shapeCasts_S64x1_S64x1) broadcasts_S64x1_S64x128

/-- A tile's squares added. -/
abbrev addSquares (s : FVec F S64x128 .f32) (x : Vec F S64x128 .bf16) : FVec F S64x128 .f32 := addf s (mulf (extf .f32 x bitsLt_bf16_f32) (extf .f32 x bitsLt_bf16_f32))

/-- The small copies' semaphores. -/
abbrev semX : DmaSem sig := ((arg30.slice (Rect.unit (s := S4) ![0] S1.size inb_S4_S1_0)).squeeze S_ squeezes_S1_S_).sem
@[inherit_doc semX]
abbrev semN : DmaSem sig := ((arg30.slice (Rect.unit (s := S4) ![1] S1.size inb_S4_S1_1)).squeeze S_ squeezes_S1_S_).sem
@[inherit_doc semX]
abbrev semP : DmaSem sig := ((arg30.slice (Rect.unit (s := S4) ![2] S1.size inb_S4_S1_2)).squeeze S_ squeezes_S1_S_).sem
@[inherit_doc semX]
abbrev semF : DmaSem sig := ((arg30.slice (Rect.unit (s := S4) ![3] S1.size inb_S4_S1_3)).squeeze S_ squeezes_S1_S_).sem

/-- Whole loads of the small arrays. -/
abbrev rPos : Rect S1x64 := Rect.unit (s := S1x64) ![0, 0] S1x64.size inb_S1x64_S1x64_0_0
@[inherit_doc rPos]
abbrev rFreq : Rect S1x128 := Rect.unit (s := S1x128) ![0, 0] S1x128.size inb_S1x128_S1x128_0_0
@[inherit_doc rPos]
abbrev rNorm : Rect S40x128 := Rect.unit (s := S40x128) ![0, 0] S40x128.size inb_S40x128_S40x128_0_0

/-- The copies in, and the cosines. -/
def headA : Prog (TpuEff nD τ sig (Elt F) Λ₀ .tc) (Σ' (_ : Mxu F) (_ : FVec F S64x128 .f32), IVec S64x128 32) :=
  .op (.enqueueDma arg2 (.here arg16) (.dma semP) harg2.wordExact harg16.wordExact ⟨Or.inl rfl, trivial⟩) fun _ =>
  .op (.enqueueDma arg3 (.here arg17) (.dma semF) harg3.wordExact harg17.wordExact ⟨Or.inl rfl, trivial⟩) fun _ =>
  .op (.enqueueDma arg0 (.here arg13) (.dma semX) harg0.wordExact harg13.wordExact ⟨Or.inl rfl, trivial⟩) fun _ =>
  .op (.enqueueDma arg1 (.here arg14) (.dma semN) harg1.wordExact harg14.wordExact ⟨Or.inl rfl, trivial⟩) fun _ =>
  Prog.bind (Scf.Loop.for k0_t1_loop k0_t1_ok ⟨⟩ fun k _ => tripFirst k) fun _ =>
  .op (.waitDma2 semP arg2 arg16 harg2.wordExact harg16.wordExact) fun _ =>
  .op (.waitDma2 semF arg3 arg17 harg3.wordExact harg17.wordExact) fun _ =>
  .op (.load arg16 rPos.toLoadRect (View.loadsAt_vmem h_S1x64)) fun (pos : Vec F S1x64 .i32) =>
  .op (.load arg17 rFreq.toLoadRect (View.loadsAt_vmem h_S1x128)) fun (freq : Vec F S1x128 .f32) =>
  .op (.load arg25 rTrig.toLoadRect (View.loadsAt_vmem h_S64x128)) fun _ =>
  .op (.store arg25 rTrig (shapeCast S64x128 (cos (angle pos freq)) shapeCasts_S64x128_S64x128) Finset.univ (View.stores_vmem_bits_univ h_S64x128 rfl) (.inl rfl)) fun _ =>
  .ret ⟨Mxu.init, angle pos freq, lanes⟩

/-- The sines, the copies' ends, the inverse norms. -/
def headB (a : FVec F S64x128 .f32) (l : IVec S64x128 32) :
    Prog (TpuEff nD τ sig (Elt F) Λ₀ .tc) (Σ' (_ : FVec F S64x128 .f32) (_ : IVec S64x128 32) (_ : BitVec 32) (_ : IVec S64x128 32) (_ : IVec S64x128 1) (_ : IVec S64x128 1), IVec S64x128 1) :=
  .op (.load arg26 rTrig.toLoadRect (View.loadsAt_vmem h_S64x128)) fun _ =>
  .op (.store arg26 rTrig (shapeCast S64x128 (signed a l) shapeCasts_S64x128_S64x128) Finset.univ (View.stores_vmem_bits_univ h_S64x128 rfl) (.inl rfl)) fun _ =>
  .op (.waitDma2 semX arg0 arg13 harg0.wordExact harg13.wordExact) fun _ =>
  .op (.waitDma2 semN arg1 arg14 harg1.wordExact harg14.wordExact) fun _ =>
  Prog.bind (Scf.Loop.for k0_t2_loop k0_t2_ok (broadcast S64x128 (Scalar.ofBits .f32 0x00000000#32 : F .f32)) fun k s =>
    .op (.load arg13 (Rect.unit (s := S64x5120) (k0_off6 k) S64x128.size (k0_off6_inb k)).toLoadRect (View.loadsAt_vmem h_S64x128)) fun (x : Vec F S64x128 .bf16) => .ret (addSquares s x)) fun s =>
  .ret ⟨invNorm s, lanesA.1, lanesA.2.1, lanesA.2.2.1, lanesA.2.2.2.1, lanesA.2.2.2.2.1, lanesA.2.2.2.2.2⟩

/-- The norm's weights widened, the first two tiles. -/
def headC (r : FVec F S64x128 .f32) (p : IVec S64x128 32) : Prog (TpuEff nD τ sig (Elt F) Λ₀ .tc) (Σ' (_ : IVec S64x128 32) (_ : FVec F S64x128 .f32), IVec S64x128 32) :=
  .op (.load arg14 rNorm.toLoadRect (View.loadsAt_vmem h_S40x128)) fun (w : Vec F S40x128 .bf16) =>
  .op (.load arg15 rNorm.toLoadRect (View.loadsAt_vmem h_S40x128)) fun _ =>
  .op (.store arg15 rNorm (shapeCast S40x128 (extf .f32 w bitsLt_bf16_f32) shapeCasts_S40x128_S40x128) Finset.univ (View.stores_vmem_bits_univ h_S40x128 rfl) (.inl rfl)) fun _ =>
  begin' 0 r fun v => finish 0 v (idxOf p) <| begin' 1 r fun u => .ret ⟨p, u, idxOf p⟩

theorem part142_eq : k0_part142 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 = headA := by sl_kernel_rfl
theorem part143_eq (a : FVec F S64x128 .f32) : k0_part143 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 a lanes = headB a lanes := by sl_kernel_rfl
theorem part144_eq (v58 v60 v62 v64 v66 v69) : k0_part144 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v58 v60 v62 v64 v66 v69 = .ret ⟨(lanesB v58 v60 v62 v64 v66 v69).1, (lanesB v58 v60 v62 v64 v66 v69).2.1, (lanesB v58 v60 v62 v64 v66 v69).2.2.1, (lanesB v58 v60 v62 v64 v66 v69).2.2.2.1, (lanesB v58 v60 v62 v64 v66 v69).2.2.2.2⟩ := by sl_kernel_rfl
theorem part145_eq (v74 v94 v96 v115 k) : k0_part145 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v74 v94 v96 v115 k = .ret ⟨(lanesC v74 v94 v96 v115 k).1, (lanesC v74 v94 v96 v115 k).2⟩ := by sl_kernel_rfl
theorem part146_eq (r : FVec F S64x128 .f32) (a b) : k0_part146 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r a b = headC r (addi a b) := by sl_kernel_rfl

end Cert.KernelIdeal.Hand
-- ==== Proof.Head.lean ====
/-
  What the head of the kernel does: its copies land, the tables and the inverse norms are computed.
-/
module

public import proofs.«01_k».proof.Proof.Front

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of a whole two-dimensional array reads the array. -/
theorem read_whole2 {sp : Space} {a b : ℕ} {e : EltTy} (m : Memref sig .tc sp ⟨2, ![a, b]⟩ e) (hr : ∀ x, (![0, 0] : Fin 2 → ℕ) x + (⟨2, ![a, b]⟩ : Shape).size x ≤ (⟨2, ![a, b]⟩ : Shape).size x)
    (f : m.view.ty.Contents (Elt F)) :
    m.view.readAt (Elt F) (Rect.unit (s := ⟨2, ![a, b]⟩) ![0, 0] (⟨2, ![a, b]⟩ : Shape).size hr).toLoadRect f = m.view.read (Elt F) f := by
  funext x
  show m.view.read (Elt F) f ((Rect.unit (s := ⟨2, ![a, b]⟩) ![0, 0] (⟨2, ![a, b]⟩ : Shape).size hr).emb x) = m.view.read (Elt F) f x
  refine congrArg _ (funext fun i => Fin.ext ?_)
  fin_cases i
  · show 0 + 1 * (x 0).val = (x 0).val; omega
  · show 0 + 1 * (x 1).val = (x 1).val; omega

/-- A store over a whole two-dimensional array leaves the stored value. -/
theorem write_whole2 {sp : Space} {a b : ℕ} {e : EltTy} (m : Memref sig .tc sp ⟨2, ![a, b]⟩ e) (hr : ∀ x, (![0, 0] : Fin 2 → ℕ) x + (⟨2, ![a, b]⟩ : Shape).size x ≤ (⟨2, ![a, b]⟩ : Shape).size x)
    (f : m.view.ty.Contents (Elt F)) (w : (⟨2, ![a, b]⟩ : Shape).Idx → Elt F e) :
    m.view.read (Elt F) ((m.access (Rect.unit (s := ⟨2, ![a, b]⟩) ![0, 0] (⟨2, ![a, b]⟩ : Shape).size hr)).write (Elt F) f w Finset.univ) = w := by
  rw [← read_whole2 m hr]
  exact View.read_write_univ (v := m.access (Rect.unit (s := ⟨2, ![a, b]⟩) ![0, 0] (⟨2, ![a, b]⟩ : Shape).size hr)) f w

theorem shapeCast_self {s : Shape} {e : EltTy} (v : Vec F s e) (h : s.ShapeCasts s) : shapeCast s v h = v := by
  funext i
  rw [Idealize.ShloMosaic.shapeCast_apply]
  simp

/-- The sums of the tiles' squares, tile by tile. -/
def squares (X : S64x5120.Idx → Elt F .bf16) : ℕ → FVec F S64x128 .f32
  | 0 => broadcast S64x128 (Scalar.ofBits .f32 0x00000000#32 : F .f32)
  | n + 1 => addSquares (squares X n) (if h : n < 40 then arg13.view.readAt (Elt F) (rX ⟨n, h⟩).toLoadRect X else fun _ => FloatOps.ofBits .bf16 0)

theorem trips2 : k0_t2_loop.trips = 40 := by decide

set_option maxRecDepth 8192 in
theorem off6 : ∀ k : Fin k0_t2_loop.trips, k0_off6 k = ![0, 128 * k.val] := by decide

theorem read_off6 (X : S64x5120.Idx → Elt F .bf16) (k : Fin k0_t2_loop.trips) (n : Fin 40) (h : n.val = k.val) :
    arg13.view.readAt (Elt F) (Rect.unit (s := S64x5120) (k0_off6 k) S64x128.size (k0_off6_inb k)).toLoadRect X = arg13.view.readAt (Elt F) (rX n).toLoadRect X := by
  have e : k0_off6 k = ![0, 128 * n.val] := by rw [off6 k, h]
  have g : ∀ (o : Fin 2 → ℕ) (hi : ∀ a : Fin S64x5120.rank, o a + S64x128.size a ≤ S64x5120.size a), o = ![0, 128 * n.val] →
      arg13.view.readAt (Elt F) (Rect.unit (s := S64x5120) o S64x128.size hi).toLoadRect X = arg13.view.readAt (Elt F) (rX n).toLoadRect X := by
    rintro o hi rfl; rfl
  exact g _ (k0_off6_inb k) e

variable (c : Dev nD) (M : Src F)
variable {Ix : Type} [DecidableEq Ix] {Name : Type} [DecidableEq Name] [Infinite Name] {U : Type} [URA U] {Lvl : Type} [Preorder Lvl]
local notation "𝕄" => MT nD τ sig Ix (Elt F) Name U Lvl
variable (EC : UEmb Counters (MT nD τ sig Ix (Elt F) Name U Lvl)) (ι : Ix)
variable {defs : Defs nD τ sig (Elt F) Λ₀} (𝒱 : Variants) (bd : Option 𝒱.V)

/-- What a small copy in needs. -/
def InAt {sp sp' : Space} {s : Shape} {e : EltTy} (src : Memref sig .tc sp s e) (dst : Memref sig .tc sp' s e) (sem : DmaSem sig) (fs : src.view.ty.Contents (Elt F)) : sProp 𝕄 :=
  iprop((src.view.loc (c : Thread nD τ) ↦{fullShare} fs) ∗ (∃ fd, dst.view.loc (c : Thread nD τ) ↦{fullShare} fd) ∗ semVal ((c : Thread nD τ), SemLoc.dma sem) 0)

/-- What a small copy in leaves. -/
def InDone {sp sp' : Space} {s : Shape} {e : EltTy} (src : Memref sig .tc sp s e) (dst : Memref sig .tc sp' s e) (sem : DmaSem sig) (fs : src.view.ty.Contents (Elt F)) : sProp 𝕄 :=
  iprop(Got c dst (src.view.read (Elt F) fs) ∗ (src.view.loc (c : Thread nD τ) ↦{fullShare} fs) ∗ semVal ((c : Thread nD τ), SemLoc.dma sem) 0)

theorem wp_headA [EC.LandsIn (upEmb : UEmb _ 𝕄)] {Q : (Σ' (_ : Mxu F) (_ : FVec F S64x128 .f32), IVec S64x128 32) → sProp 𝕄} {W : Waits sig Ix}
    (fx : S64x5120.Idx → Elt F .bf16) (fn : S40x128.Idx → Elt F .bf16) (fp : S1x64.Idx → Elt F .i32) (ff : S1x128.Idx → Elt F .f32) :
    iprop(InAt c arg0 arg13 semX fx ∗ InAt c arg1 arg14 semN fn ∗ InAt c arg2 arg16 semP fp ∗ InAt c arg3 arg17 semF ff ∗
        (∃ f, arg25.view.loc (c : Thread nD τ) ↦{fullShare} f) ∗ bigSep Finset.univ (Idle c M) ∗ owes (c : Thread nD τ) 0 W : sProp 𝕄)
      ⊢ iprop((iprop(Sent c EC ι arg0 arg13 semX fx ∗ Sent c EC ι arg1 arg14 semN fn ∗ InDone c arg2 arg16 semP fp ∗ InDone c arg3 arg17 semF ff ∗
          (arg25.view.loc (c : Thread nD τ) ↦{fullShare} (cos (angle fp ff) : S64x128.Idx → Elt F .f32)) ∗ bigSep Finset.univ (stage3 c M EC ι 0) ∗ (∃ W', owes (c : Thread nD τ) 0 W'))
          -∗ Q ⟨Mxu.init, angle fp ff, lanes⟩)
        -∗ wp frame (wpE defs 𝒱 (c : Thread nD τ) bd) Set.univ headA Q) := by
  unfold headA InAt
  iintro ⟨HX, HN, HP, HF, ⟨%f25, HC⟩, HS, HW⟩ Hk
  iapply (wp_send c 𝒱 bd EC ι (src := arg2) (dst := arg16) (View.set_whole _) (by decide) fp _) $$ HP
  iintro HP
  iapply (wp_send c 𝒱 bd EC ι (src := arg3) (dst := arg17) (View.set_whole _) (by decide) ff _) $$ HF
  iintro HF
  iapply (wp_send c 𝒱 bd EC ι (src := arg0) (dst := arg13) (View.set_whole _) (by decide) fx _) $$ HX
  iintro HX
  iapply (wp_send c 𝒱 bd EC ι (src := arg1) (dst := arg14) (View.set_whole _) (by decide) fn _) $$ HN
  iintro HN
  iapply (Scf.wp_for_bind frame (wpE defs 𝒱 (c : Thread nD τ) bd) Set.univ k0_t1_loop.lb k0_t1_loop.ub k0_t1_loop.st k0_t1_ok ⟨⟩ (fun k _ => tripFirst k)
    (fun k _ => bigSep Finset.univ (stage1 c M EC ι k)) ?_) $$ [HS]
  · intro k acc
    iintro H
    iapply (wp_tripFirst c M EC ι 𝒱 bd k) $$ H
    iintro H
    iexact H
  · rw [stage1_zero]; iexact HS
  iintro %_ HS
  iapply (wp_recv c 𝒱 bd EC ι (src := arg2) (dst := arg16) fp _) $$ [HP HW]
  · isplitl [HP]; · iexact HP
    iexact HW
  unfold Got
  iintro ⟨⟨%gp, %hgp, HPd⟩, HPs, HPv, ⟨%W1, HW⟩⟩
  iapply (wp_recv c 𝒱 bd EC ι (src := arg3) (dst := arg17) ff _) $$ [HF HW]
  · isplitl [HF]; · iexact HF
    iexact HW
  unfold Got
  iintro ⟨⟨%gf, %hgf, HFd⟩, HFs, HFv, HW⟩
  iapply (wp_load 𝒱 (c : Thread nD τ) bd Set.univ (Finset.subset_univ _)) $$ HPd
  iintro HPd
  rw [show arg16.view.readAt (Elt F) rPos.toLoadRect gp = fp from (read_whole2 arg16 _ gp).trans hgp]
  iapply (wp_load 𝒱 (c : Thread nD τ) bd Set.univ (Finset.subset_univ _)) $$ HFd
  iintro HFd
  rw [show arg17.view.readAt (Elt F) rFreq.toLoadRect gf = ff from (read_whole2 arg17 _ gf).trans hgf]
  iapply (wp_load 𝒱 (c : Thread nD τ) bd Set.univ (Finset.subset_univ _)) $$ HC
  iintro HC
  iapply (wp_store 𝒱 (c : Thread nD τ) bd Set.univ (m := arg25) (r := rTrig) (Mk := Finset.univ) (Finset.subset_univ _)) $$ HC
  iintro HC
  rw [wp_ret]
  imodintro
  iapply Hk
  isplitl [HX]; · iexact HX
  isplitl [HN]; · iexact HN
  isplitl [HPd HPs HPv]
  · unfold InDone Got
    isplitl [HPd]
    · iexists gp
      isplitr; · ipureintro; exact hgp
      iexact HPd
    isplitl [HPs]; · iexact HPs
    iexact HPv
  isplitl [HFd HFs HFv]
  · unfold InDone Got
    isplitl [HFd]
    · iexists gf
      isplitr; · ipureintro; exact hgf
      iexact HFd
    isplitl [HFs]; · iexact HFs
    iexact HFv
  isplitl [HC]
  · rw [show ((arg25.access rTrig).write (Elt F) f25 (shapeCast S64x128 (cos (angle fp ff)) shapeCasts_S64x128_S64x128) Finset.univ : S64x128.Idx → Elt F .f32) = cos (angle fp ff) from
      (write_whole2 arg25 _ f25 _).trans (shapeCast_self (e := .f32) _ _)]
    iexact HC
  isplitl [HS]
  · rw [← stage_switch]
    iexact HS
  iexact HW

theorem wp_headB [EC.LandsIn (upEmb : UEmb _ 𝕄)] {Q : (Σ' (_ : FVec F S64x128 .f32) (_ : IVec S64x128 32) (_ : BitVec 32) (_ : IVec S64x128 32) (_ : IVec S64x128 1) (_ : IVec S64x128 1), IVec S64x128 1) → sProp 𝕄}
    (fx : S64x5120.Idx → Elt F .bf16) (fn : S40x128.Idx → Elt F .bf16) (a : FVec F S64x128 .f32) (l : IVec S64x128 32) :
    iprop(Sent c EC ι arg0 arg13 semX fx ∗ Sent c EC ι arg1 arg14 semN fn ∗ (∃ f, arg26.view.loc (c : Thread nD τ) ↦{fullShare} f) ∗ (∃ W', owes (c : Thread nD τ) 0 W') : sProp 𝕄)
      ⊢ iprop((iprop((arg13.view.loc (c : Thread nD τ) ↦{fullShare} fx) ∗ (arg0.view.loc (c : Thread nD τ) ↦{fullShare} fx) ∗ semVal ((c : Thread nD τ), SemLoc.dma semX) 0 ∗
          (arg14.view.loc (c : Thread nD τ) ↦{fullShare} fn) ∗ (arg1.view.loc (c : Thread nD τ) ↦{fullShare} fn) ∗ semVal ((c : Thread nD τ), SemLoc.dma semN) 0 ∗
          (arg26.view.loc (c : Thread nD τ) ↦{fullShare} (signed a l : S64x128.Idx → Elt F .f32)) ∗ (∃ W', owes (c : Thread nD τ) 0 W'))
          -∗ Q ⟨invNorm (squares fx 40), lanesA.1, lanesA.2.1, lanesA.2.2.1, lanesA.2.2.2.1, lanesA.2.2.2.2.1, lanesA.2.2.2.2.2⟩)
        -∗ wp frame (wpE defs 𝒱 (c : Thread nD τ) bd) Set.univ (headB a l) Q) := by
  unfold headB
  iintro ⟨HX, HN, ⟨%f26, HC⟩, ⟨%W, HW⟩⟩ Hk
  iapply (wp_load 𝒱 (c : Thread nD τ) bd Set.univ (Finset.subset_univ _)) $$ HC
  iintro HC
  iapply (wp_store 𝒱 (c : Thread nD τ) bd Set.univ (m := arg26) (r := rTrig) (Mk := Finset.univ) (Finset.subset_univ _)) $$ HC
  iintro HC
  iapply (wp_recv c 𝒱 bd EC ι (src := arg0) (dst := arg13) fx _) $$ [HX HW]
  · isplitl [HX]; · iexact HX
    iexact HW
  unfold Got
  iintro ⟨⟨%gx, %hgx, HXd⟩, HXs, HXv, ⟨%W1, HW⟩⟩
  obtain rfl : gx = fx := hgx
  iapply (wp_recv c 𝒱 bd EC ι (src := arg1) (dst := arg14) fn _) $$ [HN HW]
  · isplitl [HN]; · iexact HN
    iexact HW
  unfold Got
  iintro ⟨⟨%gn, %hgn, HNd⟩, HNs, HNv, HW⟩
  obtain rfl : gn = fn := hgn
  iapply (Scf.wp_for_bind frame (wpE defs 𝒱 (c : Thread nD τ) bd) Set.univ k0_t2_loop.lb k0_t2_loop.ub k0_t2_loop.st k0_t2_ok _ _
    (fun k s => iprop((arg13.view.loc (c : Thread nD τ) ↦{fullShare} gx) ∗ ⌜s = squares gx k⌝)) ?_) $$ [HXd]
  · intro k acc
    iintro ⟨H, %hs⟩
    iapply (wp_load 𝒱 (c : Thread nD τ) bd Set.univ (Finset.subset_univ _)) $$ H
    iintro H
    rw [wp_ret]
    imodintro
    isplitl [H]; · iexact H
    ipureintro
    subst hs
    have hk : k.val < 40 := lt_of_lt_of_eq k.isLt trips2
    show _ = addSquares (squares gx k.val) (if h : k.val < 40 then arg13.view.readAt (Elt F) (rX ⟨k.val, h⟩).toLoadRect gx else fun _ => FloatOps.ofBits .bf16 0)
    rw [dif_pos hk]
    exact congrArg (addSquares _) (read_off6 gx k ⟨k.val, hk⟩ rfl)
  · isplitl [HXd]; · iexact HXd
    ipureintro; rfl
  iintro %s ⟨HXd, %hs⟩
  obtain rfl : s = squares gx 40 := by rw [hs]; exact congrArg (squares gx) trips2
  rw [wp_ret]
  imodintro
  iapply Hk
  isplitl [HXd]; · iexact HXd
  isplitl [HXs]; · iexact HXs
  isplitl [HXv]; · iexact HXv
  isplitl [HNd]; · iexact HNd
  isplitl [HNs]; · iexact HNs
  isplitl [HNv]; · iexact HNv
  isplitl [HC]
  · rw [show ((arg26.access rTrig).write (Elt F) f26 (shapeCast S64x128 (signed a l) shapeCasts_S64x128_S64x128) Finset.univ : S64x128.Idx → Elt F .f32) = signed a l from
      (write_whole2 arg26 _ f26 _).trans (shapeCast_self (e := .f32) _ _)]
    iexact HC
  iexact HW

/-- The norm's weights as the tiles read them. -/
def wide (fn : S40x128.Idx → Elt F .bf16) : S40x128.Idx → Elt F .f32 := extf .f32 fn bitsLt_bf16_f32

theorem wp_headC {Q : (Σ' (_ : IVec S64x128 32) (_ : FVec F S64x128 .f32), IVec S64x128 32) → sProp 𝕄}
    (fx : S64x5120.Idx → Elt F .bf16) (fn : S40x128.Idx → Elt F .bf16) (r : FVec F S64x128 .f32) (p : IVec S64x128 32) (fh : S40x64x128.Idx → Elt F .bf16) :
    iprop((arg13.view.loc (c : Thread nD τ) ↦{fullShare} fx) ∗ (arg14.view.loc (c : Thread nD τ) ↦{fullShare} fn) ∗ (∃ f, arg15.view.loc (c : Thread nD τ) ↦{fullShare} f) ∗ (arg24.view.loc (c : Thread nD τ) ↦{fullShare} fh) : sProp 𝕄)
      ⊢ iprop((iprop((arg14.view.loc (c : Thread nD τ) ↦{fullShare} fn) ∗ (arg13.view.loc (c : Thread nD τ) ↦{fullShare} fx) ∗ (arg15.view.loc (c : Thread nD τ) ↦{fullShare} wide fn) ∗ (arg24.view.loc (c : Thread nD τ) ↦{fullShare} hTo fx (wide fn) r p (1 : Fin 40).val fh))
          -∗ Q ⟨p, scaledAt fx (wide fn) r 1, idxOf p⟩)
        -∗ wp frame (wpE defs 𝒱 (c : Thread nD τ) bd) Set.univ (headC r p) Q) := by
  unfold headC
  iintro ⟨HX, HN, ⟨%f15, HB⟩, HH⟩ Hk
  iapply (wp_load 𝒱 (c : Thread nD τ) bd Set.univ (Finset.subset_univ _)) $$ HN
  iintro HN
  rw [show arg14.view.readAt (Elt F) rNorm.toLoadRect fn = fn from read_whole2 arg14 _ fn]
  iapply (wp_load 𝒱 (c : Thread nD τ) bd Set.univ (Finset.subset_univ _)) $$ HB
  iintro HB
  iapply (wp_store 𝒱 (c : Thread nD τ) bd Set.univ (m := arg15) (r := rNorm) (Mk := Finset.univ) (Finset.subset_univ _)) $$ HB
  rw [show ((arg15.access rNorm).write (Elt F) f15 (shapeCast S40x128 (extf .f32 fn bitsLt_bf16_f32) shapeCasts_S40x128_S40x128) Finset.univ : S40x128.Idx → Elt F .f32) = wide fn from
      (write_whole2 arg15 _ f15 _).trans (shapeCast_self (e := .f32) _ _)]
  iintro HB
  iapply (wp_begin c fx (wide fn) r 𝒱 bd 0 _) $$ [HX HB]
  · isplitl [HX]; · iexact HX
    iexact HB
  iintro ⟨HX, HB⟩
  ihave HH := (Entails.of_eq (congrArg (fun f => (arg24.view.loc (c : Thread nD τ) ↦{fullShare} f : sProp 𝕄)) (show fh = hTo fx (wide fn) r p (0 : Fin 40).val fh from (hTo_zero fx (wide fn) r p fh).symm))) $$ HH
  iapply (wp_finish c fx (wide fn) r p 𝒱 bd 0 fh _) $$ HH
  iintro HH
  iapply (wp_begin c fx (wide fn) r 𝒱 bd 1 _) $$ [HX HB]
  · isplitl [HX]; · iexact HX
    iexact HB
  iintro ⟨HX, HB⟩
  rw [wp_ret]
  imodintro
  iapply Hk
  isplitl [HN]; · iexact HN
  isplitl [HX]; · iexact HX
  isplitl [HB]; · iexact HB
  iexact HH

end Cert.KernelIdeal.Hand
-- ==== Proof.Body.lean ====
/-
  The whole kernel: what it needs, and what it leaves.
-/
module

public import proofs.«01_k».proof.Proof.Head

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first lines after the loop, as printed. -/
def tail166 (k0_mxu3 : Mxu F) : Prog (TpuEff nD τ sig (Elt F) Λ₀ .tc) (Σ' (v987_r0 : FVec F S64x128 .f32) (v994_r0 : FVec F S64x128 .f32) (v995_r0 : FVec F S64x256 .f32) (k0_mxu61 : Mxu F) (v998_r0 : FVec F S64x128 .f32), FVec F S64x128 .f32) := do
  have v980_r0 : FVec F S64x256 .f32 := k0_mxu3.read 0 0 fits_0_64
  have k0_mxu60 : Mxu F := k0_mxu3.pop 0 0 64 fits_0_64
  have v981_r0 : FVec F S64x128 .f32 := extractStridedSlice S64x128 ![0, 0] v980_r0 slices_S64x256_o0_0_S64x128
  let c0_346_r0 : Index := 0#32
  let c0_347_r0 : Index := 0#32
  let v982_r0 : Vec F S64x128 .f32 ← Prog.lift (.load arg25 (Rect.unit (s := S64x128) ![0, 0] S64x128.size inb_S64x128_S64x128_0_0).toLoadRect (View.loadsAt_vmem h_S64x128))
  have v983_r0 : FVec F S64x128 .f32 := mulf v981_r0 v982_r0
  let c64_i32_348_r0 : BitVec 32 := 64#32
  have v984_r0 : FVec F S64x128 .f32 := dynamicRotate 1 c64_i32_348_r0 none v981_r0 rotates_S64x128_d1
  let c0_349_r0 : Index := 0#32
  let c0_350_r0 : Index := 0#32
  let v985_r0 : Vec F S64x128 .f32 ← Prog.lift (.load arg26 (Rect.unit (s := S64x128) ![0, 0] S64x128.size inb_S64x128_S64x128_0_0).toLoadRect (View.loadsAt_vmem h_S64x128))
  have v986_r0 : FVec F S64x128 .f32 := mulf v984_r0 v985_r0
  have v987_r0 : FVec F S64x128 .f32 := addf v983_r0 v986_r0
  have v988_r0 : FVec F S64x128 .f32 := extractStridedSlice S64x128 ![0, 128] v980_r0 slices_S64x256_o0_128_S64x128
  let c0_351_r0 : Index := 0#32
  let c0_352_r0 : Index := 0#32
  let v989_r0 : Vec F S64x128 .f32 ← Prog.lift (.load arg25 (Rect.unit (s := S64x128) ![0, 0] S64x128.size inb_S64x128_S64x128_0_0).toLoadRect (View.loadsAt_vmem h_S64x128))
  have v990_r0 : FVec F S64x128 .f32 := mulf v988_r0 v989_r0
  let c64_i32_353_r0 : BitVec 32 := 64#32
  have v991_r0 : FVec F S64x128 .f32 := dynamicRotate 1 c64_i32_353_r0 none v988_r0 rotates_S64x128_d1
  let c0_354_r0 : Index := 0#32
  let c0_355_r0 : Index := 0#32
  let v992_r0 : Vec F S64x128 .f32 ← Prog.lift (.load arg26 (Rect.unit (s := S64x128) ![0, 0] S64x128.size inb_S64x128_S64x128_0_0).toLoadRect (View.loadsAt_vmem h_S64x128))
  have v993_r0 : FVec F S64x128 .f32 := mulf v991_r0 v992_r0
  have v994_r0 : FVec F S64x128 .f32 := addf v990_r0 v993_r0
  have v995_r0 : FVec F S64x256 .f32 := k0_mxu60.read 1 0 fits_0_64
  have k0_mxu61 : Mxu F := k0_mxu60.pop 1 0 64 fits_0_64
  have v996_r0 : FVec F S64x128 .f32 := extractStridedSlice S64x128 ![0, 0] v995_r0 slices_S64x256_o0_0_S64x128
  let c0_356_r0 : Index := 0#32
  let c0_357_r0 : Index := 0#32
  let v997_r0 : Vec F S64x128 .f32 ← Prog.lift (.load arg25 (Rect.unit (s := S64x128) ![0, 0] S64x128.size inb_S64x128_S64x128_0_0).toLoadRect (View.loadsAt_vmem h_S64x128))
  have v998_r0 : FVec F S64x128 .f32 := mulf v996_r0 v997_r0
  let c64_i32_358_r0 : BitVec 32 := 64#32
  have v999_r0 : FVec F S64x128 .f32 := dynamicRotate 1 c64_i32_358_r0 none v996_r0 rotates_S64x128_d1
  let c0_359_r0 : Index := 0#32
  pure ⟨v987_r0, v994_r0, v995_r0, k0_mxu61, v998_r0, v999_r0⟩

set_option maxRecDepth 16384 in
set_option maxHeartbeats 4000000 in
theorem part166_eq (s : Mxu F) (v : FVec F S64x128 .f32) (ix) : k0_part166 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 s v ix
    = finish 39 v ix (Prog.bind (Scf.Loop.for k0_t3_loop k0_t3_ok s fun k s => trip k s) tail166) := by
  unfold k0_part166
  refine Eq.trans (b := finish 39 v ix (Prog.bind (Scf.Loop.for k0_t3_loop k0_t3_ok s _) tail166)) rfl
    (congrArg (fun R => finish 39 v ix (Prog.bind (Scf.Loop.for k0_t3_loop k0_t3_ok s R) tail166)) (funext fun k => funext fun s => ?_))
  by_cases h : k0_cond1 k = 1#1
  · simp only [k0_part140, k0_part1, k0_part2, trip, dif_pos h]
    sl_kernel_rfl
  · simp only [k0_part140, k0_part1, k0_part2, trip, dif_neg h]
    sl_kernel_rfl

/-! ### The accumulators after each chunk -/

/-- No row from 896 on holds a sum. -/
def Low (s : Mxu F) : Prop := ∀ q (R : Fin 1024), 896 ≤ R.val → s.live q R = false

theorem low_blockVal (down up : IVec T8x8x128 32) (r : Fin 2) (q : Fin 14) (h : FVec F T64x256 .bf16)
    (s : Fin 4 → FVec F T8x128 .bf16) (w : Fin 16 → IVec T1x32x128 8) (u : Mxu F) (hu : Low u) : Low (blockVal down up r (16 * q.val) (fits q) h s w u) := by
  intro q' R hR
  have hq := q.isLt
  unfold blockVal
  rw [Mxu.live_accLhs, if_neg (by omega), Mxu.live_accLhs, if_neg (by omega), Mxu.live_pushed, Mxu.live_pushed]
  exact hu q' R hR

variable (c : Dev nD) (M : Src F)

theorem low_step (n : Fin 20) (h : FVec F S64x256 .bf16) {s : Mxu F} (hs : Low s) : Low (step c M n h s) := by
  have hq : ∀ q (u : Mxu F), Low u → Low (qStep c M n h q u) := fun q u hu => by unfold qStep; exact low_blockVal _ _ _ ⟨q.val, by omega⟩ _ _ _ u hu
  have hk : ∀ q (u : Mxu F), Low u → Low (kStep c M n h q u) := fun q u hu => by unfold kStep; exact low_blockVal _ _ _ ⟨10 + q.val, by omega⟩ _ _ _ u hu
  have hv : ∀ q (u : Mxu F), Low u → Low (vStep c M n h q u) := fun q u hu => by unfold vStep; exact low_blockVal _ _ _ ⟨12 + q.val, by omega⟩ _ _ _ u hu
  unfold step
  exact hv _ _ <| hv _ _ <| hk _ _ <| hk _ _ <| hq _ _ <| hq _ _ <| hq _ _ <| hq _ _ <| hq _ _ <| hq _ _ <| hq _ _ <| hq _ _ <| hq _ _ <| hq _ _ hs

/-- The accumulators before chunk `n`. -/
def stateAt (H : S40x64x128.Idx → Elt F .bf16) : ℕ → Mxu F
  | 0 => Mxu.init
  | n + 1 => if h : n < 20 then step c M ⟨n, h⟩ (hAt H ⟨n, h⟩) (stateAt H n) else stateAt H n

theorem stateAt_succ (H : S40x64x128.Idx → Elt F .bf16) (n : Fin 20) : stateAt c M H (n.val + 1) = step c M n (hAt H n) (stateAt c M H n.val) := by
  show (if h : n.val < 20 then _ else _) = _
  rw [dif_pos n.isLt]

theorem empty_stateAt (H : S40x64x128.Idx → Elt F .bf16) (n : ℕ) : Empty (stateAt c M H n) := by
  induction n with
  | zero => intro q r; exact Mxu.reg_init q r
  | succ n ih =>
    unfold stateAt
    split
    · exact step_empty _ _ _ _ ih
    · exact ih

theorem low_stateAt (H : S40x64x128.Idx → Elt F .bf16) (n : ℕ) : Low (stateAt c M H n) := by
  induction n with
  | zero => intro q R _; exact Mxu.live_init q R
  | succ n ih =>
    unfold stateAt
    split
    · exact low_step c M _ _ ih
    · exact ih

/-- The activations: normed, weighted, permuted. -/
def acts (fx : S64x5120.Idx → Elt F .bf16) (fn : S40x128.Idx → Elt F .bf16) : S40x64x128.Idx → Elt F .bf16 := hFun fx (wide fn) (invNorm (squares fx 40)) perm

/-- The accumulators at the end. -/
def sums (fx : S64x5120.Idx → Elt F .bf16) (fn : S40x128.Idx → Elt F .bf16) : Mxu F := stateAt c M (acts fx fn) 20

variable {Ix : Type} [DecidableEq Ix] {Name : Type} [DecidableEq Name] [Infinite Name] {U : Type} [URA U] {Lvl : Type} [Preorder Lvl]
local notation "𝕄" => MT nD τ sig Ix (Elt F) Name U Lvl
variable (EC : UEmb Counters (MT nD τ sig Ix (Elt F) Name U Lvl)) (ι : Ix)
variable {defs : Defs nD τ sig (Elt F) Λ₀} (𝒱 : Variants) (bd : Option 𝒱.V)
variable (fx : S64x5120.Idx → Elt F .bf16) (fn : S40x128.Idx → Elt F .bf16) (fp : S1x64.Idx → Elt F .i32) (ff : S1x128.Idx → Elt F .f32)

/-- The three results. -/
def Results : sProp 𝕄 :=
  iprop(Done c outQ arg10 semQ (headOf (sums c M fx fn) true (cos (angle fp ff)) (signed (angle fp ff) lanes) 0) ∗
    Done c outK arg11 semK (headOf (sums c M fx fn) true (cos (angle fp ff)) (signed (angle fp ff) lanes) 10) ∗
    Done c outV arg12 semV (headOf (sums c M fx fn) false (cos (angle fp ff)) (signed (angle fp ff) lanes) 12))

/-- What the kernel needs. -/
def Pre : sProp 𝕄 :=
  iprop(InAt c arg0 arg13 semX fx ∗ InAt c arg1 arg14 semN fn ∗ InAt c arg2 arg16 semP fp ∗ InAt c arg3 arg17 semF ff ∗
    (∃ f, arg15.view.loc (c : Thread nD τ) ↦{fullShare} f) ∗ (∃ f, arg24.view.loc (c : Thread nD τ) ↦{fullShare} f) ∗ (∃ f, arg25.view.loc (c : Thread nD τ) ↦{fullShare} f) ∗ (∃ f, arg26.view.loc (c : Thread nD τ) ↦{fullShare} f) ∗
    Ready c outQ arg10 semQ ∗ Ready c outK arg11 semK ∗ Ready c outV arg12 semV ∗ bigSep Finset.univ (Idle c M))

/-- What the kernel leaves. -/
def Post : sProp 𝕄 :=
  iprop(InAt c arg0 arg13 semX fx ∗ InAt c arg1 arg14 semN fn ∗ InAt c arg2 arg16 semP fp ∗ InAt c arg3 arg17 semF ff ∗
    (∃ f, arg15.view.loc (c : Thread nD τ) ↦{fullShare} f) ∗ (∃ f, arg24.view.loc (c : Thread nD τ) ↦{fullShare} f) ∗ (∃ f, arg25.view.loc (c : Thread nD τ) ↦{fullShare} f) ∗ (∃ f, arg26.view.loc (c : Thread nD τ) ↦{fullShare} f) ∗
    Results c M fx fn fp ff ∗ bigSep Finset.univ (Land c M))

theorem in_back {sp sp' : Space} {s : Shape} {e : EltTy} (src : Memref sig .tc sp s e) (dst : Memref sig .tc sp' s e) (sem : DmaSem sig) (fs : src.view.ty.Contents (Elt F)) :
    (InDone c src dst sem fs : sProp 𝕄) ⊢ InAt c src dst sem fs := by
  unfold InDone InAt Got
  iintro ⟨⟨%g, -, Hd⟩, Hs, Hv⟩
  isplitl [Hs]; · iexact Hs
  isplitl [Hd]; · iexists g; iexact Hd
  iexact Hv

theorem in_made {sp sp' : Space} {s : Shape} {e : EltTy} (src : Memref sig .tc sp s e) (dst : Memref sig .tc sp' s e) (sem : DmaSem sig) (fs : src.view.ty.Contents (Elt F)) (g : dst.view.ty.Contents (Elt F)) :
    iprop((dst.view.loc (c : Thread nD τ) ↦{fullShare} g) ∗ (src.view.loc (c : Thread nD τ) ↦{fullShare} fs) ∗ semVal ((c : Thread nD τ), SemLoc.dma sem) 0 : sProp 𝕄) ⊢ InAt c src dst sem fs := by
  unfold InAt
  iintro ⟨Hd, Hs, Hv⟩
  isplitl [Hs]; · iexact Hs
  isplitl [Hd]; · iexists g; iexact Hd
  iexact Hv

set_option maxRecDepth 16384 in
set_option maxHeartbeats 4000000 in
include EC ι in
theorem wp_body [EC.LandsIn (upEmb : UEmb _ 𝕄)] {Q : PUnit → sProp 𝕄} {W : Waits sig Ix} :
    iprop(Pre c M fx fn fp ff ∗ owes (c : Thread nD τ) 0 W : sProp 𝕄)
      ⊢ iprop((iprop(Post c M fx fn fp ff ∗ (∃ W', owes (c : Thread nD τ) 0 W')) -∗ Q ⟨⟩)
        -∗ wp frame (wpE defs 𝒱 (c : Thread nD τ) bd) Set.univ (cc0_qkv_rope arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32) Q) := by
  unfold cc0_qkv_rope k0_part226 Pre
  iintro ⟨⟨HX, HN, HP, HF, H15, ⟨%f24, HH⟩, H25, H26, HQ, HK, HV, HS⟩, HW⟩ Hk
  rw [wp_bind, wp_bind, part142_eq]
  iapply (wp_headA c M EC ι 𝒱 bd fx fn fp ff) $$ [HX HN HP HF H25 HS HW]
  · isplitl [HX]; · iexact HX
    isplitl [HN]; · iexact HN
    isplitl [HP]; · iexact HP
    isplitl [HF]; · iexact HF
    isplitl [H25]; · iexact H25
    isplitl [HS]; · iexact HS
    iexact HW
  iintro ⟨HX, HN, HP, HF, H25, HS, HW⟩
  rw [wp_bind, part143_eq]
  iapply (wp_headB c EC ι 𝒱 bd fx fn _ _) $$ [HX HN H26 HW]
  · isplitl [HX]; · iexact HX
    isplitl [HN]; · iexact HN
    isplitl [H26]; · iexact H26
    iexact HW
  iintro ⟨HX, HXs, HXv, HN, HNs, HNv, H26, HW⟩
  rw [wp_bind, part144_eq, wp_ret]
  imodintro
  rw [wp_bind, part145_eq, wp_ret]
  imodintro
  rw [wp_bind, part146_eq]
  iapply (wp_headC c 𝒱 bd fx fn _ perm f24) $$ [HX HN H15 HH]
  · isplitl [HX]; · iexact HX
    isplitl [HN]; · iexact HN
    isplitl [H15]; · iexact H15
    iexact HH
  iintro ⟨HN, HT⟩
  rw [wp_bind, window0]
  iapply (wp_window c fx (wide fn) _ perm 𝒱 bd 0 1 3 rfl rfl f24) $$ HT
  iintro HT
  rw [wp_bind, window1]
  iapply (wp_window c fx (wide fn) _ perm 𝒱 bd 1 3 5 rfl rfl f24) $$ HT
  iintro HT
  rw [wp_bind, window2]
  iapply (wp_window c fx (wide fn) _ perm 𝒱 bd 2 5 7 rfl rfl f24) $$ HT
  iintro HT
  rw [wp_bind, window3]
  iapply (wp_window c fx (wide fn) _ perm 𝒱 bd 3 7 9 rfl rfl f24) $$ HT
  iintro HT
  rw [wp_bind, window4]
  iapply (wp_window c fx (wide fn) _ perm 𝒱 bd 4 9 11 rfl rfl f24) $$ HT
  iintro HT
  rw [wp_bind, window5]
  iapply (wp_window c fx (wide fn) _ perm 𝒱 bd 5 11 13 rfl rfl f24) $$ HT
  iintro HT
  rw [wp_bind, window6]
  iapply (wp_window c fx (wide fn) _ perm 𝒱 bd 6 13 15 rfl rfl f24) $$ HT
  iintro HT
  rw [wp_bind, window7]
  iapply (wp_window c fx (wide fn) _ perm 𝒱 bd 7 15 17 rfl rfl f24) $$ HT
  iintro HT
  rw [wp_bind, window8]
  iapply (wp_window c fx (wide fn) _ perm 𝒱 bd 8 17 19 rfl rfl f24) $$ HT
  iintro HT
  rw [wp_bind, window9]
  iapply (wp_window c fx (wide fn) _ perm 𝒱 bd 9 19 21 rfl rfl f24) $$ HT
  iintro HT
  rw [wp_bind, window10]
  iapply (wp_window c fx (wide fn) _ perm 𝒱 bd 10 21 23 rfl rfl f24) $$ HT
  iintro HT
  rw [wp_bind, window11]
  iapply (wp_window c fx (wide fn) _ perm 𝒱 bd 11 23 25 rfl rfl f24) $$ HT
  iintro HT
  rw [wp_bind, window12]
  iapply (wp_window c fx (wide fn) _ perm 𝒱 bd 12 25 27 rfl rfl f24) $$ HT
  iintro HT
  rw [wp_bind, window13]
  iapply (wp_window c fx (wide fn) _ perm 𝒱 bd 13 27 29 rfl rfl f24) $$ HT
  iintro HT
  rw [wp_bind, window14]
  iapply (wp_window c fx (wide fn) _ perm 𝒱 bd 14 29 31 rfl rfl f24) $$ HT
  iintro HT
  rw [wp_bind, window15]
  iapply (wp_window c fx (wide fn) _ perm 𝒱 bd 15 31 33 rfl rfl f24) $$ HT
  iintro HT
  rw [wp_bind, window16]
  iapply (wp_window c fx (wide fn) _ perm 𝒱 bd 16 33 35 rfl rfl f24) $$ HT
  iintro HT
  rw [wp_bind, window17]
  iapply (wp_window c fx (wide fn) _ perm 𝒱 bd 17 35 37 rfl rfl f24) $$ HT
  iintro HT
  rw [wp_bind, window18]
  iapply (wp_window c fx (wide fn) _ perm 𝒱 bd 18 37 39 rfl rfl f24) $$ HT
  iintro HT
  rw [wp_bind, part166_eq]
  icases HT with ⟨HX, H15, HH⟩
  iapply (wp_finish c fx (wide fn) _ perm 𝒱 bd 39 f24 _) $$ HH
  rw [show hTo fx (wide fn) (invNorm (squares fx 40)) perm ((39 : Fin 40).val + 1) f24 = acts fx fn from hTo_all fx (wide fn) _ perm f24]
  iintro HH
  iapply (Scf.wp_for_bind frame (wpE defs 𝒱 (c : Thread nD τ) bd) Set.univ k0_t3_loop.lb k0_t3_loop.ub k0_t3_loop.st k0_t3_ok _ _
    (fun k s => iprop(bigSep Finset.univ (stage3 c M EC ι k) ∗ (∃ W', owes (c : Thread nD τ) 0 W') ∗ (arg24.view.loc (c : Thread nD τ) ↦{fullShare} acts fx fn) ∗ ⌜s = stateAt c M (acts fx fn) k⌝)) ?_) $$ [HS HW HH]
  · intro k s
    obtain ⟨n, rfl⟩ : ∃ n, k = at3 n := ⟨k.cast trips3, rfl⟩
    iintro ⟨HS, ⟨%W', HW⟩, HH, %hs⟩
    subst hs
    iapply (wp_trip c M EC ι 𝒱 bd (acts fx fn) n _ (empty_stateAt c M (acts fx fn) n.val)) $$ [HS HW HH]
    · isplitl [HS]; · iexact HS
      isplitl [HW]; · iexact HW
      iexact HH
    iintro ⟨HS, HW, HH⟩
    isplitl [HS]; · iexact HS
    isplitl [HW]; · iexact HW
    isplitl [HH]; · iexact HH
    ipureintro
    exact (stateAt_succ c M (acts fx fn) n).symm
  · isplitl [HS]; · iexact HS
    isplitl [HW]; · iexact HW
    isplitl [HH]; · iexact HH
    ipureintro; rfl
  iintro %s ⟨HS, ⟨%W', HW⟩, HH, %hs⟩
  rw [← wp_bind, ← wp_bind]
  iapply (wp_congr_prog c 𝒱 bd (b := outs s) (by sl_kernel_rfl))
  obtain rfl : s = sums c M fx fn := by rw [hs]; exact congrArg (stateAt c M (acts fx fn)) trips3
  iapply (wp_outs c 𝒱 bd (cos (angle fp ff)) (signed (angle fp ff) lanes) EC ι _ (empty_stateAt c M _ _) (low_stateAt c M _ _)) $$ [H25 H26 HQ HK HV HW]
  · isplitl [H25 H26]
    · unfold Trig
      isplitl [H25]; · iexact H25
      iexact H26
    isplitl [HQ]; · iexact HQ
    isplitl [HK]; · iexact HK
    isplitl [HV]; · iexact HV
    iexact HW
  unfold Trig
  iintro ⟨⟨H25, H26⟩, HQ, HK, HV, HW⟩
  iapply Hk
  isplitr [HW]
  · unfold Post Results
    isplitl [HX HXs HXv]
    · iapply (in_made c arg0 arg13 semX fx fx)
      isplitl [HX]; · iexact HX
      isplitl [HXs]; · iexact HXs
      iexact HXv
    isplitl [HN HNs HNv]
    · iapply (in_made c arg1 arg14 semN fn fn)
      isplitl [HN]; · iexact HN
      isplitl [HNs]; · iexact HNs
      iexact HNv
    isplitl [HP]; · iapply (in_back c arg2 arg16 semP fp) $$ HP
    isplitl [HF]; · iapply (in_back c arg3 arg17 semF ff) $$ HF
    isplitl [H15]; · iexists _; iexact H15
    isplitl [HH]; · iexists _; iexact HH
    isplitl [H25]; · iexists _; iexact H25
    isplitl [H26]; · iexists _; iexact H26
    isplitl [HQ HK HV]
    · isplitl [HQ]; · iexact HQ
      isplitl [HK]; · iexact HK
      iexact HV
    rw [← stage3_end c M EC ι]
    rw [show Scf.trips k0_t3_loop.lb k0_t3_loop.ub k0_t3_loop.st = 20 from trips3]
    iexact HS
  iexact HW

end Cert.KernelIdeal.Hand
-- ==== Proof.Whole.lean ====
/-
  The chunks' copies taken all together: the weight arrays and their buffers whole, before and after.
-/
module

public import proofs.«01_k».proof.Proof.Rounds

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (M : Src F)
variable {Ix : Type} [DecidableEq Ix] {Name : Type} [DecidableEq Name] [Infinite Name] {U : Type} [URA U] {Lvl : Type} [Preorder Lvl]
local notation "𝕄" => MT nD τ sig Ix (Elt F) Name U Lvl

/-- The chunks' semaphores at zero. -/
def Sems : sProp 𝕄 := bigSep Finset.univ fun n : Fin 20 => semVal ((c : Thread nD τ), SemLoc.dma (semOf n)) 0

/-- The six weight arrays. -/
def Sources : sProp 𝕄 :=
  iprop((arg5.view.loc (c : Thread nD τ) ↦{fullShare} M.f0) ∗ (arg7.view.loc (c : Thread nD τ) ↦{fullShare} M.f1) ∗ (arg9.view.loc (c : Thread nD τ) ↦{fullShare} M.f2) ∗ (arg4.view.loc (c : Thread nD τ) ↦{fullShare} M.f3) ∗ (arg6.view.loc (c : Thread nD τ) ↦{fullShare} M.f4) ∗ (arg8.view.loc (c : Thread nD τ) ↦{fullShare} M.f5))

/-- Their six buffers, whatever they hold. -/
def Buffers : sProp 𝕄 :=
  iprop((∃ f, arg21.view.loc (c : Thread nD τ) ↦{fullShare} f) ∗ (∃ f, arg22.view.loc (c : Thread nD τ) ↦{fullShare} f) ∗ (∃ f, arg23.view.loc (c : Thread nD τ) ↦{fullShare} f) ∗ (∃ f, arg18.view.loc (c : Thread nD τ) ↦{fullShare} f) ∗ (∃ f, arg19.view.loc (c : Thread nD τ) ↦{fullShare} f) ∗ (∃ f, arg20.view.loc (c : Thread nD τ) ↦{fullShare} f))

theorem blocks_some {α : Type} {A : α → sProp 𝕄} {B : Fin 20 → α → sProp 𝕄} (h : ∀ f, A f = bigSep Finset.univ fun n => B n f) :
    iprop(∃ f, A f) ⊢ bigSep Finset.univ fun n => iprop(∃ f, B n f) := by
  iintro ⟨%f, H⟩
  ihave H := (Entails.of_eq (h f)) $$ H
  have k : (bigSep Finset.univ fun n => B n f : sProp 𝕄) ⊢ (bigSep Finset.univ fun n => iprop(∃ f, B n f)) := BI.bigSep_mono fun n _ => by
    show iprop(B n f) ⊢ iprop(∃ f, B n f)
    iintro H; iexists f; iexact H
  iapply k $$ H

theorem bigSep_sep2 (A B : Fin 20 → sProp 𝕄) :
    (bigSep Finset.univ fun n => iprop(A n ∗ B n)) = iprop(bigSep Finset.univ A ∗ bigSep Finset.univ B) := BI.bigSep_sep _ A B

theorem bigSep_sep13 (P D0 S0 D1 S1 D2 S2 D3 S3 D4 S4 D5 S5 : Fin 20 → sProp 𝕄) :
    (bigSep Finset.univ fun n => iprop(P n ∗ (D0 n ∗ S0 n) ∗ (D1 n ∗ S1 n) ∗ (D2 n ∗ S2 n) ∗ (D3 n ∗ S3 n) ∗ (D4 n ∗ S4 n) ∗ (D5 n ∗ S5 n)))
      = iprop(bigSep Finset.univ P ∗ (bigSep Finset.univ D0 ∗ bigSep Finset.univ S0) ∗ (bigSep Finset.univ D1 ∗ bigSep Finset.univ S1) ∗ (bigSep Finset.univ D2 ∗ bigSep Finset.univ S2) ∗ (bigSep Finset.univ D3 ∗ bigSep Finset.univ S3) ∗ (bigSep Finset.univ D4 ∗ bigSep Finset.univ S4) ∗ (bigSep Finset.univ D5 ∗ bigSep Finset.univ S5)) := by
  rw [bigSep_sep2 P, bigSep_sep2 (fun n => iprop(D0 n ∗ S0 n)), bigSep_sep2 (fun n => iprop(D1 n ∗ S1 n)), bigSep_sep2 (fun n => iprop(D2 n ∗ S2 n)),
    bigSep_sep2 (fun n => iprop(D3 n ∗ S3 n)), bigSep_sep2 (fun n => iprop(D4 n ∗ S4 n)), bigSep_sep2 D0, bigSep_sep2 D1, bigSep_sep2 D2, bigSep_sep2 D3,
    bigSep_sep2 D4, bigSep_sep2 D5]

theorem idle_all : iprop(Sems c ∗ Sources c M ∗ Buffers c : sProp 𝕄) ⊢ bigSep Finset.univ (Idle c M) := by
  rw [show (Idle c M : Fin 20 → sProp 𝕄) = _ from funext fun n => idle_eq c M n, bigSep_sep13]
  unfold Sems Sources Buffers
  iintro ⟨HS, ⟨S0, S1, S2, S3, S4, S5⟩, ⟨D0, D1, D2, D3, D4, D5⟩⟩
  ihave D0 := (blocks_some (dst0_blocks c)) $$ D0
  ihave D1 := (blocks_some (dst1_blocks c)) $$ D1
  ihave D2 := (blocks_some (dst2_blocks c)) $$ D2
  ihave D3 := (blocks_some (dst3_blocks c)) $$ D3
  ihave D4 := (blocks_some (dst4_blocks c)) $$ D4
  ihave D5 := (blocks_some (dst5_blocks c)) $$ D5
  ihave S0 := (Entails.of_eq (src0_blocks c M.f0)) $$ S0
  ihave S1 := (Entails.of_eq (src1_blocks c M.f1)) $$ S1
  ihave S2 := (Entails.of_eq (src2_blocks c M.f2)) $$ S2
  ihave S3 := (Entails.of_eq (src3_blocks c M.f3)) $$ S3
  ihave S4 := (Entails.of_eq (src4_blocks c M.f4)) $$ S4
  ihave S5 := (Entails.of_eq (src5_blocks c M.f5)) $$ S5
  isplitl [HS]; · iexact HS
  isplitl [S0 D0]
  · isplitl [D0]; · iexact D0
    iexact S0
  isplitl [S1 D1]
  · isplitl [D1]; · iexact D1
    iexact S1
  isplitl [S2 D2]
  · isplitl [D2]; · iexact D2
    iexact S2
  isplitl [S3 D3]
  · isplitl [D3]; · iexact D3
    iexact S3
  isplitl [S4 D4]
  · isplitl [D4]; · iexact D4
    iexact S4
  isplitl [D5]; · iexact D5
  iexact S5

theorem land_all : (bigSep Finset.univ (Land c M) : sProp 𝕄) ⊢ iprop(Sems c ∗ Sources c M ∗ Buffers c) := by
  rw [show (Land c M : Fin 20 → sProp 𝕄) = _ from funext fun n => land_eq c M n, bigSep_sep13]
  unfold Sems Sources Buffers
  iintro ⟨HS, ⟨D0, S0⟩, ⟨D1, S1⟩, ⟨D2, S2⟩, ⟨D3, S3⟩, ⟨D4, S4⟩, ⟨D5, S5⟩⟩
  ihave D0 := (Entails.of_eq (dst0_blocks c M.f0).symm) $$ D0
  ihave S0 := (Entails.of_eq (src0_blocks c M.f0).symm) $$ S0
  ihave D1 := (Entails.of_eq (dst1_blocks c M.f1).symm) $$ D1
  ihave S1 := (Entails.of_eq (src1_blocks c M.f1).symm) $$ S1
  ihave D2 := (Entails.of_eq (dst2_blocks c M.f2).symm) $$ D2
  ihave S2 := (Entails.of_eq (src2_blocks c M.f2).symm) $$ S2
  ihave D3 := (Entails.of_eq (dst3_blocks c M.f3).symm) $$ D3
  ihave S3 := (Entails.of_eq (src3_blocks c M.f3).symm) $$ S3
  ihave D4 := (Entails.of_eq (dst4_blocks c M.f4).symm) $$ D4
  ihave S4 := (Entails.of_eq (src4_blocks c M.f4).symm) $$ S4
  ihave D5 := (Entails.of_eq (dst5_blocks c M.f5).symm) $$ D5
  ihave S5 := (Entails.of_eq (src5_blocks c M.f5).symm) $$ S5
  isplitl [HS]; · iexact HS
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [D0]; · iexists _; iexact D0
  isplitl [D1]; · iexists _; iexact D1
  isplitl [D2]; · iexists _; iexact D2
  isplitl [D3]; · iexists _; iexact D3
  isplitl [D4]; · iexists _; iexact D4
  iexists _; iexact D5

end Cert.KernelIdeal.Hand
-- ==== Proof.Launched.lean ====
/-
  The kernel launched: from any memory it ends with its arguments as they were, its three results as stated, and
  every semaphore at zero.
-/
module

public import proofs.«01_k».proof.Proof.Body
public import proofs.«01_k».proof.Proof.Whole
public import proofs.«01_k».proof.Proof.Gen.KernelIdeal.Frame
public import Idealize.ShloMosaic.Lib.Pipeline.Routed

@[expose] public section

set_option maxRecDepth 100000

noncomputable section

namespace Cert.KernelIdeal.Hand

open Cert.KernelIdeal Cert.KernelIdeal.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg) (c : Dev nD)

/-- The kernel's semaphores. -/
abbrev osem0 : Fin 27 → SemLoc sig := fun j => SemLoc.dma j

theorem ownSemFacts0 : Pipeline.OwnSemFacts cfg0.spec osem0 := by decide

/-- The arrays the kernel reads and writes. -/
abbrev R0 : Finset (Ref sig .tc) := {main_v1, main_v2, main_v3, main_v0, main_v7, main_v8, main_v12, main_v13, main_v17, main_v18, main_v19_0, main_v19_1, main_v19_2}

theorem R0_sub : R0 ⊆ Pipeline.restRefs sig cfg0.spec := by decide

/-- The weights as the launch finds them. -/
abbrev srcOf : Src F := ⟨V m c main_v8, V m c main_v13, V m c main_v18, V m c main_v7, V m c main_v12, V m c main_v17⟩

/-- The accumulators and the angles at the end. -/
abbrev sumsOf : Mxu F := sums c (srcOf m c) (V m c main_v1) (V m c main_v2)
@[inherit_doc sumsOf]
abbrev angleOf : FVec F S64x128 .f32 := angle (V m c main_v3) (V m c main_v0)

/-- The three results. -/
def qOf : S64x40x128.Idx → Elt F .bf16 := outFun 20 (headOf (sumsOf m c) true (cos (angleOf m c)) (signed (angleOf m c) lanes) 0)
@[inherit_doc qOf]
def kOf : S64x8x128.Idx → Elt F .bf16 := outFun 4 (headOf (sumsOf m c) true (cos (angleOf m c)) (signed (angleOf m c) lanes) 10)
@[inherit_doc qOf]
def vOf : S64x8x128.Idx → Elt F .bf16 := outFun 4 (headOf (sumsOf m c) false (cos (angleOf m c)) (signed (angleOf m c) lanes) 12)

/-- The arrays at the end. -/
def Y (c : Dev nD) : (b : Ref sig .tc) → Buf (Elt F) ((c : Thread nD τ).loc b) :=
  Function.update (Function.update (Function.update (V m c) main_v19_0 (qOf m c)) main_v19_1 (kOf m c)) main_v19_2 (vOf m c)

theorem Y_q : Y m c main_v19_0 = qOf m c := by
  unfold Y; rw [Function.update_of_ne (by decide), Function.update_of_ne (by decide), Function.update_self]
theorem Y_k : Y m c main_v19_1 = kOf m c := by
  unfold Y; rw [Function.update_of_ne (by decide), Function.update_self]
theorem Y_v : Y m c main_v19_2 = vOf m c := by
  unfold Y; rw [Function.update_self]
theorem Y_of_ne {b : Ref sig .tc} (h0 : b ≠ main_v19_0) (h1 : b ≠ main_v19_1) (h2 : b ≠ main_v19_2) : Y m c b = V m c b := by
  unfold Y; rw [Function.update_of_ne h2, Function.update_of_ne h1, Function.update_of_ne h0]

theorem routed_eq (W : (b : Ref sig .tc) → Buf (Elt F) ((c : Thread nD τ).loc b)) :
    (Pipeline.routed R0 c W : sProp 𝕄) = iprop((((c : Thread nD τ).loc main_v1) ↦{fullShare} W main_v1) ∗ (((c : Thread nD τ).loc main_v2) ↦{fullShare} W main_v2) ∗ (((c : Thread nD τ).loc main_v3) ↦{fullShare} W main_v3) ∗ (((c : Thread nD τ).loc main_v0) ↦{fullShare} W main_v0) ∗ (((c : Thread nD τ).loc main_v7) ↦{fullShare} W main_v7) ∗ (((c : Thread nD τ).loc main_v8) ↦{fullShare} W main_v8) ∗ (((c : Thread nD τ).loc main_v12) ↦{fullShare} W main_v12) ∗ (((c : Thread nD τ).loc main_v13) ↦{fullShare} W main_v13) ∗ (((c : Thread nD τ).loc main_v17) ↦{fullShare} W main_v17) ∗ (((c : Thread nD τ).loc main_v18) ↦{fullShare} W main_v18) ∗ (((c : Thread nD τ).loc main_v19_0) ↦{fullShare} W main_v19_0) ∗ (((c : Thread nD τ).loc main_v19_1) ↦{fullShare} W main_v19_1) ∗ (((c : Thread nD τ).loc main_v19_2) ↦{fullShare} W main_v19_2)) := by
  unfold Pipeline.routed
  exact (BI.bigSep_eq_bigSepL_of_eq [main_v1, main_v2, main_v3, main_v0, main_v7, main_v8, main_v12, main_v13, main_v17, main_v18, main_v19_0, main_v19_1, main_v19_2] (by decide) (by decide) _).trans rfl

theorem ownSems_eq : (Pipeline.ownSems0 (τ := τ) osem0 c : sProp 𝕄)
    = iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0 ∗ semVal ((c : Thread nD τ), osem0 22) 0 ∗ semVal ((c : Thread nD τ), osem0 23) 0 ∗ semVal ((c : Thread nD τ), osem0 24) 0 ∗ semVal ((c : Thread nD τ), osem0 25) 0 ∗ semVal ((c : Thread nD τ), osem0 26) 0) :=
  (Pipeline.ownSems0_eq_of_list c osem0 [0, 1, 2, 3, 4, 5, 6, 7, 8, 9, 10, 11, 12, 13, 14, 15, 16, 17, 18, 19, 20, 21, 22, 23, 24, 25, 26] (by decide) (by decide)).trans rfl

theorem semOf_eq (n : Fin 20) : SemLoc.dma (semOf n) = osem0 ⟨4 + n.val, by omega⟩ := congrArg SemLoc.dma (Fin.ext (semOf_val n))
theorem semX_eq : SemLoc.dma semX = osem0 0 := congrArg SemLoc.dma (Fin.ext (by decide))
theorem semN_eq : SemLoc.dma semN = osem0 1 := congrArg SemLoc.dma (Fin.ext (by decide))
theorem semP_eq : SemLoc.dma semP = osem0 2 := congrArg SemLoc.dma (Fin.ext (by decide))
theorem semF_eq : SemLoc.dma semF = osem0 3 := congrArg SemLoc.dma (Fin.ext (by decide))
theorem semQ_eq : SemLoc.dma semQ = osem0 24 := congrArg SemLoc.dma (Fin.ext (by decide))
theorem semK_eq : SemLoc.dma semK = osem0 25 := congrArg SemLoc.dma (Fin.ext (by decide))
theorem semV_eq : SemLoc.dma semV = osem0 26 := congrArg SemLoc.dma (Fin.ext (by decide))

theorem sems_eq : (Sems c : sProp 𝕄) = iprop(semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0 ∗ semVal ((c : Thread nD τ), osem0 22) 0 ∗ semVal ((c : Thread nD τ), osem0 23) 0) := by
  unfold Sems
  rw [show (fun n : Fin 20 => (semVal ((c : Thread nD τ), SemLoc.dma (semOf n)) 0 : sProp 𝕄)) = fun n => semVal ((c : Thread nD τ), osem0 ⟨4 + n.val, by omega⟩) 0
    from funext fun n => by rw [semOf_eq]]
  exact (BI.bigSep_eq_bigSepL_of_eq [0, 1, 2, 3, 4, 5, 6, 7, 8, 9, 10, 11, 12, 13, 14, 15, 16, 17, 18, 19] (by decide) (by decide) _).trans rfl

set_option maxHeartbeats 4000000 in
/-- What the launch hands over is what the kernel needs. -/
theorem ends_pre : (Pipeline.Ends cfg0.spec osem0 R0 c (V m c) : sProp 𝕄)
    ⊢ iprop(Pre c (srcOf m c) (V m c main_v1) (V m c main_v2) (V m c main_v3) (V m c main_v0) ∗ ∃ r, prngReg c r) := by
  unfold Pipeline.Ends Pre InAt Ready
  rw [routed_eq, ownSems_eq, scopedRest0_eq, semX_eq, semN_eq, semP_eq, semF_eq, semQ_eq, semK_eq, semV_eq]
  iintro ⟨⟨Av1, Av2, Av3, Av0, Av7, Av8, Av12, Av13, Av17, Av18, Av19_0, Av19_1, Av19_2⟩, ⟨E0, E1, E2, E3, E4, E5, E6, E7, E8, E9, E10, E11, E12, E13, E14, E15, E16, E17, E18, E19, E20, E21, E22, E23, E24, E25, E26⟩, ⟨B0, B1, B2, B3, B4, B5, B6, B7, B8, B9, B10, B11, B12, B13, B14, B15, B16⟩, Hp⟩
  isplitr [Hp]
  swap; · iexact Hp
  isplitl [Av1 B0 E0]
  · isplitl [Av1]; · iexact Av1
    isplitl [B0]; · iexact B0
    iexact E0
  isplitl [Av2 B1 E1]
  · isplitl [Av2]; · iexact Av2
    isplitl [B1]; · iexact B1
    iexact E1
  isplitl [Av3 B3 E2]
  · isplitl [Av3]; · iexact Av3
    isplitl [B3]; · iexact B3
    iexact E2
  isplitl [Av0 B4 E3]
  · isplitl [Av0]; · iexact Av0
    isplitl [B4]; · iexact B4
    iexact E3
  isplitl [B2]; · iexact B2
  isplitl [B11]; · iexact B11
  isplitl [B12]; · iexact B12
  isplitl [B13]; · iexact B13
  isplitl [Av19_0 B14 E24]
  · isplitl [Av19_0]; · iexists _; iexact Av19_0
    isplitl [B14]; · iexact B14
    iexact E24
  isplitl [Av19_1 B15 E25]
  · isplitl [Av19_1]; · iexists _; iexact Av19_1
    isplitl [B15]; · iexact B15
    iexact E25
  isplitl [Av19_2 B16 E26]
  · isplitl [Av19_2]; · iexists _; iexact Av19_2
    isplitl [B16]; · iexact B16
    iexact E26
  iapply (idle_all c (srcOf m c))
  rw [sems_eq]
  unfold Sources Buffers
  isplitl [E4 E5 E6 E7 E8 E9 E10 E11 E12 E13 E14 E15 E16 E17 E18 E19 E20 E21 E22 E23]
  · isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    iexact E23
  isplitl [Av8 Av13 Av18 Av7 Av12 Av17]
  · isplitl [Av8]; · iexact Av8
    isplitl [Av13]; · iexact Av13
    isplitl [Av18]; · iexact Av18
    isplitl [Av7]; · iexact Av7
    isplitl [Av12]; · iexact Av12
    iexact Av17
  isplitl [B8]; · iexact B8
  isplitl [B9]; · iexact B9
  isplitl [B10]; · iexact B10
  isplitl [B5]; · iexact B5
  isplitl [B6]; · iexact B6
  iexact B7

set_option maxHeartbeats 4000000 in
/-- What the kernel leaves is what the launch asks back. -/
theorem post_ends : iprop(Post c (srcOf m c) (V m c main_v1) (V m c main_v2) (V m c main_v3) (V m c main_v0) ∗ ∃ r, prngReg c r)
    ⊢ (Pipeline.Ends cfg0.spec osem0 R0 c (Y m c) : sProp 𝕄) := by
  unfold Pipeline.Ends Post InAt Results Done Got
  rw [routed_eq, ownSems_eq, scopedRest0_eq, semX_eq, semN_eq, semP_eq, semF_eq, semQ_eq, semK_eq, semV_eq, Y_q, Y_k, Y_v,
    Y_of_ne m c (b := main_v1) (by decide) (by decide) (by decide),
    Y_of_ne m c (b := main_v2) (by decide) (by decide) (by decide),
    Y_of_ne m c (b := main_v3) (by decide) (by decide) (by decide),
    Y_of_ne m c (b := main_v0) (by decide) (by decide) (by decide),
    Y_of_ne m c (b := main_v7) (by decide) (by decide) (by decide),
    Y_of_ne m c (b := main_v8) (by decide) (by decide) (by decide),
    Y_of_ne m c (b := main_v12) (by decide) (by decide) (by decide),
    Y_of_ne m c (b := main_v13) (by decide) (by decide) (by decide),
    Y_of_ne m c (b := main_v17) (by decide) (by decide) (by decide),
    Y_of_ne m c (b := main_v18) (by decide) (by decide) (by decide)]
  iintro ⟨⟨⟨Av1, B0, E0⟩, ⟨Av2, B1, E1⟩, ⟨Av3, B3, E2⟩, ⟨Av0, B4, E3⟩, B2, B11, B12, B13,
    ⟨⟨⟨%g0, %e0, Av19_0⟩, B14, E24⟩, ⟨⟨%g1, %e1, Av19_1⟩, B15, E25⟩, ⟨⟨%g2, %e2, Av19_2⟩, B16, E26⟩⟩, HL⟩, Hp⟩
  obtain rfl : g0 = qOf m c := e0
  obtain rfl : g1 = kOf m c := e1
  obtain rfl : g2 = vOf m c := e2
  ihave HL := (land_all c (srcOf m c)) $$ HL
  unfold Sources Buffers
  icases HL with ⟨HS, ⟨Av8, Av13, Av18, Av7, Av12, Av17⟩, ⟨B8, B9, B10, B5, B6, B7⟩⟩
  ihave HS := (Entails.of_eq (sems_eq c)) $$ HS
  icases HS with ⟨E4, E5, E6, E7, E8, E9, E10, E11, E12, E13, E14, E15, E16, E17, E18, E19, E20, E21, E22, E23⟩
  isplitl [Av1 Av2 Av3 Av0 Av7 Av8 Av12 Av13 Av17 Av18 Av19_0 Av19_1 Av19_2]
  · isplitl [Av1]; · iexact Av1
    isplitl [Av2]; · iexact Av2
    isplitl [Av3]; · iexact Av3
    isplitl [Av0]; · iexact Av0
    isplitl [Av7]; · iexact Av7
    isplitl [Av8]; · iexact Av8
    isplitl [Av12]; · iexact Av12
    isplitl [Av13]; · iexact Av13
    isplitl [Av17]; · iexact Av17
    isplitl [Av18]; · iexact Av18
    isplitl [Av19_0]; · iexact Av19_0
    isplitl [Av19_1]; · iexact Av19_1
    iexact Av19_2
  isplitl [E0 E1 E2 E3 E4 E5 E6 E7 E8 E9 E10 E11 E12 E13 E14 E15 E16 E17 E18 E19 E20 E21 E22 E23 E24 E25 E26]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    iexact E26
  isplitl [B0 B1 B2 B3 B4 B5 B6 B7 B8 B9 B10 B11 B12 B13 B14 B15 B16]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact B16
  iexact Hp

/-- The invariant: before the one point the arrays as found, after it as left. -/
def dats (_ : Fin 1) (c : Dev nD) : Dat τ (Elt F) Unit ℕ (Pipeline.UC sig nD τ) ℕ cfg0 c where
  A w := V m c (Pipeline.arrRef cfg0.spec w)
  after w _ := w.elim0
  Φ i := Pipeline.Ends cfg0.spec osem0 R0 c (if i.val = 0 then V m c else Y m c)
  q _ := fullShare
  owed _ := 0

theorem A_eq (w : Fin cfg0.W) : (dats m 0 c).A w = V m c (Pipeline.arrRef cfg0.spec w) := by
  dsimp only [dats]

theorem Phi_first (t : Fin cfg0.N) : (dats m 0 c).Φ t.castSucc = Pipeline.Ends cfg0.spec osem0 R0 c (V m c) := by
  have h : t.val = 0 := by have := fin_N0 t; rw [this]; rfl
  dsimp only [dats]; rw [if_pos (show t.castSucc.val = 0 from h)]

theorem Phi_last (t : Fin cfg0.N) : (dats m 0 c).Φ t.succ = Pipeline.Ends cfg0.spec osem0 R0 c (Y m c) := by
  dsimp only [dats]; rw [if_neg (show ¬ t.succ.val = 0 from Nat.succ_ne_zero _)]

theorem bigSep_none (Φ : Fin cfg0.W → sProp 𝕄) : bigSep Finset.univ Φ = (BI.emp : sProp 𝕄) := by
  rw [show (Finset.univ : Finset (Fin cfg0.W)) = ∅ from rfl, BI.bigSep_empty]

theorem sound_body (t : Fin cfg0.N) :
    iprop((dats m 0 c).Φ t.castSucc ∗ (dats m 0 c).owesAt () t.castSucc ∗ emp)
      ⊢ wp frame (wpE (defs₀ (F := F)) Variants.none c none) Set.univ (bodyAt0 t) (fun _ => iprop((dats m 0 c).Φ t.succ ∗ (dats m 0 c).owesAt () t.succ ∗ emp)) := by
  unfold bodyAt0
  rw [Phi_first, Phi_last]
  unfold Dat.owesAt Pipeline.owesWithin
  rw [show (dats m 0 c).owed t.castSucc = 0 from rfl, show (dats m 0 c).owed t.succ = 0 from rfl]
  iintro ⟨HE, ⟨%W, -, HW⟩, -⟩
  ihave HE := (ends_pre m c) $$ HE
  icases HE with ⟨HP, Hr⟩
  iapply (wp_body c (srcOf m c) (countersEmb (U := Pipeline.UC sig nD τ)) () Variants.none none (V m c main_v1) (V m c main_v2) (V m c main_v3) (V m c main_v0)) $$ [HP HW]
  · isplitl [HP]; · iexact HP
    iexact HW
  iintro ⟨HP, ⟨%W', HW⟩⟩
  isplitl [HP Hr]
  · iapply (post_ends m c)
    isplitl [HP]; · iexact HP
    iexact Hr
  isplitl [HW]
  · iexists W'; isplitr; · ipureintro; exact fun _ _ => Or.inl trivial
    iexact HW
  iempintro

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_none, bigSep_none, defs₀_row]
  exact sound_body m c t

theorem hmainC : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

/-- The run: every argument as it was, every semaphore at zero, the three results as stated. -/
def RunPost (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
  ∧ (r.2.sem = fun _ => 0)
  ∧ ∀ c : Dev nD, r.2.mem ((c.tc : Thread nD τ).loc main_v19_0) = qOf m c ∧ r.2.mem ((c.tc : Thread nD τ).loc main_v19_1) = kOf m c
    ∧ r.2.mem ((c.tc : Thread nD τ).loc main_v19_2) = vOf m c

theorem post_of (r : PUnit × MemSt nD τ sig (Elt F)) (h : Pipeline.RoutedPost cfgs (dats m) 0 R0 (V m) (Y m) r ∧ r.2.sem = fun _ => 0) : RunPost m r := by
  obtain ⟨h, hs⟩ := h
  refine ⟨fun c => ?_, hs, fun c => ⟨?_, ?_, ?_⟩⟩
  · obtain ⟨-, -, h⟩ := h c
    exact ⟨(h main_arg0 (by decide)).trans (V_main_arg0 m c),
      (h main_arg1 (by decide)).trans (V_main_arg1 m c),
      (h main_arg2 (by decide)).trans (V_main_arg2 m c),
      (h main_arg3 (by decide)).trans (V_main_arg3 m c),
      (h main_arg4 (by decide)).trans (V_main_arg4 m c),
      (h main_arg5 (by decide)).trans (V_main_arg5 m c),
      (h main_arg6 (by decide)).trans (V_main_arg6 m c),
      (h main_arg7 (by decide)).trans (V_main_arg7 m c),
      (h main_arg8 (by decide)).trans (V_main_arg8 m c)⟩
  · exact ((h c).2.1 main_v19_0 (by decide)).trans (Y_q m c)
  · exact ((h c).2.1 main_v19_1 (by decide)).trans (Y_k m c)
  · exact ((h c).2.1 main_v19_2 (by decide)).trans (Y_v m c)

set_option backward.isDefEq.respectTransparency.types false in
theorem run_main : θ_run defs (onTc (τ := τ) (main (F := F))) (s₀ m ρ) (RunPost m) :=
  Pipeline.θ_run_frame_routed (Q' := RunPost m) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmainC m) (hA := fun c w => A_eq m c w) (R := R0) (hR := R0_sub) (Y := Y m)
    (hin := fun c => Entails.of_eq (Phi_first m c t0_0).symm) (hout := fun c => Entails.of_eq (Phi_last m c t0_0)) (hQ' := post_of m)

end Cert.KernelIdeal.Hand
-- ==== Proof.Plain.Trip.lean ====
/-
  One trip of the contraction loop as a structured program: wait for the chunk's copies, issue those of the chunk ten ahead,
  read the chunk's activations, fourteen blocks.
-/
module

public import proofs.«01_k».proof.Proof.Gen.Kernel
public import proofs.«01_k».proof.Proof.Block
public import proofs.«01_k».proof.Proof.Dma

@[expose] public section

set_option maxRecDepth 16384

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open Idealize.SL.Sem

variable {F : FTy → Type} [BitOps F]

/-! The body's operands. -/
abbrev arg0 : Memref sig .tc .hbm S64x5120 .bf16 := Memref.whole main_v1
abbrev harg0 : (arg0).IsWhole := Memref.isWhole_whole _
abbrev arg1 : Memref sig .tc .hbm S40x128 .bf16 := Memref.whole main_v2
abbrev harg1 : (arg1).IsWhole := Memref.isWhole_whole _
abbrev arg2 : Memref sig .tc .hbm S1x64 .i32 := Memref.whole main_v3
abbrev harg2 : (arg2).IsWhole := Memref.isWhole_whole _
abbrev arg3 : Memref sig .tc .hbm S1x128 .f32 := Memref.whole main_v0
abbrev harg3 : (arg3).IsWhole := Memref.isWhole_whole _
abbrev arg4 : Memref sig .tc .hbm S320x320x128 .i8 := Memref.whole main_v7
abbrev harg4 : (arg4).IsWhole := Memref.isWhole_whole _
abbrev arg5 : Memref sig .tc .hbm S160x5120 .bf16 := Memref.whole main_v8
abbrev harg5 : (arg5).IsWhole := Memref.isWhole_whole _
abbrev arg6 : Memref sig .tc .hbm S320x64x128 .i8 := Memref.whole main_v12
abbrev harg6 : (arg6).IsWhole := Memref.isWhole_whole _
abbrev arg7 : Memref sig .tc .hbm S160x1024 .bf16 := Memref.whole main_v13
abbrev harg7 : (arg7).IsWhole := Memref.isWhole_whole _
abbrev arg8 : Memref sig .tc .hbm S320x64x128 .i8 := Memref.whole main_v17
abbrev harg8 : (arg8).IsWhole := Memref.isWhole_whole _
abbrev arg9 : Memref sig .tc .hbm S160x1024 .bf16 := Memref.whole main_v18
abbrev harg9 : (arg9).IsWhole := Memref.isWhole_whole _
abbrev arg10 : Memref sig .tc .hbm S64x40x128 .bf16 := Memref.whole main_v19_0
abbrev harg10 : (arg10).IsWhole := Memref.isWhole_whole _
abbrev arg11 : Memref sig .tc .hbm S64x8x128 .bf16 := Memref.whole main_v19_1
abbrev harg11 : (arg11).IsWhole := Memref.isWhole_whole _
abbrev arg12 : Memref sig .tc .hbm S64x8x128 .bf16 := Memref.whole main_v19_2
abbrev harg12 : (arg12).IsWhole := Memref.isWhole_whole _
abbrev arg13 : Memref sig .tc .vmem S64x5120 .bf16 := Memref.whole cc0_scratch0
abbrev harg13 : (arg13).IsWhole := Memref.isWhole_whole _
abbrev arg14 : Memref sig .tc .vmem S40x128 .bf16 := Memref.whole cc0_scratch1
abbrev harg14 : (arg14).IsWhole := Memref.isWhole_whole _
abbrev arg15 : Memref sig .tc .vmem S40x128 .f32 := Memref.whole cc0_scratch2
abbrev harg15 : (arg15).IsWhole := Memref.isWhole_whole _
abbrev arg16 : Memref sig .tc .vmem S1x64 .i32 := Memref.whole cc0_scratch3
abbrev harg16 : (arg16).IsWhole := Memref.isWhole_whole _
abbrev arg17 : Memref sig .tc .vmem S1x128 .f32 := Memref.whole cc0_scratch4
abbrev harg17 : (arg17).IsWhole := Memref.isWhole_whole _
abbrev arg18 : Memref sig .tc .vmem S320x320x128 .i8 := Memref.whole cc0_scratch5
abbrev harg18 : (arg18).IsWhole := Memref.isWhole_whole _
abbrev arg19 : Memref sig .tc .vmem S320x64x128 .i8 := Memref.whole cc0_scratch6
abbrev harg19 : (arg19).IsWhole := Memref.isWhole_whole _
abbrev arg20 : Memref sig .tc .vmem S320x64x128 .i8 := Memref.whole cc0_scratch7
abbrev harg20 : (arg20).IsWhole := Memref.isWhole_whole _
abbrev arg21 : Memref sig .tc .vmem S160x5120 .bf16 := Memref.whole cc0_scratch8
abbrev harg21 : (arg21).IsWhole := Memref.isWhole_whole _
abbrev arg22 : Memref sig .tc .vmem S160x1024 .bf16 := Memref.whole cc0_scratch9
abbrev harg22 : (arg22).IsWhole := Memref.isWhole_whole _
abbrev arg23 : Memref sig .tc .vmem S160x1024 .bf16 := Memref.whole cc0_scratch10
abbrev harg23 : (arg23).IsWhole := Memref.isWhole_whole _
abbrev arg24 : Memref sig .tc .vmem S40x64x128 .bf16 := Memref.whole cc0_scratch11
abbrev harg24 : (arg24).IsWhole := Memref.isWhole_whole _
abbrev arg25 : Memref sig .tc .vmem S64x128 .f32 := Memref.whole cc0_scratch12
abbrev harg25 : (arg25).IsWhole := Memref.isWhole_whole _
abbrev arg26 : Memref sig .tc .vmem S64x128 .f32 := Memref.whole cc0_scratch13
abbrev harg26 : (arg26).IsWhole := Memref.isWhole_whole _
abbrev arg27 : Memref sig .tc .vmem S64x40x128 .bf16 := Memref.whole cc0_scratch14
abbrev harg27 : (arg27).IsWhole := Memref.isWhole_whole _
abbrev arg28 : Memref sig .tc .vmem S64x8x128 .bf16 := Memref.whole cc0_scratch15
abbrev harg28 : (arg28).IsWhole := Memref.isWhole_whole _
abbrev arg29 : Memref sig .tc .vmem S64x8x128 .bf16 := Memref.whole cc0_scratch16
abbrev harg29 : (arg29).IsWhole := Memref.isWhole_whole _
abbrev arg30 : DmaSems sig S4 := cc0_scratch17
abbrev arg31 : DmaSems sig S20 := cc0_scratch18
abbrev arg32 : DmaSems sig S3 := cc0_scratch19

/-- The two shift tables: 28 everywhere, and 28 − 4·j. -/
abbrev downC : IVec T8x8x128 32 := broadcast S8x8x128 28#32
@[inherit_doc downC]
abbrev upC : IVec T8x8x128 32 := subi (broadcast S8x8x128 28#32) (muli (broadcast S8x8x128 4#32) (iota .tc S8x8x128 32 [1] iota_S8x8x128_d1_w32))

/-- The activations of a chunk: two tiles of 128 columns side by side. -/
abbrev hChunk (v w : Vec F S1x64x128 .bf16) : FVec F S64x256 .bf16 :=
  concatenate S64x256 1 [⟨S64x128, shapeCast S64x128 v shapeCasts_S1x64x128_S64x128⟩, ⟨S64x128, shapeCast S64x128 w shapeCasts_S1x64x128_S64x128⟩] concatenates_S64x128_S64x128_S64x256_d1

/-- The copies waited for at trip `k` of the contraction loop. -/
def cpsWait (k : Fin k0_t3_loop.trips) : Fin 6 → Cp sig :=
  ![⟨S8x5120, .bf16, arg5.slice (Rect.unit (s := S160x5120) (k0_off8 k) S8x5120.size (k0_off8_inb k)) (fun _ => rfl), arg21.slice (Rect.unit (s := S160x5120) (k0_off8 k) S8x5120.size (k0_off8_inb k)) (fun _ => rfl), harg5.wordExact_slice rfl _ (k0_off8_wordsbf16 k), harg21.wordExact_slice rfl _ (k0_off8_wordsbf16 k)⟩,
    ⟨S8x1024, .bf16, arg7.slice (Rect.unit (s := S160x1024) (k0_off9 k) S8x1024.size (k0_off9_inb k)) (fun _ => rfl), arg22.slice (Rect.unit (s := S160x1024) (k0_off9 k) S8x1024.size (k0_off9_inb k)) (fun _ => rfl), harg7.wordExact_slice rfl _ (k0_off9_wordsbf16 k), harg22.wordExact_slice rfl _ (k0_off9_wordsbf16 k)⟩,
    ⟨S8x1024, .bf16, arg9.slice (Rect.unit (s := S160x1024) (k0_off9 k) S8x1024.size (k0_off9_inb k)) (fun _ => rfl), arg23.slice (Rect.unit (s := S160x1024) (k0_off9 k) S8x1024.size (k0_off9_inb k)) (fun _ => rfl), harg9.wordExact_slice rfl _ (k0_off9_wordsbf16 k), harg23.wordExact_slice rfl _ (k0_off9_wordsbf16 k)⟩,
    ⟨S16x320x128, .i8, arg4.slice (Rect.unit (s := S320x320x128) (k0_off10 k) S16x320x128.size (k0_off10_inb k)) (fun _ => rfl), arg18.slice (Rect.unit (s := S320x320x128) (k0_off10 k) S16x320x128.size (k0_off10_inb k)) (fun _ => rfl), harg4.wordExact_slice rfl _ (k0_off10_wordsi8 k), harg18.wordExact_slice rfl _ (k0_off10_wordsi8 k)⟩,
    ⟨S16x64x128, .i8, arg6.slice (Rect.unit (s := S320x64x128) (k0_off11 k) S16x64x128.size (k0_off11_inb k)) (fun _ => rfl), arg19.slice (Rect.unit (s := S320x64x128) (k0_off11 k) S16x64x128.size (k0_off11_inb k)) (fun _ => rfl), harg6.wordExact_slice rfl _ (k0_off11_wordsi8 k), harg19.wordExact_slice rfl _ (k0_off11_wordsi8 k)⟩,
    ⟨S16x64x128, .i8, arg8.slice (Rect.unit (s := S320x64x128) (k0_off11 k) S16x64x128.size (k0_off11_inb k)) (fun _ => rfl), arg20.slice (Rect.unit (s := S320x64x128) (k0_off11 k) S16x64x128.size (k0_off11_inb k)) (fun _ => rfl), harg8.wordExact_slice rfl _ (k0_off11_wordsi8 k), harg20.wordExact_slice rfl _ (k0_off11_wordsi8 k)⟩]
/-- The copies issued at trip `k`. -/
def cpsAhead (k : Fin k0_t3_loop.trips) (h : k0_cond1 k = 1#1) : Fin 6 → Cp sig :=
  ![⟨S8x5120, .bf16, arg5.slice (Rect.unit (s := S160x5120) (k0_off13 k) S8x5120.size (k0_off13_inb k h)) (fun _ => rfl), arg21.slice (Rect.unit (s := S160x5120) (k0_off13 k) S8x5120.size (k0_off13_inb k h)) (fun _ => rfl), harg5.wordExact_slice rfl _ (k0_off13_wordsbf16 k h), harg21.wordExact_slice rfl _ (k0_off13_wordsbf16 k h)⟩,
    ⟨S8x1024, .bf16, arg7.slice (Rect.unit (s := S160x1024) (k0_off14 k) S8x1024.size (k0_off14_inb k h)) (fun _ => rfl), arg22.slice (Rect.unit (s := S160x1024) (k0_off14 k) S8x1024.size (k0_off14_inb k h)) (fun _ => rfl), harg7.wordExact_slice rfl _ (k0_off14_wordsbf16 k h), harg22.wordExact_slice rfl _ (k0_off14_wordsbf16 k h)⟩,
    ⟨S8x1024, .bf16, arg9.slice (Rect.unit (s := S160x1024) (k0_off14 k) S8x1024.size (k0_off14_inb k h)) (fun _ => rfl), arg23.slice (Rect.unit (s := S160x1024) (k0_off14 k) S8x1024.size (k0_off14_inb k h)) (fun _ => rfl), harg9.wordExact_slice rfl _ (k0_off14_wordsbf16 k h), harg23.wordExact_slice rfl _ (k0_off14_wordsbf16 k h)⟩,
    ⟨S16x320x128, .i8, arg4.slice (Rect.unit (s := S320x320x128) (k0_off15 k) S16x320x128.size (k0_off15_inb k h)) (fun _ => rfl), arg18.slice (Rect.unit (s := S320x320x128) (k0_off15 k) S16x320x128.size (k0_off15_inb k h)) (fun _ => rfl), harg4.wordExact_slice rfl _ (k0_off15_wordsi8 k h), harg18.wordExact_slice rfl _ (k0_off15_wordsi8 k h)⟩,
    ⟨S16x64x128, .i8, arg6.slice (Rect.unit (s := S320x64x128) (k0_off16 k) S16x64x128.size (k0_off16_inb k h)) (fun _ => rfl), arg19.slice (Rect.unit (s := S320x64x128) (k0_off16 k) S16x64x128.size (k0_off16_inb k h)) (fun _ => rfl), harg6.wordExact_slice rfl _ (k0_off16_wordsi8 k h), harg19.wordExact_slice rfl _ (k0_off16_wordsi8 k h)⟩,
    ⟨S16x64x128, .i8, arg8.slice (Rect.unit (s := S320x64x128) (k0_off16 k) S16x64x128.size (k0_off16_inb k h)) (fun _ => rfl), arg20.slice (Rect.unit (s := S320x64x128) (k0_off16 k) S16x64x128.size (k0_off16_inb k h)) (fun _ => rfl), harg8.wordExact_slice rfl _ (k0_off16_wordsi8 k h), harg20.wordExact_slice rfl _ (k0_off16_wordsi8 k h)⟩]
/-- The copies issued at trip `k` of the first loop. -/
def cpsFirst (k : Fin k0_t1_loop.trips) : Fin 6 → Cp sig :=
  ![⟨S8x5120, .bf16, arg5.slice (Rect.unit (s := S160x5120) (k0_off2 k) S8x5120.size (k0_off2_inb k)) (fun _ => rfl), arg21.slice (Rect.unit (s := S160x5120) (k0_off2 k) S8x5120.size (k0_off2_inb k)) (fun _ => rfl), harg5.wordExact_slice rfl _ (k0_off2_wordsbf16 k), harg21.wordExact_slice rfl _ (k0_off2_wordsbf16 k)⟩,
    ⟨S8x1024, .bf16, arg7.slice (Rect.unit (s := S160x1024) (k0_off3 k) S8x1024.size (k0_off3_inb k)) (fun _ => rfl), arg22.slice (Rect.unit (s := S160x1024) (k0_off3 k) S8x1024.size (k0_off3_inb k)) (fun _ => rfl), harg7.wordExact_slice rfl _ (k0_off3_wordsbf16 k), harg22.wordExact_slice rfl _ (k0_off3_wordsbf16 k)⟩,
    ⟨S8x1024, .bf16, arg9.slice (Rect.unit (s := S160x1024) (k0_off3 k) S8x1024.size (k0_off3_inb k)) (fun _ => rfl), arg23.slice (Rect.unit (s := S160x1024) (k0_off3 k) S8x1024.size (k0_off3_inb k)) (fun _ => rfl), harg9.wordExact_slice rfl _ (k0_off3_wordsbf16 k), harg23.wordExact_slice rfl _ (k0_off3_wordsbf16 k)⟩,
    ⟨S16x320x128, .i8, arg4.slice (Rect.unit (s := S320x320x128) (k0_off4 k) S16x320x128.size (k0_off4_inb k)) (fun _ => rfl), arg18.slice (Rect.unit (s := S320x320x128) (k0_off4 k) S16x320x128.size (k0_off4_inb k)) (fun _ => rfl), harg4.wordExact_slice rfl _ (k0_off4_wordsi8 k), harg18.wordExact_slice rfl _ (k0_off4_wordsi8 k)⟩,
    ⟨S16x64x128, .i8, arg6.slice (Rect.unit (s := S320x64x128) (k0_off5 k) S16x64x128.size (k0_off5_inb k)) (fun _ => rfl), arg19.slice (Rect.unit (s := S320x64x128) (k0_off5 k) S16x64x128.size (k0_off5_inb k)) (fun _ => rfl), harg6.wordExact_slice rfl _ (k0_off5_wordsi8 k), harg19.wordExact_slice rfl _ (k0_off5_wordsi8 k)⟩,
    ⟨S16x64x128, .i8, arg8.slice (Rect.unit (s := S320x64x128) (k0_off5 k) S16x64x128.size (k0_off5_inb k)) (fun _ => rfl), arg20.slice (Rect.unit (s := S320x64x128) (k0_off5 k) S16x64x128.size (k0_off5_inb k)) (fun _ => rfl), harg8.wordExact_slice rfl _ (k0_off5_wordsi8 k), harg20.wordExact_slice rfl _ (k0_off5_wordsi8 k)⟩]

/-- The fourteen blocks of a trip. -/
def blocks (k : Fin k0_t3_loop.trips) (h : FVec F S64x256 .bf16) (s0 : Mxu F) : Prog (TpuEff nD τ sig (Elt F) Λ₀ .tc) (Mxu F) :=
  blockK arg21 arg18 ![k0_off18 k, k0_off19 k, k0_off20 k, k0_off21 k] (fun | 0 => k0_off18_inb k | 1 => k0_off19_inb k | 2 => k0_off20_inb k | 3 => k0_off21_inb k)
    (k0_off22 k) (fun g b => k0_off22_inb k g b) downC upC 0 0 fits_0_64 h s0 fun s1 =>
  blockK arg21 arg18 ![k0_off23 k, k0_off24 k, k0_off25 k, k0_off26 k] (fun | 0 => k0_off23_inb k | 1 => k0_off24_inb k | 2 => k0_off25_inb k | 3 => k0_off26_inb k)
    (k0_off27 k) (fun g b => k0_off27_inb k g b) downC upC 1 16 fits_16_64 h s1 fun s2 =>
  blockK arg21 arg18 ![k0_off28 k, k0_off29 k, k0_off30 k, k0_off31 k] (fun | 0 => k0_off28_inb k | 1 => k0_off29_inb k | 2 => k0_off30_inb k | 3 => k0_off31_inb k)
    (k0_off32 k) (fun g b => k0_off32_inb k g b) downC upC 0 32 fits_32_64 h s2 fun s3 =>
  blockK arg21 arg18 ![k0_off33 k, k0_off34 k, k0_off35 k, k0_off36 k] (fun | 0 => k0_off33_inb k | 1 => k0_off34_inb k | 2 => k0_off35_inb k | 3 => k0_off36_inb k)
    (k0_off37 k) (fun g b => k0_off37_inb k g b) downC upC 1 48 fits_48_64 h s3 fun s4 =>
  blockK arg21 arg18 ![k0_off38 k, k0_off39 k, k0_off40 k, k0_off41 k] (fun | 0 => k0_off38_inb k | 1 => k0_off39_inb k | 2 => k0_off40_inb k | 3 => k0_off41_inb k)
    (k0_off42 k) (fun g b => k0_off42_inb k g b) downC upC 0 64 fits_64_64 h s4 fun s5 =>
  blockK arg21 arg18 ![k0_off43 k, k0_off44 k, k0_off45 k, k0_off46 k] (fun | 0 => k0_off43_inb k | 1 => k0_off44_inb k | 2 => k0_off45_inb k | 3 => k0_off46_inb k)
    (k0_off47 k) (fun g b => k0_off47_inb k g b) downC upC 1 80 fits_80_64 h s5 fun s6 =>
  blockK arg21 arg18 ![k0_off48 k, k0_off49 k, k0_off50 k, k0_off51 k] (fun | 0 => k0_off48_inb k | 1 => k0_off49_inb k | 2 => k0_off50_inb k | 3 => k0_off51_inb k)
    (k0_off52 k) (fun g b => k0_off52_inb k g b) downC upC 0 96 fits_96_64 h s6 fun s7 =>
  blockK arg21 arg18 ![k0_off53 k, k0_off54 k, k0_off55 k, k0_off56 k] (fun | 0 => k0_off53_inb k | 1 => k0_off54_inb k | 2 => k0_off55_inb k | 3 => k0_off56_inb k)
    (k0_off57 k) (fun g b => k0_off57_inb k g b) downC upC 1 112 fits_112_64 h s7 fun s8 =>
  blockK arg21 arg18 ![k0_off58 k, k0_off59 k, k0_off60 k, k0_off61 k] (fun | 0 => k0_off58_inb k | 1 => k0_off59_inb k | 2 => k0_off60_inb k | 3 => k0_off61_inb k)
    (k0_off62 k) (fun g b => k0_off62_inb k g b) downC upC 0 128 fits_128_64 h s8 fun s9 =>
  blockK arg21 arg18 ![k0_off63 k, k0_off64 k, k0_off65 k, k0_off66 k] (fun | 0 => k0_off63_inb k | 1 => k0_off64_inb k | 2 => k0_off65_inb k | 3 => k0_off66_inb k)
    (k0_off67 k) (fun g b => k0_off67_inb k g b) downC upC 1 144 fits_144_64 h s9 fun s10 =>
  blockK arg22 arg19 ![k0_off68 k, k0_off69 k, k0_off70 k, k0_off71 k] (fun | 0 => k0_off68_inb k | 1 => k0_off69_inb k | 2 => k0_off70_inb k | 3 => k0_off71_inb k)
    (k0_off72 k) (fun g b => k0_off72_inb k g b) downC upC 0 160 fits_160_64 h s10 fun s11 =>
  blockK arg22 arg19 ![k0_off73 k, k0_off74 k, k0_off75 k, k0_off76 k] (fun | 0 => k0_off73_inb k | 1 => k0_off74_inb k | 2 => k0_off75_inb k | 3 => k0_off76_inb k)
    (k0_off77 k) (fun g b => k0_off77_inb k g b) downC upC 1 176 fits_176_64 h s11 fun s12 =>
  blockK arg23 arg20 ![k0_off68 k, k0_off69 k, k0_off70 k, k0_off71 k] (fun | 0 => k0_off68_inb k | 1 => k0_off69_inb k | 2 => k0_off70_inb k | 3 => k0_off71_inb k)
    (k0_off72 k) (fun g b => k0_off72_inb k g b) downC upC 0 192 fits_192_64 h s12 fun s13 =>
  blockK arg23 arg20 ![k0_off73 k, k0_off74 k, k0_off75 k, k0_off76 k] (fun | 0 => k0_off73_inb k | 1 => k0_off74_inb k | 2 => k0_off75_inb k | 3 => k0_off76_inb k)
    (k0_off77 k) (fun g b => k0_off77_inb k g b) downC upC 1 208 fits_208_64 h s13 fun s14 =>
  .ret s14

/-- One trip. -/
def trip (k : Fin k0_t3_loop.trips) (s : Mxu F) : Prog (TpuEff nD τ sig (Elt F) Λ₀ .tc) (Mxu F) :=
  Prog.bind (wait6 (cpsWait k) ((arg31.slice (Rect.unit (s := S20) (k0_off7 k) S1.size (k0_off7_inb k))).squeeze S_ squeezes_S1_S_).sem) fun _ =>
  Prog.bind (if h : k0_cond1 k = 1#1 then enq6 (cpsAhead k h) ((arg31.slice (Rect.unit (s := S20) (k0_off12 k) S1.size (k0_off12_inb k h))).squeeze S_ squeezes_S1_S_).sem else .ret ⟨⟩) fun _ =>
  .op (.load arg24 (Rect.unit (s := S40x64x128) (k0_off17 k 0#32) S1x64x128.size (k0_off17_inb k 0)).toLoadRect (View.loadsAt_vmem h_S1x64x128)) fun v =>
  .op (.load arg24 (Rect.unit (s := S40x64x128) (k0_off17 k 1#32) S1x64x128.size (k0_off17_inb k 1)).toLoadRect (View.loadsAt_vmem h_S1x64x128)) fun w =>
  blocks k (hChunk v w) s

/-- One trip of the first loop. -/
def tripFirst (k : Fin k0_t1_loop.trips) : Prog (TpuEff nD τ sig (Elt F) Λ₀ .tc) PUnit :=
  enq6 (cpsFirst k) ((arg31.slice (Rect.unit (s := S20) (k0_off1 k) S1.size (k0_off1_inb k))).squeeze S_ squeezes_S1_S_).sem

end Cert.Kernel.Hand
-- ==== Proof.Plain.Copies.lean ====
/-
  The copies of the weights and scales, chunk by chunk: the three loops name the same twenty groups of six copies, each
  group on a semaphore of its own.
-/
module

public import proofs.«01_k».proof.Proof.Plain.Trip
public import proofs.«01_k».proof.Proof.Dma

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem trips1 : k0_t1_loop.trips = 10 := by decide +kernel
theorem trips3 : k0_t3_loop.trips = 20 := by decide +kernel

/-- Chunk `n`'s place in the contraction loop. -/
abbrev at3 (n : Fin 20) : Fin k0_t3_loop.trips := n.cast trips3.symm

/-- The six copies of chunk `n`. -/
def cps (n : Fin 20) : Fin 6 → Cp sig := cpsWait (at3 n)

/-- The semaphore of chunk `n`. -/
def semOf (n : Fin 20) : DmaSem sig := ((arg31.slice (Rect.unit (s := S20) (k0_off7 (at3 n)) S1.size (k0_off7_inb (at3 n)))).squeeze S_ squeezes_S1_S_).sem

/-- Copy 0 of a group, at the block of `arg5` that starts at `off`. -/
def cp0 (off : Fin S160x5120.rank → ℕ) (inb : ∀ a, off a + S8x5120.size a ≤ S160x5120.size a) (w : (Rect.unit (s := S160x5120) off S8x5120.size inb).WholeWords (EltTy.packing .bf16)) : Cp sig :=
  ⟨S8x5120, .bf16, arg5.slice (Rect.unit (s := S160x5120) off S8x5120.size inb) (fun _ => rfl), arg21.slice (Rect.unit (s := S160x5120) off S8x5120.size inb) (fun _ => rfl), harg5.wordExact_slice rfl _ w, harg21.wordExact_slice rfl _ w⟩
theorem cp0_congr {off off' : Fin S160x5120.rank → ℕ} (h : off = off') {inb w} {inb' w'} : cp0 off inb w = cp0 off' inb' w' := by subst h; rfl

/-- Copy 1 of a group, at the block of `arg7` that starts at `off`. -/
def cp1 (off : Fin S160x1024.rank → ℕ) (inb : ∀ a, off a + S8x1024.size a ≤ S160x1024.size a) (w : (Rect.unit (s := S160x1024) off S8x1024.size inb).WholeWords (EltTy.packing .bf16)) : Cp sig :=
  ⟨S8x1024, .bf16, arg7.slice (Rect.unit (s := S160x1024) off S8x1024.size inb) (fun _ => rfl), arg22.slice (Rect.unit (s := S160x1024) off S8x1024.size inb) (fun _ => rfl), harg7.wordExact_slice rfl _ w, harg22.wordExact_slice rfl _ w⟩
theorem cp1_congr {off off' : Fin S160x1024.rank → ℕ} (h : off = off') {inb w} {inb' w'} : cp1 off inb w = cp1 off' inb' w' := by subst h; rfl

/-- Copy 2 of a group, at the block of `arg9` that starts at `off`. -/
def cp2 (off : Fin S160x1024.rank → ℕ) (inb : ∀ a, off a + S8x1024.size a ≤ S160x1024.size a) (w : (Rect.unit (s := S160x1024) off S8x1024.size inb).WholeWords (EltTy.packing .bf16)) : Cp sig :=
  ⟨S8x1024, .bf16, arg9.slice (Rect.unit (s := S160x1024) off S8x1024.size inb) (fun _ => rfl), arg23.slice (Rect.unit (s := S160x1024) off S8x1024.size inb) (fun _ => rfl), harg9.wordExact_slice rfl _ w, harg23.wordExact_slice rfl _ w⟩
theorem cp2_congr {off off' : Fin S160x1024.rank → ℕ} (h : off = off') {inb w} {inb' w'} : cp2 off inb w = cp2 off' inb' w' := by subst h; rfl

/-- Copy 3 of a group, at the block of `arg4` that starts at `off`. -/
def cp3 (off : Fin S320x320x128.rank → ℕ) (inb : ∀ a, off a + S16x320x128.size a ≤ S320x320x128.size a) (w : (Rect.unit (s := S320x320x128) off S16x320x128.size inb).WholeWords (EltTy.packing .i8)) : Cp sig :=
  ⟨S16x320x128, .i8, arg4.slice (Rect.unit (s := S320x320x128) off S16x320x128.size inb) (fun _ => rfl), arg18.slice (Rect.unit (s := S320x320x128) off S16x320x128.size inb) (fun _ => rfl), harg4.wordExact_slice rfl _ w, harg18.wordExact_slice rfl _ w⟩
theorem cp3_congr {off off' : Fin S320x320x128.rank → ℕ} (h : off = off') {inb w} {inb' w'} : cp3 off inb w = cp3 off' inb' w' := by subst h; rfl

/-- Copy 4 of a group, at the block of `arg6` that starts at `off`. -/
def cp4 (off : Fin S320x64x128.rank → ℕ) (inb : ∀ a, off a + S16x64x128.size a ≤ S320x64x128.size a) (w : (Rect.unit (s := S320x64x128) off S16x64x128.size inb).WholeWords (EltTy.packing .i8)) : Cp sig :=
  ⟨S16x64x128, .i8, arg6.slice (Rect.unit (s := S320x64x128) off S16x64x128.size inb) (fun _ => rfl), arg19.slice (Rect.unit (s := S320x64x128) off S16x64x128.size inb) (fun _ => rfl), harg6.wordExact_slice rfl _ w, harg19.wordExact_slice rfl _ w⟩
theorem cp4_congr {off off' : Fin S320x64x128.rank → ℕ} (h : off = off') {inb w} {inb' w'} : cp4 off inb w = cp4 off' inb' w' := by subst h; rfl

/-- Copy 5 of a group, at the block of `arg8` that starts at `off`. -/
def cp5 (off : Fin S320x64x128.rank → ℕ) (inb : ∀ a, off a + S16x64x128.size a ≤ S320x64x128.size a) (w : (Rect.unit (s := S320x64x128) off S16x64x128.size inb).WholeWords (EltTy.packing .i8)) : Cp sig :=
  ⟨S16x64x128, .i8, arg8.slice (Rect.unit (s := S320x64x128) off S16x64x128.size inb) (fun _ => rfl), arg20.slice (Rect.unit (s := S320x64x128) off S16x64x128.size inb) (fun _ => rfl), harg8.wordExact_slice rfl _ w, harg20.wordExact_slice rfl _ w⟩
theorem cp5_congr {off off' : Fin S320x64x128.rank → ℕ} (h : off = off') {inb w} {inb' w'} : cp5 off inb w = cp5 off' inb' w' := by subst h; rfl

theorem cpsWait_eq (k : Fin k0_t3_loop.trips) : cpsWait k =
    ![cp0 _ (k0_off8_inb k) (k0_off8_wordsbf16 k), cp1 _ (k0_off9_inb k) (k0_off9_wordsbf16 k), cp2 _ (k0_off9_inb k) (k0_off9_wordsbf16 k), cp3 _ (k0_off10_inb k) (k0_off10_wordsi8 k), cp4 _ (k0_off11_inb k) (k0_off11_wordsi8 k), cp5 _ (k0_off11_inb k) (k0_off11_wordsi8 k)] := rfl
theorem cpsFirst_eq' (k : Fin k0_t1_loop.trips) : cpsFirst k =
    ![cp0 _ (k0_off2_inb k) (k0_off2_wordsbf16 k), cp1 _ (k0_off3_inb k) (k0_off3_wordsbf16 k), cp2 _ (k0_off3_inb k) (k0_off3_wordsbf16 k), cp3 _ (k0_off4_inb k) (k0_off4_wordsi8 k), cp4 _ (k0_off5_inb k) (k0_off5_wordsi8 k), cp5 _ (k0_off5_inb k) (k0_off5_wordsi8 k)] := rfl
theorem cpsAhead_eq' (k : Fin k0_t3_loop.trips) (h : k0_cond1 k = 1#1) : cpsAhead k h =
    ![cp0 _ (k0_off13_inb k h) (k0_off13_wordsbf16 k h), cp1 _ (k0_off14_inb k h) (k0_off14_wordsbf16 k h), cp2 _ (k0_off14_inb k h) (k0_off14_wordsbf16 k h), cp3 _ (k0_off15_inb k h) (k0_off15_wordsi8 k h), cp4 _ (k0_off16_inb k h) (k0_off16_wordsi8 k h), cp5 _ (k0_off16_inb k h) (k0_off16_wordsi8 k h)] := rfl

theorem cpsFirst_eq (k : Fin k0_t1_loop.trips) (n : Fin 20) (h : k.val = n.val) : cpsFirst k = cps n := by
  have hn : (at3 n).val = k.val := h.symm
  unfold cps
  rw [cpsFirst_eq', cpsWait_eq]
  have e2 : k0_off2 k = k0_off8 (at3 n) := by simp only [k0_off2_eq, k0_off8_eq, hn, Nat.mul_add]
  have e3 : k0_off3 k = k0_off9 (at3 n) := by simp only [k0_off3_eq, k0_off9_eq, hn, Nat.mul_add]
  have e4 : k0_off4 k = k0_off10 (at3 n) := by simp only [k0_off4_eq, k0_off10_eq, hn, Nat.mul_add]
  have e5 : k0_off5 k = k0_off11 (at3 n) := by simp only [k0_off5_eq, k0_off11_eq, hn, Nat.mul_add]
  rw [cp0_congr e2, cp1_congr e3, cp2_congr e3, cp3_congr e4, cp4_congr e5, cp5_congr e5]

theorem cpsAhead_eq (k : Fin k0_t3_loop.trips) (hk : k0_cond1 k = 1#1) (n : Fin 20) (h : n.val = k.val + 10) : cpsAhead k hk = cps n := by
  have hn : (at3 n).val = k.val + 10 := h
  unfold cps
  rw [cpsAhead_eq', cpsWait_eq]
  have e13 : k0_off13 k = k0_off8 (at3 n) := by simp only [k0_off13_eq, k0_off8_eq, hn, Nat.mul_add]
  have e14 : k0_off14 k = k0_off9 (at3 n) := by simp only [k0_off14_eq, k0_off9_eq, hn, Nat.mul_add]
  have e15 : k0_off15 k = k0_off10 (at3 n) := by simp only [k0_off15_eq, k0_off10_eq, hn, Nat.mul_add]
  have e16 : k0_off16 k = k0_off11 (at3 n) := by simp only [k0_off16_eq, k0_off11_eq, hn, Nat.mul_add]
  rw [cp0_congr e13, cp1_congr e14, cp2_congr e14, cp3_congr e15, cp4_congr e16, cp5_congr e16]

theorem sem_congr {off off' : Fin S20.rank → ℕ} (h : off = off') {inb : ∀ a, off a + S1.size a ≤ S20.size a} {inb' : ∀ a, off' a + S1.size a ≤ S20.size a} :
    ((arg31.slice (Rect.unit (s := S20) off S1.size inb)).squeeze S_ squeezes_S1_S_).sem
      = ((arg31.slice (Rect.unit (s := S20) off' S1.size inb')).squeeze S_ squeezes_S1_S_).sem := by subst h; rfl

theorem semFirst_eq (k : Fin k0_t1_loop.trips) (n : Fin 20) (h : k.val = n.val) :
    ((arg31.slice (Rect.unit (s := S20) (k0_off1 k) S1.size (k0_off1_inb k))).squeeze S_ squeezes_S1_S_).sem = semOf n := by
  have hn : (at3 n).val = k.val := h.symm
  exact sem_congr (by simp only [k0_off1_eq, k0_off7_eq, hn])

theorem semAhead_eq (k : Fin k0_t3_loop.trips) (hk : k0_cond1 k = 1#1) (n : Fin 20) (h : n.val = k.val + 10) :
    ((arg31.slice (Rect.unit (s := S20) (k0_off12 k) S1.size (k0_off12_inb k hk))).squeeze S_ squeezes_S1_S_).sem = semOf n := by
  have hn : (at3 n).val = k.val + 10 := h
  exact sem_congr (by simp only [k0_off12_eq, k0_off7_eq, hn])

theorem semOf_val : ∀ n : Fin 20, (semOf n).val = 4 + n.val := by decide +kernel

theorem cond1_iff : ∀ k : Fin k0_t3_loop.trips, k0_cond1 k = 1#1 ↔ k.val < 10 := by decide +kernel

theorem amounts_pos : ∀ (n : Fin 20) (j : Fin 6), 0 < amounts (cps n) j := by decide +kernel

/-! What lands is what the source holds, at the same place. -/

section Contents

variable {F : FTy → Type} [BitOps F] (c : Dev nD)

/-- What the six arrays of weights and scales hold. -/
structure Src (F : FTy → Type) [BitOps F] where
  f0 : S160x5120.Idx → Elt F .bf16
  f1 : S160x1024.Idx → Elt F .bf16
  f2 : S160x1024.Idx → Elt F .bf16
  f3 : S320x320x128.Idx → Elt F .i8
  f4 : S320x64x128.Idx → Elt F .i8
  f5 : S320x64x128.Idx → Elt F .i8

variable (M : Src F)

/-- What the six sources of a group hold. -/
def srcs (n : Fin 20) : ∀ j, Buf (Elt F) ((cps n j).src.view.loc (c : Thread nD τ))
  | 0 => M.f0
  | 1 => M.f1
  | 2 => M.f2
  | 3 => M.f3
  | 4 => M.f4
  | 5 => M.f5

/-- What the six destinations of a group are to hold. -/
def dsts (n : Fin 20) : ∀ j, Buf (Elt F) ((cps n j).dst.view.loc (c : Thread nD τ))
  | 0 => M.f0
  | 1 => M.f1
  | 2 => M.f2
  | 3 => M.f3
  | 4 => M.f4
  | 5 => M.f5

theorem land0 (off inb w) (f fd : S160x5120.Idx → Elt F .bf16) :
    ∀ i ∈ (cp0 off inb w).dst.view.set, (cp0 off inb w).dst.view.write (Elt F) fd ((cp0 off inb w).src.view.read (Elt F) f) Finset.univ i = f i :=
  land_gen (cp0 off inb w).src.view (cp0 off inb w).dst.view f f (by sl_kernel_rfl) fd

theorem land1 (off inb w) (f fd : S160x1024.Idx → Elt F .bf16) :
    ∀ i ∈ (cp1 off inb w).dst.view.set, (cp1 off inb w).dst.view.write (Elt F) fd ((cp1 off inb w).src.view.read (Elt F) f) Finset.univ i = f i :=
  land_gen (cp1 off inb w).src.view (cp1 off inb w).dst.view f f (by sl_kernel_rfl) fd

theorem land2 (off inb w) (f fd : S160x1024.Idx → Elt F .bf16) :
    ∀ i ∈ (cp2 off inb w).dst.view.set, (cp2 off inb w).dst.view.write (Elt F) fd ((cp2 off inb w).src.view.read (Elt F) f) Finset.univ i = f i :=
  land_gen (cp2 off inb w).src.view (cp2 off inb w).dst.view f f (by sl_kernel_rfl) fd

theorem land3 (off inb w) (f fd : S320x320x128.Idx → Elt F .i8) :
    ∀ i ∈ (cp3 off inb w).dst.view.set, (cp3 off inb w).dst.view.write (Elt F) fd ((cp3 off inb w).src.view.read (Elt F) f) Finset.univ i = f i :=
  land_gen (cp3 off inb w).src.view (cp3 off inb w).dst.view f f (by sl_kernel_rfl) fd

theorem land4 (off inb w) (f fd : S320x64x128.Idx → Elt F .i8) :
    ∀ i ∈ (cp4 off inb w).dst.view.set, (cp4 off inb w).dst.view.write (Elt F) fd ((cp4 off inb w).src.view.read (Elt F) f) Finset.univ i = f i :=
  land_gen (cp4 off inb w).src.view (cp4 off inb w).dst.view f f (by sl_kernel_rfl) fd

theorem land5 (off inb w) (f fd : S320x64x128.Idx → Elt F .i8) :
    ∀ i ∈ (cp5 off inb w).dst.view.set, (cp5 off inb w).dst.view.write (Elt F) fd ((cp5 off inb w).src.view.read (Elt F) f) Finset.univ i = f i :=
  land_gen (cp5 off inb w).src.view (cp5 off inb w).dst.view f f (by sl_kernel_rfl) fd

theorem land (n : Fin 20) : ∀ j fd, ∀ i ∈ (cps n j).dst.view.set,
    (cps n j).dst.view.write (Elt F) fd ((cps n j).src.view.read (Elt F) (srcs c M n j)) Finset.univ i = dsts c M n j i
  | 0, fd => land0 _ _ (k0_off8_wordsbf16 (at3 n)) M.f0 fd
  | 1, fd => land1 _ _ (k0_off9_wordsbf16 (at3 n)) M.f1 fd
  | 2, fd => land2 _ _ (k0_off9_wordsbf16 (at3 n)) M.f2 fd
  | 3, fd => land3 _ _ (k0_off10_wordsi8 (at3 n)) M.f3 fd
  | 4, fd => land4 _ _ (k0_off11_wordsi8 (at3 n)) M.f4 fd
  | 5, fd => land5 _ _ (k0_off11_wordsi8 (at3 n)) M.f5 fd

end Contents

/-! Each array is its twenty blocks. -/

theorem src0_blocks {F : FTy → Type} [BitOps F] {Ix : Type} [DecidableEq Ix] {Name : Type} [DecidableEq Name] {U : Type} [URA U] {Lvl : Type} (c : Dev nD)
    (f : S160x5120.Idx → Elt F .bf16) :
    (arg5.view.loc (c : Thread nD τ) ↦{fullShare} f : sProp (MT nD τ sig Ix (Elt F) Name U Lvl))
      = bigSep Finset.univ fun n : Fin 20 => arg5.view.loc (c : Thread nD τ) ↦[(Rect.unit (s := S160x5120) (k0_off8 (at3 n)) S8x5120.size (k0_off8_inb (at3 n))).set]{fullShare} f :=
  Ring.pointsTo_blocks (ℓ := arg5.view.loc (c : Thread nD τ)) (fun n : Fin 20 => (Rect.unit (s := S160x5120) (k0_off8 (at3 n)) S8x5120.size (k0_off8_inb (at3 n))).set)
    (Ring.lead_disjoint (s := S160x5120) 0 8 (fun n => k0_off8 (at3 n)) S8x5120.size (fun n => k0_off8_inb (at3 n))
      (fun n => by rw [k0_off8_eq]; rfl) rfl)
    (Ring.lead_cover (s := S160x5120) 0 8 (fun n => k0_off8 (at3 n)) S8x5120.size (fun n => k0_off8_inb (at3 n))
      (fun n => by rw [k0_off8_eq]; rfl) (fun n a ha => by rw [k0_off8_eq]; fin_cases a <;> first | exact absurd rfl ha | rfl) rfl
      (fun a ha => by fin_cases a <;> first | exact absurd rfl ha | rfl) rfl) f

theorem dst0_blocks {F : FTy → Type} [BitOps F] {Ix : Type} [DecidableEq Ix] {Name : Type} [DecidableEq Name] {U : Type} [URA U] {Lvl : Type} (c : Dev nD)
    (f : S160x5120.Idx → Elt F .bf16) :
    (arg21.view.loc (c : Thread nD τ) ↦{fullShare} f : sProp (MT nD τ sig Ix (Elt F) Name U Lvl))
      = bigSep Finset.univ fun n : Fin 20 => arg21.view.loc (c : Thread nD τ) ↦[(Rect.unit (s := S160x5120) (k0_off8 (at3 n)) S8x5120.size (k0_off8_inb (at3 n))).set]{fullShare} f :=
  Ring.pointsTo_blocks (ℓ := arg21.view.loc (c : Thread nD τ)) (fun n : Fin 20 => (Rect.unit (s := S160x5120) (k0_off8 (at3 n)) S8x5120.size (k0_off8_inb (at3 n))).set)
    (Ring.lead_disjoint (s := S160x5120) 0 8 (fun n => k0_off8 (at3 n)) S8x5120.size (fun n => k0_off8_inb (at3 n))
      (fun n => by rw [k0_off8_eq]; rfl) rfl)
    (Ring.lead_cover (s := S160x5120) 0 8 (fun n => k0_off8 (at3 n)) S8x5120.size (fun n => k0_off8_inb (at3 n))
      (fun n => by rw [k0_off8_eq]; rfl) (fun n a ha => by rw [k0_off8_eq]; fin_cases a <;> first | exact absurd rfl ha | rfl) rfl
      (fun a ha => by fin_cases a <;> first | exact absurd rfl ha | rfl) rfl) f

theorem src1_blocks {F : FTy → Type} [BitOps F] {Ix : Type} [DecidableEq Ix] {Name : Type} [DecidableEq Name] {U : Type} [URA U] {Lvl : Type} (c : Dev nD)
    (f : S160x1024.Idx → Elt F .bf16) :
    (arg7.view.loc (c : Thread nD τ) ↦{fullShare} f : sProp (MT nD τ sig Ix (Elt F) Name U Lvl))
      = bigSep Finset.univ fun n : Fin 20 => arg7.view.loc (c : Thread nD τ) ↦[(Rect.unit (s := S160x1024) (k0_off9 (at3 n)) S8x1024.size (k0_off9_inb (at3 n))).set]{fullShare} f :=
  Ring.pointsTo_blocks (ℓ := arg7.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem dst1_blocks {F : FTy → Type} [BitOps F] {Ix : Type} [DecidableEq Ix] {Name : Type} [DecidableEq Name] {U : Type} [URA U] {Lvl : Type} (c : Dev nD)
    (f : S160x1024.Idx → Elt F .bf16) :
    (arg22.view.loc (c : Thread nD τ) ↦{fullShare} f : sProp (MT nD τ sig Ix (Elt F) Name U Lvl))
      = bigSep Finset.univ fun n : Fin 20 => arg22.view.loc (c : Thread nD τ) ↦[(Rect.unit (s := S160x1024) (k0_off9 (at3 n)) S8x1024.size (k0_off9_inb (at3 n))).set]{fullShare} f :=
  Ring.pointsTo_blocks (ℓ := arg22.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem src2_blocks {F : FTy → Type} [BitOps F] {Ix : Type} [DecidableEq Ix] {Name : Type} [DecidableEq Name] {U : Type} [URA U] {Lvl : Type} (c : Dev nD)
    (f : S160x1024.Idx → Elt F .bf16) :
    (arg9.view.loc (c : Thread nD τ) ↦{fullShare} f : sProp (MT nD τ sig Ix (Elt F) Name U Lvl))
      = bigSep Finset.univ fun n : Fin 20 => arg9.view.loc (c : Thread nD τ) ↦[(Rect.unit (s := S160x1024) (k0_off9 (at3 n)) S8x1024.size (k0_off9_inb (at3 n))).set]{fullShare} f :=
  Ring.pointsTo_blocks (ℓ := arg9.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem dst2_blocks {F : FTy → Type} [BitOps F] {Ix : Type} [DecidableEq Ix] {Name : Type} [DecidableEq Name] {U : Type} [URA U] {Lvl : Type} (c : Dev nD)
    (f : S160x1024.Idx → Elt F .bf16) :
    (arg23.view.loc (c : Thread nD τ) ↦{fullShare} f : sProp (MT nD τ sig Ix (Elt F) Name U Lvl))
      = bigSep Finset.univ fun n : Fin 20 => arg23.view.loc (c : Thread nD τ) ↦[(Rect.unit (s := S160x1024) (k0_off9 (at3 n)) S8x1024.size (k0_off9_inb (at3 n))).set]{fullShare} f :=
  Ring.pointsTo_blocks (ℓ := arg23.view.loc (c : Thread nD τ)) (fun n : Fin 20 => (Rect.unit (s := S160x1024) (k0_off9 (at3 n)) S8x1024.size (k0_off9_inb (at3 n))).set)
    (Ring.lead_disjoint (s := S160x1024) 0 8 (fun n => k0_off9 (at3 n)) S8x1024.size (fun n => k0_off9_inb (at3 n))
      (fun n => by rw [k0_off9_eq]; rfl) rfl)
    (Ring.lead_cover (s := S160x1024) 0 8 (fun n => k0_off9 (at3 n)) S8x1024.size (fun n => k0_off9_inb (at3 n))
      (fun n => by rw [k0_off9_eq]; rfl) (fun n a ha => by rw [k0_off9_eq]; fin_cases a <;> first | exact absurd rfl ha | rfl) rfl
      (fun a ha => by fin_cases a <;> first | exact absurd rfl ha | rfl) rfl) f

theorem src3_blocks {F : FTy → Type} [BitOps F] {Ix : Type} [DecidableEq Ix] {Name : Type} [DecidableEq Name] {U : Type} [URA U] {Lvl : Type} (c : Dev nD)
    (f : S320x320x128.Idx → Elt F .i8) :
    (arg4.view.loc (c : Thread nD τ) ↦{fullShare} f : sProp (MT nD τ sig Ix (Elt F) Name U Lvl))
      = bigSep Finset.univ fun n : Fin 20 => arg4.view.loc (c : Thread nD τ) ↦[(Rect.unit (s := S320x320x128) (k0_off10 (at3 n)) S16x320x128.size (k0_off10_inb (at3 n))).set]{fullShare} f :=
  Ring.pointsTo_blocks (ℓ := arg4.view.loc (c : Thread nD τ)) (fun n : Fin 20 => (Rect.unit (s := S320x320x128) (k0_off10 (at3 n)) S16x320x128.size (k0_off10_inb (at3 n))).set)
    (Ring.lead_disjoint (s := S320x320x128) 0 16 (fun n => k0_off10 (at3 n)) S16x320x128.size (fun n => k0_off10_inb (at3 n))
      (fun n => by rw [k0_off10_eq]; rfl) rfl)
    (Ring.lead_cover (s := S320x320x128) 0 16 (fun n => k0_off10 (at3 n)) S16x320x128.size (fun n => k0_off10_inb (at3 n))
      (fun n => by rw [k0_off10_eq]; rfl) (fun n a ha => by rw [k0_off10_eq]; fin_cases a <;> first | exact absurd rfl ha | rfl) rfl
      (fun a ha => by fin_cases a <;> first | exact absurd rfl ha | rfl) rfl) f

theorem dst3_blocks {F : FTy → Type} [BitOps F] {Ix : Type} [DecidableEq Ix] {Name : Type} [DecidableEq Name] {U : Type} [URA U] {Lvl : Type} (c : Dev nD)
    (f : S320x320x128.Idx → Elt F .i8) :
    (arg18.view.loc (c : Thread nD τ) ↦{fullShare} f : sProp (MT nD τ sig Ix (Elt F) Name U Lvl))
      = bigSep Finset.univ fun n : Fin 20 => arg18.view.loc (c : Thread nD τ) ↦[(Rect.unit (s := S320x320x128) (k0_off10 (at3 n)) S16x320x128.size (k0_off10_inb (at3 n))).set]{fullShare} f :=
  Ring.pointsTo_blocks (ℓ := arg18.view.loc (c : Thread nD τ)) (fun n : Fin 20 => (Rect.unit (s := S320x320x128) (k0_off10 (at3 n)) S16x320x128.size (k0_off10_inb (at3 n))).set)
    (Ring.lead_disjoint (s := S320x320x128) 0 16 (fun n => k0_off10 (at3 n)) S16x320x128.size (fun n => k0_off10_inb (at3 n))
      (fun n => by rw [k0_off10_eq]; rfl) rfl)
    (Ring.lead_cover (s := S320x320x128) 0 16 (fun n => k0_off10 (at3 n)) S16x320x128.size (fun n => k0_off10_inb (at3 n))
      (fun n => by rw [k0_off10_eq]; rfl) (fun n a ha => by rw [k0_off10_eq]; fin_cases a <;> first | exact absurd rfl ha | rfl) rfl
      (fun a ha => by fin_cases a <;> first | exact absurd rfl ha | rfl) rfl) f

theorem src4_blocks {F : FTy → Type} [BitOps F] {Ix : Type} [DecidableEq Ix] {Name : Type} [DecidableEq Name] {U : Type} [URA U] {Lvl : Type} (c : Dev nD)
    (f : S320x64x128.Idx → Elt F .i8) :
    (arg6.view.loc (c : Thread nD τ) ↦{fullShare} f : sProp (MT nD τ sig Ix (Elt F) Name U Lvl))
      = bigSep Finset.univ fun n : Fin 20 => arg6.view.loc (c : Thread nD τ) ↦[(Rect.unit (s := S320x64x128) (k0_off11 (at3 n)) S16x64x128.size (k0_off11_inb (at3 n))).set]{fullShare} f :=
  Ring.pointsTo_blocks (ℓ := arg6.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

theorem dst4_blocks {F : FTy → Type} [BitOps F] {Ix : Type} [DecidableEq Ix] {Name : Type} [DecidableEq Name] {U : Type} [URA U] {Lvl : Type} (c : Dev nD)
    (f : S320x64x128.Idx → Elt F .i8) :
    (arg19.view.loc (c : Thread nD τ) ↦{fullShare} f : sProp (MT nD τ sig Ix (Elt F) Name U Lvl))
      = bigSep Finset.univ fun n : Fin 20 => arg19.view.loc (c : Thread nD τ) ↦[(Rect.unit (s := S320x64x128) (k0_off11 (at3 n)) S16x64x128.size (k0_off11_inb (at3 n))).set]{fullShare} f :=
  Ring.pointsTo_blocks (ℓ := arg19.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

theorem src5_blocks {F : FTy → Type} [BitOps F] {Ix : Type} [DecidableEq Ix] {Name : Type} [DecidableEq Name] {U : Type} [URA U] {Lvl : Type} (c : Dev nD)
    (f : S320x64x128.Idx → Elt F .i8) :
    (arg8.view.loc (c : Thread nD τ) ↦{fullShare} f : sProp (MT nD τ sig Ix (Elt F) Name U Lvl))
      = bigSep Finset.univ fun n : Fin 20 => arg8.view.loc (c : Thread nD τ) ↦[(Rect.unit (s := S320x64x128) (k0_off11 (at3 n)) S16x64x128.size (k0_off11_inb (at3 n))).set]{fullShare} f :=
  Ring.pointsTo_blocks (ℓ := arg8.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

theorem dst5_blocks {F : FTy → Type} [BitOps F] {Ix : Type} [DecidableEq Ix] {Name : Type} [DecidableEq Name] {U : Type} [URA U] {Lvl : Type} (c : Dev nD)
    (f : S320x64x128.Idx → Elt F .i8) :
    (arg20.view.loc (c : Thread nD τ) ↦{fullShare} f : sProp (MT nD τ sig Ix (Elt F) Name U Lvl))
      = bigSep Finset.univ fun n : Fin 20 => arg20.view.loc (c : Thread nD τ) ↦[(Rect.unit (s := S320x64x128) (k0_off11 (at3 n)) S16x64x128.size (k0_off11_inb (at3 n))).set]{fullShare} f :=
  Ring.pointsTo_blocks (ℓ := arg20.view.loc (c : Thread nD τ)) (fun n : Fin 20 => (Rect.unit (s := S320x64x128) (k0_off11 (at3 n)) S16x64x128.size (k0_off11_inb (at3 n))).set)
    (Ring.lead_disjoint (s := S320x64x128) 0 16 (fun n => k0_off11 (at3 n)) S16x64x128.size (fun n => k0_off11_inb (at3 n))
      (fun n => by rw [k0_off11_eq]; rfl) rfl)
    (Ring.lead_cover (s := S320x64x128) 0 16 (fun n => k0_off11 (at3 n)) S16x64x128.size (fun n => k0_off11_inb (at3 n))
      (fun n => by rw [k0_off11_eq]; rfl) (fun n a ha => by rw [k0_off11_eq]; fin_cases a <;> first | exact absurd rfl ha | rfl) rfl
      (fun a ha => by fin_cases a <;> first | exact absurd rfl ha | rfl) rfl) f

end Cert.Kernel.Hand
-- ==== Proof.Plain.Step.lean ====
/-
  The fourteen blocks of one trip of the contraction loop, run on the chunk's own parts of the weight and scale buffers.
-/
module

public import proofs.«01_k».proof.Proof.Plain.Copies

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Chunk `n`'s part of an array of shape `S160x5120`. -/
abbrev part8 (n : Fin 20) : Finset S160x5120.Idx := (Rect.unit (s := S160x5120) (k0_off8 (at3 n)) S8x5120.size (k0_off8_inb (at3 n))).set

theorem mem_part8 (n : Fin 20) (i : S160x5120.Idx) (h : 8 * n.val ≤ (i 0).val) (h' : (i 0).val < 8 * n.val + 8) : i ∈ part8 n := by
  refine Rect.mem_set_unit.mpr fun a => ?_
  rw [k0_off8_eq]
  fin_cases a
  · exact ⟨h, h'⟩
  · exact ⟨Nat.zero_le _, lt_of_lt_of_eq (i 1).isLt (Nat.zero_add _).symm⟩

/-- Chunk `n`'s part of an array of shape `S160x1024`. -/
abbrev part9 (n : Fin 20) : Finset S160x1024.Idx := (Rect.unit (s := S160x1024) (k0_off9 (at3 n)) S8x1024.size (k0_off9_inb (at3 n))).set

theorem mem_part9 (n : Fin 20) (i : S160x1024.Idx) (h : 8 * n.val ≤ (i 0).val) (h' : (i 0).val < 8 * n.val + 8) : i ∈ part9 n := by
  refine Rect.mem_set_unit.mpr fun a => ?_
  rw [k0_off9_eq]
  fin_cases a
  · exact ⟨h, h'⟩
  · exact ⟨Nat.zero_le _, lt_of_lt_of_eq (i 1).isLt (Nat.zero_add _).symm⟩

/-- Chunk `n`'s part of an array of shape `S320x320x128`. -/
abbrev part10 (n : Fin 20) : Finset S320x320x128.Idx := (Rect.unit (s := S320x320x128) (k0_off10 (at3 n)) S16x320x128.size (k0_off10_inb (at3 n))).set

theorem mem_part10 (n : Fin 20) (i : S320x320x128.Idx) (h : 16 * n.val ≤ (i 0).val) (h' : (i 0).val < 16 * n.val + 16) : i ∈ part10 n := by
  refine Rect.mem_set_unit.mpr fun a => ?_
  rw [k0_off10_eq]
  fin_cases a
  · exact ⟨h, h'⟩
  · exact ⟨Nat.zero_le _, lt_of_lt_of_eq (i 1).isLt (Nat.zero_add _).symm⟩
  · exact ⟨Nat.zero_le _, lt_of_lt_of_eq (i 2).isLt (Nat.zero_add _).symm⟩

/-- Chunk `n`'s part of an array of shape `S320x64x128`. -/
abbrev part11 (n : Fin 20) : Finset S320x64x128.Idx := (Rect.unit (s := S320x64x128) (k0_off11 (at3 n)) S16x64x128.size (k0_off11_inb (at3 n))).set

theorem mem_part11 (n : Fin 20) (i : S320x64x128.Idx) (h : 16 * n.val ≤ (i 0).val) (h' : (i 0).val < 16 * n.val + 16) : i ∈ part11 n := by
  refine Rect.mem_set_unit.mpr fun a => ?_
  rw [k0_off11_eq]
  fin_cases a
  · exact ⟨h, h'⟩
  · exact ⟨Nat.zero_le _, lt_of_lt_of_eq (i 1).isLt (Nat.zero_add _).symm⟩
  · exact ⟨Nat.zero_le _, lt_of_lt_of_eq (i 2).isLt (Nat.zero_add _).symm⟩

theorem in21 (n : Fin 20) (off : Fin 2 → ℕ) (hoff : ∀ a, off a + T8x128.size a ≤ S160x5120.size a) (h : off 0 = 8 * n.val) :
    arg21.view.setOn (Rect.unit (s := S160x5120) off T8x128.size hoff).toLoadRect.set ⊆ part8 n := by
  intro i hi
  obtain ⟨x, hx, rfl⟩ := Finset.mem_map.mp hi
  have h0 := (Rect.mem_set_unit.mp hx) 0
  exact mem_part8 n x (by rw [← h]; exact h0.1) (by rw [← h]; exact h0.2)

theorem in22 (n : Fin 20) (off : Fin 2 → ℕ) (hoff : ∀ a, off a + T8x128.size a ≤ S160x1024.size a) (h : off 0 = 8 * n.val) :
    arg22.view.setOn (Rect.unit (s := S160x1024) off T8x128.size hoff).toLoadRect.set ⊆ part9 n := by
  intro i hi
  obtain ⟨x, hx, rfl⟩ := Finset.mem_map.mp hi
  have h0 := (Rect.mem_set_unit.mp hx) 0
  exact mem_part9 n x (by rw [← h]; exact h0.1) (by rw [← h]; exact h0.2)

theorem in23 (n : Fin 20) (off : Fin 2 → ℕ) (hoff : ∀ a, off a + T8x128.size a ≤ S160x1024.size a) (h : off 0 = 8 * n.val) :
    arg23.view.setOn (Rect.unit (s := S160x1024) off T8x128.size hoff).toLoadRect.set ⊆ part9 n := by
  intro i hi
  obtain ⟨x, hx, rfl⟩ := Finset.mem_map.mp hi
  have h0 := (Rect.mem_set_unit.mp hx) 0
  exact mem_part9 n x (by rw [← h]; exact h0.1) (by rw [← h]; exact h0.2)

theorem in18 (n : Fin 20) (off : Fin 3 → ℕ) (hoff : ∀ a, off a + T1x32x128.size a ≤ S320x320x128.size a) (h : 16 * n.val ≤ off 0) (h' : off 0 < 16 * n.val + 16) :
    arg18.view.setOn (Rect.unit (s := S320x320x128) off T1x32x128.size hoff).toLoadRect.set ⊆ part10 n := by
  intro i hi
  obtain ⟨x, hx, rfl⟩ := Finset.mem_map.mp hi
  have h0 := (Rect.mem_set_unit.mp hx) 0
  have h2 : (x 0).val < off 0 + 1 := h0.2
  have h1 : off 0 ≤ (x 0).val := h0.1
  exact mem_part10 n x (by omega) (by omega)

theorem in19 (n : Fin 20) (off : Fin 3 → ℕ) (hoff : ∀ a, off a + T1x32x128.size a ≤ S320x64x128.size a) (h : 16 * n.val ≤ off 0) (h' : off 0 < 16 * n.val + 16) :
    arg19.view.setOn (Rect.unit (s := S320x64x128) off T1x32x128.size hoff).toLoadRect.set ⊆ part11 n := by
  intro i hi
  obtain ⟨x, hx, rfl⟩ := Finset.mem_map.mp hi
  have h0 := (Rect.mem_set_unit.mp hx) 0
  have h2 : (x 0).val < off 0 + 1 := h0.2
  have h1 : off 0 ≤ (x 0).val := h0.1
  exact mem_part11 n x (by omega) (by omega)

theorem in20 (n : Fin 20) (off : Fin 3 → ℕ) (hoff : ∀ a, off a + T1x32x128.size a ≤ S320x64x128.size a) (h : 16 * n.val ≤ off 0) (h' : off 0 < 16 * n.val + 16) :
    arg20.view.setOn (Rect.unit (s := S320x64x128) off T1x32x128.size hoff).toLoadRect.set ⊆ part11 n := by
  intro i hi
  obtain ⟨x, hx, rfl⟩ := Finset.mem_map.mp hi
  have h0 := (Rect.mem_set_unit.mp hx) 0
  have h2 : (x 0).val < off 0 + 1 := h0.2
  have h1 : off 0 ≤ (x 0).val := h0.1
  exact mem_part11 n x (by omega) (by omega)

theorem fits (q : Fin 14) : Mxu.Fits (16 * q.val) 64 := by revert q; decide

section Blocks

variable {F : FTy → Type} [BitOps F] (c : Dev nD) (M : Src F) (n : Fin 20) (h : FVec F S64x256 .bf16)

/-- The unit's state after one block of the first projection, of the second, of the third. -/
def qStep (q : Fin 10) (s : Mxu F) : Mxu F :=
  blockVal downC upC ⟨q.val % 2, Nat.mod_lt _ (by decide)⟩ (16 * q.val) (fits ⟨q.val, by omega⟩) h
    (scalesAt (τ := τ) c arg21 (uS n.val q.val) (uS_inb n q.val (by omega)) M.f0) (weightsAt (τ := τ) c arg18 (uW n.val q.val) (uW_inb n q.val (by omega)) M.f3) s
@[inherit_doc qStep]
def kStep (q : Fin 2) (s : Mxu F) : Mxu F :=
  blockVal downC upC q (16 * (10 + q.val)) (fits ⟨10 + q.val, by omega⟩) h
    (scalesAt (τ := τ) c arg22 (uS n.val q.val) (uS_inb n q.val (by omega)) M.f1) (weightsAt (τ := τ) c arg19 (uW n.val q.val) (uW_inb n q.val (by omega)) M.f4) s
@[inherit_doc qStep]
def vStep (q : Fin 2) (s : Mxu F) : Mxu F :=
  blockVal downC upC q (16 * (12 + q.val)) (fits ⟨12 + q.val, by omega⟩) h
    (scalesAt (τ := τ) c arg23 (uS n.val q.val) (uS_inb n q.val (by omega)) M.f2) (weightsAt (τ := τ) c arg20 (uW n.val q.val) (uW_inb n q.val (by omega)) M.f5) s

/-- Whether the staging registers are empty. -/
def Empty (s : Mxu F) : Prop := ∀ q r, s.reg q r = none

variable {c M n h}
theorem qStep_empty {q : Fin 10} {s : Mxu F} (hs : Empty s) : Empty (qStep c M n h q s) := fun q' r' => reg_blockVal _ _ _ r' _ _ _ _ _ s hs q'
theorem kStep_empty {q : Fin 2} {s : Mxu F} (hs : Empty s) : Empty (kStep c M n h q s) := fun q' r' => reg_blockVal _ _ _ r' _ _ _ _ _ s hs q'
theorem vStep_empty {q : Fin 2} {s : Mxu F} (hs : Empty s) : Empty (vStep c M n h q s) := fun q' r' => reg_blockVal _ _ _ r' _ _ _ _ _ s hs q'
variable (c M n h)

/-- The state after the fourteen blocks. -/
def step (s0 : Mxu F) : Mxu F :=
  vStep c M n h 1 <| vStep c M n h 0 <| kStep c M n h 1 <| kStep c M n h 0 <| qStep c M n h 9 <| qStep c M n h 8 <| qStep c M n h 7 <| qStep c M n h 6 <| qStep c M n h 5 <| qStep c M n h 4 <| qStep c M n h 3 <| qStep c M n h 2 <| qStep c M n h 1 <| qStep c M n h 0 s0

theorem step_empty {s : Mxu F} (hs : Empty s) : Empty (step c M n h s) :=
  vStep_empty <| vStep_empty <| kStep_empty <| kStep_empty <| qStep_empty <| qStep_empty <| qStep_empty <| qStep_empty <| qStep_empty <| qStep_empty <| qStep_empty <| qStep_empty <| qStep_empty <| qStep_empty hs

variable {Ix : Type} [DecidableEq Ix] {Name : Type} [DecidableEq Name] {U : Type} [URA U] {Lvl : Type} [Preorder Lvl]
variable {defs : Defs nD τ sig (Elt F) Λ₀} (𝒱 : Variants) (bd : Option 𝒱.V) (E : Set Name)
local notation "𝕄" => MT nD τ sig Ix (Elt F) Name U Lvl

theorem wp_q {Q : Mxu F → sProp 𝕄} (q : Fin 10)
    (offS : Fin 4 → Fin 2 → ℕ) (hS : ∀ i a, offS i a + T8x128.size a ≤ _) (offW : BitVec 32 → BitVec 32 → Fin 3 → ℕ) (hW : ∀ (g : Fin 8) (b : Fin 2), ∀ a, offW (BitVec.ofNat 32 (2 * g.val)) (BitVec.ofNat 32 b.val) a + T1x32x128.size a ≤ _)
    (heS : ∀ i, offS i = uS n.val q.val i)
    (heW : ∀ (g : Fin 8) (b : Fin 2), offW (BitVec.ofNat 32 (2 * g.val)) (BitVec.ofNat 32 b.val) = ![16 * n.val + 2 * g.val + b.val, 32 * q.val, 0])
    (u : Mxu F) (k : Mxu F → Prog (TpuEff nD τ sig (Elt F) Λ₀ .tc) (Mxu F)) (hu : Empty u) :
    iprop((arg21.view.loc (c : Thread nD τ) ↦[part8 n]{fullShare} M.f0) ∗ (arg18.view.loc (c : Thread nD τ) ↦[part10 n]{fullShare} M.f3) : sProp 𝕄)
      ⊢ iprop(((arg21.view.loc (c : Thread nD τ) ↦[part8 n]{fullShare} M.f0) -∗ (arg18.view.loc (c : Thread nD τ) ↦[part10 n]{fullShare} M.f3)
          -∗ wp frame (wpE defs 𝒱 (c : Thread nD τ) bd) E (k (qStep c M n h q u)) Q)
        -∗ wp frame (wpE defs 𝒱 (c : Thread nD τ) bd) E
            (blockK arg21 arg18 offS hS offW hW downC upC ⟨q.val % 2, Nat.mod_lt _ (by decide)⟩ (16 * q.val) (fits ⟨q.val, by omega⟩) h u k) Q) :=
  wp_blockU 𝒱 c bd E arg21 arg18 n q.val (by omega) (by omega) offS hS offW hW heS heW downC upC _ _ _ h u k hu M.f0 M.f3 (in21 n) (in18 n)

theorem wp_k {Q : Mxu F → sProp 𝕄} (q : Fin 2)
    (offS : Fin 4 → Fin 2 → ℕ) (hS : ∀ i a, offS i a + T8x128.size a ≤ _) (offW : BitVec 32 → BitVec 32 → Fin 3 → ℕ) (hW : ∀ (g : Fin 8) (b : Fin 2), ∀ a, offW (BitVec.ofNat 32 (2 * g.val)) (BitVec.ofNat 32 b.val) a + T1x32x128.size a ≤ _)
    (heS : ∀ i, offS i = uS n.val q.val i)
    (heW : ∀ (g : Fin 8) (b : Fin 2), offW (BitVec.ofNat 32 (2 * g.val)) (BitVec.ofNat 32 b.val) = ![16 * n.val + 2 * g.val + b.val, 32 * q.val, 0])
    (u : Mxu F) (k : Mxu F → Prog (TpuEff nD τ sig (Elt F) Λ₀ .tc) (Mxu F)) (hu : Empty u) :
    iprop((arg22.view.loc (c : Thread nD τ) ↦[part9 n]{fullShare} M.f1) ∗ (arg19.view.loc (c : Thread nD τ) ↦[part11 n]{fullShare} M.f4) : sProp 𝕄)
      ⊢ iprop(((arg22.view.loc (c : Thread nD τ) ↦[part9 n]{fullShare} M.f1) -∗ (arg19.view.loc (c : Thread nD τ) ↦[part11 n]{fullShare} M.f4)
          -∗ wp frame (wpE defs 𝒱 (c : Thread nD τ) bd) E (k (kStep c M n h q u)) Q)
        -∗ wp frame (wpE defs 𝒱 (c : Thread nD τ) bd) E
            (blockK arg22 arg19 offS hS offW hW downC upC q (16 * (10 + q.val)) (fits ⟨10 + q.val, by omega⟩) h u k) Q) :=
  wp_blockU 𝒱 c bd E arg22 arg19 n q.val (by omega) (by omega) offS hS offW hW heS heW downC upC _ _ _ h u k hu M.f1 M.f4 (in22 n) (in19 n)

theorem wp_v {Q : Mxu F → sProp 𝕄} (q : Fin 2)
    (offS : Fin 4 → Fin 2 → ℕ) (hS : ∀ i a, offS i a + T8x128.size a ≤ _) (offW : BitVec 32 → BitVec 32 → Fin 3 → ℕ) (hW : ∀ (g : Fin 8) (b : Fin 2), ∀ a, offW (BitVec.ofNat 32 (2 * g.val)) (BitVec.ofNat 32 b.val) a + T1x32x128.size a ≤ _)
    (heS : ∀ i, offS i = uS n.val q.val i)
    (heW : ∀ (g : Fin 8) (b : Fin 2), offW (BitVec.ofNat 32 (2 * g.val)) (BitVec.ofNat 32 b.val) = ![16 * n.val + 2 * g.val + b.val, 32 * q.val, 0])
    (u : Mxu F) (k : Mxu F → Prog (TpuEff nD τ sig (Elt F) Λ₀ .tc) (Mxu F)) (hu : Empty u) :
    iprop((arg23.view.loc (c : Thread nD τ) ↦[part9 n]{fullShare} M.f2) ∗ (arg20.view.loc (c : Thread nD τ) ↦[part11 n]{fullShare} M.f5) : sProp 𝕄)
      ⊢ iprop(((arg23.view.loc (c : Thread nD τ) ↦[part9 n]{fullShare} M.f2) -∗ (arg20.view.loc (c : Thread nD τ) ↦[part11 n]{fullShare} M.f5)
          -∗ wp frame (wpE defs 𝒱 (c : Thread nD τ) bd) E (k (vStep c M n h q u)) Q)
        -∗ wp frame (wpE defs 𝒱 (c : Thread nD τ) bd) E
            (blockK arg23 arg20 offS hS offW hW downC upC q (16 * (12 + q.val)) (fits ⟨12 + q.val, by omega⟩) h u k) Q) :=
  wp_blockU 𝒱 c bd E arg23 arg20 n q.val (by omega) (by omega) offS hS offW hW heS heW downC upC _ _ _ h u k hu M.f2 M.f5 (in23 n) (in20 n)

/-- The fourteen blocks: the chunk's parts are read, the state becomes `step`. -/
theorem wp_blocks {Q : Mxu F → sProp 𝕄} (s0 : Mxu F) (hs : Empty s0) :
    iprop((arg21.view.loc (c : Thread nD τ) ↦[part8 n]{fullShare} M.f0) ∗ (arg22.view.loc (c : Thread nD τ) ↦[part9 n]{fullShare} M.f1) ∗ (arg23.view.loc (c : Thread nD τ) ↦[part9 n]{fullShare} M.f2) ∗ (arg18.view.loc (c : Thread nD τ) ↦[part10 n]{fullShare} M.f3) ∗ (arg19.view.loc (c : Thread nD τ) ↦[part11 n]{fullShare} M.f4) ∗ (arg20.view.loc (c : Thread nD τ) ↦[part11 n]{fullShare} M.f5) : sProp 𝕄)
      ⊢ iprop((iprop((arg21.view.loc (c : Thread nD τ) ↦[part8 n]{fullShare} M.f0) ∗ (arg22.view.loc (c : Thread nD τ) ↦[part9 n]{fullShare} M.f1) ∗ (arg23.view.loc (c : Thread nD τ) ↦[part9 n]{fullShare} M.f2) ∗ (arg18.view.loc (c : Thread nD τ) ↦[part10 n]{fullShare} M.f3) ∗ (arg19.view.loc (c : Thread nD τ) ↦[part11 n]{fullShare} M.f4) ∗ (arg20.view.loc (c : Thread nD τ) ↦[part11 n]{fullShare} M.f5)) -∗ Q (step c M n h s0))
        -∗ wp frame (wpE defs 𝒱 (c : Thread nD τ) bd) Set.univ (blocks (at3 n) h s0) Q) := by
  unfold blocks step
  iintro ⟨H21, H22, H23, H18, H19, H20⟩ Hk
  iapply (wp_q c M n h 𝒱 bd Set.univ 0 _ _ _ _ (fun | 0 => k0_off18_eq _ | 1 => k0_off19_eq _ | 2 => k0_off20_eq _ | 3 => k0_off21_eq _) (k0_off22_eq (at3 n)) _ _ hs) $$ [H21 H18]
  · isplitl [H21]; · iexact H21
    iexact H18
  iintro H21 H18
  iapply (wp_q c M n h 𝒱 bd Set.univ 1 _ _ _ _ (fun | 0 => k0_off23_eq _ | 1 => k0_off24_eq _ | 2 => k0_off25_eq _ | 3 => k0_off26_eq _) (k0_off27_eq (at3 n)) _ _ (qStep_empty hs)) $$ [H21 H18]
  · isplitl [H21]; · iexact H21
    iexact H18
  iintro H21 H18
  iapply (wp_q c M n h 𝒱 bd Set.univ 2 _ _ _ _ (fun | 0 => k0_off28_eq _ | 1 => k0_off29_eq _ | 2 => k0_off30_eq _ | 3 => k0_off31_eq _) (k0_off32_eq (at3 n)) _ _ (qStep_empty (qStep_empty hs))) $$ [H21 H18]
  · isplitl [H21]; · iexact H21
    iexact H18
  iintro H21 H18
  iapply (wp_q c M n h 𝒱 bd Set.univ 3 _ _ _ _ (fun | 0 => k0_off33_eq _ | 1 => k0_off34_eq _ | 2 => k0_off35_eq _ | 3 => k0_off36_eq _) (k0_off37_eq (at3 n)) _ _ (qStep_empty (qStep_empty (qStep_empty hs)))) $$ [H21 H18]
  · isplitl [H21]; · iexact H21
    iexact H18
  iintro H21 H18
  iapply (wp_q c M n h 𝒱 bd Set.univ 4 _ _ _ _ (fun | 0 => k0_off38_eq _ | 1 => k0_off39_eq _ | 2 => k0_off40_eq _ | 3 => k0_off41_eq _) (k0_off42_eq (at3 n)) _ _ (qStep_empty (qStep_empty (qStep_empty (qStep_empty hs))))) $$ [H21 H18]
  · isplitl [H21]; · iexact H21
    iexact H18
  iintro H21 H18
  iapply (wp_q c M n h 𝒱 bd Set.univ 5 _ _ _ _ (fun | 0 => k0_off43_eq _ | 1 => k0_off44_eq _ | 2 => k0_off45_eq _ | 3 => k0_off46_eq _) (k0_off47_eq (at3 n)) _ _ (qStep_empty (qStep_empty (qStep_empty (qStep_empty (qStep_empty hs)))))) $$ [H21 H18]
  · isplitl [H21]; · iexact H21
    iexact H18
  iintro H21 H18
  iapply (wp_q c M n h 𝒱 bd Set.univ 6 _ _ _ _ (fun | 0 => k0_off48_eq _ | 1 => k0_off49_eq _ | 2 => k0_off50_eq _ | 3 => k0_off51_eq _) (k0_off52_eq (at3 n)) _ _ (qStep_empty (qStep_empty (qStep_empty (qStep_empty (qStep_empty (qStep_empty hs))))))) $$ [H21 H18]
  · isplitl [H21]; · iexact H21
    iexact H18
  iintro H21 H18
  iapply (wp_q c M n h 𝒱 bd Set.univ 7 _ _ _ _ (fun | 0 => k0_off53_eq _ | 1 => k0_off54_eq _ | 2 => k0_off55_eq _ | 3 => k0_off56_eq _) (k0_off57_eq (at3 n)) _ _ (qStep_empty (qStep_empty (qStep_empty (qStep_empty (qStep_empty (qStep_empty (qStep_empty hs)))))))) $$ [H21 H18]
  · isplitl [H21]; · iexact H21
    iexact H18
  iintro H21 H18
  iapply (wp_q c M n h 𝒱 bd Set.univ 8 _ _ _ _ (fun | 0 => k0_off58_eq _ | 1 => k0_off59_eq _ | 2 => k0_off60_eq _ | 3 => k0_off61_eq _) (k0_off62_eq (at3 n)) _ _ (qStep_empty (qStep_empty (qStep_empty (qStep_empty (qStep_empty (qStep_empty (qStep_empty (qStep_empty hs))))))))) $$ [H21 H18]
  · isplitl [H21]; · iexact H21
    iexact H18
  iintro H21 H18
  iapply (wp_q c M n h 𝒱 bd Set.univ 9 _ _ _ _ (fun | 0 => k0_off63_eq _ | 1 => k0_off64_eq _ | 2 => k0_off65_eq _ | 3 => k0_off66_eq _) (k0_off67_eq (at3 n)) _ _ (qStep_empty (qStep_empty (qStep_empty (qStep_empty (qStep_empty (qStep_empty (qStep_empty (qStep_empty (qStep_empty hs)))))))))) $$ [H21 H18]
  · isplitl [H21]; · iexact H21
    iexact H18
  iintro H21 H18
  iapply (wp_k c M n h 𝒱 bd Set.univ 0 _ _ _ _ (fun | 0 => k0_off68_eq _ | 1 => k0_off69_eq _ | 2 => k0_off70_eq _ | 3 => k0_off71_eq _) (k0_off72_eq (at3 n)) _ _ (qStep_empty (qStep_empty (qStep_empty (qStep_empty (qStep_empty (qStep_empty (qStep_empty (qStep_empty (qStep_empty (qStep_empty hs))))))))))) $$ [H22 H19]
  · isplitl [H22]; · iexact H22
    iexact H19
  iintro H22 H19
  iapply (wp_k c M n h 𝒱 bd Set.univ 1 _ _ _ _ (fun | 0 => k0_off73_eq _ | 1 => k0_off74_eq _ | 2 => k0_off75_eq _ | 3 => k0_off76_eq _) (k0_off77_eq (at3 n)) _ _ (kStep_empty (qStep_empty (qStep_empty (qStep_empty (qStep_empty (qStep_empty (qStep_empty (qStep_empty (qStep_empty (qStep_empty (qStep_empty hs)))))))))))) $$ [H22 H19]
  · isplitl [H22]; · iexact H22
    iexact H19
  iintro H22 H19
  iapply (wp_v c M n h 𝒱 bd Set.univ 0 _ _ _ _ (fun | 0 => k0_off68_eq _ | 1 => k0_off69_eq _ | 2 => k0_off70_eq _ | 3 => k0_off71_eq _) (k0_off72_eq (at3 n)) _ _ (kStep_empty (kStep_empty (qStep_empty (qStep_empty (qStep_empty (qStep_empty (qStep_empty (qStep_empty (qStep_empty (qStep_empty (qStep_empty (qStep_empty hs))))))))))))) $$ [H23 H20]
  · isplitl [H23]; · iexact H23
    iexact H20
  iintro H23 H20
  iapply (wp_v c M n h 𝒱 bd Set.univ 1 _ _ _ _ (fun | 0 => k0_off73_eq _ | 1 => k0_off74_eq _ | 2 => k0_off75_eq _ | 3 => k0_off76_eq _) (k0_off77_eq (at3 n)) _ _ (vStep_empty (kStep_empty (kStep_empty (qStep_empty (qStep_empty (qStep_empty (qStep_empty (qStep_empty (qStep_empty (qStep_empty (qStep_empty (qStep_empty (qStep_empty hs)))))))))))))) $$ [H23 H20]
  · isplitl [H23]; · iexact H23
    iexact H20
  iintro H23 H20
  rw [wp_ret]; imodintro
  iapply Hk
  isplitl [H21]; · iexact H21
  isplitl [H22]; · iexact H22
  isplitl [H23]; · iexact H23
  isplitl [H18]; · iexact H18
  isplitl [H19]; · iexact H19
  iexact H20

end Blocks

end Cert.Kernel.Hand
-- ==== Proof.Plain.Rounds.lean ====
/-
  The two loops over the chunks of weights, trip by trip: the first starts ten chunks' copies; the second waits for a
  chunk's copies, starts those of the chunk ten ahead, reads the chunk's activations and runs the fourteen blocks.
-/
module

public import proofs.«01_k».proof.Proof.Plain.Step

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rounds

variable {F : FTy → Type} [BitOps F] (c : Dev nD) (M : Src F)
variable {Ix : Type} [DecidableEq Ix] {Name : Type} [DecidableEq Name] [Infinite Name] {U : Type} [URA U] {Lvl : Type} [Preorder Lvl]
local notation "𝕄" => MT nD τ sig Ix (Elt F) Name U Lvl
variable (EC : UEmb Counters (MT nD τ sig Ix (Elt F) Name U Lvl)) (ι : Ix)
variable {defs : Defs nD τ sig (Elt F) Λ₀} (𝒱 : Variants) (bd : Option 𝒱.V)

/-- Chunk `n`'s copies not started, started, landed. -/
def Idle (n : Fin 20) : sProp 𝕄 := idle c (cps n) (srcs c M n) (semOf n)
@[inherit_doc Idle]
def Fly (n : Fin 20) : sProp 𝕄 := flight EC c (cps n) (srcs c M n) (dsts c M n) (semOf n) ι
@[inherit_doc Idle]
def Land (n : Fin 20) : sProp 𝕄 := landed c (cps n) (srcs c M n) (dsts c M n) (semOf n)

omit [Infinite Name] [Preorder Lvl] in
theorem cp0_dst (off : Fin 2 → ℕ) (inb w) (f : S160x5120.Idx → Elt F .bf16) :
    ((cp0 off inb w).dst.view.loc (c : Thread nD τ) ↦[(cp0 off inb w).dst.view.set]{fullShare} f : sProp 𝕄)
      = (arg21.view.loc (c : Thread nD τ) ↦[(Rect.unit (s := S160x5120) off S8x5120.size inb).set]{fullShare} f) :=
  congrArg (fun T : Finset S160x5120.Idx => (arg21.view.loc (c : Thread nD τ) ↦[T]{fullShare} f : sProp 𝕄)) (View.set_slice_whole _ _)

omit [Infinite Name] [Preorder Lvl] in
theorem cp0_src (off : Fin 2 → ℕ) (inb w) (f : S160x5120.Idx → Elt F .bf16) :
    ((cp0 off inb w).src.view.loc (c : Thread nD τ) ↦[(cp0 off inb w).src.view.set]{fullShare} f : sProp 𝕄)
      = (arg5.view.loc (c : Thread nD τ) ↦[(Rect.unit (s := S160x5120) off S8x5120.size inb).set]{fullShare} f) :=
  congrArg (fun T : Finset S160x5120.Idx => (arg5.view.loc (c : Thread nD τ) ↦[T]{fullShare} f : sProp 𝕄)) (View.set_slice_whole _ _)

omit [Infinite Name] [Preorder Lvl] in
theorem cp1_dst (off : Fin 2 → ℕ) (inb w) (f : S160x1024.Idx → Elt F .bf16) :
    ((cp1 off inb w).dst.view.loc (c : Thread nD τ) ↦[(cp1 off inb w).dst.view.set]{fullShare} f : sProp 𝕄)
      = (arg22.view.loc (c : Thread nD τ) ↦[(Rect.unit (s := S160x1024) off S8x1024.size inb).set]{fullShare} f) :=
  congrArg (fun T : Finset S160x1024.Idx => (arg22.view.loc (c : Thread nD τ) ↦[T]{fullShare} f : sProp 𝕄)) (View.set_slice_whole _ _)

omit [Infinite Name] [Preorder Lvl] in
theorem cp1_src (off : Fin 2 → ℕ) (inb w) (f : S160x1024.Idx → Elt F .bf16) :
    ((cp1 off inb w).src.view.loc (c : Thread nD τ) ↦[(cp1 off inb w).src.view.set]{fullShare} f : sProp 𝕄)
      = (arg7.view.loc (c : Thread nD τ) ↦[(Rect.unit (s := S160x1024) off S8x1024.size inb).set]{fullShare} f) :=
  congrArg (fun T : Finset S160x1024.Idx => (arg7.view.loc (c : Thread nD τ) ↦[T]{fullShare} f : sProp 𝕄)) (View.set_slice_whole _ _)

omit [Infinite Name] [Preorder Lvl] in
theorem cp2_dst (off : Fin 2 → ℕ) (inb w) (f : S160x1024.Idx → Elt F .bf16) :
    ((cp2 off inb w).dst.view.loc (c : Thread nD τ) ↦[(cp2 off inb w).dst.view.set]{fullShare} f : sProp 𝕄)
      = (arg23.view.loc (c : Thread nD τ) ↦[(Rect.unit (s := S160x1024) off S8x1024.size inb).set]{fullShare} f) :=
  congrArg (fun T : Finset S160x1024.Idx => (arg23.view.loc (c : Thread nD τ) ↦[T]{fullShare} f : sProp 𝕄)) (View.set_slice_whole _ _)

omit [Infinite Name] [Preorder Lvl] in
theorem cp2_src (off : Fin 2 → ℕ) (inb w) (f : S160x1024.Idx → Elt F .bf16) :
    ((cp2 off inb w).src.view.loc (c : Thread nD τ) ↦[(cp2 off inb w).src.view.set]{fullShare} f : sProp 𝕄)
      = (arg9.view.loc (c : Thread nD τ) ↦[(Rect.unit (s := S160x1024) off S8x1024.size inb).set]{fullShare} f) :=
  congrArg (fun T : Finset S160x1024.Idx => (arg9.view.loc (c : Thread nD τ) ↦[T]{fullShare} f : sProp 𝕄)) (View.set_slice_whole _ _)

omit [Infinite Name] [Preorder Lvl] in
theorem cp3_dst (off : Fin 3 → ℕ) (inb w) (f : S320x320x128.Idx → Elt F .i8) :
    ((cp3 off inb w).dst.view.loc (c : Thread nD τ) ↦[(cp3 off inb w).dst.view.set]{fullShare} f : sProp 𝕄)
      = (arg18.view.loc (c : Thread nD τ) ↦[(Rect.unit (s := S320x320x128) off S16x320x128.size inb).set]{fullShare} f) :=
  congrArg (fun T : Finset S320x320x128.Idx => (arg18.view.loc (c : Thread nD τ) ↦[T]{fullShare} f : sProp 𝕄)) (View.set_slice_whole _ _)

omit [Infinite Name] [Preorder Lvl] in
theorem cp3_src (off : Fin 3 → ℕ) (inb w) (f : S320x320x128.Idx → Elt F .i8) :
    ((cp3 off inb w).src.view.loc (c : Thread nD τ) ↦[(cp3 off inb w).src.view.set]{fullShare} f : sProp 𝕄)
      = (arg4.view.loc (c : Thread nD τ) ↦[(Rect.unit (s := S320x320x128) off S16x320x128.size inb).set]{fullShare} f) :=
  congrArg (fun T : Finset S320x320x128.Idx => (arg4.view.loc (c : Thread nD τ) ↦[T]{fullShare} f : sProp 𝕄)) (View.set_slice_whole _ _)

omit [Infinite Name] [Preorder Lvl] in
theorem cp4_dst (off : Fin 3 → ℕ) (inb w) (f : S320x64x128.Idx → Elt F .i8) :
    ((cp4 off inb w).dst.view.loc (c : Thread nD τ) ↦[(cp4 off inb w).dst.view.set]{fullShare} f : sProp 𝕄)
      = (arg19.view.loc (c : Thread nD τ) ↦[(Rect.unit (s := S320x64x128) off S16x64x128.size inb).set]{fullShare} f) :=
  congrArg (fun T : Finset S320x64x128.Idx => (arg19.view.loc (c : Thread nD τ) ↦[T]{fullShare} f : sProp 𝕄)) (View.set_slice_whole _ _)

omit [Infinite Name] [Preorder Lvl] in
theorem cp4_src (off : Fin 3 → ℕ) (inb w) (f : S320x64x128.Idx → Elt F .i8) :
    ((cp4 off inb w).src.view.loc (c : Thread nD τ) ↦[(cp4 off inb w).src.view.set]{fullShare} f : sProp 𝕄)
      = (arg6.view.loc (c : Thread nD τ) ↦[(Rect.unit (s := S320x64x128) off S16x64x128.size inb).set]{fullShare} f) :=
  congrArg (fun T : Finset S320x64x128.Idx => (arg6.view.loc (c : Thread nD τ) ↦[T]{fullShare} f : sProp 𝕄)) (View.set_slice_whole _ _)

omit [Infinite Name] [Preorder Lvl] in
theorem cp5_dst (off : Fin 3 → ℕ) (inb w) (f : S320x64x128.Idx → Elt F .i8) :
    ((cp5 off inb w).dst.view.loc (c : Thread nD τ) ↦[(cp5 off inb w).dst.view.set]{fullShare} f : sProp 𝕄)
      = (arg20.view.loc (c : Thread nD τ) ↦[(Rect.unit (s := S320x64x128) off S16x64x128.size inb).set]{fullShare} f) :=
  congrArg (fun T : Finset S320x64x128.Idx => (arg20.view.loc (c : Thread nD τ) ↦[T]{fullShare} f : sProp 𝕄)) (View.set_slice_whole _ _)

omit [Infinite Name] [Preorder Lvl] in
theorem cp5_src (off : Fin 3 → ℕ) (inb w) (f : S320x64x128.Idx → Elt F .i8) :
    ((cp5 off inb w).src.view.loc (c : Thread nD τ) ↦[(cp5 off inb w).src.view.set]{fullShare} f : sProp 𝕄)
      = (arg8.view.loc (c : Thread nD τ) ↦[(Rect.unit (s := S320x64x128) off S16x64x128.size inb).set]{fullShare} f) :=
  congrArg (fun T : Finset S320x64x128.Idx => (arg8.view.loc (c : Thread nD τ) ↦[T]{fullShare} f : sProp 𝕄)) (View.set_slice_whole _ _)

/-- What copy `j` of chunk `n` delivers, what it needs. -/
def pairOf (n : Fin 20) : Fin 6 → sProp 𝕄
  | 0 => iprop((arg21.view.loc (c : Thread nD τ) ↦[part8 n]{fullShare} M.f0) ∗ (arg5.view.loc (c : Thread nD τ) ↦[part8 n]{fullShare} M.f0))
  | 1 => iprop((arg22.view.loc (c : Thread nD τ) ↦[part9 n]{fullShare} M.f1) ∗ (arg7.view.loc (c : Thread nD τ) ↦[part9 n]{fullShare} M.f1))
  | 2 => iprop((arg23.view.loc (c : Thread nD τ) ↦[part9 n]{fullShare} M.f2) ∗ (arg9.view.loc (c : Thread nD τ) ↦[part9 n]{fullShare} M.f2))
  | 3 => iprop((arg18.view.loc (c : Thread nD τ) ↦[part10 n]{fullShare} M.f3) ∗ (arg4.view.loc (c : Thread nD τ) ↦[part10 n]{fullShare} M.f3))
  | 4 => iprop((arg19.view.loc (c : Thread nD τ) ↦[part11 n]{fullShare} M.f4) ∗ (arg6.view.loc (c : Thread nD τ) ↦[part11 n]{fullShare} M.f4))
  | 5 => iprop((arg20.view.loc (c : Thread nD τ) ↦[part11 n]{fullShare} M.f5) ∗ (arg8.view.loc (c : Thread nD τ) ↦[part11 n]{fullShare} M.f5))
@[inherit_doc pairOf]
def endsOf (n : Fin 20) : Fin 6 → sProp 𝕄
  | 0 => iprop((∃ f, arg21.view.loc (c : Thread nD τ) ↦[part8 n]{fullShare} f) ∗ (arg5.view.loc (c : Thread nD τ) ↦[part8 n]{fullShare} M.f0))
  | 1 => iprop((∃ f, arg22.view.loc (c : Thread nD τ) ↦[part9 n]{fullShare} f) ∗ (arg7.view.loc (c : Thread nD τ) ↦[part9 n]{fullShare} M.f1))
  | 2 => iprop((∃ f, arg23.view.loc (c : Thread nD τ) ↦[part9 n]{fullShare} f) ∗ (arg9.view.loc (c : Thread nD τ) ↦[part9 n]{fullShare} M.f2))
  | 3 => iprop((∃ f, arg18.view.loc (c : Thread nD τ) ↦[part10 n]{fullShare} f) ∗ (arg4.view.loc (c : Thread nD τ) ↦[part10 n]{fullShare} M.f3))
  | 4 => iprop((∃ f, arg19.view.loc (c : Thread nD τ) ↦[part11 n]{fullShare} f) ∗ (arg6.view.loc (c : Thread nD τ) ↦[part11 n]{fullShare} M.f4))
  | 5 => iprop((∃ f, arg20.view.loc (c : Thread nD τ) ↦[part11 n]{fullShare} f) ∗ (arg8.view.loc (c : Thread nD τ) ↦[part11 n]{fullShare} M.f5))

omit [Infinite Name] [Preorder Lvl] in
theorem land_eq (n : Fin 20) : (Land c M n : sProp 𝕄) = iprop(semVal ((c : Thread nD τ), SemLoc.dma (semOf n)) 0 ∗ ((arg21.view.loc (c : Thread nD τ) ↦[part8 n]{fullShare} M.f0) ∗ (arg5.view.loc (c : Thread nD τ) ↦[part8 n]{fullShare} M.f0)) ∗ ((arg22.view.loc (c : Thread nD τ) ↦[part9 n]{fullShare} M.f1) ∗ (arg7.view.loc (c : Thread nD τ) ↦[part9 n]{fullShare} M.f1)) ∗ ((arg23.view.loc (c : Thread nD τ) ↦[part9 n]{fullShare} M.f2) ∗ (arg9.view.loc (c : Thread nD τ) ↦[part9 n]{fullShare} M.f2)) ∗ ((arg18.view.loc (c : Thread nD τ) ↦[part10 n]{fullShare} M.f3) ∗ (arg4.view.loc (c : Thread nD τ) ↦[part10 n]{fullShare} M.f3)) ∗ ((arg19.view.loc (c : Thread nD τ) ↦[part11 n]{fullShare} M.f4) ∗ (arg6.view.loc (c : Thread nD τ) ↦[part11 n]{fullShare} M.f4)) ∗ ((arg20.view.loc (c : Thread nD τ) ↦[part11 n]{fullShare} M.f5) ∗ (arg8.view.loc (c : Thread nD τ) ↦[part11 n]{fullShare} M.f5))) := by
  unfold Land landed; rw [bigSep6]
  have e : ∀ j, (deliver c (cps n) (srcs c M n) (dsts c M n) j : sProp 𝕄) = pairOf c M n j
    | 0 => congrArg₂ BI.sep (cp0_dst c _ _ (k0_off8_wordsbf16 (at3 n)) M.f0) (cp0_src c _ _ (k0_off8_wordsbf16 (at3 n)) M.f0)
    | 1 => congrArg₂ BI.sep (cp1_dst c _ _ (k0_off9_wordsbf16 (at3 n)) M.f1) (cp1_src c _ _ (k0_off9_wordsbf16 (at3 n)) M.f1)
    | 2 => congrArg₂ BI.sep (cp2_dst c _ _ (k0_off9_wordsbf16 (at3 n)) M.f2) (cp2_src c _ _ (k0_off9_wordsbf16 (at3 n)) M.f2)
    | 3 => congrArg₂ BI.sep (cp3_dst c _ _ (k0_off10_wordsi8 (at3 n)) M.f3) (cp3_src c _ _ (k0_off10_wordsi8 (at3 n)) M.f3)
    | 4 => congrArg₂ BI.sep (cp4_dst c _ _ (k0_off11_wordsi8 (at3 n)) M.f4) (cp4_src c _ _ (k0_off11_wordsi8 (at3 n)) M.f4)
    | 5 => congrArg₂ BI.sep (cp5_dst c _ _ (k0_off11_wordsi8 (at3 n)) M.f5) (cp5_src c _ _ (k0_off11_wordsi8 (at3 n)) M.f5)
  rw [e 0, e 1, e 2, e 3, e 4, e 5]; rfl

omit [Infinite Name] [Preorder Lvl] in
theorem idle_eq (n : Fin 20) : (Idle c M n : sProp 𝕄) = iprop(semVal ((c : Thread nD τ), SemLoc.dma (semOf n)) 0 ∗ ((∃ f, arg21.view.loc (c : Thread nD τ) ↦[part8 n]{fullShare} f) ∗ (arg5.view.loc (c : Thread nD τ) ↦[part8 n]{fullShare} M.f0)) ∗ ((∃ f, arg22.view.loc (c : Thread nD τ) ↦[part9 n]{fullShare} f) ∗ (arg7.view.loc (c : Thread nD τ) ↦[part9 n]{fullShare} M.f1)) ∗ ((∃ f, arg23.view.loc (c : Thread nD τ) ↦[part9 n]{fullShare} f) ∗ (arg9.view.loc (c : Thread nD τ) ↦[part9 n]{fullShare} M.f2)) ∗ ((∃ f, arg18.view.loc (c : Thread nD τ) ↦[part10 n]{fullShare} f) ∗ (arg4.view.loc (c : Thread nD τ) ↦[part10 n]{fullShare} M.f3)) ∗ ((∃ f, arg19.view.loc (c : Thread nD τ) ↦[part11 n]{fullShare} f) ∗ (arg6.view.loc (c : Thread nD τ) ↦[part11 n]{fullShare} M.f4)) ∗ ((∃ f, arg20.view.loc (c : Thread nD τ) ↦[part11 n]{fullShare} f) ∗ (arg8.view.loc (c : Thread nD τ) ↦[part11 n]{fullShare} M.f5))) := by
  unfold Idle idle; rw [bigSep6]
  have e : ∀ j, (ends c (cps n) (srcs c M n) j : sProp 𝕄) = endsOf c M n j
    | 0 => congrArg₂ BI.sep (congrArg (fun Φ => iprop(∃ f, Φ f)) (funext fun f => cp0_dst c _ _ (k0_off8_wordsbf16 (at3 n)) f)) (cp0_src c _ _ (k0_off8_wordsbf16 (at3 n)) M.f0)
    | 1 => congrArg₂ BI.sep (congrArg (fun Φ => iprop(∃ f, Φ f)) (funext fun f => cp1_dst c _ _ (k0_off9_wordsbf16 (at3 n)) f)) (cp1_src c _ _ (k0_off9_wordsbf16 (at3 n)) M.f1)
    | 2 => congrArg₂ BI.sep (congrArg (fun Φ => iprop(∃ f, Φ f)) (funext fun f => cp2_dst c _ _ (k0_off9_wordsbf16 (at3 n)) f)) (cp2_src c _ _ (k0_off9_wordsbf16 (at3 n)) M.f2)
    | 3 => congrArg₂ BI.sep (congrArg (fun Φ => iprop(∃ f, Φ f)) (funext fun f => cp3_dst c _ _ (k0_off10_wordsi8 (at3 n)) f)) (cp3_src c _ _ (k0_off10_wordsi8 (at3 n)) M.f3)
    | 4 => congrArg₂ BI.sep (congrArg (fun Φ => iprop(∃ f, Φ f)) (funext fun f => cp4_dst c _ _ (k0_off11_wordsi8 (at3 n)) f)) (cp4_src c _ _ (k0_off11_wordsi8 (at3 n)) M.f4)
    | 5 => congrArg₂ BI.sep (congrArg (fun Φ => iprop(∃ f, Φ f)) (funext fun f => cp5_dst c _ _ (k0_off11_wordsi8 (at3 n)) f)) (cp5_src c _ _ (k0_off11_wordsi8 (at3 n)) M.f5)
  rw [e 0, e 1, e 2, e 3, e 4, e 5]; rfl

omit [Infinite Name] [Preorder Lvl] in
/-- One member of a family is changed. -/
theorem bigSep_change (f g : Fin 20 → sProp 𝕄) (n : Fin 20) (h : ∀ m, m ≠ n → f m = g m) :
    bigSep Finset.univ f ⊢ iprop(f n ∗ (g n -∗ bigSep Finset.univ g)) := by
  have ef : bigSep Finset.univ f = iprop(f n ∗ bigSep (Finset.univ.erase n) f) := BI.bigSep_erase (Finset.mem_univ n)
  have eg : bigSep Finset.univ g = iprop(g n ∗ bigSep (Finset.univ.erase n) g) := BI.bigSep_erase (Finset.mem_univ n)
  rw [ef, eg, show bigSep (Finset.univ.erase n) f = bigSep (Finset.univ.erase n) g from BI.bigSep_congr fun m hm => h m (Finset.ne_of_mem_erase hm)]
  iintro ⟨H, HR⟩
  isplitl [H]; · iexact H
  iintro Hg
  isplitl [Hg]; · iexact Hg
  iexact HR

/-- The chunks before trip `k` of the first loop. -/
def stage1 (k : ℕ) (n : Fin 20) : sProp 𝕄 := if n.val < k then Fly c M EC ι n else Idle c M n
/-- The chunks before trip `k` of the second loop. -/
def stage3 (k : ℕ) (n : Fin 20) : sProp 𝕄 := if n.val < k then Land c M n else if n.val < k + 10 then Fly c M EC ι n else Idle c M n
/-- The chunks in trip `k` of the second loop, the wait done. -/
def mid3 (k : ℕ) (n : Fin 20) : sProp 𝕄 := if n.val < k + 1 then Land c M n else if n.val < k + 10 then Fly c M EC ι n else Idle c M n

omit [Infinite Name] [Preorder Lvl] in
theorem stage_switch : (stage1 c M EC ι 10 : Fin 20 → sProp 𝕄) = stage3 c M EC ι 0 := by
  funext n; unfold stage1 stage3; simp

omit [Infinite Name] [Preorder Lvl] in
theorem stage1_zero : (stage1 c M EC ι 0 : Fin 20 → sProp 𝕄) = Idle c M := by
  funext n; unfold stage1; simp

omit [Infinite Name] [Preorder Lvl] in
theorem stage3_end : (stage3 c M EC ι 20 : Fin 20 → sProp 𝕄) = Land c M := by
  funext n; unfold stage3; simp

theorem wp_tripFirst [EC.LandsIn (upEmb : UEmb _ 𝕄)] {Q : PUnit → sProp 𝕄} (k : Fin k0_t1_loop.trips) :
    bigSep Finset.univ (stage1 c M EC ι k.val) ⊢ iprop((bigSep Finset.univ (stage1 c M EC ι (k.val + 1)) -∗ Q ⟨⟩)
      -∗ wp frame (wpE defs 𝒱 (c : Thread nD τ) bd) Set.univ (tripFirst k) Q) := by
  have hk : k.val < 10 := lt_of_lt_of_eq k.isLt trips1
  unfold tripFirst
  rw [cpsFirst_eq k ⟨k.val, by omega⟩ rfl, semFirst_eq k ⟨k.val, by omega⟩ rfl]
  refine (bigSep_change (stage1 c M EC ι k.val) (stage1 c M EC ι (k.val + 1)) ⟨k.val, by omega⟩ ?_).trans ?_
  · intro m hm
    have hne : m.val ≠ k.val := fun h => hm (Fin.ext h)
    unfold stage1
    by_cases h : m.val < k.val
    · rw [if_pos h, if_pos (by omega)]
    · rw [if_neg h, if_neg (by omega)]
  rw [show stage1 c M EC ι k.val (⟨k.val, by omega⟩ : Fin 20) = Idle c M (⟨k.val, by omega⟩ : Fin 20) from if_neg (lt_irrefl k.val),
    show stage1 c M EC ι (k.val + 1) (⟨k.val, by omega⟩ : Fin 20) = Fly c M EC ι (⟨k.val, by omega⟩ : Fin 20) from if_pos (Nat.lt_succ_self _)]
  iintro ⟨H, HR⟩ Hk
  unfold Idle
  iapply (wp_enq6 EC 𝒱 c bd _ _ _ _ ι (land c M _)) $$ H
  iintro H
  iapply Hk
  iapply HR
  unfold Fly
  iexact H

omit [Infinite Name] in
theorem wp_bind' {α β : Type} (p : Prog (TpuEff nD τ sig (Elt F) Λ₀ .tc) α) (k : α → Prog (TpuEff nD τ sig (Elt F) Λ₀ .tc) β) (Q : β → sProp 𝕄) (E : Set Name) :
    wp frame (wpE defs 𝒱 (c : Thread nD τ) bd) E (Prog.bind p k) Q = wp frame (wpE defs 𝒱 (c : Thread nD τ) bd) E p fun v => wp frame (wpE defs 𝒱 (c : Thread nD τ) bd) E (k v) Q := wp_bind ..

/-- The activations that the contraction reads at chunk `n`. -/
def hAt (H : S40x64x128.Idx → Elt F .bf16) (n : Fin 20) : FVec F S64x256 .bf16 :=
  hChunk (arg24.view.readAt (Elt F) (Rect.unit (s := S40x64x128) (k0_off17 (at3 n) 0#32) S1x64x128.size (k0_off17_inb (at3 n) 0)).toLoadRect H)
    (arg24.view.readAt (Elt F) (Rect.unit (s := S40x64x128) (k0_off17 (at3 n) 1#32) S1x64x128.size (k0_off17_inb (at3 n) 1)).toLoadRect H)

/-- The activations and the fourteen blocks, the chunk's copies landed. -/
theorem wp_rest {Q : Mxu F → sProp 𝕄} (H : S40x64x128.Idx → Elt F .bf16) (n : Fin 20) (s : Mxu F) (hs : Empty s) :
    iprop(bigSep Finset.univ (stage3 c M EC ι (n.val + 1)) ∗ (∃ W' : Waits sig Ix, owes (c : Thread nD τ) 0 W') ∗ (arg24.view.loc (c : Thread nD τ) ↦{fullShare} H))
      ⊢ iprop((iprop(bigSep Finset.univ (stage3 c M EC ι (n.val + 1)) ∗ (∃ W' : Waits sig Ix, owes (c : Thread nD τ) 0 W') ∗ (arg24.view.loc (c : Thread nD τ) ↦{fullShare} H)) -∗ Q (step c M n (hAt H n) s))
      -∗ wp frame (wpE defs 𝒱 (c : Thread nD τ) bd) Set.univ
        (.op (.load arg24 (Rect.unit (s := S40x64x128) (k0_off17 (at3 n) 0#32) S1x64x128.size (k0_off17_inb (at3 n) 0)).toLoadRect (View.loadsAt_vmem h_S1x64x128)) fun v =>
          .op (.load arg24 (Rect.unit (s := S40x64x128) (k0_off17 (at3 n) 1#32) S1x64x128.size (k0_off17_inb (at3 n) 1)).toLoadRect (View.loadsAt_vmem h_S1x64x128)) fun w =>
          blocks (at3 n) (hChunk v w) s) Q) := by
  iintro ⟨HS, HO, HH⟩ Hk
  iapply (wp_load 𝒱 (c : Thread nD τ) bd Set.univ (Finset.subset_univ _)) $$ HH
  iintro HH
  iapply (wp_load 𝒱 (c : Thread nD τ) bd Set.univ (Finset.subset_univ _)) $$ HH
  iintro HH
  ihave HS := (bigSep_change (stage3 c M EC ι (n.val + 1)) (stage3 c M EC ι (n.val + 1)) n (fun _ _ => rfl)) $$ HS
  rw [show stage3 c M EC ι (n.val + 1) n = Land c M n from if_pos (Nat.lt_succ_self _), land_eq]
  icases HS with ⟨⟨HV, ⟨H21, S21⟩, ⟨H22, S22⟩, ⟨H23, S23⟩, ⟨H18, S18⟩, ⟨H19, S19⟩, ⟨H20, S20⟩⟩, HS⟩
  iapply (wp_blocks c M n (hAt H n) 𝒱 bd s hs) $$ [H21 H22 H23 H18 H19 H20]
  · isplitl [H21]; · iexact H21
    isplitl [H22]; · iexact H22
    isplitl [H23]; · iexact H23
    isplitl [H18]; · iexact H18
    isplitl [H19]; · iexact H19
    iexact H20
  iintro ⟨H21, H22, H23, H18, H19, H20⟩
  iapply Hk
  isplitl [HS HV H21 H22 H23 H18 H19 H20 S21 S22 S23 S18 S19 S20]
  · iapply HS
    isplitl [HV]; · iexact HV
    isplitl [H21 S21]
    · isplitl [H21]; · iexact H21
      iexact S21
    isplitl [H22 S22]
    · isplitl [H22]; · iexact H22
      iexact S22
    isplitl [H23 S23]
    · isplitl [H23]; · iexact H23
      iexact S23
    isplitl [H18 S18]
    · isplitl [H18]; · iexact H18
      iexact S18
    isplitl [H19 S19]
    · isplitl [H19]; · iexact H19
      iexact S19
    isplitl [H20]; · iexact H20
    iexact S20
  isplitl [HO]; · iexact HO
  iexact HH

theorem wp_trip [EC.LandsIn (upEmb : UEmb _ 𝕄)] {Q : Mxu F → sProp 𝕄} {W : Waits sig Ix} (H : S40x64x128.Idx → Elt F .bf16) (n : Fin 20) (s : Mxu F) (hs : Empty s) :
    iprop(bigSep Finset.univ (stage3 c M EC ι n.val) ∗ owes (c : Thread nD τ) 0 W ∗ (arg24.view.loc (c : Thread nD τ) ↦{fullShare} H))
      ⊢ iprop((iprop(bigSep Finset.univ (stage3 c M EC ι (n.val + 1)) ∗ (∃ W', owes (c : Thread nD τ) 0 W') ∗ (arg24.view.loc (c : Thread nD τ) ↦{fullShare} H)) -∗ Q (step c M n (hAt H n) s))
      -∗ wp frame (wpE defs 𝒱 (c : Thread nD τ) bd) Set.univ (trip (at3 n) s) Q) := by
  unfold trip
  iintro ⟨HS, HO, HH⟩ Hk
  ihave HS := (bigSep_change (stage3 c M EC ι n.val) (mid3 c M EC ι n.val) n (by
    intro m hm
    have hne : m.val ≠ n.val := fun h => hm (Fin.ext h)
    unfold stage3 mid3
    by_cases h : m.val < n.val
    · rw [if_pos h, if_pos (by omega)]
    · rw [if_neg h, if_neg (show ¬ m.val < n.val + 1 by omega)])) $$ HS
  rw [show stage3 c M EC ι n.val n = Fly c M EC ι n from (if_neg (by omega)).trans (if_pos (by omega)),
    show mid3 c M EC ι n.val n = Land c M n from if_pos (by omega)]
  icases HS with ⟨HF, HS⟩
  rw [wp_bind']
  unfold Fly
  iapply (wp_wait6 EC 𝒱 c bd (cps n) _ _ (semOf n) ι (amounts_pos n)) $$ [HF HO]
  · isplitl [HF]; · iexact HF
    iexact HO
  iintro ⟨HL, HO⟩
  rw [wp_bind']
  -- the copies of the chunk ten ahead
  ihave HS := HS $$ [HL]
  · unfold Land; iexact HL
  by_cases h : k0_cond1 (at3 n) = 1#1
  · rw [dif_pos h]
    have hn : n.val < 10 := (cond1_iff (at3 n)).mp h
    rw [cpsAhead_eq (at3 n) h ⟨n.val + 10, by omega⟩ rfl, semAhead_eq (at3 n) h ⟨n.val + 10, by omega⟩ rfl]
    ihave HS := (bigSep_change (mid3 c M EC ι n.val) (stage3 c M EC ι (n.val + 1)) ⟨n.val + 10, by omega⟩ (by
      intro m hm
      have hne : m.val ≠ n.val + 10 := fun h => hm (Fin.ext h)
      unfold stage3 mid3
      by_cases h : m.val < n.val + 1
      · rw [if_pos h, if_pos h]
      · rw [if_neg h, if_neg h]
        by_cases h' : m.val < n.val + 10
        · rw [if_pos h', if_pos (by omega)]
        · rw [if_neg h', if_neg (by omega)])) $$ HS
    rw [show mid3 c M EC ι n.val (⟨n.val + 10, by omega⟩ : Fin 20) = Idle c M (⟨n.val + 10, by omega⟩ : Fin 20) from
        (if_neg (by show ¬ n.val + 10 < n.val + 1; omega)).trans (if_neg (by show ¬ n.val + 10 < n.val + 10; omega)),
      show stage3 c M EC ι (n.val + 1) (⟨n.val + 10, by omega⟩ : Fin 20) = Fly c M EC ι (⟨n.val + 10, by omega⟩ : Fin 20) from
        (if_neg (by show ¬ n.val + 10 < n.val + 1; omega)).trans (if_pos (by show n.val + 10 < n.val + 1 + 10; omega))]
    icases HS with ⟨HI, HS⟩
    unfold Idle
    iapply (wp_enq6 EC 𝒱 c bd _ _ _ _ ι (land c M _)) $$ HI
    iintro HI
    ihave HS := HS $$ [HI]
    · unfold Fly; iexact HI
    iapply (wp_rest c M EC ι 𝒱 bd H n s hs) $$ [HS HO HH] Hk
    isplitl [HS]; · iexact HS
    isplitl [HO]; · iexact HO
    iexact HH
  · rw [dif_neg h]
    have hn : ¬ n.val < 10 := fun hh => h ((cond1_iff (at3 n)).mpr hh)
    rw [wp_ret]; imodintro
    rw [show mid3 c M EC ι n.val = stage3 c M EC ι (n.val + 1) from funext fun m => by
      have := m.isLt
      unfold stage3 mid3
      by_cases h : m.val < n.val + 1
      · rw [if_pos h, if_pos h]
      · rw [if_neg h, if_neg h, if_pos (show m.val < n.val + 10 by omega), if_pos (show m.val < n.val + 1 + 10 by omega)]]
    iapply (wp_rest c M EC ι 𝒱 bd H n s hs) $$ [HS HO HH] Hk
    isplitl [HS]; · iexact HS
    isplitl [HO]; · iexact HO
    iexact HH

end Rounds

end Cert.Kernel.Hand
-- ==== Proof.Plain.Tiles.lean ====
/-
  The normalised activations: forty tiles of 128 columns, each scaled, permuted along its lanes, rounded and stored.
-/
module

public import proofs.«01_k».proof.Proof.Plain.Rounds

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem inbX : ∀ t : Fin 40, ∀ a, (![0, 128 * t.val] : Fin 2 → ℕ) a + S64x128.size a ≤ S64x5120.size a := by decide
theorem inbN : ∀ t : Fin 40, ∀ a, (![t.val, 0] : Fin 2 → ℕ) a + S1x128.size a ≤ S40x128.size a := by decide
theorem inbH : ∀ t : Fin 40, ∀ a, (![t.val, 0, 0] : Fin 3 → ℕ) a + S1x64x128.size a ≤ S40x64x128.size a := by decide
theorem packedH : ∀ t : Fin 40, (Rect.unit (s := S40x64x128) ![t.val, 0, 0] S1x64x128.size (inbH t)).PackedRows (EltTy.packing .bf16) := by decide

/-- Tile `t` of the activations; row `t` of the norm's weights; tile `t` of the stored activations. -/
abbrev rX (t : Fin 40) : Rect S64x5120 := Rect.unit (s := S64x5120) ![0, 128 * t.val] S64x128.size (inbX t)
@[inherit_doc rX]
abbrev rN (t : Fin 40) : Rect S40x128 := Rect.unit (s := S40x128) ![t.val, 0] S1x128.size (inbN t)
@[inherit_doc rX]
abbrev rH (t : Fin 40) : Rect S40x64x128 := Rect.unit (s := S40x64x128) ![t.val, 0, 0] S1x64x128.size (inbH t)

/-- A tile times the rows' inverse norms times the norm's weights. -/
abbrev scaled (r : FVec F S64x128 .f32) (x : Vec F S64x128 .bf16) (n : Vec F S1x128 .f32) : FVec F S64x128 .f32 :=
  mulf (mulf (extf .f32 x bitsLt_bf16_f32) r) (broadcastTo S64x128 n broadcasts_S1x128_S64x128)

/-- The lanes gathered from, negative ones counted from the end. -/
abbrev idxOf (p : IVec S64x128 32) : IVec S64x128 32 := select (cmpi .slt p (broadcast S64x128 0#32)) (addi p (broadcast S64x128 128#32)) p

/-- A scaled tile permuted along its lanes and rounded. -/
abbrev tileVal (v : FVec F S64x128 .f32) (ix : IVec S64x128 32) : FVec F S1x64x128 .bf16 :=
  shapeCast S1x64x128 (truncf .bf16 (dynamicGather 1 v (shapeCast S64x128 (shapeCast S64x128x1 ix shapeCasts_S64x128_S64x128x1) shapeCasts_S64x128x1_S64x128)) bitsLt_bf16_f32) shapeCasts_S64x128_S1x64x128

variable {α : Type}

/-- A scaled tile stored. -/
def finish (t : Fin 40) (v : FVec F S64x128 .f32) (ix : IVec S64x128 32) (k : Prog (TpuEff nD τ sig (Elt F) Λ₀ .tc) α) : Prog (TpuEff nD τ sig (Elt F) Λ₀ .tc) α :=
  .op (.load arg24 (rH t).toLoadRect (View.loadsAt_vmem h_S1x64x128)) fun _ =>
  .op (.store arg24 (rH t) (tileVal v ix) Finset.univ (View.stores_vmem h_S1x64x128 (harg24.storeExact_slice rfl _ (packedH t)) (fun _ => rfl)) (.inl rfl)) fun _ => k

/-- A tile loaded and scaled. -/
def begin' (t : Fin 40) (r : FVec F S64x128 .f32) (k : FVec F S64x128 .f32 → Prog (TpuEff nD τ sig (Elt F) Λ₀ .tc) α) : Prog (TpuEff nD τ sig (Elt F) Λ₀ .tc) α :=
  .op (.load arg13 (rX t).toLoadRect (View.loadsAt_vmem h_S64x128)) fun x =>
  .op (.load arg15 (rN t).toLoadRect (View.loadsAt_vmem h_S1x128)) fun n => k (scaled r x n)

/-- The end of one tile, another, the beginning of a third. -/
def window (i : Fin 19) (r : FVec F S64x128 .f32) (p : IVec S64x128 32) (v : FVec F S64x128 .f32) (ix : IVec S64x128 32) :
    Prog (TpuEff nD τ sig (Elt F) Λ₀ .tc) (Σ' (_ : FVec F S64x128 .f32), IVec S64x128 32) :=
  finish ⟨2 * i.val + 1, by omega⟩ v ix <| begin' ⟨2 * i.val + 2, by omega⟩ r fun w =>
  finish ⟨2 * i.val + 2, by omega⟩ w (idxOf p) <| begin' ⟨2 * i.val + 3, by omega⟩ r fun u => .ret ⟨u, idxOf p⟩

theorem window0 (r : FVec F S64x128 .f32) (p v ix) : k0_part147 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 0 r p v ix := by sl_kernel_rfl
theorem window1 (r : FVec F S64x128 .f32) (p v ix) : k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 1 r p v ix := by sl_kernel_rfl
theorem window2 (r : FVec F S64x128 .f32) (p v ix) : k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 2 r p v ix := by sl_kernel_rfl
theorem window3 (r : FVec F S64x128 .f32) (p v ix) : k0_part150 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 3 r p v ix := by sl_kernel_rfl
theorem window4 (r : FVec F S64x128 .f32) (p v ix) : k0_part151 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 4 r p v ix := by sl_kernel_rfl
theorem window5 (r : FVec F S64x128 .f32) (p v ix) : k0_part152 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 5 r p v ix := by sl_kernel_rfl
theorem window6 (r : FVec F S64x128 .f32) (p v ix) : k0_part153 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 6 r p v ix := by sl_kernel_rfl
theorem window7 (r : FVec F S64x128 .f32) (p v ix) : k0_part154 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 7 r p v ix := by sl_kernel_rfl
theorem window8 (r : FVec F S64x128 .f32) (p v ix) : k0_part155 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 8 r p v ix := by sl_kernel_rfl
theorem window9 (r : FVec F S64x128 .f32) (p v ix) : k0_part156 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 9 r p v ix := by sl_kernel_rfl
theorem window10 (r : FVec F S64x128 .f32) (p v ix) : k0_part157 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 10 r p v ix := by sl_kernel_rfl
theorem window11 (r : FVec F S64x128 .f32) (p v ix) : k0_part158 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 11 r p v ix := by sl_kernel_rfl
theorem window12 (r : FVec F S64x128 .f32) (p v ix) : k0_part159 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 12 r p v ix := by sl_kernel_rfl
theorem window13 (r : FVec F S64x128 .f32) (p v ix) : k0_part160 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 13 r p v ix := by sl_kernel_rfl
theorem window14 (r : FVec F S64x128 .f32) (p v ix) : k0_part161 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 14 r p v ix := by sl_kernel_rfl
theorem window15 (r : FVec F S64x128 .f32) (p v ix) : k0_part162 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 15 r p v ix := by sl_kernel_rfl
theorem window16 (r : FVec F S64x128 .f32) (p v ix) : k0_part163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 16 r p v ix := by sl_kernel_rfl
theorem window17 (r : FVec F S64x128 .f32) (p v ix) : k0_part164 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 17 r p v ix := by sl_kernel_rfl
theorem window18 (r : FVec F S64x128 .f32) (p v ix) : k0_part165 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r p v ix = window 18 r p v ix := by sl_kernel_rfl

section Rules

variable (c : Dev nD) (X : S64x5120.Idx → Elt F .bf16) (N : S40x128.Idx → Elt F .f32) (r : FVec F S64x128 .f32) (p : IVec S64x128 32)

/-- The scaled tile `t`, from the whole arrays. -/
def scaledAt (t : Fin 40) : FVec F S64x128 .f32 := scaled r (arg13.view.readAt (Elt F) (rX t).toLoadRect X) (arg15.view.readAt (Elt F) (rN t).toLoadRect N)

/-- The stored activations. -/
def hFun : S40x64x128.Idx → Elt F .bf16 := fun i => tileVal (scaledAt X N r (i 0)) (idxOf p) fun | 0 => ⟨0, Nat.one_pos⟩ | 1 => i 1 | 2 => i 2

/-- The stored activations, the tiles before `n` done. -/
def hTo (n : ℕ) (f : S40x64x128.Idx → Elt F .bf16) : S40x64x128.Idx → Elt F .bf16 := fun i => if (i 0).val < n then hFun X N r p i else f i

theorem hTo_all (f : S40x64x128.Idx → Elt F .bf16) : hTo X N r p 40 f = hFun X N r p := by
  funext i
  unfold hTo; rw [if_pos (show (i 0).val < 40 from (i 0).isLt)]

theorem hTo_zero (f : S40x64x128.Idx → Elt F .bf16) : hTo X N r p 0 f = f := by
  funext i
  unfold hTo; rw [if_neg (Nat.not_lt_zero _)]

theorem tile_emb (t : Fin 40) (x : S1x64x128.Idx) : hFun X N r p ((rH t).emb x) = tileVal (scaledAt X N r t) (idxOf p) x := by
  unfold hFun
  have h0 : (rH t).emb x 0 = t := Fin.ext (by
    show t.val + 1 * (x 0).val = t.val
    have : (x 0).val < 1 := (x 0).isLt
    omega)
  rw [h0]
  refine congrArg _ (funext fun a => ?_)
  fin_cases a
  · exact Fin.ext (by have : (x 0).val < 1 := (x 0).isLt; show 0 = (x 0).val; omega)
  · exact Fin.ext (by show 0 + 1 * (x 1).val = (x 1).val; omega)
  · exact Fin.ext (by show 0 + 1 * (x 2).val = (x 2).val; omega)

theorem write_tile (t : Fin 40) (f : S40x64x128.Idx → Elt F .bf16) :
    (arg24.access (rH t)).write (Elt F) (hTo X N r p t.val f) (tileVal (scaledAt X N r t) (idxOf p)) Finset.univ = hTo X N r p (t.val + 1) f := by
  have hw : tileVal (scaledAt X N r t) (idxOf p) = (arg24.access (rH t)).read (Elt F) (hFun X N r p) := funext fun x => (tile_emb X N r p t x).symm
  rw [hw, View.write_read_eq_piecewise]
  funext i
  have hm : i ∈ (arg24.access (rH t)).setOn Finset.univ ↔ (i 0).val = t.val := by
    rw [show (arg24.access (rH t)).setOn Finset.univ = (rH t).set from View.set_slice_whole _ _, Rect.mem_set_unit]
    constructor
    · intro h
      have h0 := h 0
      have h1 : t.val ≤ (i 0).val := h0.1
      have h2 : (i 0).val < t.val + 1 := h0.2
      omega
    · intro h a
      fin_cases a
      · exact ⟨h.ge, by show (i 0).val < t.val + 1; omega⟩
      · exact ⟨Nat.zero_le _, lt_of_lt_of_eq (i 1).isLt (Nat.zero_add _).symm⟩
      · exact ⟨Nat.zero_le _, lt_of_lt_of_eq (i 2).isLt (Nat.zero_add _).symm⟩
  unfold hTo
  by_cases h : (i 0).val = t.val
  · rw [Finset.piecewise_eq_of_mem _ _ _ (hm.mpr h), if_pos (by omega)]
  · rw [Finset.piecewise_eq_of_notMem _ _ _ (fun hh => h (hm.mp hh))]
    by_cases h' : (i 0).val < t.val
    · rw [if_pos h', if_pos (by omega)]
    · rw [if_neg h', if_neg (by omega)]

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (bd : Option 𝒱.V)

theorem wp_congr_prog {α : Type} {a b : Prog (TpuEff nD τ sig (Elt F) Λ₀ .tc) α} (h : a = b) {E : Set Name} {Q : α → sProp 𝕄} :
    wp frame (wpE defs 𝒱 (c : Thread nD τ) bd) E b Q ⊢ wp frame (wpE defs 𝒱 (c : Thread nD τ) bd) E a Q := by rw [h]

theorem wp_finish {Q : α → sProp 𝕄} (t : Fin 40) (f : S40x64x128.Idx → Elt F .bf16) (k : Prog (TpuEff nD τ sig (Elt F) Λ₀ .tc) α) :
    (arg24.view.loc (c : Thread nD τ) ↦{fullShare} hTo X N r p t.val f : sProp 𝕄)
      ⊢ iprop(((arg24.view.loc (c : Thread nD τ) ↦{fullShare} hTo X N r p (t.val + 1) f) -∗ wp frame (wpE defs 𝒱 (c : Thread nD τ) bd) Set.univ k Q)
        -∗ wp frame (wpE defs 𝒱 (c : Thread nD τ) bd) Set.univ (finish t (scaledAt X N r t) (idxOf p) k) Q) := by
  unfold finish
  iintro H Hk
  iapply (wp_load 𝒱 (c : Thread nD τ) bd Set.univ (Finset.subset_univ _)) $$ H
  iintro H
  iapply (wp_store 𝒱 (c : Thread nD τ) bd Set.univ (m := arg24) (r := rH t) (w := tileVal (scaledAt X N r t) (idxOf p)) (Mk := Finset.univ) (Finset.subset_univ _)) $$ H
  rw [write_tile X N r p t f]
  iintro H
  iapply Hk
  iexact H

theorem wp_begin {Q : α → sProp 𝕄} (t : Fin 40) (k : FVec F S64x128 .f32 → Prog (TpuEff nD τ sig (Elt F) Λ₀ .tc) α) :
    iprop((arg13.view.loc (c : Thread nD τ) ↦{fullShare} X) ∗ (arg15.view.loc (c : Thread nD τ) ↦{fullShare} N) : sProp 𝕄)
      ⊢ iprop((iprop((arg13.view.loc (c : Thread nD τ) ↦{fullShare} X) ∗ (arg15.view.loc (c : Thread nD τ) ↦{fullShare} N)) -∗ wp frame (wpE defs 𝒱 (c : Thread nD τ) bd) Set.univ (k (scaledAt X N r t)) Q)
        -∗ wp frame (wpE defs 𝒱 (c : Thread nD τ) bd) Set.univ (begin' t r k) Q) := by
  unfold begin'
  iintro ⟨HX, HN⟩ Hk
  iapply (wp_load 𝒱 (c : Thread nD τ) bd Set.univ (Finset.subset_univ _)) $$ HX
  iintro HX
  iapply (wp_load 𝒱 (c : Thread nD τ) bd Set.univ (Finset.subset_univ _)) $$ HN
  iintro HN
  iapply Hk
  isplitl [HX]; · iexact HX
  iexact HN

/-- A window: two tiles more are stored. -/
theorem wp_window {Q : (Σ' (_ : FVec F S64x128 .f32), IVec S64x128 32) → sProp 𝕄} (i : Fin 19) (a b : Fin 40) (ha : a.val = 2 * i.val + 1) (hb : b.val = 2 * i.val + 3) (f : S40x64x128.Idx → Elt F .bf16) :
    iprop((arg13.view.loc (c : Thread nD τ) ↦{fullShare} X) ∗ (arg15.view.loc (c : Thread nD τ) ↦{fullShare} N) ∗ (arg24.view.loc (c : Thread nD τ) ↦{fullShare} hTo X N r p a.val f) : sProp 𝕄)
      ⊢ iprop((iprop((arg13.view.loc (c : Thread nD τ) ↦{fullShare} X) ∗ (arg15.view.loc (c : Thread nD τ) ↦{fullShare} N) ∗ (arg24.view.loc (c : Thread nD τ) ↦{fullShare} hTo X N r p b.val f)) -∗ Q ⟨scaledAt X N r b, idxOf p⟩)
        -∗ wp frame (wpE defs 𝒱 (c : Thread nD τ) bd) Set.univ (window i r p (scaledAt X N r a) (idxOf p)) Q) := by
  have h1 : 2 * i.val + 1 < 40 := by clear ha hb; omega
  have h2 : 2 * i.val + 2 < 40 := by clear ha hb; omega
  have h3 : 2 * i.val + 3 < 40 := by clear ha hb; omega
  obtain rfl : a = ⟨2 * i.val + 1, h1⟩ := Fin.ext ha
  obtain rfl : b = ⟨2 * i.val + 3, h3⟩ := Fin.ext hb
  unfold window
  iintro ⟨HX, HN, HH⟩ Hk
  iapply (wp_finish c X N r p 𝒱 bd _ f _) $$ HH
  iintro HH
  iapply (wp_begin c X N r 𝒱 bd _ _) $$ [HX HN]
  · isplitl [HX]; · iexact HX
    iexact HN
  iintro ⟨HX, HN⟩
  iapply (wp_finish c X N r p 𝒱 bd ⟨2 * i.val + 2, h2⟩ f _) $$ HH
  iintro HH
  iapply (wp_begin c X N r 𝒱 bd _ _) $$ [HX HN]
  · isplitl [HX]; · iexact HX
    iexact HN
  iintro ⟨HX, HN⟩
  rw [wp_ret]; imodintro
  iapply Hk
  isplitl [HX]; · iexact HX
  isplitl [HN]; · iexact HN
  iexact HH

end Rules

end Cert.Kernel.Hand
-- ==== Proof.Plain.Out.lean ====
/-
  The results: accumulators taken out of the matrix unit, rotated, rounded, stored two heads at a time, and copied out.
-/
module

public import proofs.«01_k».proof.Proof.Plain.Tiles
public import Idealize.ShloMosaic.Lib.Pipeline.Value

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- A result's shape: 64 rows, `2 nw` heads, 128 lanes. -/
abbrev SOut (nw : ℕ) : Shape := ⟨3, ![64, 2 * nw, 128]⟩

theorem wholeTrig : ∀ a, (![0, 0] : Fin 2 → ℕ) a + S64x128.size a ≤ S64x128.size a := by decide
/-- A whole table of cosines or sines. -/
abbrev rTrig : Rect S64x128 := Rect.unit (s := S64x128) ![0, 0] S64x128.size wholeTrig

/-- A result's buffer, with what its stores need. -/
structure OutBuf where
  nw : ℕ
  m : Memref sig .tc .vmem (SOut nw) .bf16
  hm : m.IsWhole
  inb : ∀ (b : Fin 8) (w : Fin nw), ∀ a, (![8 * b.val, 2 * w.val, 0] : Fin 3 → ℕ) a + S8x2x128.size a ≤ (SOut nw).size a
  packed : ∀ (b : Fin 8) (w : Fin nw), (Rect.unit (s := SOut nw) ![8 * b.val, 2 * w.val, 0] S8x2x128.size (inb b w)).PackedRows (EltTy.packing .bf16)

/-- The results' buffers. -/
def outQ : OutBuf := ⟨20, arg27, harg27, by decide, by decide⟩
@[inherit_doc outQ]
def outK : OutBuf := ⟨4, arg28, harg28, by decide, by decide⟩
@[inherit_doc outQ]
def outV : OutBuf := ⟨4, arg29, harg29, by decide, by decide⟩

/-- Eight rows of two heads. -/
abbrev OutBuf.r (O : OutBuf) (b : Fin 8) (w : Fin O.nw) : Rect (SOut O.nw) := Rect.unit (s := SOut O.nw) ![8 * b.val, 2 * w.val, 0] S8x2x128.size (O.inb b w)

theorem slicesRows : ∀ b : Fin 8, S64x128.Slices ![8 * b.val, 0] S8x128 := by decide

/-- Eight rows of two heads side by side, from their packed words. -/
abbrev twoHeads (b : Fin 8) (lo hi : FVec F S64x128 .f32) : FVec F S8x2x128 .bf16 :=
  bitcastToFloat .bf16 (bitcast S8x2x128 16 (shapeCast S8x1x128 (shapeCast S8x128 (extractStridedSlice S8x128 ![8 * b.val, 0] (packElementwise lo hi : IVec S64x128 32) (slicesRows b))
    shapeCasts_S8x128_S8x128) shapeCasts_S8x128_S8x1x128) bitcasts_S8x1x128_w32_S8x2x128_w16)

variable {α : Type}

/-- Eight rows of two heads stored. -/
def storeBlock (O : OutBuf) (b : Fin 8) (w : Fin O.nw) (lo hi : FVec F S64x128 .f32) (k : Prog (TpuEff nD τ sig (Elt F) Λ₀ .tc) α) : Prog (TpuEff nD τ sig (Elt F) Λ₀ .tc) α :=
  .op (.load O.m (O.r b w).toLoadRect (View.loadsAt_vmem h_S8x2x128)) fun _ =>
  .op (.store O.m (O.r b w) (twoHeads b lo hi) Finset.univ (View.stores_vmem h_S8x2x128 (O.hm.storeExact_slice rfl _ (O.packed b w)) (fun _ => rfl)) (.inl rfl)) fun _ => k

/-- Two heads stored. -/
def storeUnit (O : OutBuf) (w : Fin O.nw) (lo hi : FVec F S64x128 .f32) (k : Prog (TpuEff nD τ sig (Elt F) Λ₀ .tc) α) : Prog (TpuEff nD τ sig (Elt F) Λ₀ .tc) α :=
  storeBlock O 0 w lo hi <| storeBlock O 1 w lo hi <| storeBlock O 2 w lo hi <| storeBlock O 3 w lo hi <|
  storeBlock O 4 w lo hi <| storeBlock O 5 w lo hi <| storeBlock O 6 w lo hi <| storeBlock O 7 w lo hi k

/-- A head rotated, with the tables' values given. -/
abbrev roped (z c s : FVec F S64x128 .f32) : FVec F S64x128 .f32 :=
  addf (mulf z c) (mulf (dynamicRotate 1 64#32 none z rotates_S64x128_d1) s)

/-- A head rotated, or not. -/
def head (rope : Bool) (z : FVec F S64x128 .f32) (k : FVec F S64x128 .f32 → Prog (TpuEff nD τ sig (Elt F) Λ₀ .tc) α) : Prog (TpuEff nD τ sig (Elt F) Λ₀ .tc) α :=
  match rope with
  | true =>
    .op (.load arg25 rTrig.toLoadRect (View.loadsAt_vmem h_S64x128)) fun (c : Vec F S64x128 .f32) =>
    .op (.load arg26 rTrig.toLoadRect (View.loadsAt_vmem h_S64x128)) fun (s : Vec F S64x128 .f32) => k (roped z c s)
  | false => k z

/-- The two heads of a unit's accumulator. -/
abbrev left (z : FVec F S64x256 .f32) : FVec F S64x128 .f32 := extractStridedSlice S64x128 ![0, 0] z slices_S64x256_o0_0_S64x128
@[inherit_doc left]
abbrev right (z : FVec F S64x256 .f32) : FVec F S64x128 .f32 := extractStridedSlice S64x128 ![0, 128] z slices_S64x256_o0_128_S64x128

/-- A pair's two accumulators taken out. -/
abbrev accOf (u : Fin 2) (p : Fin 14) (s : Mxu F) : FVec F S64x256 .f32 := s.read u (16 * p.val) (fits p)
@[inherit_doc accOf]
abbrev popOf (u : Fin 2) (p : Fin 14) (s : Mxu F) : Mxu F := s.pop u (16 * p.val) 64 (fits p)

/-- A pair of accumulators taken out, rotated and stored. -/
def pair (O : OutBuf) (rope : Bool) (p : Fin 14) (w0 w1 : Fin O.nw) (s : Mxu F) (k : Mxu F → Prog (TpuEff nD τ sig (Elt F) Λ₀ .tc) α) : Prog (TpuEff nD τ sig (Elt F) Λ₀ .tc) α :=
  head rope (left (accOf 0 p s)) fun a => head rope (right (accOf 0 p s)) fun b =>
  head rope (left (accOf 1 p (popOf 0 p s))) fun c => head rope (right (accOf 1 p (popOf 0 p s))) fun d =>
  storeUnit O w0 a b <| storeUnit O w1 c d <| k (popOf 1 p (popOf 0 p s))

/-- The first `n` pairs of a result. -/
def pairs (O : OutBuf) (rope : Bool) (base : ℕ) : (n : ℕ) → (h : base + n ≤ 14) → (hw : 2 * n ≤ O.nw) → Mxu F → (Mxu F → Prog (TpuEff nD τ sig (Elt F) Λ₀ .tc) α) → Prog (TpuEff nD τ sig (Elt F) Λ₀ .tc) α
  | 0, _, _, s, k => k s
  | n + 1, h, hw, s, k => pairs O rope base n (by omega) (by omega) s fun s' =>
      pair O rope ⟨base + n, by omega⟩ ⟨2 * n, by omega⟩ ⟨2 * n + 1, by omega⟩ s' k

/-- The results' semaphores. -/
abbrev semQ : DmaSem sig := ((arg32.slice (Rect.unit (s := S3) ![0] S1.size inb_S3_S1_0)).squeeze S_ squeezes_S1_S_).sem
@[inherit_doc semQ]
abbrev semK : DmaSem sig := ((arg32.slice (Rect.unit (s := S3) ![1] S1.size inb_S3_S1_1)).squeeze S_ squeezes_S1_S_).sem
@[inherit_doc semQ]
abbrev semV : DmaSem sig := ((arg32.slice (Rect.unit (s := S3) ![2] S1.size inb_S3_S1_2)).squeeze S_ squeezes_S1_S_).sem

/-- The results: taken out, stored, sent away. -/
def outs (s : Mxu F) : Prog (TpuEff nD τ sig (Elt F) Λ₀ .tc) PUnit :=
  pairs outQ true 0 10 (by decide) (by decide) s fun s =>
  .op (.enqueueDma arg27 (.here arg10) (.dma semQ) harg27.wordExact harg10.wordExact ⟨Or.inl rfl, trivial⟩) fun _ =>
  pairs outK true 10 2 (by decide) (by decide) s fun s =>
  .op (.enqueueDma arg28 (.here arg11) (.dma semK) harg28.wordExact harg11.wordExact ⟨Or.inl rfl, trivial⟩) fun _ =>
  pairs outV false 12 2 (by decide) (by decide) s fun s =>
  .op (.enqueueDma arg29 (.here arg12) (.dma semV) harg29.wordExact harg12.wordExact ⟨Or.inl rfl, trivial⟩) fun _ =>
  .op (.waitDma2 semQ arg27 arg10 harg27.wordExact harg10.wordExact) fun _ =>
  .op (.waitDma2 semK arg28 arg11 harg28.wordExact harg11.wordExact) fun _ =>
  .op (.waitDma2 semV arg29 arg12 harg29.wordExact harg12.wordExact) fun _ =>
  Prog.bind s.exit fun _ => .ret ⟨⟩

/-! ### What is stored -/

/-- Where an element of a result lies within its head. -/
abbrev at2 (a : Fin 64) (b : Fin 128) : S64x128.Idx := fun | 0 => a | 1 => b

/-- A result from its heads. -/
def outFun (nw : ℕ) (hd : ℕ → FVec F S64x128 .f32) : (SOut nw).Idx → Elt F .bf16 := fun i =>
  twoHeads ⟨(i 0).val / 8, by have : (i 0).val < 64 := (i 0).isLt; omega⟩ (hd (2 * ((i 1).val / 2))) (hd (2 * ((i 1).val / 2) + 1))
    (fun | 0 => ⟨(i 0).val % 8, Nat.mod_lt _ (by decide)⟩ | 1 => ⟨(i 1).val % 2, Nat.mod_lt _ (by decide)⟩ | 2 => i 2 : S8x2x128.Idx)

theorem twoHeads_out (O : OutBuf) (b : Fin 8) (w : Fin O.nw) (hd : ℕ → FVec F S64x128 .f32) (x : (O.r b w).shape.Idx) :
    twoHeads b (hd (2 * w.val)) (hd (2 * w.val + 1)) x = outFun O.nw hd ((O.r b w).emb x) := by
  have h0 : (x 0).val < 8 := (x 0).isLt
  have h1 : (x 1).val < 2 := (x 1).isLt
  have e0 : ((O.r b w).emb x 0).val = 8 * b.val + (x 0).val := by
    show 8 * b.val + 1 * (x 0).val = _; omega
  have e1 : ((O.r b w).emb x 1).val = 2 * w.val + (x 1).val := by
    show 2 * w.val + 1 * (x 1).val = _; omega
  have e2 : ((O.r b w).emb x 2).val = (x 2).val := by
    show 0 + 1 * (x 2).val = _; omega
  have key : ∀ (b' : Fin 8) (w' : ℕ) (x' : S8x2x128.Idx), b' = b → w' = w.val → x' = x →
      twoHeads b (hd (2 * w.val)) (hd (2 * w.val + 1)) x = twoHeads b' (hd (2 * w')) (hd (2 * w' + 1)) x' := by
    rintro _ _ _ rfl rfl rfl; rfl
  unfold outFun
  refine key _ _ _ (Fin.ext ?_) ?_ (funext fun a => ?_)
  · show ((O.r b w).emb x 0).val / 8 = b.val
    omega
  · omega
  · fin_cases a
    · exact Fin.ext (by show ((O.r b w).emb x 0).val % 8 = (x 0).val; omega)
    · exact Fin.ext (by show ((O.r b w).emb x 1).val % 2 = (x 1).val; omega)
    · exact Fin.ext e2

/-- Of a result's buffer: the eights of rows before the `n`-th, head pair by head pair, are stored. -/
def Stored (O : OutBuf) (hd : ℕ → FVec F S64x128 .f32) (n : ℕ) (f : O.m.view.ty.Contents (Elt F)) : Prop :=
  ∀ i : (SOut O.nw).Idx, 8 * ((i 1).val / 2) + (i 0).val / 8 < n → O.m.view.read (Elt F) f i = outFun O.nw hd i

theorem Stored.zero (O : OutBuf) (hd : ℕ → FVec F S64x128 .f32) (f) : Stored O hd 0 f := fun _ h => absurd h (Nat.not_lt_zero _)

theorem Stored.all {O : OutBuf} {hd : ℕ → FVec F S64x128 .f32} {f} (h : Stored O hd (8 * O.nw) f) : O.m.view.read (Elt F) f = outFun O.nw hd := by
  funext i
  refine h i ?_
  have h0 : (i 0).val < 64 := (i 0).isLt
  have h1 : (i 1).val < 2 * O.nw := (i 1).isLt
  omega

theorem Stored.next {O : OutBuf} {hd : ℕ → FVec F S64x128 .f32} {f} (b : Fin 8) (w : Fin O.nw) (h : Stored O hd (8 * w.val + b.val) f) :
    Stored O hd (8 * w.val + b.val + 1) ((O.m.access (O.r b w)).write (Elt F) f (twoHeads b (hd (2 * w.val)) (hd (2 * w.val + 1))) Finset.univ) := by
  intro i hi
  by_cases hm : i ∈ Finset.univ.map (O.r b w).emb
  · obtain ⟨x, -, rfl⟩ := Finset.mem_map.mp hm
    rw [← twoHeads_out]
    exact View.read_slice_write_emb (v := O.m.view) (O.r b w) f _ (Finset.mem_univ x)
  · refine (View.read_slice_write_of_not_mem (v := O.m.view) (O.r b w) f _ Finset.univ hm).trans (h i ?_)
    by_contra hn
    refine hm ?_
    have hs : i ∈ (O.r b w).set := by
      rw [Rect.mem_set_unit]
      have h0 : (i 0).val < 64 := (i 0).isLt
      have hb := b.isLt
      intro a
      fin_cases a
      · show 8 * b.val ≤ (i 0).val ∧ (i 0).val < 8 * b.val + 8
        omega
      · show 2 * w.val ≤ (i 1).val ∧ (i 1).val < 2 * w.val + 2
        omega
      · exact ⟨Nat.zero_le _, lt_of_lt_of_eq (i 2).isLt (Nat.zero_add _).symm⟩
    rw [Rect.map_emb_univ]; exact hs

/-- A head's value: rotated with the tables' contents, or not. -/
def rot (rope : Bool) (C S : S64x128.Idx → Elt F .f32) (z : FVec F S64x128 .f32) : FVec F S64x128 .f32 :=
  match rope with
  | true => roped z (arg25.view.readAt (Elt F) rTrig.toLoadRect C) (arg26.view.readAt (Elt F) rTrig.toLoadRect S)
  | false => z

/-- The pairs before `n` taken out. -/
def popTo (s : Mxu F) : ℕ → Mxu F
  | 0 => s
  | n + 1 => if h : n < 14 then popOf 1 ⟨n, h⟩ (popOf 0 ⟨n, h⟩ (popTo s n)) else popTo s n

theorem popTo_succ (s : Mxu F) (p : Fin 14) : popTo s (p.val + 1) = popOf 1 p (popOf 0 p (popTo s p.val)) := dif_pos p.isLt

theorem read_popTo (s : Mxu F) (u : Fin 2) (p : Fin 14) (n : ℕ) (h : n ≤ p.val) : accOf u p (popTo s n) = accOf u p s := by
  induction n with
  | zero => rfl
  | succ n ih =>
    have hp := p.isLt
    rw [popTo_succ s ⟨n, by omega⟩]
    unfold accOf popOf
    rw [Mxu.read_pop_ne (hne := .inr (by right; show 4 * (16 * n) + 64 ≤ 4 * (16 * p.val); omega)), Mxu.read_pop_ne (hne := .inr (by right; show 4 * (16 * n) + 64 ≤ 4 * (16 * p.val); omega))]
    exact ih (by omega)

theorem read_popOf (s : Mxu F) (p : Fin 14) : accOf 1 p (popOf 0 p s) = accOf 1 p s := by
  unfold accOf popOf
  exact Mxu.read_pop_ne (hne := .inl (by decide)) ..

theorem live_popTo (s : Mxu F) (n : ℕ) (hn : n ≤ 14) (q : Fin 2) (R : Fin 1024) : (popTo s n).live q R = if R.val < 64 * n then false else s.live q R := by
  induction n with
  | zero => rw [if_neg (by omega)]; rfl
  | succ n ih =>
    rw [popTo_succ s ⟨n, by omega⟩, Mxu.live_pop, Mxu.live_pop, ih (by omega)]
    show (if q = 1 ∧ 4 * (16 * n) ≤ R.val ∧ R.val < 4 * (16 * n) + 64 then _ else if q = 0 ∧ 4 * (16 * n) ≤ R.val ∧ R.val < 4 * (16 * n) + 64 then _ else _) = _
    have hq : q = 0 ∨ q = 1 := by clear ih; revert q; decide
    by_cases h : R.val < 64 * n
    · rw [if_pos h, if_pos (show R.val < 64 * (n + 1) by omega)]; split_ifs <;> rfl
    · rw [if_neg h]
      by_cases h' : R.val < 64 * (n + 1)
      · rw [if_pos h']
        rcases hq with rfl | rfl
        · rw [if_neg (by rintro ⟨h, -⟩; exact absurd h (by decide)), if_pos ⟨rfl, by omega, by omega⟩]
        · rw [if_pos ⟨rfl, by omega, by omega⟩]
      · rw [if_neg h', if_neg (by rintro ⟨-, -, h⟩; omega), if_neg (by rintro ⟨-, -, h⟩; omega)]

theorem reg_popTo (s : Mxu F) (n : ℕ) : (popTo s n).reg = s.reg := by
  induction n with
  | zero => rfl
  | succ n ih =>
    unfold popTo
    split_ifs
    · exact ih
    · exact ih

theorem popTo_drained (s : Mxu F) (hs : Empty s) (hl : ∀ q (R : Fin 1024), 896 ≤ R.val → s.live q R = false) : (popTo s 14).Drained := by
  refine ⟨fun q r => ?_, fun q R => ?_⟩
  · rw [reg_popTo, hs q r]; rfl
  · rw [live_popTo s 14 le_rfl]
    by_cases h : R.val < 64 * 14
    · rw [if_pos h]
    · rw [if_neg h]; exact hl q R (by omega)

/-- Head `i` of a result: the accumulator of its pair and unit, its half, rotated or not. -/
def headOf (s : Mxu F) (rope : Bool) (C S : S64x128.Idx → Elt F .f32) (base : ℕ) (i : ℕ) : FVec F S64x128 .f32 :=
  rot rope C S ((if i % 2 = 0 then left else right) (accOf (if i / 2 % 2 = 0 then 0 else 1) ⟨(base + i / 4) % 14, Nat.mod_lt _ (by decide)⟩ s))

section Rules

variable (c : Dev nD)
variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (bd : Option 𝒱.V)

/-- A result's buffer, partly stored. -/
def OutAt (O : OutBuf) (hd : ℕ → FVec F S64x128 .f32) (n : ℕ) : sProp 𝕄 :=
  iprop(∃ f, ⌜Stored O hd n f⌝ ∗ (O.m.view.loc (c : Thread nD τ) ↦{fullShare} f))

theorem wp_storeBlock {Q : α → sProp 𝕄} (O : OutBuf) (hd : ℕ → FVec F S64x128 .f32) (b : Fin 8) (w : Fin O.nw) (k : Prog (TpuEff nD τ sig (Elt F) Λ₀ .tc) α) :
    (OutAt c O hd (8 * w.val + b.val) : sProp 𝕄)
      ⊢ iprop((OutAt c O hd (8 * w.val + b.val + 1) -∗ wp frame (wpE defs 𝒱 (c : Thread nD τ) bd) Set.univ k Q)
        -∗ wp frame (wpE defs 𝒱 (c : Thread nD τ) bd) Set.univ (storeBlock O b w (hd (2 * w.val)) (hd (2 * w.val + 1)) k) Q) := by
  unfold storeBlock OutAt
  iintro ⟨%f, %hf, H⟩ Hk
  iapply (wp_load 𝒱 (c : Thread nD τ) bd Set.univ (Finset.subset_univ _)) $$ H
  iintro H
  iapply (wp_store 𝒱 (c : Thread nD τ) bd Set.univ (m := O.m) (r := O.r b w) (w := twoHeads b (hd (2 * w.val)) (hd (2 * w.val + 1))) (Mk := Finset.univ) (Finset.subset_univ _)) $$ H
  iintro H
  iapply Hk
  iexists ((O.m.access (O.r b w)).write (Elt F) f (twoHeads b (hd (2 * w.val)) (hd (2 * w.val + 1))) Finset.univ)
  isplitr
  · ipureintro; exact hf.next b w
  iexact H

theorem wp_storeUnit {Q : α → sProp 𝕄} (O : OutBuf) (hd : ℕ → FVec F S64x128 .f32) (w : Fin O.nw) (k : Prog (TpuEff nD τ sig (Elt F) Λ₀ .tc) α) :
    (OutAt c O hd (8 * w.val) : sProp 𝕄)
      ⊢ iprop((OutAt c O hd (8 * (w.val + 1)) -∗ wp frame (wpE defs 𝒱 (c : Thread nD τ) bd) Set.univ k Q)
        -∗ wp frame (wpE defs 𝒱 (c : Thread nD τ) bd) Set.univ (storeUnit O w (hd (2 * w.val)) (hd (2 * w.val + 1)) k) Q) := by
  unfold storeUnit
  iintro H Hk
  iapply (wp_storeBlock c 𝒱 bd O hd 0 w _) $$ H
  iintro H
  iapply (wp_storeBlock c 𝒱 bd O hd 1 w _) $$ H
  iintro H
  iapply (wp_storeBlock c 𝒱 bd O hd 2 w _) $$ H
  iintro H
  iapply (wp_storeBlock c 𝒱 bd O hd 3 w _) $$ H
  iintro H
  iapply (wp_storeBlock c 𝒱 bd O hd 4 w _) $$ H
  iintro H
  iapply (wp_storeBlock c 𝒱 bd O hd 5 w _) $$ H
  iintro H
  iapply (wp_storeBlock c 𝒱 bd O hd 6 w _) $$ H
  iintro H
  iapply (wp_storeBlock c 𝒱 bd O hd 7 w _) $$ H
  iexact Hk

variable (C S : S64x128.Idx → Elt F .f32)

/-- The two tables. -/
def Trig : sProp 𝕄 := iprop((arg25.view.loc (c : Thread nD τ) ↦{fullShare} C) ∗ (arg26.view.loc (c : Thread nD τ) ↦{fullShare} S))

theorem wp_head {Q : α → sProp 𝕄} (rope : Bool) (z : FVec F S64x128 .f32) (k : FVec F S64x128 .f32 → Prog (TpuEff nD τ sig (Elt F) Λ₀ .tc) α) :
    (Trig c C S : sProp 𝕄)
      ⊢ iprop((Trig c C S -∗ wp frame (wpE defs 𝒱 (c : Thread nD τ) bd) Set.univ (k (rot rope C S z)) Q)
        -∗ wp frame (wpE defs 𝒱 (c : Thread nD τ) bd) Set.univ (head rope z k) Q) := by
  cases rope
  · iintro H Hk
    iapply Hk
    iexact H
  · unfold Trig
    iintro ⟨H1, H2⟩ Hk
    unfold head
    iapply (wp_load 𝒱 (c : Thread nD τ) bd Set.univ (Finset.subset_univ _)) $$ H1
    iintro H1
    iapply (wp_load 𝒱 (c : Thread nD τ) bd Set.univ (Finset.subset_univ _)) $$ H2
    iintro H2
    iapply Hk
    isplitl [H1]; · iexact H1
    iexact H2

theorem wp_pair {Q : α → sProp 𝕄} (O : OutBuf) (rope : Bool) (base n : ℕ) (hb : base + n < 14) (hw : 2 * n + 1 < O.nw) (s : Mxu F) (k : Mxu F → Prog (TpuEff nD τ sig (Elt F) Λ₀ .tc) α) :
    iprop(Trig c C S ∗ OutAt c O (headOf s rope C S base) (8 * (2 * n)) : sProp 𝕄)
      ⊢ iprop((iprop(Trig c C S ∗ OutAt c O (headOf s rope C S base) (8 * (2 * (n + 1)))) -∗ wp frame (wpE defs 𝒱 (c : Thread nD τ) bd) Set.univ (k (popTo s (base + n + 1))) Q)
        -∗ wp frame (wpE defs 𝒱 (c : Thread nD τ) bd) Set.univ (pair O rope ⟨base + n, hb⟩ ⟨2 * n, by omega⟩ ⟨2 * n + 1, hw⟩ (popTo s (base + n)) k) Q) := by
  have hd (j : ℕ) (hj : j < 4) : headOf s rope C S base (4 * n + j) = rot rope C S ((if j % 2 = 0 then left else right) (accOf (if j / 2 = 0 then 0 else 1) ⟨base + n, hb⟩ s)) := by
    unfold headOf
    have e1 : (4 * n + j) % 2 = j % 2 := by omega
    have e2 : (4 * n + j) / 2 % 2 = j / 2 := by omega
    have e3 : (⟨(base + (4 * n + j) / 4) % 14, Nat.mod_lt _ (by decide)⟩ : Fin 14) = ⟨base + n, hb⟩ := Fin.ext (by show (base + (4 * n + j) / 4) % 14 = base + n; rw [show (4 * n + j) / 4 = n by omega]; exact Nat.mod_eq_of_lt hb)
    rw [e1, e2, e3]
  have h0 : rot rope C S (left (accOf 0 ⟨base + n, hb⟩ (popTo s (base + n)))) = headOf s rope C S base (2 * (2 * n)) := by
    rw [read_popTo s 0 ⟨base + n, hb⟩ (base + n) le_rfl, show 2 * (2 * n) = 4 * n + 0 by omega, hd 0 (by decide)]; rfl
  have h1 : rot rope C S (right (accOf 0 ⟨base + n, hb⟩ (popTo s (base + n)))) = headOf s rope C S base (2 * (2 * n) + 1) := by
    rw [read_popTo s 0 ⟨base + n, hb⟩ (base + n) le_rfl, show 2 * (2 * n) + 1 = 4 * n + 1 by omega, hd 1 (by decide)]; rfl
  have h2 : rot rope C S (left (accOf 1 ⟨base + n, hb⟩ (popOf 0 ⟨base + n, hb⟩ (popTo s (base + n))))) = headOf s rope C S base (2 * (2 * n + 1)) := by
    rw [read_popOf, read_popTo s 1 ⟨base + n, hb⟩ (base + n) le_rfl, show 2 * (2 * n + 1) = 4 * n + 2 by omega, hd 2 (by decide)]; rfl
  have h3 : rot rope C S (right (accOf 1 ⟨base + n, hb⟩ (popOf 0 ⟨base + n, hb⟩ (popTo s (base + n))))) = headOf s rope C S base (2 * (2 * n + 1) + 1) := by
    rw [read_popOf, read_popTo s 1 ⟨base + n, hb⟩ (base + n) le_rfl, show 2 * (2 * n + 1) + 1 = 4 * n + 3 by omega, hd 3 (by decide)]; rfl
  have hw0 : 2 * n < O.nw := by omega
  unfold pair
  iintro ⟨HT, HO⟩ Hk
  iapply (wp_head c 𝒱 bd C S rope _ _) $$ HT
  iintro HT
  iapply (wp_head c 𝒱 bd C S rope _ _) $$ HT
  iintro HT
  iapply (wp_head c 𝒱 bd C S rope _ _) $$ HT
  iintro HT
  iapply (wp_head c 𝒱 bd C S rope _ _) $$ HT
  iintro HT
  rw [h0, h1, h2, h3]
  iapply (wp_storeUnit c 𝒱 bd O (headOf s rope C S base) ⟨2 * n, hw0⟩ _) $$ HO
  iintro HO
  iapply (wp_storeUnit c 𝒱 bd O (headOf s rope C S base) ⟨2 * n + 1, hw⟩ _) $$ HO
  iintro HO
  rw [← popTo_succ s ⟨base + n, hb⟩]
  iapply Hk
  isplitl [HT]; · iexact HT
  iexact HO

theorem wp_pairs {Q : α → sProp 𝕄} (O : OutBuf) (rope : Bool) (base n : ℕ) (h : base + n ≤ 14) (hw : 2 * n ≤ O.nw) (s : Mxu F) (k : Mxu F → Prog (TpuEff nD τ sig (Elt F) Λ₀ .tc) α) :
    iprop(Trig c C S ∗ OutAt c O (headOf s rope C S base) 0 : sProp 𝕄)
      ⊢ iprop((iprop(Trig c C S ∗ OutAt c O (headOf s rope C S base) (8 * (2 * n))) -∗ wp frame (wpE defs 𝒱 (c : Thread nD τ) bd) Set.univ (k (popTo s (base + n))) Q)
        -∗ wp frame (wpE defs 𝒱 (c : Thread nD τ) bd) Set.univ (pairs O rope base n h hw (popTo s base) k) Q) := by
  induction n generalizing k with
  | zero =>
    iintro H Hk
    unfold pairs
    iapply Hk
    iexact H
  | succ n ih =>
    unfold pairs
    iintro H Hk
    have h1 : base + n ≤ 14 := by omega
    have h2 : 2 * n ≤ O.nw := by omega
    have h3 : base + n < 14 := by omega
    have h4 : 2 * n + 1 < O.nw := by omega
    iapply (ih h1 h2 _) $$ H
    iintro H
    iapply (wp_pair c 𝒱 bd C S O rope base n h3 h4 s k) $$ H
    iexact Hk

variable [Infinite Name] (EC : UEmb Counters (MT nD τ sig Ix (Elt F) Name U Lvl)) (ι : Ix)

/-- One whole copy under way. -/
def Sent {sp sp' : Space} {s : Shape} {e : EltTy} (src : Memref sig .tc sp s e) (dst : Memref sig .tc sp' s e) (sem : DmaSem sig)
    (fs : src.view.ty.Contents (Elt F)) : sProp 𝕄 :=
  iprop(∃ fd : dst.view.ty.Contents (Elt F), Transfers.Flight EC (c : Thread nD τ) (.dma sem) ι dst.view.dmaCredit
    iprop((dst.view.loc (c : Thread nD τ) ↦{fullShare} (dst.view.write (Elt F) fd (src.view.read (Elt F) fs) Finset.univ)) ∗ (src.view.loc (c : Thread nD τ) ↦{fullShare} fs)))

/-- A whole copy landed: the destination reads what the source reads. -/
def Got {sp' : Space} {s : Shape} {e : EltTy} (dst : Memref sig .tc sp' s e) (w : s.Idx → Elt F e) : sProp 𝕄 :=
  iprop(∃ g, ⌜dst.view.read (Elt F) g = w⌝ ∗ (dst.view.loc (c : Thread nD τ) ↦{fullShare} g))

theorem wp_send [EC.LandsIn (upEmb : UEmb _ 𝕄)] {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (p := (c : Thread nD τ).2) sp (.dma sem) (.here dst)}
    {Q : α → sProp 𝕄} (es : src.view.set = Finset.univ) (ha : 0 < dst.view.dmaCredit) (fs : src.view.ty.Contents (Elt F))
    (k : PUnit → Prog (TpuEff nD τ sig (Elt F) Λ₀ .tc) α) :
    iprop((src.view.loc (c : Thread nD τ) ↦{fullShare} fs) ∗ (∃ fd, dst.view.loc (c : Thread nD τ) ↦{fullShare} fd) ∗ semVal ((c : Thread nD τ), SemLoc.dma sem) 0)
      ⊢ iprop((Sent c EC ι src dst sem fs -∗ wp frame (wpE defs 𝒱 (c : Thread nD τ) bd) Set.univ (k ⟨⟩) Q)
        -∗ wp frame (wpE defs 𝒱 (c : Thread nD τ) bd) Set.univ (.op (.enqueueDma src (.here dst) (.dma sem) hsrc hdst hsem) k) Q) := by
  unfold Sent
  iintro ⟨Hs, ⟨%fd, Hd⟩, Hv⟩ Hk
  iapply (Transfers.wp_dmaLocal EC 𝒱 (c : Thread nD τ) bd (via := ReadAs.same) (q := fullShare) (fs := fs) (fd := fd) (Sd := Finset.univ) ι dst.view.dmaCredit rfl ha (Finset.subset_univ _)) $$ [Hs Hd Hv]
  · rw [es]
    isplitl [Hs]; · iexact Hs
    isplitl [Hd]; · iexact Hd
    iexact Hv
  rw [es]
  iintro H
  iapply Hk
  iexists fd
  iexact H

theorem wp_recv [EC.LandsIn (upEmb : UEmb _ 𝕄)] {sp sp' : Space} {s : Shape} {e : EltTy} {src : Memref sig .tc sp s e} {dst : Memref sig .tc sp' s e} {sem : DmaSem sig}
    {hsrc : src.view.WordExact} {hdst : dst.view.WordExact} {Q : α → sProp 𝕄} (fs : src.view.ty.Contents (Elt F)) {W : Waits sig Ix}
    (k : PUnit → Prog (TpuEff nD τ sig (Elt F) Λ₀ .tc) α) :
    iprop(Sent c EC ι src dst sem fs ∗ owes (c : Thread nD τ) 0 W)
      ⊢ iprop((iprop(Got c dst (src.view.read (Elt F) fs) ∗ (src.view.loc (c : Thread nD τ) ↦{fullShare} fs) ∗ semVal ((c : Thread nD τ), SemLoc.dma sem) 0 ∗ (∃ W', owes (c : Thread nD τ) 0 W'))
          -∗ wp frame (wpE defs 𝒱 (c : Thread nD τ) bd) Set.univ (k ⟨⟩) Q)
        -∗ wp frame (wpE defs 𝒱 (c : Thread nD τ) bd) Set.univ (.op (.waitDma2 sem src dst hsrc hdst) k) Q) := by
  unfold Sent Got
  iintro ⟨⟨%fd, HF⟩, HW⟩ Hk
  iapply (Transfers.wp_waitLocal EC 𝒱 (c : Thread nD τ) bd ι rfl) $$ [HF HW]
  · isplitl [HF]; · iexact HF
    iexact HW
  iintro ⟨⟨Hd, Hs⟩, Hv, HW⟩
  iapply Hk
  isplitl [Hd]
  · iexists _
    isplitr
    · ipureintro; exact View.read_write_univ fd _
    iexact Hd
  isplitl [Hs]; · iexact Hs
  isplitl [Hv]; · iexact Hv
  iexists _
  iexact HW

/-- What is left of a result's buffer and semaphore, and the result. -/
def Done (O : OutBuf) (dst : Memref sig .tc .hbm (SOut O.nw) .bf16) (sem : DmaSem sig) (hd : ℕ → FVec F S64x128 .f32) : sProp 𝕄 :=
  iprop(Got c dst (outFun O.nw hd) ∗ (∃ f, O.m.view.loc (c : Thread nD τ) ↦{fullShare} f) ∗ semVal ((c : Thread nD τ), SemLoc.dma sem) 0)

/-- What a result needs. -/
def Ready (O : OutBuf) (dst : Memref sig .tc .hbm (SOut O.nw) .bf16) (sem : DmaSem sig) : sProp 𝕄 :=
  iprop((∃ fd, dst.view.loc (c : Thread nD τ) ↦{fullShare} fd) ∗ (∃ f, O.m.view.loc (c : Thread nD τ) ↦{fullShare} f) ∗ semVal ((c : Thread nD τ), SemLoc.dma sem) 0)

theorem wp_out [EC.LandsIn (upEmb : UEmb _ 𝕄)] {Q : α → sProp 𝕄} (O : OutBuf) (dst : Memref sig .tc .hbm (SOut O.nw) .bf16) (sem : DmaSem sig)
    {hsrc : O.m.view.WordExact} {hdst : dst.view.WordExact} {hsem : DmaTarget.Typed (nD := nD) (p := (c : Thread nD τ).2) .vmem (.dma sem) (.here dst)}
    (es : O.m.view.set = Finset.univ) (ha : 0 < dst.view.dmaCredit)
    (rope : Bool) (base n : ℕ) (h : base + n ≤ 14) (hw : 2 * n ≤ O.nw) (hn : 2 * n = O.nw) (s : Mxu F) (k : Mxu F → Prog (TpuEff nD τ sig (Elt F) Λ₀ .tc) α) :
    iprop(Trig c C S ∗ Ready c O dst sem : sProp 𝕄)
      ⊢ iprop((∀ fs, iprop(⌜O.m.view.read (Elt F) fs = outFun O.nw (headOf s rope C S base)⌝ ∗ Trig c C S ∗ Sent c EC ι O.m dst sem fs) -∗ wp frame (wpE defs 𝒱 (c : Thread nD τ) bd) Set.univ (k (popTo s (base + n))) Q)
        -∗ wp frame (wpE defs 𝒱 (c : Thread nD τ) bd) Set.univ (pairs O rope base n h hw (popTo s base) fun s => .op (.enqueueDma O.m (.here dst) (.dma sem) hsrc hdst hsem) fun _ => k s) Q) := by
  unfold Ready
  iintro ⟨HT, Hd, ⟨%f, Hf⟩, Hv⟩ Hk
  iapply (wp_pairs c 𝒱 bd C S O rope base n h hw s _) $$ [HT Hf]
  · isplitl [HT]; · iexact HT
    unfold OutAt
    iexists f
    isplitr
    · ipureintro; exact Stored.zero O _ f
    iexact Hf
  unfold OutAt
  iintro ⟨HT, ⟨%fs, %hfs, Hf⟩⟩
  iapply (wp_send c 𝒱 bd EC ι es ha fs _) $$ [Hd Hf Hv]
  · isplitl [Hf]; · iexact Hf
    isplitl [Hd]; · iexact Hd
    iexact Hv
  iintro HS
  iapply Hk $$ %fs
  isplitr
  · ipureintro
    exact Stored.all (by rw [← hn]; exact hfs)
  isplitl [HT]; · iexact HT
  iexact HS

include ι in
theorem wp_outs [EC.LandsIn (upEmb : UEmb _ 𝕄)] {Q : PUnit → sProp 𝕄} (s : Mxu F) (hs : Empty s) (hl : ∀ q (R : Fin 1024), 896 ≤ R.val → s.live q R = false) {W : Waits sig Ix} :
    iprop(Trig c C S ∗ Ready c outQ arg10 semQ ∗ Ready c outK arg11 semK ∗ Ready c outV arg12 semV ∗ owes (c : Thread nD τ) 0 W : sProp 𝕄)
      ⊢ iprop((iprop(Trig c C S ∗ Done c outQ arg10 semQ (headOf s true C S 0) ∗ Done c outK arg11 semK (headOf s true C S 10) ∗ Done c outV arg12 semV (headOf s false C S 12) ∗ (∃ W', owes (c : Thread nD τ) 0 W')) -∗ Q ⟨⟩)
        -∗ wp frame (wpE defs 𝒱 (c : Thread nD τ) bd) Set.univ (outs s) Q) := by
  unfold outs
  iintro ⟨HT, HQ, HK, HV, HW⟩ Hk
  iapply (wp_out c 𝒱 bd C S EC ι outQ arg10 semQ (View.set_whole _) (by decide) true 0 10 _ _ rfl s _) $$ [HT HQ]
  · isplitl [HT]; · iexact HT
    iexact HQ
  iintro %fq ⟨%hq, HT, HQ⟩
  iapply (wp_out c 𝒱 bd C S EC ι outK arg11 semK (View.set_whole _) (by decide) true 10 2 _ _ rfl s _) $$ [HT HK]
  · isplitl [HT]; · iexact HT
    iexact HK
  iintro %fk ⟨%hk, HT, HK⟩
  iapply (wp_out c 𝒱 bd C S EC ι outV arg12 semV (View.set_whole _) (by decide) false 12 2 _ _ rfl s _) $$ [HT HV]
  · isplitl [HT]; · iexact HT
    iexact HV
  iintro %fv ⟨%hv, HT, HV⟩
  iapply (wp_recv c 𝒱 bd EC ι (src := outQ.m) (dst := arg10) fq _) $$ [HQ HW]
  · isplitl [HQ]; · iexact HQ
    iexact HW
  iintro ⟨HQ, HQb, HQs, ⟨%W1, HW⟩⟩
  iapply (wp_recv c 𝒱 bd EC ι (src := outK.m) (dst := arg11) fk _) $$ [HK HW]
  · isplitl [HK]; · iexact HK
    iexact HW
  iintro ⟨HK, HKb, HKs, ⟨%W2, HW⟩⟩
  iapply (wp_recv c 𝒱 bd EC ι (src := outV.m) (dst := arg12) fv _) $$ [HV HW]
  · isplitl [HV]; · iexact HV
    iexact HW
  iintro ⟨HV, HVb, HVs, HW⟩
  rw [hq, hk, hv]
  iapply (Mxu.wp_exit (popTo_drained s hs hl))
  rw [wp_ret]; imodintro
  iapply Hk
  unfold Done
  isplitl [HT]; · iexact HT
  isplitl [HQ HQb HQs]
  · isplitl [HQ]; · iexact HQ
    isplitl [HQb]
    · iexists fq; iexact HQb
    iexact HQs
  isplitl [HK HKb HKs]
  · isplitl [HK]; · iexact HK
    isplitl [HKb]
    · iexists fk; iexact HKb
    iexact HKs
  isplitl [HV HVb HVs]
  · isplitl [HV]; · iexact HV
    isplitl [HVb]
    · iexists fv; iexact HVb
    iexact HVs
  iexact HW

end Rules

end Cert.Kernel.Hand
-- ==== Proof.Plain.Front.lean ====
/-
  The head of the kernel: the small copies, the tables of cosines and sines, the rows' inverse norms, the permutation of the
  lanes, and the first two tiles of activations.
-/
module

public import proofs.«01_k».proof.Proof.Plain.Out

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-! ### The permutation of the lanes, as the kernel computes it -/

/-- The lanes' numbers, and the first remainders taken of them. -/
def lanesA : Σ' (_ : IVec S64x128 32) (_ : BitVec 32) (_ : IVec S64x128 32) (_ : IVec S64x128 1) (_ : IVec S64x128 1), IVec S64x128 1 :=
  have v58 : IVec S64x128 32 := iota .tc S64x128 32 [1] iota_S64x128_d1_w32
  let c32_i32 : BitVec 32 := 32#32
  let c0_i32_23 : BitVec 32 := 0#32
  let v59 : BitVec 1 := Scalar.cmpi .eq c32_i32 c0_i32_23
  let c1_i32_24 : BitVec 32 := 1#32
  let v60 : BitVec 32 := Scalar.select v59 c1_i32_24 c32_i32
  have v61 : IVec S64x128 32 := broadcast S64x128 v60
  have v62 : IVec S64x128 32 := remsi v58 v61
  let c0_i32_25 : BitVec 32 := 0#32
  have v63 : IVec S64x128 32 := broadcast S64x128 c0_i32_25
  have v64 : IVec S64x128 1 := cmpi .ne v62 v63
  let c0_i32_26 : BitVec 32 := 0#32
  have v65 : IVec S64x128 32 := broadcast S64x128 c0_i32_26
  have v66 : IVec S64x128 1 := cmpi .slt v62 v65
  let c0_i32_27 : BitVec 32 := 0#32
  let v67 : BitVec 1 := Scalar.cmpi .slt v60 c0_i32_27
  have v68 : IVec S64x128 1 := broadcast S64x128 v67
  have v69 : IVec S64x128 1 := broadcastTo S64x128 v68 broadcasts_S64x128_S64x128
  ⟨v58, v60, v62, v64, v66, v69⟩

/-- The lane within its half, and the first two terms. -/
def lanesB (v58 : IVec S64x128 32) (v60 : BitVec 32) (v62 : IVec S64x128 32) (v64 : IVec S64x128 1) (v66 : IVec S64x128 1) (v69 : IVec S64x128 1) : Σ' (_ : IVec S64x128 32) (_ : IVec S64x128 32) (_ : IVec S64x128 32) (_ : IVec S64x128 1), BitVec 32 :=
  have v70 : IVec S64x128 1 := xori v66 v69
  have v71 : IVec S64x128 1 := andi v70 v64
  have v72 : IVec S64x128 32 := broadcast S64x128 v60
  have v73 : IVec S64x128 32 := addi v62 v72
  have v74 : IVec S64x128 32 := select v71 v73 v62
  have v75 : IVec S64x128 32 := subi v58 v74
  let c2_i32_28 : BitVec 32 := 2#32
  let c0_i32_29 : BitVec 32 := 0#32
  let v76 : BitVec 1 := Scalar.cmpi .eq c2_i32_28 c0_i32_29
  let c1_i32_30 : BitVec 32 := 1#32
  let v77 : BitVec 32 := Scalar.select v76 c1_i32_30 c2_i32_28
  have v78 : IVec S64x128 32 := broadcast S64x128 v77
  have v79 : IVec S64x128 32 := remsi v74 v78
  let c0_i32_31 : BitVec 32 := 0#32
  have v80 : IVec S64x128 32 := broadcast S64x128 c0_i32_31
  have v81 : IVec S64x128 1 := cmpi .ne v79 v80
  let c0_i32_32 : BitVec 32 := 0#32
  have v82 : IVec S64x128 32 := broadcast S64x128 c0_i32_32
  have v83 : IVec S64x128 1 := cmpi .slt v79 v82
  let c0_i32_33 : BitVec 32 := 0#32
  let v84 : BitVec 1 := Scalar.cmpi .slt v77 c0_i32_33
  have v85 : IVec S64x128 1 := broadcast S64x128 v84
  have v86 : IVec S64x128 1 := broadcastTo S64x128 v85 broadcasts_S64x128_S64x128
  have v87 : IVec S64x128 1 := xori v83 v86
  have v88 : IVec S64x128 1 := andi v87 v81
  have v89 : IVec S64x128 32 := broadcast S64x128 v77
  have v90 : IVec S64x128 32 := addi v79 v89
  have v91 : IVec S64x128 32 := select v88 v90 v79
  let c16_i32 : BitVec 32 := 16#32
  have v92 : IVec S64x128 32 := broadcast S64x128 c16_i32
  have v93 : IVec S64x128 32 := muli v92 v91
  have v94 : IVec S64x128 32 := addi v75 v93
  let c16_i32_34 : BitVec 32 := 16#32
  have v95 : IVec S64x128 32 := broadcast S64x128 c16_i32_34
  have v96 : IVec S64x128 32 := divsi v74 v95
  let c0_i32_35 : BitVec 32 := 0#32
  have v97 : IVec S64x128 32 := broadcast S64x128 c0_i32_35
  have v98 : IVec S64x128 1 := cmpi .sgt v74 v97
  have v99 : IVec S64x128 32 := extui 32 v98 natLt_1_32
  let c0_i32_36 : BitVec 32 := 0#32
  have v100 : IVec S64x128 32 := broadcast S64x128 c0_i32_36
  have v101 : IVec S64x128 1 := cmpi .slt v74 v100
  have v102 : IVec S64x128 32 := extui 32 v101 natLt_1_32
  have v103 : IVec S64x128 32 := subi v99 v102
  let c0_i32_37 : BitVec 32 := 0#32
  let v104 : BitVec 1 := Scalar.cmpi .sgt c16_i32_34 c0_i32_37
  let v105 : BitVec 32 := Scalar.extui v104
  let c0_i32_38 : BitVec 32 := 0#32
  let v106 : BitVec 1 := Scalar.cmpi .slt c16_i32_34 c0_i32_38
  let v107 : BitVec 32 := Scalar.extui v106
  let v108 : BitVec 32 := Scalar.subi v105 v107
  have v109 : IVec S64x128 32 := broadcast S64x128 v108
  have v110 : IVec S64x128 1 := cmpi .ne v103 v109
  have v111 : IVec S64x128 32 := broadcast S64x128 c16_i32_34
  have v112 : IVec S64x128 32 := remsi v74 v111
  let c0_i32_39 : BitVec 32 := 0#32
  have v113 : IVec S64x128 32 := broadcast S64x128 c0_i32_39
  have v114 : IVec S64x128 1 := cmpi .ne v112 v113
  have v115 : IVec S64x128 1 := andi v110 v114
  let c1_i32_40 : BitVec 32 := 1#32
  ⟨v74, v94, v96, v115, c1_i32_40⟩

/-- The other two terms. -/
def lanesC (v74 : IVec S64x128 32) (v94 : IVec S64x128 32) (v96 : IVec S64x128 32) (v115 : IVec S64x128 1) (c1_i32_40 : BitVec 32) : Σ' (_ : IVec S64x128 32), IVec S64x128 32 :=
  have v116 : IVec S64x128 32 := broadcast S64x128 c1_i32_40
  have v117 : IVec S64x128 32 := subi v96 v116
  have v118 : IVec S64x128 32 := select v115 v117 v96
  let c8_i32 : BitVec 32 := 8#32
  have v119 : IVec S64x128 32 := broadcast S64x128 c8_i32
  have v120 : IVec S64x128 32 := muli v119 v118
  have v121 : IVec S64x128 32 := addi v94 v120
  let c16_i32_41 : BitVec 32 := 16#32
  let c0_i32_42 : BitVec 32 := 0#32
  let v122 : BitVec 1 := Scalar.cmpi .eq c16_i32_41 c0_i32_42
  let c1_i32_43 : BitVec 32 := 1#32
  let v123 : BitVec 32 := Scalar.select v122 c1_i32_43 c16_i32_41
  have v124 : IVec S64x128 32 := broadcast S64x128 v123
  have v125 : IVec S64x128 32 := remsi v74 v124
  let c0_i32_44 : BitVec 32 := 0#32
  have v126 : IVec S64x128 32 := broadcast S64x128 c0_i32_44
  have v127 : IVec S64x128 1 := cmpi .ne v125 v126
  let c0_i32_45 : BitVec 32 := 0#32
  have v128 : IVec S64x128 32 := broadcast S64x128 c0_i32_45
  have v129 : IVec S64x128 1 := cmpi .slt v125 v128
  let c0_i32_46 : BitVec 32 := 0#32
  let v130 : BitVec 1 := Scalar.cmpi .slt v123 c0_i32_46
  have v131 : IVec S64x128 1 := broadcast S64x128 v130
  have v132 : IVec S64x128 1 := broadcastTo S64x128 v131 broadcasts_S64x128_S64x128
  have v133 : IVec S64x128 1 := xori v129 v132
  have v134 : IVec S64x128 1 := andi v133 v127
  have v135 : IVec S64x128 32 := broadcast S64x128 v123
  have v136 : IVec S64x128 32 := addi v125 v135
  have v137 : IVec S64x128 32 := select v134 v136 v125
  let c2_i32_47 : BitVec 32 := 2#32
  have v138 : IVec S64x128 32 := broadcast S64x128 c2_i32_47
  have v139 : IVec S64x128 32 := divsi v137 v138
  let c0_i32_48 : BitVec 32 := 0#32
  have v140 : IVec S64x128 32 := broadcast S64x128 c0_i32_48
  have v141 : IVec S64x128 1 := cmpi .sgt v137 v140
  have v142 : IVec S64x128 32 := extui 32 v141 natLt_1_32
  let c0_i32_49 : BitVec 32 := 0#32
  have v143 : IVec S64x128 32 := broadcast S64x128 c0_i32_49
  have v144 : IVec S64x128 1 := cmpi .slt v137 v143
  have v145 : IVec S64x128 32 := extui 32 v144 natLt_1_32
  have v146 : IVec S64x128 32 := subi v142 v145
  let c0_i32_50 : BitVec 32 := 0#32
  let v147 : BitVec 1 := Scalar.cmpi .sgt c2_i32_47 c0_i32_50
  let v148 : BitVec 32 := Scalar.extui v147
  let c0_i32_51 : BitVec 32 := 0#32
  let v149 : BitVec 1 := Scalar.cmpi .slt c2_i32_47 c0_i32_51
  let v150 : BitVec 32 := Scalar.extui v149
  let v151 : BitVec 32 := Scalar.subi v148 v150
  have v152 : IVec S64x128 32 := broadcast S64x128 v151
  have v153 : IVec S64x128 1 := cmpi .ne v146 v152
  have v154 : IVec S64x128 32 := broadcast S64x128 c2_i32_47
  have v155 : IVec S64x128 32 := remsi v137 v154
  let c0_i32_52 : BitVec 32 := 0#32
  have v156 : IVec S64x128 32 := broadcast S64x128 c0_i32_52
  have v157 : IVec S64x128 1 := cmpi .ne v155 v156
  have v158 : IVec S64x128 1 := andi v153 v157
  let c1_i32_53 : BitVec 32 := 1#32
  have v159 : IVec S64x128 32 := broadcast S64x128 c1_i32_53
  have v160 : IVec S64x128 32 := subi v139 v159
  have v161 : IVec S64x128 32 := select v158 v160 v139
  ⟨v121, v161⟩

/-- The lanes the permutation gathers from. -/
def perm : IVec S64x128 32 :=
  let a := lanesA
  let b := lanesB a.1 a.2.1 a.2.2.1 a.2.2.2.1 a.2.2.2.2.1 a.2.2.2.2.2
  let d := lanesC b.1 b.2.1 b.2.2.1 b.2.2.2.1 b.2.2.2.2
  addi d.1 d.2

/-! ### The tables, and the rows' inverse norms -/

/-- Position times inverse frequency. -/
def angle (pos : Vec F S1x64 .i32) (freq : Vec F S1x128 .f32) : FVec F S64x128 .f32 :=
  mulf (broadcastTo S64x128 (shapeCast S64x1 (multiReduction .add [1] S64
      (select (cmpi .eq (iota .tc S64x64 32 [0] iota_S64x64_d0_w32) (iota .tc S64x64 32 [1] iota_S64x64_d1_w32))
        (broadcastTo S64x64 (shapeCast S1x64 (sitofp .f32 pos) shapeCasts_S1x64_S1x64) broadcasts_S1x64_S64x64)
        (broadcast S64x64 (Scalar.ofBits .f32 0x00000000#32 : F .f32))) 0x00000000#32 reduces_S64x64_S64 (.inl rfl) rfl) shapeCasts_S64_S64x1) broadcasts_S64x1_S64x128)
    (broadcastTo S64x128 freq broadcasts_S1x128_S64x128)

/-- The lanes' numbers. -/
abbrev lanes : IVec S64x128 32 := iota .tc S64x128 32 [1] iota_S64x128_d1_w32

/-- The sines, negated in the first half of the lanes. -/
def signed (a : FVec F S64x128 .f32) (l : IVec S64x128 32) : FVec F S64x128 .f32 :=
  select (cmpi .slt l (broadcast S64x128 64#32)) (subf (broadcast S64x128 (Scalar.ofBits .f32 0x00000000#32 : F .f32)) (sin a)) (sin a)

/-- The rows' inverse norms, from their lanes' sums of squares. -/
def invNorm (s : FVec F S64x128 .f32) : FVec F S64x128 .f32 :=
  broadcastTo S64x128 (shapeCast S64x1 (rsqrt (addf (divf
      (shapeCast S64x1 (multiReduction .add [1] S64 s 0x00000000#32 reduces_S64x128_S64 (.inl rfl) rfl) shapeCasts_S64_S64x1)
      (broadcast S64x1 (Scalar.ofBits .f32 0x45A00000#32 : F .f32))) (broadcast S64x1 (Scalar.ofBits .f32 0x358637BD#32 : F .f32)))) shapeCasts_S64x1_S64x1) broadcasts_S64x1_S64x128

/-- A tile's squares added. -/
abbrev addSquares (s : FVec F S64x128 .f32) (x : Vec F S64x128 .bf16) : FVec F S64x128 .f32 := addf s (mulf (extf .f32 x bitsLt_bf16_f32) (extf .f32 x bitsLt_bf16_f32))

/-- The small copies' semaphores. -/
abbrev semX : DmaSem sig := ((arg30.slice (Rect.unit (s := S4) ![0] S1.size inb_S4_S1_0)).squeeze S_ squeezes_S1_S_).sem
@[inherit_doc semX]
abbrev semN : DmaSem sig := ((arg30.slice (Rect.unit (s := S4) ![1] S1.size inb_S4_S1_1)).squeeze S_ squeezes_S1_S_).sem
@[inherit_doc semX]
abbrev semP : DmaSem sig := ((arg30.slice (Rect.unit (s := S4) ![2] S1.size inb_S4_S1_2)).squeeze S_ squeezes_S1_S_).sem
@[inherit_doc semX]
abbrev semF : DmaSem sig := ((arg30.slice (Rect.unit (s := S4) ![3] S1.size inb_S4_S1_3)).squeeze S_ squeezes_S1_S_).sem

/-- Whole loads of the small arrays. -/
abbrev rPos : Rect S1x64 := Rect.unit (s := S1x64) ![0, 0] S1x64.size inb_S1x64_S1x64_0_0
@[inherit_doc rPos]
abbrev rFreq : Rect S1x128 := Rect.unit (s := S1x128) ![0, 0] S1x128.size inb_S1x128_S1x128_0_0
@[inherit_doc rPos]
abbrev rNorm : Rect S40x128 := Rect.unit (s := S40x128) ![0, 0] S40x128.size inb_S40x128_S40x128_0_0

/-- The copies in, and the cosines. -/
def headA : Prog (TpuEff nD τ sig (Elt F) Λ₀ .tc) (Σ' (_ : Mxu F) (_ : FVec F S64x128 .f32), IVec S64x128 32) :=
  .op (.enqueueDma arg2 (.here arg16) (.dma semP) harg2.wordExact harg16.wordExact ⟨Or.inl rfl, trivial⟩) fun _ =>
  .op (.enqueueDma arg3 (.here arg17) (.dma semF) harg3.wordExact harg17.wordExact ⟨Or.inl rfl, trivial⟩) fun _ =>
  .op (.enqueueDma arg0 (.here arg13) (.dma semX) harg0.wordExact harg13.wordExact ⟨Or.inl rfl, trivial⟩) fun _ =>
  .op (.enqueueDma arg1 (.here arg14) (.dma semN) harg1.wordExact harg14.wordExact ⟨Or.inl rfl, trivial⟩) fun _ =>
  Prog.bind (Scf.Loop.for k0_t1_loop k0_t1_ok ⟨⟩ fun k _ => tripFirst k) fun _ =>
  .op (.waitDma2 semP arg2 arg16 harg2.wordExact harg16.wordExact) fun _ =>
  .op (.waitDma2 semF arg3 arg17 harg3.wordExact harg17.wordExact) fun _ =>
  .op (.load arg16 rPos.toLoadRect (View.loadsAt_vmem h_S1x64)) fun (pos : Vec F S1x64 .i32) =>
  .op (.load arg17 rFreq.toLoadRect (View.loadsAt_vmem h_S1x128)) fun (freq : Vec F S1x128 .f32) =>
  .op (.load arg25 rTrig.toLoadRect (View.loadsAt_vmem h_S64x128)) fun _ =>
  .op (.store arg25 rTrig (shapeCast S64x128 (cos (angle pos freq)) shapeCasts_S64x128_S64x128) Finset.univ (View.stores_vmem_bits_univ h_S64x128 rfl) (.inl rfl)) fun _ =>
  .ret ⟨Mxu.init, angle pos freq, lanes⟩

/-- The sines, the copies' ends, the inverse norms. -/
def headB (a : FVec F S64x128 .f32) (l : IVec S64x128 32) :
    Prog (TpuEff nD τ sig (Elt F) Λ₀ .tc) (Σ' (_ : FVec F S64x128 .f32) (_ : IVec S64x128 32) (_ : BitVec 32) (_ : IVec S64x128 32) (_ : IVec S64x128 1) (_ : IVec S64x128 1), IVec S64x128 1) :=
  .op (.load arg26 rTrig.toLoadRect (View.loadsAt_vmem h_S64x128)) fun _ =>
  .op (.store arg26 rTrig (shapeCast S64x128 (signed a l) shapeCasts_S64x128_S64x128) Finset.univ (View.stores_vmem_bits_univ h_S64x128 rfl) (.inl rfl)) fun _ =>
  .op (.waitDma2 semX arg0 arg13 harg0.wordExact harg13.wordExact) fun _ =>
  .op (.waitDma2 semN arg1 arg14 harg1.wordExact harg14.wordExact) fun _ =>
  Prog.bind (Scf.Loop.for k0_t2_loop k0_t2_ok (broadcast S64x128 (Scalar.ofBits .f32 0x00000000#32 : F .f32)) fun k s =>
    .op (.load arg13 (Rect.unit (s := S64x5120) (k0_off6 k) S64x128.size (k0_off6_inb k)).toLoadRect (View.loadsAt_vmem h_S64x128)) fun (x : Vec F S64x128 .bf16) => .ret (addSquares s x)) fun s =>
  .ret ⟨invNorm s, lanesA.1, lanesA.2.1, lanesA.2.2.1, lanesA.2.2.2.1, lanesA.2.2.2.2.1, lanesA.2.2.2.2.2⟩

/-- The norm's weights widened, the first two tiles. -/
def headC (r : FVec F S64x128 .f32) (p : IVec S64x128 32) : Prog (TpuEff nD τ sig (Elt F) Λ₀ .tc) (Σ' (_ : IVec S64x128 32) (_ : FVec F S64x128 .f32), IVec S64x128 32) :=
  .op (.load arg14 rNorm.toLoadRect (View.loadsAt_vmem h_S40x128)) fun (w : Vec F S40x128 .bf16) =>
  .op (.load arg15 rNorm.toLoadRect (View.loadsAt_vmem h_S40x128)) fun _ =>
  .op (.store arg15 rNorm (shapeCast S40x128 (extf .f32 w bitsLt_bf16_f32) shapeCasts_S40x128_S40x128) Finset.univ (View.stores_vmem_bits_univ h_S40x128 rfl) (.inl rfl)) fun _ =>
  begin' 0 r fun v => finish 0 v (idxOf p) <| begin' 1 r fun u => .ret ⟨p, u, idxOf p⟩

theorem part142_eq : k0_part142 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 = headA := by sl_kernel_rfl
theorem part143_eq (a : FVec F S64x128 .f32) : k0_part143 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 a lanes = headB a lanes := by sl_kernel_rfl
theorem part144_eq (v58 v60 v62 v64 v66 v69) : k0_part144 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v58 v60 v62 v64 v66 v69 = .ret ⟨(lanesB v58 v60 v62 v64 v66 v69).1, (lanesB v58 v60 v62 v64 v66 v69).2.1, (lanesB v58 v60 v62 v64 v66 v69).2.2.1, (lanesB v58 v60 v62 v64 v66 v69).2.2.2.1, (lanesB v58 v60 v62 v64 v66 v69).2.2.2.2⟩ := by sl_kernel_rfl
theorem part145_eq (v74 v94 v96 v115 k) : k0_part145 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v74 v94 v96 v115 k = .ret ⟨(lanesC v74 v94 v96 v115 k).1, (lanesC v74 v94 v96 v115 k).2⟩ := by sl_kernel_rfl
theorem part146_eq (r : FVec F S64x128 .f32) (a b) : k0_part146 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 r a b = headC r (addi a b) := by sl_kernel_rfl

end Cert.Kernel.Hand
-- ==== Proof.Plain.Head.lean ====
/-
  What the head of the kernel does: its copies land, the tables and the inverse norms are computed.
-/
module

public import proofs.«01_k».proof.Proof.Plain.Front

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- A load of a whole two-dimensional array reads the array. -/
theorem read_whole2 {sp : Space} {a b : ℕ} {e : EltTy} (m : Memref sig .tc sp ⟨2, ![a, b]⟩ e) (hr : ∀ x, (![0, 0] : Fin 2 → ℕ) x + (⟨2, ![a, b]⟩ : Shape).size x ≤ (⟨2, ![a, b]⟩ : Shape).size x)
    (f : m.view.ty.Contents (Elt F)) :
    m.view.readAt (Elt F) (Rect.unit (s := ⟨2, ![a, b]⟩) ![0, 0] (⟨2, ![a, b]⟩ : Shape).size hr).toLoadRect f = m.view.read (Elt F) f := by
  funext x
  show m.view.read (Elt F) f ((Rect.unit (s := ⟨2, ![a, b]⟩) ![0, 0] (⟨2, ![a, b]⟩ : Shape).size hr).emb x) = m.view.read (Elt F) f x
  refine congrArg _ (funext fun i => Fin.ext ?_)
  fin_cases i
  · show 0 + 1 * (x 0).val = (x 0).val; omega
  · show 0 + 1 * (x 1).val = (x 1).val; omega

/-- A store over a whole two-dimensional array leaves the stored value. -/
theorem write_whole2 {sp : Space} {a b : ℕ} {e : EltTy} (m : Memref sig .tc sp ⟨2, ![a, b]⟩ e) (hr : ∀ x, (![0, 0] : Fin 2 → ℕ) x + (⟨2, ![a, b]⟩ : Shape).size x ≤ (⟨2, ![a, b]⟩ : Shape).size x)
    (f : m.view.ty.Contents (Elt F)) (w : (⟨2, ![a, b]⟩ : Shape).Idx → Elt F e) :
    m.view.read (Elt F) ((m.access (Rect.unit (s := ⟨2, ![a, b]⟩) ![0, 0] (⟨2, ![a, b]⟩ : Shape).size hr)).write (Elt F) f w Finset.univ) = w := by
  rw [← read_whole2 m hr]
  exact View.read_write_univ (v := m.access (Rect.unit (s := ⟨2, ![a, b]⟩) ![0, 0] (⟨2, ![a, b]⟩ : Shape).size hr)) f w

theorem shapeCast_self {s : Shape} {e : EltTy} (v : Vec F s e) (h : s.ShapeCasts s) : shapeCast s v h = v := by
  funext i
  rw [Idealize.ShloMosaic.shapeCast_apply]
  simp

/-- The sums of the tiles' squares, tile by tile. -/
def squares (X : S64x5120.Idx → Elt F .bf16) : ℕ → FVec F S64x128 .f32
  | 0 => broadcast S64x128 (Scalar.ofBits .f32 0x00000000#32 : F .f32)
  | n + 1 => addSquares (squares X n) (if h : n < 40 then arg13.view.readAt (Elt F) (rX ⟨n, h⟩).toLoadRect X else fun _ => FloatOps.ofBits .bf16 0)

theorem trips2 : k0_t2_loop.trips = 40 := by decide

set_option maxRecDepth 8192 in
theorem off6 : ∀ k : Fin k0_t2_loop.trips, k0_off6 k = ![0, 128 * k.val] := by decide

theorem read_off6 (X : S64x5120.Idx → Elt F .bf16) (k : Fin k0_t2_loop.trips) (n : Fin 40) (h : n.val = k.val) :
    arg13.view.readAt (Elt F) (Rect.unit (s := S64x5120) (k0_off6 k) S64x128.size (k0_off6_inb k)).toLoadRect X = arg13.view.readAt (Elt F) (rX n).toLoadRect X := by
  have e : k0_off6 k = ![0, 128 * n.val] := by rw [off6 k, h]
  have g : ∀ (o : Fin 2 → ℕ) (hi : ∀ a : Fin S64x5120.rank, o a + S64x128.size a ≤ S64x5120.size a), o = ![0, 128 * n.val] →
      arg13.view.readAt (Elt F) (Rect.unit (s := S64x5120) o S64x128.size hi).toLoadRect X = arg13.view.readAt (Elt F) (rX n).toLoadRect X := by
    rintro o hi rfl; rfl
  exact g _ (k0_off6_inb k) e

variable (c : Dev nD) (M : Src F)
variable {Ix : Type} [DecidableEq Ix] {Name : Type} [DecidableEq Name] [Infinite Name] {U : Type} [URA U] {Lvl : Type} [Preorder Lvl]
local notation "𝕄" => MT nD τ sig Ix (Elt F) Name U Lvl
variable (EC : UEmb Counters (MT nD τ sig Ix (Elt F) Name U Lvl)) (ι : Ix)
variable {defs : Defs nD τ sig (Elt F) Λ₀} (𝒱 : Variants) (bd : Option 𝒱.V)

/-- What a small copy in needs. -/
def InAt {sp sp' : Space} {s : Shape} {e : EltTy} (src : Memref sig .tc sp s e) (dst : Memref sig .tc sp' s e) (sem : DmaSem sig) (fs : src.view.ty.Contents (Elt F)) : sProp 𝕄 :=
  iprop((src.view.loc (c : Thread nD τ) ↦{fullShare} fs) ∗ (∃ fd, dst.view.loc (c : Thread nD τ) ↦{fullShare} fd) ∗ semVal ((c : Thread nD τ), SemLoc.dma sem) 0)

/-- What a small copy in leaves. -/
def InDone {sp sp' : Space} {s : Shape} {e : EltTy} (src : Memref sig .tc sp s e) (dst : Memref sig .tc sp' s e) (sem : DmaSem sig) (fs : src.view.ty.Contents (Elt F)) : sProp 𝕄 :=
  iprop(Got c dst (src.view.read (Elt F) fs) ∗ (src.view.loc (c : Thread nD τ) ↦{fullShare} fs) ∗ semVal ((c : Thread nD τ), SemLoc.dma sem) 0)

theorem wp_headA [EC.LandsIn (upEmb : UEmb _ 𝕄)] {Q : (Σ' (_ : Mxu F) (_ : FVec F S64x128 .f32), IVec S64x128 32) → sProp 𝕄} {W : Waits sig Ix}
    (fx : S64x5120.Idx → Elt F .bf16) (fn : S40x128.Idx → Elt F .bf16) (fp : S1x64.Idx → Elt F .i32) (ff : S1x128.Idx → Elt F .f32) :
    iprop(InAt c arg0 arg13 semX fx ∗ InAt c arg1 arg14 semN fn ∗ InAt c arg2 arg16 semP fp ∗ InAt c arg3 arg17 semF ff ∗
        (∃ f, arg25.view.loc (c : Thread nD τ) ↦{fullShare} f) ∗ bigSep Finset.univ (Idle c M) ∗ owes (c : Thread nD τ) 0 W : sProp 𝕄)
      ⊢ iprop((iprop(Sent c EC ι arg0 arg13 semX fx ∗ Sent c EC ι arg1 arg14 semN fn ∗ InDone c arg2 arg16 semP fp ∗ InDone c arg3 arg17 semF ff ∗
          (arg25.view.loc (c : Thread nD τ) ↦{fullShare} (cos (angle fp ff) : S64x128.Idx → Elt F .f32)) ∗ bigSep Finset.univ (stage3 c M EC ι 0) ∗ (∃ W', owes (c : Thread nD τ) 0 W'))
          -∗ Q ⟨Mxu.init, angle fp ff, lanes⟩)
        -∗ wp frame (wpE defs 𝒱 (c : Thread nD τ) bd) Set.univ headA Q) := by
  unfold headA InAt
  iintro ⟨HX, HN, HP, HF, ⟨%f25, HC⟩, HS, HW⟩ Hk
  iapply (wp_send c 𝒱 bd EC ι (src := arg2) (dst := arg16) (View.set_whole _) (by decide) fp _) $$ HP
  iintro HP
  iapply (wp_send c 𝒱 bd EC ι (src := arg3) (dst := arg17) (View.set_whole _) (by decide) ff _) $$ HF
  iintro HF
  iapply (wp_send c 𝒱 bd EC ι (src := arg0) (dst := arg13) (View.set_whole _) (by decide) fx _) $$ HX
  iintro HX
  iapply (wp_send c 𝒱 bd EC ι (src := arg1) (dst := arg14) (View.set_whole _) (by decide) fn _) $$ HN
  iintro HN
  iapply (Scf.wp_for_bind frame (wpE defs 𝒱 (c : Thread nD τ) bd) Set.univ k0_t1_loop.lb k0_t1_loop.ub k0_t1_loop.st k0_t1_ok ⟨⟩ (fun k _ => tripFirst k)
    (fun k _ => bigSep Finset.univ (stage1 c M EC ι k)) ?_) $$ [HS]
  · intro k acc
    iintro H
    iapply (wp_tripFirst c M EC ι 𝒱 bd k) $$ H
    iintro H
    iexact H
  · rw [stage1_zero]; iexact HS
  iintro %_ HS
  iapply (wp_recv c 𝒱 bd EC ι (src := arg2) (dst := arg16) fp _) $$ [HP HW]
  · isplitl [HP]; · iexact HP
    iexact HW
  unfold Got
  iintro ⟨⟨%gp, %hgp, HPd⟩, HPs, HPv, ⟨%W1, HW⟩⟩
  iapply (wp_recv c 𝒱 bd EC ι (src := arg3) (dst := arg17) ff _) $$ [HF HW]
  · isplitl [HF]; · iexact HF
    iexact HW
  unfold Got
  iintro ⟨⟨%gf, %hgf, HFd⟩, HFs, HFv, HW⟩
  iapply (wp_load 𝒱 (c : Thread nD τ) bd Set.univ (Finset.subset_univ _)) $$ HPd
  iintro HPd
  rw [show arg16.view.readAt (Elt F) rPos.toLoadRect gp = fp from (read_whole2 arg16 _ gp).trans hgp]
  iapply (wp_load 𝒱 (c : Thread nD τ) bd Set.univ (Finset.subset_univ _)) $$ HFd
  iintro HFd
  rw [show arg17.view.readAt (Elt F) rFreq.toLoadRect gf = ff from (read_whole2 arg17 _ gf).trans hgf]
  iapply (wp_load 𝒱 (c : Thread nD τ) bd Set.univ (Finset.subset_univ _)) $$ HC
  iintro HC
  iapply (wp_store 𝒱 (c : Thread nD τ) bd Set.univ (m := arg25) (r := rTrig) (Mk := Finset.univ) (Finset.subset_univ _)) $$ HC
  iintro HC
  rw [wp_ret]
  imodintro
  iapply Hk
  isplitl [HX]; · iexact HX
  isplitl [HN]; · iexact HN
  isplitl [HPd HPs HPv]
  · unfold InDone Got
    isplitl [HPd]
    · iexists gp
      isplitr; · ipureintro; exact hgp
      iexact HPd
    isplitl [HPs]; · iexact HPs
    iexact HPv
  isplitl [HFd HFs HFv]
  · unfold InDone Got
    isplitl [HFd]
    · iexists gf
      isplitr; · ipureintro; exact hgf
      iexact HFd
    isplitl [HFs]; · iexact HFs
    iexact HFv
  isplitl [HC]
  · rw [show ((arg25.access rTrig).write (Elt F) f25 (shapeCast S64x128 (cos (angle fp ff)) shapeCasts_S64x128_S64x128) Finset.univ : S64x128.Idx → Elt F .f32) = cos (angle fp ff) from
      (write_whole2 arg25 _ f25 _).trans (shapeCast_self (e := .f32) _ _)]
    iexact HC
  isplitl [HS]
  · rw [← stage_switch]
    iexact HS
  iexact HW

theorem wp_headB [EC.LandsIn (upEmb : UEmb _ 𝕄)] {Q : (Σ' (_ : FVec F S64x128 .f32) (_ : IVec S64x128 32) (_ : BitVec 32) (_ : IVec S64x128 32) (_ : IVec S64x128 1) (_ : IVec S64x128 1), IVec S64x128 1) → sProp 𝕄}
    (fx : S64x5120.Idx → Elt F .bf16) (fn : S40x128.Idx → Elt F .bf16) (a : FVec F S64x128 .f32) (l : IVec S64x128 32) :
    iprop(Sent c EC ι arg0 arg13 semX fx ∗ Sent c EC ι arg1 arg14 semN fn ∗ (∃ f, arg26.view.loc (c : Thread nD τ) ↦{fullShare} f) ∗ (∃ W', owes (c : Thread nD τ) 0 W') : sProp 𝕄)
      ⊢ iprop((iprop((arg13.view.loc (c : Thread nD τ) ↦{fullShare} fx) ∗ (arg0.view.loc (c : Thread nD τ) ↦{fullShare} fx) ∗ semVal ((c : Thread nD τ), SemLoc.dma semX) 0 ∗
          (arg14.view.loc (c : Thread nD τ) ↦{fullShare} fn) ∗ (arg1.view.loc (c : Thread nD τ) ↦{fullShare} fn) ∗ semVal ((c : Thread nD τ), SemLoc.dma semN) 0 ∗
          (arg26.view.loc (c : Thread nD τ) ↦{fullShare} (signed a l : S64x128.Idx → Elt F .f32)) ∗ (∃ W', owes (c : Thread nD τ) 0 W'))
          -∗ Q ⟨invNorm (squares fx 40), lanesA.1, lanesA.2.1, lanesA.2.2.1, lanesA.2.2.2.1, lanesA.2.2.2.2.1, lanesA.2.2.2.2.2⟩)
        -∗ wp frame (wpE defs 𝒱 (c : Thread nD τ) bd) Set.univ (headB a l) Q) := by
  unfold headB
  iintro ⟨HX, HN, ⟨%f26, HC⟩, ⟨%W, HW⟩⟩ Hk
  iapply (wp_load 𝒱 (c : Thread nD τ) bd Set.univ (Finset.subset_univ _)) $$ HC
  iintro HC
  iapply (wp_store 𝒱 (c : Thread nD τ) bd Set.univ (m := arg26) (r := rTrig) (Mk := Finset.univ) (Finset.subset_univ _)) $$ HC
  iintro HC
  iapply (wp_recv c 𝒱 bd EC ι (src := arg0) (dst := arg13) fx _) $$ [HX HW]
  · isplitl [HX]; · iexact HX
    iexact HW
  unfold Got
  iintro ⟨⟨%gx, %hgx, HXd⟩, HXs, HXv, ⟨%W1, HW⟩⟩
  obtain rfl : gx = fx := hgx
  iapply (wp_recv c 𝒱 bd EC ι (src := arg1) (dst := arg14) fn _) $$ [HN HW]
  · isplitl [HN]; · iexact HN
    iexact HW
  unfold Got
  iintro ⟨⟨%gn, %hgn, HNd⟩, HNs, HNv, HW⟩
  obtain rfl : gn = fn := hgn
  iapply (Scf.wp_for_bind frame (wpE defs 𝒱 (c : Thread nD τ) bd) Set.univ k0_t2_loop.lb k0_t2_loop.ub k0_t2_loop.st k0_t2_ok _ _
    (fun k s => iprop((arg13.view.loc (c : Thread nD τ) ↦{fullShare} gx) ∗ ⌜s = squares gx k⌝)) ?_) $$ [HXd]
  · intro k acc
    iintro ⟨H, %hs⟩
    iapply (wp_load 𝒱 (c : Thread nD τ) bd Set.univ (Finset.subset_univ _)) $$ H
    iintro H
    rw [wp_ret]
    imodintro
    isplitl [H]; · iexact H
    ipureintro
    subst hs
    have hk : k.val < 40 := lt_of_lt_of_eq k.isLt trips2
    show _ = addSquares (squares gx k.val) (if h : k.val < 40 then arg13.view.readAt (Elt F) (rX ⟨k.val, h⟩).toLoadRect gx else fun _ => FloatOps.ofBits .bf16 0)
    rw [dif_pos hk]
    exact congrArg (addSquares _) (read_off6 gx k ⟨k.val, hk⟩ rfl)
  · isplitl [HXd]; · iexact HXd
    ipureintro; rfl
  iintro %s ⟨HXd, %hs⟩
  obtain rfl : s = squares gx 40 := by rw [hs]; exact congrArg (squares gx) trips2
  rw [wp_ret]
  imodintro
  iapply Hk
  isplitl [HXd]; · iexact HXd
  isplitl [HXs]; · iexact HXs
  isplitl [HXv]; · iexact HXv
  isplitl [HNd]; · iexact HNd
  isplitl [HNs]; · iexact HNs
  isplitl [HNv]; · iexact HNv
  isplitl [HC]
  · rw [show ((arg26.access rTrig).write (Elt F) f26 (shapeCast S64x128 (signed a l) shapeCasts_S64x128_S64x128) Finset.univ : S64x128.Idx → Elt F .f32) = signed a l from
      (write_whole2 arg26 _ f26 _).trans (shapeCast_self (e := .f32) _ _)]
    iexact HC
  iexact HW

/-- The norm's weights as the tiles read them. -/
def wide (fn : S40x128.Idx → Elt F .bf16) : S40x128.Idx → Elt F .f32 := extf .f32 fn bitsLt_bf16_f32

theorem wp_headC {Q : (Σ' (_ : IVec S64x128 32) (_ : FVec F S64x128 .f32), IVec S64x128 32) → sProp 𝕄}
    (fx : S64x5120.Idx → Elt F .bf16) (fn : S40x128.Idx → Elt F .bf16) (r : FVec F S64x128 .f32) (p : IVec S64x128 32) (fh : S40x64x128.Idx → Elt F .bf16) :
    iprop((arg13.view.loc (c : Thread nD τ) ↦{fullShare} fx) ∗ (arg14.view.loc (c : Thread nD τ) ↦{fullShare} fn) ∗ (∃ f, arg15.view.loc (c : Thread nD τ) ↦{fullShare} f) ∗ (arg24.view.loc (c : Thread nD τ) ↦{fullShare} fh) : sProp 𝕄)
      ⊢ iprop((iprop((arg14.view.loc (c : Thread nD τ) ↦{fullShare} fn) ∗ (arg13.view.loc (c : Thread nD τ) ↦{fullShare} fx) ∗ (arg15.view.loc (c : Thread nD τ) ↦{fullShare} wide fn) ∗ (arg24.view.loc (c : Thread nD τ) ↦{fullShare} hTo fx (wide fn) r p (1 : Fin 40).val fh))
          -∗ Q ⟨p, scaledAt fx (wide fn) r 1, idxOf p⟩)
        -∗ wp frame (wpE defs 𝒱 (c : Thread nD τ) bd) Set.univ (headC r p) Q) := by
  unfold headC
  iintro ⟨HX, HN, ⟨%f15, HB⟩, HH⟩ Hk
  iapply (wp_load 𝒱 (c : Thread nD τ) bd Set.univ (Finset.subset_univ _)) $$ HN
  iintro HN
  rw [show arg14.view.readAt (Elt F) rNorm.toLoadRect fn = fn from read_whole2 arg14 _ fn]
  iapply (wp_load 𝒱 (c : Thread nD τ) bd Set.univ (Finset.subset_univ _)) $$ HB
  iintro HB
  iapply (wp_store 𝒱 (c : Thread nD τ) bd Set.univ (m := arg15) (r := rNorm) (Mk := Finset.univ) (Finset.subset_univ _)) $$ HB
  rw [show ((arg15.access rNorm).write (Elt F) f15 (shapeCast S40x128 (extf .f32 fn bitsLt_bf16_f32) shapeCasts_S40x128_S40x128) Finset.univ : S40x128.Idx → Elt F .f32) = wide fn from
      (write_whole2 arg15 _ f15 _).trans (shapeCast_self (e := .f32) _ _)]
  iintro HB
  iapply (wp_begin c fx (wide fn) r 𝒱 bd 0 _) $$ [HX HB]
  · isplitl [HX]; · iexact HX
    iexact HB
  iintro ⟨HX, HB⟩
  ihave HH := (Entails.of_eq (congrArg (fun f => (arg24.view.loc (c : Thread nD τ) ↦{fullShare} f : sProp 𝕄)) (show fh = hTo fx (wide fn) r p (0 : Fin 40).val fh from (hTo_zero fx (wide fn) r p fh).symm))) $$ HH
  iapply (wp_finish c fx (wide fn) r p 𝒱 bd 0 fh _) $$ HH
  iintro HH
  iapply (wp_begin c fx (wide fn) r 𝒱 bd 1 _) $$ [HX HB]
  · isplitl [HX]; · iexact HX
    iexact HB
  iintro ⟨HX, HB⟩
  rw [wp_ret]
  imodintro
  iapply Hk
  isplitl [HN]; · iexact HN
  isplitl [HX]; · iexact HX
  isplitl [HB]; · iexact HB
  iexact HH

end Cert.Kernel.Hand
-- ==== Proof.Plain.Body.lean ====
/-
  The whole kernel: what it needs, and what it leaves.
-/
module

public import proofs.«01_k».proof.Proof.Plain.Head

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The first lines after the loop, as printed. -/
def tail166 (k0_mxu3 : Mxu F) : Prog (TpuEff nD τ sig (Elt F) Λ₀ .tc) (Σ' (v987_r0 : FVec F S64x128 .f32) (v994_r0 : FVec F S64x128 .f32) (v995_r0 : FVec F S64x256 .f32) (k0_mxu61 : Mxu F) (v998_r0 : FVec F S64x128 .f32), FVec F S64x128 .f32) := do
  have v980_r0 : FVec F S64x256 .f32 := k0_mxu3.read 0 0 fits_0_64
  have k0_mxu60 : Mxu F := k0_mxu3.pop 0 0 64 fits_0_64
  have v981_r0 : FVec F S64x128 .f32 := extractStridedSlice S64x128 ![0, 0] v980_r0 slices_S64x256_o0_0_S64x128
  let c0_346_r0 : Index := 0#32
  let c0_347_r0 : Index := 0#32
  let v982_r0 : Vec F S64x128 .f32 ← Prog.lift (.load arg25 (Rect.unit (s := S64x128) ![0, 0] S64x128.size inb_S64x128_S64x128_0_0).toLoadRect (View.loadsAt_vmem h_S64x128))
  have v983_r0 : FVec F S64x128 .f32 := mulf v981_r0 v982_r0
  let c64_i32_348_r0 : BitVec 32 := 64#32
  have v984_r0 : FVec F S64x128 .f32 := dynamicRotate 1 c64_i32_348_r0 none v981_r0 rotates_S64x128_d1
  let c0_349_r0 : Index := 0#32
  let c0_350_r0 : Index := 0#32
  let v985_r0 : Vec F S64x128 .f32 ← Prog.lift (.load arg26 (Rect.unit (s := S64x128) ![0, 0] S64x128.size inb_S64x128_S64x128_0_0).toLoadRect (View.loadsAt_vmem h_S64x128))
  have v986_r0 : FVec F S64x128 .f32 := mulf v984_r0 v985_r0
  have v987_r0 : FVec F S64x128 .f32 := addf v983_r0 v986_r0
  have v988_r0 : FVec F S64x128 .f32 := extractStridedSlice S64x128 ![0, 128] v980_r0 slices_S64x256_o0_128_S64x128
  let c0_351_r0 : Index := 0#32
  let c0_352_r0 : Index := 0#32
  let v989_r0 : Vec F S64x128 .f32 ← Prog.lift (.load arg25 (Rect.unit (s := S64x128) ![0, 0] S64x128.size inb_S64x128_S64x128_0_0).toLoadRect (View.loadsAt_vmem h_S64x128))
  have v990_r0 : FVec F S64x128 .f32 := mulf v988_r0 v989_r0
  let c64_i32_353_r0 : BitVec 32 := 64#32
  have v991_r0 : FVec F S64x128 .f32 := dynamicRotate 1 c64_i32_353_r0 none v988_r0 rotates_S64x128_d1
  let c0_354_r0 : Index := 0#32
  let c0_355_r0 : Index := 0#32
  let v992_r0 : Vec F S64x128 .f32 ← Prog.lift (.load arg26 (Rect.unit (s := S64x128) ![0, 0] S64x128.size inb_S64x128_S64x128_0_0).toLoadRect (View.loadsAt_vmem h_S64x128))
  have v993_r0 : FVec F S64x128 .f32 := mulf v991_r0 v992_r0
  have v994_r0 : FVec F S64x128 .f32 := addf v990_r0 v993_r0
  have v995_r0 : FVec F S64x256 .f32 := k0_mxu60.read 1 0 fits_0_64
  have k0_mxu61 : Mxu F := k0_mxu60.pop 1 0 64 fits_0_64
  have v996_r0 : FVec F S64x128 .f32 := extractStridedSlice S64x128 ![0, 0] v995_r0 slices_S64x256_o0_0_S64x128
  let c0_356_r0 : Index := 0#32
  let c0_357_r0 : Index := 0#32
  let v997_r0 : Vec F S64x128 .f32 ← Prog.lift (.load arg25 (Rect.unit (s := S64x128) ![0, 0] S64x128.size inb_S64x128_S64x128_0_0).toLoadRect (View.loadsAt_vmem h_S64x128))
  have v998_r0 : FVec F S64x128 .f32 := mulf v996_r0 v997_r0
  let c64_i32_358_r0 : BitVec 32 := 64#32
  have v999_r0 : FVec F S64x128 .f32 := dynamicRotate 1 c64_i32_358_r0 none v996_r0 rotates_S64x128_d1
  let c0_359_r0 : Index := 0#32
  pure ⟨v987_r0, v994_r0, v995_r0, k0_mxu61, v998_r0, v999_r0⟩

set_option maxRecDepth 16384 in
set_option maxHeartbeats 4000000 in
theorem part166_eq (s : Mxu F) (v : FVec F S64x128 .f32) (ix) : k0_part166 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 s v ix
    = finish 39 v ix (Prog.bind (Scf.Loop.for k0_t3_loop k0_t3_ok s fun k s => trip k s) tail166) := by
  unfold k0_part166
  refine Eq.trans (b := finish 39 v ix (Prog.bind (Scf.Loop.for k0_t3_loop k0_t3_ok s _) tail166)) rfl
    (congrArg (fun R => finish 39 v ix (Prog.bind (Scf.Loop.for k0_t3_loop k0_t3_ok s R) tail166)) (funext fun k => funext fun s => ?_))
  by_cases h : k0_cond1 k = 1#1
  · simp only [k0_part140, k0_part1, k0_part2, trip, dif_pos h]
    sl_kernel_rfl
  · simp only [k0_part140, k0_part1, k0_part2, trip, dif_neg h]
    sl_kernel_rfl

/-! ### The accumulators after each chunk -/

/-- No row from 896 on holds a sum. -/
def Low (s : Mxu F) : Prop := ∀ q (R : Fin 1024), 896 ≤ R.val → s.live q R = false

theorem low_blockVal (down up : IVec T8x8x128 32) (r : Fin 2) (q : Fin 14) (h : FVec F T64x256 .bf16)
    (s : Fin 4 → FVec F T8x128 .bf16) (w : Fin 16 → IVec T1x32x128 8) (u : Mxu F) (hu : Low u) : Low (blockVal down up r (16 * q.val) (fits q) h s w u) := by
  intro q' R hR
  have hq := q.isLt
  unfold blockVal
  rw [Mxu.live_accLhs, if_neg (by omega), Mxu.live_accLhs, if_neg (by omega), Mxu.live_pushed, Mxu.live_pushed]
  exact hu q' R hR

variable (c : Dev nD) (M : Src F)

theorem low_step (n : Fin 20) (h : FVec F S64x256 .bf16) {s : Mxu F} (hs : Low s) : Low (step c M n h s) := by
  have hq : ∀ q (u : Mxu F), Low u → Low (qStep c M n h q u) := fun q u hu => by unfold qStep; exact low_blockVal _ _ _ ⟨q.val, by omega⟩ _ _ _ u hu
  have hk : ∀ q (u : Mxu F), Low u → Low (kStep c M n h q u) := fun q u hu => by unfold kStep; exact low_blockVal _ _ _ ⟨10 + q.val, by omega⟩ _ _ _ u hu
  have hv : ∀ q (u : Mxu F), Low u → Low (vStep c M n h q u) := fun q u hu => by unfold vStep; exact low_blockVal _ _ _ ⟨12 + q.val, by omega⟩ _ _ _ u hu
  unfold step
  exact hv _ _ <| hv _ _ <| hk _ _ <| hk _ _ <| hq _ _ <| hq _ _ <| hq _ _ <| hq _ _ <| hq _ _ <| hq _ _ <| hq _ _ <| hq _ _ <| hq _ _ <| hq _ _ hs

/-- The accumulators before chunk `n`. -/
def stateAt (H : S40x64x128.Idx → Elt F .bf16) : ℕ → Mxu F
  | 0 => Mxu.init
  | n + 1 => if h : n < 20 then step c M ⟨n, h⟩ (hAt H ⟨n, h⟩) (stateAt H n) else stateAt H n

theorem stateAt_succ (H : S40x64x128.Idx → Elt F .bf16) (n : Fin 20) : stateAt c M H (n.val + 1) = step c M n (hAt H n) (stateAt c M H n.val) := by
  show (if h : n.val < 20 then _ else _) = _
  rw [dif_pos n.isLt]

theorem empty_stateAt (H : S40x64x128.Idx → Elt F .bf16) (n : ℕ) : Empty (stateAt c M H n) := by
  induction n with
  | zero => intro q r; exact Mxu.reg_init q r
  | succ n ih =>
    unfold stateAt
    split
    · exact step_empty _ _ _ _ ih
    · exact ih

theorem low_stateAt (H : S40x64x128.Idx → Elt F .bf16) (n : ℕ) : Low (stateAt c M H n) := by
  induction n with
  | zero => intro q R _; exact Mxu.live_init q R
  | succ n ih =>
    unfold stateAt
    split
    · exact low_step c M _ _ ih
    · exact ih

/-- The activations: normed, weighted, permuted. -/
def acts (fx : S64x5120.Idx → Elt F .bf16) (fn : S40x128.Idx → Elt F .bf16) : S40x64x128.Idx → Elt F .bf16 := hFun fx (wide fn) (invNorm (squares fx 40)) perm

/-- The accumulators at the end. -/
def sums (fx : S64x5120.Idx → Elt F .bf16) (fn : S40x128.Idx → Elt F .bf16) : Mxu F := stateAt c M (acts fx fn) 20

variable {Ix : Type} [DecidableEq Ix] {Name : Type} [DecidableEq Name] [Infinite Name] {U : Type} [URA U] {Lvl : Type} [Preorder Lvl]
local notation "𝕄" => MT nD τ sig Ix (Elt F) Name U Lvl
variable (EC : UEmb Counters (MT nD τ sig Ix (Elt F) Name U Lvl)) (ι : Ix)
variable {defs : Defs nD τ sig (Elt F) Λ₀} (𝒱 : Variants) (bd : Option 𝒱.V)
variable (fx : S64x5120.Idx → Elt F .bf16) (fn : S40x128.Idx → Elt F .bf16) (fp : S1x64.Idx → Elt F .i32) (ff : S1x128.Idx → Elt F .f32)

/-- The three results. -/
def Results : sProp 𝕄 :=
  iprop(Done c outQ arg10 semQ (headOf (sums c M fx fn) true (cos (angle fp ff)) (signed (angle fp ff) lanes) 0) ∗
    Done c outK arg11 semK (headOf (sums c M fx fn) true (cos (angle fp ff)) (signed (angle fp ff) lanes) 10) ∗
    Done c outV arg12 semV (headOf (sums c M fx fn) false (cos (angle fp ff)) (signed (angle fp ff) lanes) 12))

/-- What the kernel needs. -/
def Pre : sProp 𝕄 :=
  iprop(InAt c arg0 arg13 semX fx ∗ InAt c arg1 arg14 semN fn ∗ InAt c arg2 arg16 semP fp ∗ InAt c arg3 arg17 semF ff ∗
    (∃ f, arg15.view.loc (c : Thread nD τ) ↦{fullShare} f) ∗ (∃ f, arg24.view.loc (c : Thread nD τ) ↦{fullShare} f) ∗ (∃ f, arg25.view.loc (c : Thread nD τ) ↦{fullShare} f) ∗ (∃ f, arg26.view.loc (c : Thread nD τ) ↦{fullShare} f) ∗
    Ready c outQ arg10 semQ ∗ Ready c outK arg11 semK ∗ Ready c outV arg12 semV ∗ bigSep Finset.univ (Idle c M))

/-- What the kernel leaves. -/
def Post : sProp 𝕄 :=
  iprop(InAt c arg0 arg13 semX fx ∗ InAt c arg1 arg14 semN fn ∗ InAt c arg2 arg16 semP fp ∗ InAt c arg3 arg17 semF ff ∗
    (∃ f, arg15.view.loc (c : Thread nD τ) ↦{fullShare} f) ∗ (∃ f, arg24.view.loc (c : Thread nD τ) ↦{fullShare} f) ∗ (∃ f, arg25.view.loc (c : Thread nD τ) ↦{fullShare} f) ∗ (∃ f, arg26.view.loc (c : Thread nD τ) ↦{fullShare} f) ∗
    Results c M fx fn fp ff ∗ bigSep Finset.univ (Land c M))

theorem in_back {sp sp' : Space} {s : Shape} {e : EltTy} (src : Memref sig .tc sp s e) (dst : Memref sig .tc sp' s e) (sem : DmaSem sig) (fs : src.view.ty.Contents (Elt F)) :
    (InDone c src dst sem fs : sProp 𝕄) ⊢ InAt c src dst sem fs := by
  unfold InDone InAt Got
  iintro ⟨⟨%g, -, Hd⟩, Hs, Hv⟩
  isplitl [Hs]; · iexact Hs
  isplitl [Hd]; · iexists g; iexact Hd
  iexact Hv

theorem in_made {sp sp' : Space} {s : Shape} {e : EltTy} (src : Memref sig .tc sp s e) (dst : Memref sig .tc sp' s e) (sem : DmaSem sig) (fs : src.view.ty.Contents (Elt F)) (g : dst.view.ty.Contents (Elt F)) :
    iprop((dst.view.loc (c : Thread nD τ) ↦{fullShare} g) ∗ (src.view.loc (c : Thread nD τ) ↦{fullShare} fs) ∗ semVal ((c : Thread nD τ), SemLoc.dma sem) 0 : sProp 𝕄) ⊢ InAt c src dst sem fs := by
  unfold InAt
  iintro ⟨Hd, Hs, Hv⟩
  isplitl [Hs]; · iexact Hs
  isplitl [Hd]; · iexists g; iexact Hd
  iexact Hv

set_option maxRecDepth 16384 in
set_option maxHeartbeats 4000000 in
include EC ι in
theorem wp_body [EC.LandsIn (upEmb : UEmb _ 𝕄)] {Q : PUnit → sProp 𝕄} {W : Waits sig Ix} :
    iprop(Pre c M fx fn fp ff ∗ owes (c : Thread nD τ) 0 W : sProp 𝕄)
      ⊢ iprop((iprop(Post c M fx fn fp ff ∗ (∃ W', owes (c : Thread nD τ) 0 W')) -∗ Q ⟨⟩)
        -∗ wp frame (wpE defs 𝒱 (c : Thread nD τ) bd) Set.univ (cc0_qkv_rope arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32) Q) := by
  unfold cc0_qkv_rope k0_part211 Pre
  iintro ⟨⟨HX, HN, HP, HF, H15, ⟨%f24, HH⟩, H25, H26, HQ, HK, HV, HS⟩, HW⟩ Hk
  rw [wp_bind, wp_bind, part142_eq]
  iapply (wp_headA c M EC ι 𝒱 bd fx fn fp ff) $$ [HX HN HP HF H25 HS HW]
  · isplitl [HX]; · iexact HX
    isplitl [HN]; · iexact HN
    isplitl [HP]; · iexact HP
    isplitl [HF]; · iexact HF
    isplitl [H25]; · iexact H25
    isplitl [HS]; · iexact HS
    iexact HW
  iintro ⟨HX, HN, HP, HF, H25, HS, HW⟩
  rw [wp_bind, part143_eq]
  iapply (wp_headB c EC ι 𝒱 bd fx fn _ _) $$ [HX HN H26 HW]
  · isplitl [HX]; · iexact HX
    isplitl [HN]; · iexact HN
    isplitl [H26]; · iexact H26
    iexact HW
  iintro ⟨HX, HXs, HXv, HN, HNs, HNv, H26, HW⟩
  rw [wp_bind, part144_eq, wp_ret]
  imodintro
  rw [wp_bind, part145_eq, wp_ret]
  imodintro
  rw [wp_bind, part146_eq]
  iapply (wp_headC c 𝒱 bd fx fn _ perm f24) $$ [HX HN H15 HH]
  · isplitl [HX]; · iexact HX
    isplitl [HN]; · iexact HN
    isplitl [H15]; · iexact H15
    iexact HH
  iintro ⟨HN, HT⟩
  rw [wp_bind, window0]
  iapply (wp_window c fx (wide fn) _ perm 𝒱 bd 0 1 3 rfl rfl f24) $$ HT
  iintro HT
  rw [wp_bind, window1]
  iapply (wp_window c fx (wide fn) _ perm 𝒱 bd 1 3 5 rfl rfl f24) $$ HT
  iintro HT
  rw [wp_bind, window2]
  iapply (wp_window c fx (wide fn) _ perm 𝒱 bd 2 5 7 rfl rfl f24) $$ HT
  iintro HT
  rw [wp_bind, window3]
  iapply (wp_window c fx (wide fn) _ perm 𝒱 bd 3 7 9 rfl rfl f24) $$ HT
  iintro HT
  rw [wp_bind, window4]
  iapply (wp_window c fx (wide fn) _ perm 𝒱 bd 4 9 11 rfl rfl f24) $$ HT
  iintro HT
  rw [wp_bind, window5]
  iapply (wp_window c fx (wide fn) _ perm 𝒱 bd 5 11 13 rfl rfl f24) $$ HT
  iintro HT
  rw [wp_bind, window6]
  iapply (wp_window c fx (wide fn) _ perm 𝒱 bd 6 13 15 rfl rfl f24) $$ HT
  iintro HT
  rw [wp_bind, window7]
  iapply (wp_window c fx (wide fn) _ perm 𝒱 bd 7 15 17 rfl rfl f24) $$ HT
  iintro HT
  rw [wp_bind, window8]
  iapply (wp_window c fx (wide fn) _ perm 𝒱 bd 8 17 19 rfl rfl f24) $$ HT
  iintro HT
  rw [wp_bind, window9]
  iapply (wp_window c fx (wide fn) _ perm 𝒱 bd 9 19 21 rfl rfl f24) $$ HT
  iintro HT
  rw [wp_bind, window10]
  iapply (wp_window c fx (wide fn) _ perm 𝒱 bd 10 21 23 rfl rfl f24) $$ HT
  iintro HT
  rw [wp_bind, window11]
  iapply (wp_window c fx (wide fn) _ perm 𝒱 bd 11 23 25 rfl rfl f24) $$ HT
  iintro HT
  rw [wp_bind, window12]
  iapply (wp_window c fx (wide fn) _ perm 𝒱 bd 12 25 27 rfl rfl f24) $$ HT
  iintro HT
  rw [wp_bind, window13]
  iapply (wp_window c fx (wide fn) _ perm 𝒱 bd 13 27 29 rfl rfl f24) $$ HT
  iintro HT
  rw [wp_bind, window14]
  iapply (wp_window c fx (wide fn) _ perm 𝒱 bd 14 29 31 rfl rfl f24) $$ HT
  iintro HT
  rw [wp_bind, window15]
  iapply (wp_window c fx (wide fn) _ perm 𝒱 bd 15 31 33 rfl rfl f24) $$ HT
  iintro HT
  rw [wp_bind, window16]
  iapply (wp_window c fx (wide fn) _ perm 𝒱 bd 16 33 35 rfl rfl f24) $$ HT
  iintro HT
  rw [wp_bind, window17]
  iapply (wp_window c fx (wide fn) _ perm 𝒱 bd 17 35 37 rfl rfl f24) $$ HT
  iintro HT
  rw [wp_bind, window18]
  iapply (wp_window c fx (wide fn) _ perm 𝒱 bd 18 37 39 rfl rfl f24) $$ HT
  iintro HT
  rw [wp_bind, part166_eq]
  icases HT with ⟨HX, H15, HH⟩
  iapply (wp_finish c fx (wide fn) _ perm 𝒱 bd 39 f24 _) $$ HH
  rw [show hTo fx (wide fn) (invNorm (squares fx 40)) perm ((39 : Fin 40).val + 1) f24 = acts fx fn from hTo_all fx (wide fn) _ perm f24]
  iintro HH
  iapply (Scf.wp_for_bind frame (wpE defs 𝒱 (c : Thread nD τ) bd) Set.univ k0_t3_loop.lb k0_t3_loop.ub k0_t3_loop.st k0_t3_ok _ _
    (fun k s => iprop(bigSep Finset.univ (stage3 c M EC ι k) ∗ (∃ W', owes (c : Thread nD τ) 0 W') ∗ (arg24.view.loc (c : Thread nD τ) ↦{fullShare} acts fx fn) ∗ ⌜s = stateAt c M (acts fx fn) k⌝)) ?_) $$ [HS HW HH]
  · intro k s
    obtain ⟨n, rfl⟩ : ∃ n, k = at3 n := ⟨k.cast trips3, rfl⟩
    iintro ⟨HS, ⟨%W', HW⟩, HH, %hs⟩
    subst hs
    iapply (wp_trip c M EC ι 𝒱 bd (acts fx fn) n _ (empty_stateAt c M (acts fx fn) n.val)) $$ [HS HW HH]
    · isplitl [HS]; · iexact HS
      isplitl [HW]; · iexact HW
      iexact HH
    iintro ⟨HS, HW, HH⟩
    isplitl [HS]; · iexact HS
    isplitl [HW]; · iexact HW
    isplitl [HH]; · iexact HH
    ipureintro
    exact (stateAt_succ c M (acts fx fn) n).symm
  · isplitl [HS]; · iexact HS
    isplitl [HW]; · iexact HW
    isplitl [HH]; · iexact HH
    ipureintro; rfl
  iintro %s ⟨HS, ⟨%W', HW⟩, HH, %hs⟩
  rw [← wp_bind, ← wp_bind]
  iapply (wp_congr_prog c 𝒱 bd (b := outs s) (by sl_kernel_rfl))
  obtain rfl : s = sums c M fx fn := by rw [hs]; exact congrArg (stateAt c M (acts fx fn)) trips3
  iapply (wp_outs c 𝒱 bd (cos (angle fp ff)) (signed (angle fp ff) lanes) EC ι _ (empty_stateAt c M _ _) (low_stateAt c M _ _)) $$ [H25 H26 HQ HK HV HW]
  · isplitl [H25 H26]
    · unfold Trig
      isplitl [H25]; · iexact H25
      iexact H26
    isplitl [HQ]; · iexact HQ
    isplitl [HK]; · iexact HK
    isplitl [HV]; · iexact HV
    iexact HW
  unfold Trig
  iintro ⟨⟨H25, H26⟩, HQ, HK, HV, HW⟩
  iapply Hk
  isplitr [HW]
  · unfold Post Results
    isplitl [HX HXs HXv]
    · iapply (in_made c arg0 arg13 semX fx fx)
      isplitl [HX]; · iexact HX
      isplitl [HXs]; · iexact HXs
      iexact HXv
    isplitl [HN HNs HNv]
    · iapply (in_made c arg1 arg14 semN fn fn)
      isplitl [HN]; · iexact HN
      isplitl [HNs]; · iexact HNs
      iexact HNv
    isplitl [HP]; · iapply (in_back c arg2 arg16 semP fp) $$ HP
    isplitl [HF]; · iapply (in_back c arg3 arg17 semF ff) $$ HF
    isplitl [H15]; · iexists _; iexact H15
    isplitl [HH]; · iexists _; iexact HH
    isplitl [H25]; · iexists _; iexact H25
    isplitl [H26]; · iexists _; iexact H26
    isplitl [HQ HK HV]
    · isplitl [HQ]; · iexact HQ
      isplitl [HK]; · iexact HK
      iexact HV
    rw [← stage3_end c M EC ι]
    rw [show Scf.trips k0_t3_loop.lb k0_t3_loop.ub k0_t3_loop.st = 20 from trips3]
    iexact HS
  iexact HW

end Cert.Kernel.Hand
-- ==== Proof.Plain.Whole.lean ====
/-
  The chunks' copies taken all together: the weight arrays and their buffers whole, before and after.
-/
module

public import proofs.«01_k».proof.Proof.Plain.Rounds

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (M : Src F)
variable {Ix : Type} [DecidableEq Ix] {Name : Type} [DecidableEq Name] [Infinite Name] {U : Type} [URA U] {Lvl : Type} [Preorder Lvl]
local notation "𝕄" => MT nD τ sig Ix (Elt F) Name U Lvl

/-- The chunks' semaphores at zero. -/
def Sems : sProp 𝕄 := bigSep Finset.univ fun n : Fin 20 => semVal ((c : Thread nD τ), SemLoc.dma (semOf n)) 0

/-- The six weight arrays. -/
def Sources : sProp 𝕄 :=
  iprop((arg5.view.loc (c : Thread nD τ) ↦{fullShare} M.f0) ∗ (arg7.view.loc (c : Thread nD τ) ↦{fullShare} M.f1) ∗ (arg9.view.loc (c : Thread nD τ) ↦{fullShare} M.f2) ∗ (arg4.view.loc (c : Thread nD τ) ↦{fullShare} M.f3) ∗ (arg6.view.loc (c : Thread nD τ) ↦{fullShare} M.f4) ∗ (arg8.view.loc (c : Thread nD τ) ↦{fullShare} M.f5))

/-- Their six buffers, whatever they hold. -/
def Buffers : sProp 𝕄 :=
  iprop((∃ f, arg21.view.loc (c : Thread nD τ) ↦{fullShare} f) ∗ (∃ f, arg22.view.loc (c : Thread nD τ) ↦{fullShare} f) ∗ (∃ f, arg23.view.loc (c : Thread nD τ) ↦{fullShare} f) ∗ (∃ f, arg18.view.loc (c : Thread nD τ) ↦{fullShare} f) ∗ (∃ f, arg19.view.loc (c : Thread nD τ) ↦{fullShare} f) ∗ (∃ f, arg20.view.loc (c : Thread nD τ) ↦{fullShare} f))

theorem blocks_some {α : Type} {A : α → sProp 𝕄} {B : Fin 20 → α → sProp 𝕄} (h : ∀ f, A f = bigSep Finset.univ fun n => B n f) :
    iprop(∃ f, A f) ⊢ bigSep Finset.univ fun n => iprop(∃ f, B n f) := by
  iintro ⟨%f, H⟩
  ihave H := (Entails.of_eq (h f)) $$ H
  have k : (bigSep Finset.univ fun n => B n f : sProp 𝕄) ⊢ (bigSep Finset.univ fun n => iprop(∃ f, B n f)) := BI.bigSep_mono fun n _ => by
    show iprop(B n f) ⊢ iprop(∃ f, B n f)
    iintro H; iexists f; iexact H
  iapply k $$ H

theorem bigSep_sep2 (A B : Fin 20 → sProp 𝕄) :
    (bigSep Finset.univ fun n => iprop(A n ∗ B n)) = iprop(bigSep Finset.univ A ∗ bigSep Finset.univ B) := BI.bigSep_sep _ A B

theorem bigSep_sep13 (P D0 S0 D1 S1 D2 S2 D3 S3 D4 S4 D5 S5 : Fin 20 → sProp 𝕄) :
    (bigSep Finset.univ fun n => iprop(P n ∗ (D0 n ∗ S0 n) ∗ (D1 n ∗ S1 n) ∗ (D2 n ∗ S2 n) ∗ (D3 n ∗ S3 n) ∗ (D4 n ∗ S4 n) ∗ (D5 n ∗ S5 n)))
      = iprop(bigSep Finset.univ P ∗ (bigSep Finset.univ D0 ∗ bigSep Finset.univ S0) ∗ (bigSep Finset.univ D1 ∗ bigSep Finset.univ S1) ∗ (bigSep Finset.univ D2 ∗ bigSep Finset.univ S2) ∗ (bigSep Finset.univ D3 ∗ bigSep Finset.univ S3) ∗ (bigSep Finset.univ D4 ∗ bigSep Finset.univ S4) ∗ (bigSep Finset.univ D5 ∗ bigSep Finset.univ S5)) := by
  rw [bigSep_sep2 P, bigSep_sep2 (fun n => iprop(D0 n ∗ S0 n)), bigSep_sep2 (fun n => iprop(D1 n ∗ S1 n)), bigSep_sep2 (fun n => iprop(D2 n ∗ S2 n)),
    bigSep_sep2 (fun n => iprop(D3 n ∗ S3 n)), bigSep_sep2 (fun n => iprop(D4 n ∗ S4 n)), bigSep_sep2 D0, bigSep_sep2 D1, bigSep_sep2 D2, bigSep_sep2 D3,
    bigSep_sep2 D4, bigSep_sep2 D5]

theorem idle_all : iprop(Sems c ∗ Sources c M ∗ Buffers c : sProp 𝕄) ⊢ bigSep Finset.univ (Idle c M) := by
  rw [show (Idle c M : Fin 20 → sProp 𝕄) = _ from funext fun n => idle_eq c M n, bigSep_sep13]
  unfold Sems Sources Buffers
  iintro ⟨HS, ⟨S0, S1, S2, S3, S4, S5⟩, ⟨D0, D1, D2, D3, D4, D5⟩⟩
  ihave D0 := (blocks_some (dst0_blocks c)) $$ D0
  ihave D1 := (blocks_some (dst1_blocks c)) $$ D1
  ihave D2 := (blocks_some (dst2_blocks c)) $$ D2
  ihave D3 := (blocks_some (dst3_blocks c)) $$ D3
  ihave D4 := (blocks_some (dst4_blocks c)) $$ D4
  ihave D5 := (blocks_some (dst5_blocks c)) $$ D5
  ihave S0 := (Entails.of_eq (src0_blocks c M.f0)) $$ S0
  ihave S1 := (Entails.of_eq (src1_blocks c M.f1)) $$ S1
  ihave S2 := (Entails.of_eq (src2_blocks c M.f2)) $$ S2
  ihave S3 := (Entails.of_eq (src3_blocks c M.f3)) $$ S3
  ihave S4 := (Entails.of_eq (src4_blocks c M.f4)) $$ S4
  ihave S5 := (Entails.of_eq (src5_blocks c M.f5)) $$ S5
  isplitl [HS]; · iexact HS
  isplitl [S0 D0]
  · isplitl [D0]; · iexact D0
    iexact S0
  isplitl [S1 D1]
  · isplitl [D1]; · iexact D1
    iexact S1
  isplitl [S2 D2]
  · isplitl [D2]; · iexact D2
    iexact S2
  isplitl [S3 D3]
  · isplitl [D3]; · iexact D3
    iexact S3
  isplitl [S4 D4]
  · isplitl [D4]; · iexact D4
    iexact S4
  isplitl [D5]; · iexact D5
  iexact S5

theorem land_all : (bigSep Finset.univ (Land c M) : sProp 𝕄) ⊢ iprop(Sems c ∗ Sources c M ∗ Buffers c) := by
  rw [show (Land c M : Fin 20 → sProp 𝕄) = _ from funext fun n => land_eq c M n, bigSep_sep13]
  unfold Sems Sources Buffers
  iintro ⟨HS, ⟨D0, S0⟩, ⟨D1, S1⟩, ⟨D2, S2⟩, ⟨D3, S3⟩, ⟨D4, S4⟩, ⟨D5, S5⟩⟩
  ihave D0 := (Entails.of_eq (dst0_blocks c M.f0).symm) $$ D0
  ihave S0 := (Entails.of_eq (src0_blocks c M.f0).symm) $$ S0
  ihave D1 := (Entails.of_eq (dst1_blocks c M.f1).symm) $$ D1
  ihave S1 := (Entails.of_eq (src1_blocks c M.f1).symm) $$ S1
  ihave D2 := (Entails.of_eq (dst2_blocks c M.f2).symm) $$ D2
  ihave S2 := (Entails.of_eq (src2_blocks c M.f2).symm) $$ S2
  ihave D3 := (Entails.of_eq (dst3_blocks c M.f3).symm) $$ D3
  ihave S3 := (Entails.of_eq (src3_blocks c M.f3).symm) $$ S3
  ihave D4 := (Entails.of_eq (dst4_blocks c M.f4).symm) $$ D4
  ihave S4 := (Entails.of_eq (src4_blocks c M.f4).symm) $$ S4
  ihave D5 := (Entails.of_eq (dst5_blocks c M.f5).symm) $$ D5
  ihave S5 := (Entails.of_eq (src5_blocks c M.f5).symm) $$ S5
  isplitl [HS]; · iexact HS
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [D0]; · iexists _; iexact D0
  isplitl [D1]; · iexists _; iexact D1
  isplitl [D2]; · iexists _; iexact D2
  isplitl [D3]; · iexists _; iexact D3
  isplitl [D4]; · iexists _; iexact D4
  iexists _; iexact D5

end Cert.Kernel.Hand
-- ==== Proof.Plain.Launched.lean ====
/-
  The kernel launched: from any memory it ends with its arguments as they were, its three results as stated, and
  every semaphore at zero.
-/
module

public import proofs.«01_k».proof.Proof.Plain.Body
public import proofs.«01_k».proof.Proof.Plain.Whole
public import proofs.«01_k».proof.Proof.Gen.Kernel.Frame
public import Idealize.ShloMosaic.Lib.Pipeline.Routed

@[expose] public section

set_option maxRecDepth 100000

noncomputable section

namespace Cert.Kernel.Hand

open Cert.Kernel Cert.Kernel.Gen Cert.Qkv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [BitOps F]

local notation "𝕄" => MT nD τ sig Unit (Elt F) ℕ (Pipeline.UC sig nD τ) ℕ

variable (m : (ℓ : Loc nD τ sig) → Buf (Elt F) ℓ) (ρ : Dev nD → PrngReg) (c : Dev nD)

/-- The kernel's semaphores. -/
abbrev osem0 : Fin 27 → SemLoc sig := fun j => SemLoc.dma j

theorem ownSemFacts0 : Pipeline.OwnSemFacts cfg0.spec osem0 := by decide

/-- The arrays the kernel reads and writes. -/
abbrev R0 : Finset (Ref sig .tc) := {main_v1, main_v2, main_v3, main_v0, main_v7, main_v8, main_v12, main_v13, main_v17, main_v18, main_v19_0, main_v19_1, main_v19_2}

theorem R0_sub : R0 ⊆ Pipeline.restRefs sig cfg0.spec := by decide

/-- The weights as the launch finds them. -/
abbrev srcOf : Src F := ⟨V m c main_v8, V m c main_v13, V m c main_v18, V m c main_v7, V m c main_v12, V m c main_v17⟩

/-- The accumulators and the angles at the end. -/
abbrev sumsOf : Mxu F := sums c (srcOf m c) (V m c main_v1) (V m c main_v2)
@[inherit_doc sumsOf]
abbrev angleOf : FVec F S64x128 .f32 := angle (V m c main_v3) (V m c main_v0)

/-- The three results. -/
def qOf : S64x40x128.Idx → Elt F .bf16 := outFun 20 (headOf (sumsOf m c) true (cos (angleOf m c)) (signed (angleOf m c) lanes) 0)
@[inherit_doc qOf]
def kOf : S64x8x128.Idx → Elt F .bf16 := outFun 4 (headOf (sumsOf m c) true (cos (angleOf m c)) (signed (angleOf m c) lanes) 10)
@[inherit_doc qOf]
def vOf : S64x8x128.Idx → Elt F .bf16 := outFun 4 (headOf (sumsOf m c) false (cos (angleOf m c)) (signed (angleOf m c) lanes) 12)

/-- The arrays at the end. -/
def Y (c : Dev nD) : (b : Ref sig .tc) → Buf (Elt F) ((c : Thread nD τ).loc b) :=
  Function.update (Function.update (Function.update (V m c) main_v19_0 (qOf m c)) main_v19_1 (kOf m c)) main_v19_2 (vOf m c)

theorem Y_q : Y m c main_v19_0 = qOf m c := by
  unfold Y; rw [Function.update_of_ne (by decide), Function.update_of_ne (by decide), Function.update_self]
theorem Y_k : Y m c main_v19_1 = kOf m c := by
  unfold Y; rw [Function.update_of_ne (by decide), Function.update_self]
theorem Y_v : Y m c main_v19_2 = vOf m c := by
  unfold Y; rw [Function.update_self]
theorem Y_of_ne {b : Ref sig .tc} (h0 : b ≠ main_v19_0) (h1 : b ≠ main_v19_1) (h2 : b ≠ main_v19_2) : Y m c b = V m c b := by
  unfold Y; rw [Function.update_of_ne h2, Function.update_of_ne h1, Function.update_of_ne h0]

theorem routed_eq (W : (b : Ref sig .tc) → Buf (Elt F) ((c : Thread nD τ).loc b)) :
    (Pipeline.routed R0 c W : sProp 𝕄) = iprop((((c : Thread nD τ).loc main_v1) ↦{fullShare} W main_v1) ∗ (((c : Thread nD τ).loc main_v2) ↦{fullShare} W main_v2) ∗ (((c : Thread nD τ).loc main_v3) ↦{fullShare} W main_v3) ∗ (((c : Thread nD τ).loc main_v0) ↦{fullShare} W main_v0) ∗ (((c : Thread nD τ).loc main_v7) ↦{fullShare} W main_v7) ∗ (((c : Thread nD τ).loc main_v8) ↦{fullShare} W main_v8) ∗ (((c : Thread nD τ).loc main_v12) ↦{fullShare} W main_v12) ∗ (((c : Thread nD τ).loc main_v13) ↦{fullShare} W main_v13) ∗ (((c : Thread nD τ).loc main_v17) ↦{fullShare} W main_v17) ∗ (((c : Thread nD τ).loc main_v18) ↦{fullShare} W main_v18) ∗ (((c : Thread nD τ).loc main_v19_0) ↦{fullShare} W main_v19_0) ∗ (((c : Thread nD τ).loc main_v19_1) ↦{fullShare} W main_v19_1) ∗ (((c : Thread nD τ).loc main_v19_2) ↦{fullShare} W main_v19_2)) := by
  unfold Pipeline.routed
  exact (BI.bigSep_eq_bigSepL_of_eq [main_v1, main_v2, main_v3, main_v0, main_v7, main_v8, main_v12, main_v13, main_v17, main_v18, main_v19_0, main_v19_1, main_v19_2] (by decide) (by decide) _).trans rfl

theorem ownSems_eq : (Pipeline.ownSems0 (τ := τ) osem0 c : sProp 𝕄)
    = iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0 ∗ semVal ((c : Thread nD τ), osem0 22) 0 ∗ semVal ((c : Thread nD τ), osem0 23) 0 ∗ semVal ((c : Thread nD τ), osem0 24) 0 ∗ semVal ((c : Thread nD τ), osem0 25) 0 ∗ semVal ((c : Thread nD τ), osem0 26) 0) :=
  (Pipeline.ownSems0_eq_of_list c osem0 [0, 1, 2, 3, 4, 5, 6, 7, 8, 9, 10, 11, 12, 13, 14, 15, 16, 17, 18, 19, 20, 21, 22, 23, 24, 25, 26] (by decide) (by decide)).trans rfl

theorem semOf_eq (n : Fin 20) : SemLoc.dma (semOf n) = osem0 ⟨4 + n.val, by omega⟩ := congrArg SemLoc.dma (Fin.ext (semOf_val n))
theorem semX_eq : SemLoc.dma semX = osem0 0 := congrArg SemLoc.dma (Fin.ext (by decide))
theorem semN_eq : SemLoc.dma semN = osem0 1 := congrArg SemLoc.dma (Fin.ext (by decide))
theorem semP_eq : SemLoc.dma semP = osem0 2 := congrArg SemLoc.dma (Fin.ext (by decide))
theorem semF_eq : SemLoc.dma semF = osem0 3 := congrArg SemLoc.dma (Fin.ext (by decide))
theorem semQ_eq : SemLoc.dma semQ = osem0 24 := congrArg SemLoc.dma (Fin.ext (by decide))
theorem semK_eq : SemLoc.dma semK = osem0 25 := congrArg SemLoc.dma (Fin.ext (by decide))
theorem semV_eq : SemLoc.dma semV = osem0 26 := congrArg SemLoc.dma (Fin.ext (by decide))

theorem sems_eq : (Sems c : sProp 𝕄) = iprop(semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0 ∗ semVal ((c : Thread nD τ), osem0 22) 0 ∗ semVal ((c : Thread nD τ), osem0 23) 0) := by
  unfold Sems
  rw [show (fun n : Fin 20 => (semVal ((c : Thread nD τ), SemLoc.dma (semOf n)) 0 : sProp 𝕄)) = fun n => semVal ((c : Thread nD τ), osem0 ⟨4 + n.val, by omega⟩) 0
    from funext fun n => by rw [semOf_eq]]
  exact (BI.bigSep_eq_bigSepL_of_eq [0, 1, 2, 3, 4, 5, 6, 7, 8, 9, 10, 11, 12, 13, 14, 15, 16, 17, 18, 19] (by decide) (by decide) _).trans rfl

set_option maxHeartbeats 4000000 in
/-- What the launch hands over is what the kernel needs. -/
theorem ends_pre : (Pipeline.Ends cfg0.spec osem0 R0 c (V m c) : sProp 𝕄)
    ⊢ iprop(Pre c (srcOf m c) (V m c main_v1) (V m c main_v2) (V m c main_v3) (V m c main_v0) ∗ ∃ r, prngReg c r) := by
  unfold Pipeline.Ends Pre InAt Ready
  rw [routed_eq, ownSems_eq, scopedRest0_eq, semX_eq, semN_eq, semP_eq, semF_eq, semQ_eq, semK_eq, semV_eq]
  iintro ⟨⟨Av1, Av2, Av3, Av0, Av7, Av8, Av12, Av13, Av17, Av18, Av19_0, Av19_1, Av19_2⟩, ⟨E0, E1, E2, E3, E4, E5, E6, E7, E8, E9, E10, E11, E12, E13, E14, E15, E16, E17, E18, E19, E20, E21, E22, E23, E24, E25, E26⟩, ⟨B0, B1, B2, B3, B4, B5, B6, B7, B8, B9, B10, B11, B12, B13, B14, B15, B16⟩, Hp⟩
  isplitr [Hp]
  swap; · iexact Hp
  isplitl [Av1 B0 E0]
  · isplitl [Av1]; · iexact Av1
    isplitl [B0]; · iexact B0
    iexact E0
  isplitl [Av2 B1 E1]
  · isplitl [Av2]; · iexact Av2
    isplitl [B1]; · iexact B1
    iexact E1
  isplitl [Av3 B3 E2]
  · isplitl [Av3]; · iexact Av3
    isplitl [B3]; · iexact B3
    iexact E2
  isplitl [Av0 B4 E3]
  · isplitl [Av0]; · iexact Av0
    isplitl [B4]; · iexact B4
    iexact E3
  isplitl [B2]; · iexact B2
  isplitl [B11]; · iexact B11
  isplitl [B12]; · iexact B12
  isplitl [B13]; · iexact B13
  isplitl [Av19_0 B14 E24]
  · isplitl [Av19_0]; · iexists _; iexact Av19_0
    isplitl [B14]; · iexact B14
    iexact E24
  isplitl [Av19_1 B15 E25]
  · isplitl [Av19_1]; · iexists _; iexact Av19_1
    isplitl [B15]; · iexact B15
    iexact E25
  isplitl [Av19_2 B16 E26]
  · isplitl [Av19_2]; · iexists _; iexact Av19_2
    isplitl [B16]; · iexact B16
    iexact E26
  iapply (idle_all c (srcOf m c))
  rw [sems_eq]
  unfold Sources Buffers
  isplitl [E4 E5 E6 E7 E8 E9 E10 E11 E12 E13 E14 E15 E16 E17 E18 E19 E20 E21 E22 E23]
  · isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    iexact E23
  isplitl [Av8 Av13 Av18 Av7 Av12 Av17]
  · isplitl [Av8]; · iexact Av8
    isplitl [Av13]; · iexact Av13
    isplitl [Av18]; · iexact Av18
    isplitl [Av7]; · iexact Av7
    isplitl [Av12]; · iexact Av12
    iexact Av17
  isplitl [B8]; · iexact B8
  isplitl [B9]; · iexact B9
  isplitl [B10]; · iexact B10
  isplitl [B5]; · iexact B5
  isplitl [B6]; · iexact B6
  iexact B7

set_option maxHeartbeats 4000000 in
/-- What the kernel leaves is what the launch asks back. -/
theorem post_ends : iprop(Post c (srcOf m c) (V m c main_v1) (V m c main_v2) (V m c main_v3) (V m c main_v0) ∗ ∃ r, prngReg c r)
    ⊢ (Pipeline.Ends cfg0.spec osem0 R0 c (Y m c) : sProp 𝕄) := by
  unfold Pipeline.Ends Post InAt Results Done Got
  rw [routed_eq, ownSems_eq, scopedRest0_eq, semX_eq, semN_eq, semP_eq, semF_eq, semQ_eq, semK_eq, semV_eq, Y_q, Y_k, Y_v,
    Y_of_ne m c (b := main_v1) (by decide) (by decide) (by decide),
    Y_of_ne m c (b := main_v2) (by decide) (by decide) (by decide),
    Y_of_ne m c (b := main_v3) (by decide) (by decide) (by decide),
    Y_of_ne m c (b := main_v0) (by decide) (by decide) (by decide),
    Y_of_ne m c (b := main_v7) (by decide) (by decide) (by decide),
    Y_of_ne m c (b := main_v8) (by decide) (by decide) (by decide),
    Y_of_ne m c (b := main_v12) (by decide) (by decide) (by decide),
    Y_of_ne m c (b := main_v13) (by decide) (by decide) (by decide),
    Y_of_ne m c (b := main_v17) (by decide) (by decide) (by decide),
    Y_of_ne m c (b := main_v18) (by decide) (by decide) (by decide)]
  iintro ⟨⟨⟨Av1, B0, E0⟩, ⟨Av2, B1, E1⟩, ⟨Av3, B3, E2⟩, ⟨Av0, B4, E3⟩, B2, B11, B12, B13,
    ⟨⟨⟨%g0, %e0, Av19_0⟩, B14, E24⟩, ⟨⟨%g1, %e1, Av19_1⟩, B15, E25⟩, ⟨⟨%g2, %e2, Av19_2⟩, B16, E26⟩⟩, HL⟩, Hp⟩
  obtain rfl : g0 = qOf m c := e0
  obtain rfl : g1 = kOf m c := e1
  obtain rfl : g2 = vOf m c := e2
  ihave HL := (land_all c (srcOf m c)) $$ HL
  unfold Sources Buffers
  icases HL with ⟨HS, ⟨Av8, Av13, Av18, Av7, Av12, Av17⟩, ⟨B8, B9, B10, B5, B6, B7⟩⟩
  ihave HS := (Entails.of_eq (sems_eq c)) $$ HS
  icases HS with ⟨E4, E5, E6, E7, E8, E9, E10, E11, E12, E13, E14, E15, E16, E17, E18, E19, E20, E21, E22, E23⟩
  isplitl [Av1 Av2 Av3 Av0 Av7 Av8 Av12 Av13 Av17 Av18 Av19_0 Av19_1 Av19_2]
  · isplitl [Av1]; · iexact Av1
    isplitl [Av2]; · iexact Av2
    isplitl [Av3]; · iexact Av3
    isplitl [Av0]; · iexact Av0
    isplitl [Av7]; · iexact Av7
    isplitl [Av8]; · iexact Av8
    isplitl [Av12]; · iexact Av12
    isplitl [Av13]; · iexact Av13
    isplitl [Av17]; · iexact Av17
    isplitl [Av18]; · iexact Av18
    isplitl [Av19_0]; · iexact Av19_0
    isplitl [Av19_1]; · iexact Av19_1
    iexact Av19_2
  isplitl [E0 E1 E2 E3 E4 E5 E6 E7 E8 E9 E10 E11 E12 E13 E14 E15 E16 E17 E18 E19 E20 E21 E22 E23 E24 E25 E26]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    iexact E26
  isplitl [B0 B1 B2 B3 B4 B5 B6 B7 B8 B9 B10 B11 B12 B13 B14 B15 B16]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact B16
  iexact Hp

/-- The invariant: before the one point the arrays as found, after it as left. -/
def dats (_ : Fin 1) (c : Dev nD) : Dat τ (Elt F) Unit ℕ (Pipeline.UC sig nD τ) ℕ cfg0 c where
  A w := V m c (Pipeline.arrRef cfg0.spec w)
  after w _ := w.elim0
  Φ i := Pipeline.Ends cfg0.spec osem0 R0 c (if i.val = 0 then V m c else Y m c)
  q _ := fullShare
  owed _ := 0

theorem A_eq (w : Fin cfg0.W) : (dats m 0 c).A w = V m c (Pipeline.arrRef cfg0.spec w) := by
  dsimp only [dats]

theorem Phi_first (t : Fin cfg0.N) : (dats m 0 c).Φ t.castSucc = Pipeline.Ends cfg0.spec osem0 R0 c (V m c) := by
  have h : t.val = 0 := by have := fin_N0 t; rw [this]; rfl
  dsimp only [dats]; rw [if_pos (show t.castSucc.val = 0 from h)]

theorem Phi_last (t : Fin cfg0.N) : (dats m 0 c).Φ t.succ = Pipeline.Ends cfg0.spec osem0 R0 c (Y m c) := by
  dsimp only [dats]; rw [if_neg (show ¬ t.succ.val = 0 from Nat.succ_ne_zero _)]

theorem bigSep_none (Φ : Fin cfg0.W → sProp 𝕄) : bigSep Finset.univ Φ = (BI.emp : sProp 𝕄) := by
  rw [show (Finset.univ : Finset (Fin cfg0.W)) = ∅ from rfl, BI.bigSep_empty]

theorem sound_body (t : Fin cfg0.N) :
    iprop((dats m 0 c).Φ t.castSucc ∗ (dats m 0 c).owesAt () t.castSucc ∗ emp)
      ⊢ wp frame (wpE (defs₀ (F := F)) Variants.none c none) Set.univ (bodyAt0 t) (fun _ => iprop((dats m 0 c).Φ t.succ ∗ (dats m 0 c).owesAt () t.succ ∗ emp)) := by
  unfold bodyAt0
  rw [Phi_first, Phi_last]
  unfold Dat.owesAt Pipeline.owesWithin
  rw [show (dats m 0 c).owed t.castSucc = 0 from rfl, show (dats m 0 c).owed t.succ = 0 from rfl]
  iintro ⟨HE, ⟨%W, -, HW⟩, -⟩
  ihave HE := (ends_pre m c) $$ HE
  icases HE with ⟨HP, Hr⟩
  iapply (wp_body c (srcOf m c) (countersEmb (U := Pipeline.UC sig nD τ)) () Variants.none none (V m c main_v1) (V m c main_v2) (V m c main_v3) (V m c main_v0)) $$ [HP HW]
  · isplitl [HP]; · iexact HP
    iexact HW
  iintro ⟨HP, ⟨%W', HW⟩⟩
  isplitl [HP Hr]
  · iapply (post_ends m c)
    isplitl [HP]; · iexact HP
    iexact Hr
  isplitl [HW]
  · iexists W'; isplitr; · ipureintro; exact fun _ _ => Or.inl trivial
    iexact HW
  iempintro

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_none, bigSep_none, defs₀_row]
  exact sound_body m c t

theorem hmainC : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

/-- The run: every argument as it was, every semaphore at zero, the three results as stated. -/
def RunPost (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
  ∧ (r.2.sem = fun _ => 0)
  ∧ ∀ c : Dev nD, r.2.mem ((c.tc : Thread nD τ).loc main_v19_0) = qOf m c ∧ r.2.mem ((c.tc : Thread nD τ).loc main_v19_1) = kOf m c
    ∧ r.2.mem ((c.tc : Thread nD τ).loc main_v19_2) = vOf m c

theorem post_of (r : PUnit × MemSt nD τ sig (Elt F)) (h : Pipeline.RoutedPost cfgs (dats m) 0 R0 (V m) (Y m) r ∧ r.2.sem = fun _ => 0) : RunPost m r := by
  obtain ⟨h, hs⟩ := h
  refine ⟨fun c => ?_, hs, fun c => ⟨?_, ?_, ?_⟩⟩
  · obtain ⟨-, -, h⟩ := h c
    exact ⟨(h main_arg0 (by decide)).trans (V_main_arg0 m c),
      (h main_arg1 (by decide)).trans (V_main_arg1 m c),
      (h main_arg2 (by decide)).trans (V_main_arg2 m c),
      (h main_arg3 (by decide)).trans (V_main_arg3 m c),
      (h main_arg4 (by decide)).trans (V_main_arg4 m c),
      (h main_arg5 (by decide)).trans (V_main_arg5 m c),
      (h main_arg6 (by decide)).trans (V_main_arg6 m c),
      (h main_arg7 (by decide)).trans (V_main_arg7 m c),
      (h main_arg8 (by decide)).trans (V_main_arg8 m c)⟩
  · exact ((h c).2.1 main_v19_0 (by decide)).trans (Y_q m c)
  · exact ((h c).2.1 main_v19_1 (by decide)).trans (Y_k m c)
  · exact ((h c).2.1 main_v19_2 (by decide)).trans (Y_v m c)

set_option backward.isDefEq.respectTransparency.types false in
theorem run_main : θ_run defs (onTc (τ := τ) (main (F := F))) (s₀ m ρ) (RunPost m) :=
  Pipeline.θ_run_frame_routed (Q' := RunPost m) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmainC m) (hA := fun c w => A_eq m c w) (R := R0) (hR := R0_sub) (Y := Y m)
    (hin := fun c => Entails.of_eq (Phi_first m c t0_0).symm) (hout := fun c => Entails.of_eq (Phi_last m c t0_0)) (hQ' := post_of m)

end Cert.Kernel.Hand
-- ==== Proof.Value.Acc.lean ====
/- What the accumulators of the matrix units hold over the extended reals: at every address, the sum over the chunks of
   the products of activations and dequantised weights. -/
module

public import proofs.«01_k».proof.Proof.Body
public import Idealize.ShloMosaic.Lib.MatmulPlain
public import Idealize.ShloMosaic.PureOps.Ideal.Laws

@[expose] public section

noncomputable section

namespace Cert.KernelIdeal.Hand

open Cert.KernelIdeal Cert.KernelIdeal.Gen Cert.Qkv
open Idealize.ShloMosaic Idealize.ShloMosaic.TcCoe Idealize.ShloMosaic.ValueIdx

/-- Storing a pass in a row that is not live is adding it: such a row is zero. -/
theorem read_accLhs_sum (s : Mxu Ideal) (q r : Fin 2) (A : ℕ) (hA : Mxu.Fits A 64) (lhs : FVec Ideal T64x256 .bf16) (i : T64x256.Idx) :
    (s.accLhs q r A lhs hA).read q A hA i = (s.read q A hA i + (s.staged q r).pass lhs i : EReal) := by
  rw [Mxu.read_accLhs]
  show Mxu.deposit (s.live q (Mxu.row hA (i 0))) (s.read q A hA i) _ = _
  cases hl : s.live q (Mxu.row hA (i 0))
  · have h0 : s.read q A hA i = FloatOps.ofBits .f32 0 := s.clean q _ _ hl
    rw [Mxu.deposit_false, h0]
    show _ = Ideal.ofBits .f32 0 + _
    rw [show (Ideal.ofBits .f32 0 : EReal) = 0 from Ideal.ofBits_zero_f32, zero_add]
  · rfl

theorem pass_sum (v : FVec Ideal T256x256 .bf16) (lhs : FVec Ideal T64x256 .bf16) (i : T64x256.Idx) :
    (⟨.bf16, false, v⟩ : Mxu.Staged Ideal).pass lhs i = ∑ k : Fin 256, (lhs (ix2 (i 0) k) * v (ix2 k (i 1)) : EReal) := by
  have h := Ideal.matmul_plain_apply (M := 64) (K := 256) (N := 256) none lhs v (fun _ => (0 : EReal)) (i 0) (i 1)
  rw [Mxu.Staged.pass_false]
  have e : i = ix2 (i 0) (i 1) := by funext a; fin_cases a <;> rfl
  refine (congrArg (FloatOps.mxuPass (DotDims.plain 64 256 256) lhs v) e).trans (Eq.trans ?_ (h.trans (zero_add _)))
  exact (zero_add _).symm

/-- The tile of dequantised weights that a block pushes on unit `u`. -/
def tile (s : Fin 4 → FVec Ideal T8x128 .bf16) (w : Fin 16 → IVec T1x32x128 8) : Fin 2 → FVec Ideal T256x256 .bf16
  | 0 => rhs downC upC 0 1 (s 0) (s 1) w
  | 1 => rhs downC upC 2 3 (s 2) (s 3) w

/-- A row of the activations times a column of a tile. -/
def dotT (h : FVec Ideal T64x256 .bf16) (t : FVec Ideal T256x256 .bf16) (i : T64x256.Idx) : EReal := ∑ k : Fin 256, (h (ix2 (i 0) k) * t (ix2 k (i 1)) : EReal)

theorem read_blockVal (r : Fin 2) (A : ℕ) (hA : Mxu.Fits A 64) (h : FVec Ideal T64x256 .bf16) (s : Fin 4 → FVec Ideal T8x128 .bf16) (w : Fin 16 → IVec T1x32x128 8)
    (v : Mxu Ideal) (hv : Empty v) (u : Fin 2) (i : T64x256.Idx) :
    (blockVal downC upC r A hA h s w v).read u A hA i = (v.read u A hA i + dotT h (tile s w u) i : EReal) := by
  unfold blockVal
  fin_cases u
  · show Mxu.read _ 0 A hA i = _
    rw [Mxu.read_accLhs_ne (hne := .inl (by decide)), read_accLhs_sum, Mxu.read_pushed, Mxu.read_pushed, Mxu.staged_eq,
      Mxu.reg_pushed_ne (hne := by simp), Mxu.reg_pushed_of_none _ _ _ _ _ (hv 0 r), Option.getD_some, pass_sum]
    rfl
  · show Mxu.read _ 1 A hA i = _
    rw [read_accLhs_sum, Mxu.read_accLhs_ne (hne := .inl (by decide)), Mxu.read_pushed, Mxu.read_pushed, Mxu.staged_eq,
      Mxu.reg_accLhs_ne (hne := by simp), Mxu.reg_pushed_of_none _ _ _ _ _ (by rw [Mxu.reg_pushed_ne (hne := by simp)]; exact hv 1 r), Option.getD_some, pass_sum]
    rfl

theorem read_blockVal_ne (r : Fin 2) (p p' : Fin 14) (h : FVec Ideal T64x256 .bf16) (s : Fin 4 → FVec Ideal T8x128 .bf16) (w : Fin 16 → IVec T1x32x128 8)
    (v : Mxu Ideal) (u : Fin 2) (hp : p ≠ p') :
    (blockVal downC upC r (16 * p'.val) (fits p') h s w v).read u (16 * p.val) (fits p) = v.read u (16 * p.val) (fits p) := by
  have : p.val ≠ p'.val := fun e => hp (Fin.ext e)
  unfold blockVal
  rw [Mxu.read_accLhs_ne (hne := .inr (by omega)), Mxu.read_accLhs_ne (hne := .inr (by omega)), Mxu.read_pushed, Mxu.read_pushed]

variable (c : Dev nD) (M : Src Ideal) (n : Fin 20)

/-- The tile that pair `p` of accumulators is multiplied by at chunk `n` on unit `u`. -/
def tileOf (p : Fin 14) (u : Fin 2) : FVec Ideal T256x256 .bf16 :=
  if hq : p.val < 10 then
    tile (scalesAt (τ := τ) c arg21 (uS n.val p.val) (uS_inb n p.val (by omega)) M.f0) (weightsAt (τ := τ) c arg18 (uW n.val p.val) (uW_inb n p.val (by omega)) M.f3) u
  else if hk : p.val < 12 then
    tile (scalesAt (τ := τ) c arg22 (uS n.val (p.val - 10)) (uS_inb n _ (by omega)) M.f1) (weightsAt (τ := τ) c arg19 (uW n.val (p.val - 10)) (uW_inb n _ (by omega)) M.f4) u
  else
    tile (scalesAt (τ := τ) c arg23 (uS n.val (p.val - 12)) (uS_inb n _ (by omega)) M.f2) (weightsAt (τ := τ) c arg20 (uW n.val (p.val - 12)) (uW_inb n _ (by omega)) M.f5) u

/-- What block `p'` adds at pair `p`. -/
def adds (h : FVec Ideal T64x256 .bf16) (u : Fin 2) (i : T64x256.Idx) (p p' : Fin 14) : EReal := if p = p' then dotT h (tileOf c M n p' u) i else 0

variable {c M n}
theorem read_q (h : FVec Ideal T64x256 .bf16) (q : Fin 10) (v : Mxu Ideal) (hv : Empty v) (u : Fin 2) (p : Fin 14) (i : T64x256.Idx) :
    (qStep c M n h q v).read u (16 * p.val) (fits p) i = (v.read u (16 * p.val) (fits p) i + adds c M n h u i p ⟨q.val, by omega⟩ : EReal) := by
  unfold adds
  by_cases hp : p = ⟨q.val, by omega⟩
  · subst hp
    rw [if_pos rfl, tileOf, dif_pos q.isLt]
    exact read_blockVal _ _ _ h _ _ v hv u i
  · rw [if_neg hp, add_zero]
    exact congrFun (read_blockVal_ne _ p ⟨q.val, by omega⟩ h _ _ v u hp) i

theorem read_k (h : FVec Ideal T64x256 .bf16) (q : Fin 2) (v : Mxu Ideal) (hv : Empty v) (u : Fin 2) (p : Fin 14) (i : T64x256.Idx) :
    (kStep c M n h q v).read u (16 * p.val) (fits p) i = (v.read u (16 * p.val) (fits p) i + adds c M n h u i p ⟨10 + q.val, by omega⟩ : EReal) := by
  unfold adds
  by_cases hp : p = ⟨10 + q.val, by omega⟩
  · subst hp
    rw [if_pos rfl, tileOf, dif_neg (by simp), dif_pos (show 10 + q.val < 12 by omega)]
    refine (read_blockVal _ _ _ h _ _ v hv u i).trans ?_
    have key : ∀ (m : ℕ) (hS hW), m = q.val → tile (scalesAt (τ := τ) c arg22 (uS n.val q.val) (uS_inb n q.val (by omega)) M.f1) (weightsAt (τ := τ) c arg19 (uW n.val q.val) (uW_inb n q.val (by omega)) M.f4) u
        = tile (scalesAt (τ := τ) c arg22 (uS n.val m) hS M.f1) (weightsAt (τ := τ) c arg19 (uW n.val m) hW M.f4) u := by
      rintro m _ _ rfl; rfl
    exact congrArg (fun t => (_ + dotT h t i : EReal)) (key _ _ _ (Nat.add_sub_cancel_left ..))
  · rw [if_neg hp, add_zero]
    exact congrFun (read_blockVal_ne _ p ⟨10 + q.val, by omega⟩ h _ _ v u hp) i

theorem read_v (h : FVec Ideal T64x256 .bf16) (q : Fin 2) (v : Mxu Ideal) (hv : Empty v) (u : Fin 2) (p : Fin 14) (i : T64x256.Idx) :
    (vStep c M n h q v).read u (16 * p.val) (fits p) i = (v.read u (16 * p.val) (fits p) i + adds c M n h u i p ⟨12 + q.val, by omega⟩ : EReal) := by
  unfold adds
  by_cases hp : p = ⟨12 + q.val, by omega⟩
  · subst hp
    rw [if_pos rfl, tileOf, dif_neg (show ¬ 12 + q.val < 10 by omega), dif_neg (show ¬ 12 + q.val < 12 by omega)]
    refine (read_blockVal _ _ _ h _ _ v hv u i).trans ?_
    have key : ∀ (m : ℕ) (hS hW), m = q.val → tile (scalesAt (τ := τ) c arg23 (uS n.val q.val) (uS_inb n q.val (by omega)) M.f2) (weightsAt (τ := τ) c arg20 (uW n.val q.val) (uW_inb n q.val (by omega)) M.f5) u
        = tile (scalesAt (τ := τ) c arg23 (uS n.val m) hS M.f2) (weightsAt (τ := τ) c arg20 (uW n.val m) hW M.f5) u := by
      rintro m _ _ rfl; rfl
    exact congrArg (fun t => (_ + dotT h t i : EReal)) (key _ _ _ (Nat.add_sub_cancel_left ..))
  · rw [if_neg hp, add_zero]
    exact congrFun (read_blockVal_ne _ p ⟨12 + q.val, by omega⟩ h _ _ v u hp) i

/-- Of fourteen terms, one for each pair, only a pair's own is added. -/
theorem one_of_fourteen (X : Fin 14 → EReal) (e : EReal) (p : Fin 14) :
    e + (if p = 0 then X 0 else 0) + (if p = 1 then X 1 else 0) + (if p = 2 then X 2 else 0) + (if p = 3 then X 3 else 0) + (if p = 4 then X 4 else 0)
      + (if p = 5 then X 5 else 0) + (if p = 6 then X 6 else 0) + (if p = 7 then X 7 else 0) + (if p = 8 then X 8 else 0) + (if p = 9 then X 9 else 0)
      + (if p = 10 then X 10 else 0) + (if p = 11 then X 11 else 0) + (if p = 12 then X 12 else 0) + (if p = 13 then X 13 else 0) = e + X p := by
  fin_cases p <;> simp

theorem read_step (h : FVec Ideal T64x256 .bf16) (v : Mxu Ideal) (hv : Empty v) (u : Fin 2) (p : Fin 14) (i : T64x256.Idx) :
    (step c M n h v).read u (16 * p.val) (fits p) i = (v.read u (16 * p.val) (fits p) i + dotT h (tileOf c M n p u) i : EReal) := by
  have e0 := qStep_empty (c := c) (M := M) (n := n) (h := h) (q := 0) hv
  have e1 := qStep_empty (c := c) (M := M) (n := n) (h := h) (q := 1) e0
  have e2 := qStep_empty (c := c) (M := M) (n := n) (h := h) (q := 2) e1
  have e3 := qStep_empty (c := c) (M := M) (n := n) (h := h) (q := 3) e2
  have e4 := qStep_empty (c := c) (M := M) (n := n) (h := h) (q := 4) e3
  have e5 := qStep_empty (c := c) (M := M) (n := n) (h := h) (q := 5) e4
  have e6 := qStep_empty (c := c) (M := M) (n := n) (h := h) (q := 6) e5
  have e7 := qStep_empty (c := c) (M := M) (n := n) (h := h) (q := 7) e6
  have e8 := qStep_empty (c := c) (M := M) (n := n) (h := h) (q := 8) e7
  have e9 := qStep_empty (c := c) (M := M) (n := n) (h := h) (q := 9) e8
  have e10 := kStep_empty (c := c) (M := M) (n := n) (h := h) (q := 0) e9
  have e11 := kStep_empty (c := c) (M := M) (n := n) (h := h) (q := 1) e10
  have e12 := vStep_empty (c := c) (M := M) (n := n) (h := h) (q := 0) e11
  unfold step
  rw [read_v _ _ _ e12, read_v _ _ _ e11, read_k _ _ _ e10, read_k _ _ _ e9, read_q _ _ _ e8, read_q _ _ _ e7, read_q _ _ _ e6, read_q _ _ _ e5,
    read_q _ _ _ e4, read_q _ _ _ e3, read_q _ _ _ e2, read_q _ _ _ e1, read_q _ _ _ e0, read_q _ _ _ hv]
  exact one_of_fourteen (fun p' => dotT h (tileOf c M n p' u) i) _ p

variable (c M)
theorem read_stateAt (H : S40x64x128.Idx → Elt Ideal .bf16) (u : Fin 2) (p : Fin 14) (i : T64x256.Idx) (N : ℕ) :
    (stateAt c M H N).read u (16 * p.val) (fits p) i = ∑ n ∈ Finset.range N, if h : n < 20 then dotT (hAt H ⟨n, h⟩) (tileOf c M ⟨n, h⟩ p u) i else 0 := by
  induction N with
  | zero =>
    rw [Finset.sum_range_zero]
    exact Ideal.ofBits_zero_f32
  | succ N ih =>
    rw [Finset.sum_range_succ, ← ih]
    by_cases hN : N < 20
    · rw [dif_pos hN, ← read_step _ _ (empty_stateAt c M H N)]
      exact congrFun (congrArg (fun s : Mxu Ideal => s.read u (16 * p.val) (fits p)) (stateAt_succ c M H ⟨N, hN⟩)) i
    · rw [dif_neg hN, add_zero]
      have e : stateAt c M H (N + 1) = stateAt c M H N := dif_neg hN
      rw [e]

/-- An accumulator at the end: the sum over the chunks. -/
theorem acc_sum (H : S40x64x128.Idx → Elt Ideal .bf16) (u : Fin 2) (p : Fin 14) (i : T64x256.Idx) :
    accOf u p (stateAt c M H 20) i = ∑ n : Fin 20, dotT (hAt H n) (tileOf c M n p u) i := by
  rw [accOf, read_stateAt, Finset.sum_range]
  exact Finset.sum_congr rfl fun n _ => dif_pos n.isLt

end Cert.KernelIdeal.Hand

end
-- ==== Proof.Value.Tile.lean ====
/- The dequantised weights element by element: a tile pushed on a unit holds, at each row and column, the signed value of one
   four-bit field of one packed byte, times the scale of its group. -/
module

public import proofs.«01_k».proof.Proof.Value.Acc
public import Idealize.ShloMosaic.Lib.BitcastFour
public import Idealize.ShloMosaic.Lib.Pipeline.Value
public import Idealize.ShloMosaic.Lib.ValueLayout

@[expose] public section

set_option maxRecDepth 20000

noncomputable section

namespace Cert.KernelIdeal.Hand

open Cert.KernelIdeal Cert.KernelIdeal.Gen Cert.Qkv
open Idealize.ShloMosaic Idealize.ShloMosaic.TcCoe Idealize.ShloMosaic.ValueIdx

/-- The low (`0`) or high (`1`) four bits of a byte, less eight. -/
def nib (x : BitVec 8) (b : ℕ) : ℤ := (((if b = 0 then x &&& 15#8 else x >>> 4).toNat : ℕ) : ℤ) - 8

/-- Field `b` of a word, its top bit flipped, moved to the top and back with its sign. -/
def field (W : BitVec 32) (b : ℕ) : BitVec 32 := ((W ^^^ 2290649224#32) <<< (28 - 4 * b)).sshiftRight 28

theorem field_byte_eq : ∀ n : Fin 256, ∀ b : Fin 2, (field ((BitVec.ofNat 8 n.val).setWidth 32) b.val).toInt = nib (BitVec.ofNat 8 n.val) b.val := by decide +kernel

theorem field_byte (y : BitVec 8) (b : Fin 2) : (field (y.setWidth 32) b.val).toInt = nib y b.val := by
  have h := field_byte_eq ⟨y.toNat, y.isLt⟩ b
  rwa [show BitVec.ofNat 8 (⟨y.toNat, y.isLt⟩ : Fin 256).val = y from by simp] at h

theorem field_congr (W W' : BitVec 32) (b b' : ℕ) (hb : b < 8) (hb' : b' < 8)
    (h : ∀ i < 4, (W ^^^ 2290649224#32).getLsbD (4 * b + i) = (W' ^^^ 2290649224#32).getLsbD (4 * b' + i)) : field W b = field W' b' := by
  have key : ∀ (X : BitVec 32) (d i : ℕ), d < 8 → i < 32 → ((X <<< (28 - 4 * d)).sshiftRight 28).getLsbD i = X.getLsbD (4 * d + min i 3) := by
    intro X d i hd hi
    rw [BitVec.getLsbD_sshiftRight]
    by_cases h4 : i < 4
    · rw [if_pos (by omega), BitVec.getLsbD_shiftLeft]
      simp only [show ¬ 32 ≤ i by omega, show 28 + i < 32 by omega, show ¬ 28 + i < 28 - 4 * d by omega, decide_true, decide_false, Bool.not_false, Bool.true_and]
      congr 1; omega
    · rw [if_neg (by omega), BitVec.msb_eq_getLsbD_last, BitVec.getLsbD_shiftLeft]
      simp only [show ¬ 32 ≤ i by omega, show ¬ 32 - 1 < 28 - 4 * d by omega, decide_true, decide_false, Bool.not_false, Bool.true_and]
      simp only [show (32 - 1 < 32) = True by simp, decide_true, Bool.true_and]
      congr 1; omega
  refine BitVec.eq_of_getLsbD_eq fun i hi => ?_
  unfold field
  rw [key _ b i hb hi, key _ b' i hb' hi]
  exact h _ (by omega)

theorem bit88 : ∀ (k : Fin 4) (q : Fin 8), (2290649224#32).getLsbD (8 * k.val + q.val) = (2290649224#32).getLsbD q.val := by decide

/-- A field of a word read from one of its four bytes. -/
theorem field_word (W : BitVec 32) (y : BitVec 8) (b : Fin 8) (h : ∀ q < 8, W.getLsbD (8 * (b.val / 2) + q) = y.getLsbD q) :
    (field W b.val).toInt = nib y (b.val % 2) := by
  rw [field_congr W (y.setWidth 32) b.val (b.val % 2) b.isLt (by omega) fun i hi => ?_]
  · exact field_byte y ⟨b.val % 2, by omega⟩
  · have e : 4 * b.val + i = 8 * (b.val / 2) + (4 * (b.val % 2) + i) := by omega
    have h1 := bit88 ⟨b.val / 2, by omega⟩ ⟨4 * (b.val % 2) + i, by omega⟩
    have h2 := h (4 * (b.val % 2) + i) (by omega)
    simp only at h1
    rw [BitVec.getLsbD_xor, BitVec.getLsbD_xor, e, h1, h2, BitVec.getLsbD_setWidth]
    simp only [show 4 * (b.val % 2) + i < 32 by omega, decide_true, Bool.true_and]

theorem up_toNat : ∀ b : Fin 8, (28#32 - 4#32 * BitVec.ofNat 32 b.val).toNat = 28 - 4 * b.val := by decide

theorem nibbleRows_apply (w : IVec T1x32x128 8) (R : Fin 64) (l : Fin 128) :
    nibbleRows (F := Ideal) downC upC w (ix2 R l) = (((nib (w (ix3 0 ⟨R.val / 2, by omega⟩ l)) (R.val % 2) : ℤ) : ℝ) : EReal) := by
  have e0 : nibbleRows (F := Ideal) downC upC w (ix2 R l) = (((BitVec.toInt (shapeCast T64x128 (shrsi (shli (broadcastTo T8x8x128
    (shapeCast T8x1x128 (xori (bitcast T8x128 32 (shapeCast T32x128 w (by decide)) (by decide)) (broadcast T8x128 2290649224#32)) (by decide))
    (by decide)) upC) downC) (by decide) (ix2 R l)) : ℤ) : ℝ) : EReal) := rfl
  rw [e0]
  refine congrArg (fun z : ℤ => ((z : ℝ) : EReal)) ?_
  rw [shapeCast_apply _ _ (ix2 R l) (ix3 (⟨R.val / 8, by omega⟩ : Fin 8) (⟨R.val % 8, by omega⟩ : Fin 8) l) (by
    rw [Shape.rowMajor_val_two, Shape.rowMajor_val_three]; show (R.val / 8 * 8 + R.val % 8) * 128 + l.val = R.val * 128 + l.val; omega)]
  have e1 : ∀ (x y z : IVec T8x8x128 32) (j : T8x8x128.Idx), shrsi (shli x y) z j = IntOp.shrsi .vector (IntOp.shli .vector (x j) (y j)) (z j) := fun _ _ _ _ => rfl
  rw [e1]
  have e2 : ∀ (a : Fin 8) (b : Fin 8), upC (ix3 a b l) = 28#32 - 4#32 * BitVec.ofNat 32 b.val := by
    intro a b
    show 28#32 - 4#32 * BitVec.ofNat 32 (0 * 8 + b.val) = _
    rw [Nat.zero_mul, Nat.zero_add]
  have e3 : ∀ j, downC j = 28#32 := fun _ => rfl
  rw [e2, e3]
  rw [broadcastTo_apply _ _ _ (ix3 (⟨R.val / 8, by omega⟩ : Fin 8) (0 : Fin 1) l) (by
      intro a; fin_cases a <;> rfl),
    shapeCast_apply _ _ (ix3 (⟨R.val / 8, by omega⟩ : Fin 8) (0 : Fin 1) l) (ix2 (⟨R.val / 8, by omega⟩ : Fin 8) l) (by
      rw [Shape.rowMajor_val_two, Shape.rowMajor_val_three]; show R.val / 8 * 128 + l.val = (R.val / 8 * 1 + 0) * 128 + l.val; omega)]
  have hup := up_toNat ⟨R.val % 8, by omega⟩
  simp only at hup
  unfold IntOp.shrsi IntOp.shli
  rw [if_pos (by decide), if_pos (by simp only; omega)]
  have e4 : ∀ (X : BitVec 32) (y : BitVec 32) (k : ℕ), y.toNat = k → (X <<< y).sshiftRight' 28#32 = (X <<< k).sshiftRight 28 := by
    rintro X y _ rfl; rfl
  rw [e4 _ _ _ hup]
  have e5 : ∀ (x : IVec T8x128 32) (j : T8x128.Idx), xori x (broadcast T8x128 2290649224#32) j = x j ^^^ 2290649224#32 := fun _ _ => rfl
  rw [e5]
  rw [show R.val % 2 = R.val % 8 % 2 by omega]
  refine field_word _ _ ⟨R.val % 8, by omega⟩ fun q hq => ?_
  rw [bitcast_8_32_getLsbD_ix2 (R := 32) (r := 8) (n := 128) _ _ _ _ _ (by show 8 * (R.val % 8 / 2) + q < 32; omega) ⟨R.val / 2, by omega⟩ (by
    show R.val / 2 = 4 * (R.val / 8) + (8 * (R.val % 8 / 2) + q) / 8; omega)]
  rw [shapeCast_apply _ _ (ix2 (⟨R.val / 2, by omega⟩ : Fin 32) l) (ix3 (0 : Fin 1) (⟨R.val / 2, by omega⟩ : Fin 32) l) (by
      rw [Shape.rowMajor_val_two, Shape.rowMajor_val_three]; show (0 * 32 + R.val / 2) * 128 + l.val = R.val / 2 * 128 + l.val; omega)]
  congr 1
  show (8 * (R.val % 8 / 2) + q) % 8 = q
  omega

theorem piece_apply (i : Fin 4) (s : FVec Ideal T8x128 .bf16) (g : Fin 8) (w : IVec T1x32x128 8) (r : Fin 16) (l : Fin 128) :
    Cert.Qkv.piece (F := Ideal) downC upC i s g w (ix2 r l)
      = ((((nib (w (ix3 0 ⟨8 * i.val + r.val / 2, by omega⟩ l)) (r.val % 2) : ℤ) : ℝ) : EReal) * s (ix2 g l) : EReal) := by
  unfold Cert.Qkv.piece scaleRow
  have e : ∀ (x y : FVec Ideal T16x128 .bf16) (j : T16x128.Idx), mulf x y j = (x j * y j : EReal) := fun _ _ _ => rfl
  rw [e]
  refine congrArg₂ (fun a b : EReal => a * b) ?_ ?_
  · rw [extractStridedSlice_apply _ _ _ (ix2 r l) (ix2 (⟨16 * i.val + r.val, by omega⟩ : Fin 64) l) (by
      intro a; fin_cases a
      · rfl
      · exact (Nat.zero_add _).symm), nibbleRows_apply]
    simp only [show (16 * i.val + r.val) % 2 = r.val % 2 by omega, show (16 * i.val + r.val) / 2 = 8 * i.val + r.val / 2 by omega]
  · rw [broadcastTo_apply _ _ _ (ix2 (0 : Fin 1) l) (by intro a; fin_cases a <;> rfl),
      shapeCast_apply _ _ (ix2 (0 : Fin 1) l) (ix2 (0 : Fin 1) l) rfl,
      extractStridedSlice_apply _ _ _ (ix2 (0 : Fin 1) l) (ix2 g l) (by
        intro a; fin_cases a
        · rfl
        · exact (Nat.zero_add _).symm)]

theorem column_apply (i : Fin 4) (s : FVec Ideal T8x128 .bf16) (w : Fin 16 → IVec T1x32x128 8) (r : Fin 256) (l : Fin 128) :
    column (F := Ideal) downC upC i s w (ix2 r l)
      = ((((nib (w ⟨r.val / 16, by omega⟩ (ix3 0 ⟨8 * i.val + r.val % 16 / 2, by omega⟩ l)) (r.val % 2) : ℤ) : ℝ) : EReal) * s (ix2 ⟨r.val / 32, by omega⟩ l) : EReal) := by
  unfold column
  rw [concatenate_ofFn_apply (t := T256x128) (s₁ := T16x128) 0 (fun n => Cert.Qkv.piece (F := Ideal) downC upC i s (grp n) (w n)) _ rfl 16 rfl (ix2 r l)
    ⟨r.val / 16, by omega⟩ rfl (ix2 (⟨r.val % 16, by omega⟩ : Fin 16) l) rfl (by
      intro b hb; fin_cases b
      · exact absurd rfl hb
      · rfl), piece_apply]
  simp only [grp, show r.val / 16 / 2 = r.val / 32 by omega, show r.val % 16 % 2 = r.val % 2 by omega]

theorem tile_apply (s : Fin 4 → FVec Ideal T8x128 .bf16) (w : Fin 16 → IVec T1x32x128 8) (u : Fin 2) (r col : Fin 256) :
    tile s w u (ix2 r col)
      = ((((nib (w ⟨r.val / 16, by omega⟩ (ix3 0 ⟨8 * (2 * u.val + col.val / 128) + r.val % 16 / 2, by omega⟩ ⟨col.val % 128, by omega⟩)) (r.val % 2) : ℤ) : ℝ) : EReal)
          * s ⟨2 * u.val + col.val / 128, by omega⟩ (ix2 ⟨r.val / 32, by omega⟩ ⟨col.val % 128, by omega⟩) : EReal) := by
  have hI : 2 * u.val + col.val / 128 < 4 := by omega
  generalize hX : (_ * _ : EReal) = X
  have key : ∀ (i i' : Fin 4) (hi : i.val = 2 * u.val) (hi' : i'.val = 2 * u.val + 1), rhs (F := Ideal) downC upC i i' (s i) (s i') w (ix2 r col) = X := by
    intro i i' hi hi'
    rw [← hX]
    unfold rhs
    by_cases hc : col.val < 128
    · rw [concatenate_pair_apply_left (t := T256x256) (s₁ := T256x128) (s₂ := T256x128) 1 _ _ _ (ix2 r col) rfl (ix2 r (⟨col.val, hc⟩ : Fin 128)) (by intro b; fin_cases b <;> rfl), column_apply]
      have e : i = ⟨2 * u.val + col.val / 128, hI⟩ := Fin.ext (by show i.val = 2 * u.val + col.val / 128; omega)
      subst e
      simp only [show col.val % 128 = col.val by omega]
    · rw [concatenate_pair_apply_right (t := T256x256) (s₁ := T256x128) (s₂ := T256x128) 1 _ _ _ (ix2 r col) rfl rfl (ix2 r (⟨col.val % 128, by omega⟩ : Fin 128)) (by
        intro b hb; fin_cases b
        · rfl
        · exact absurd rfl hb) (by show col.val % 128 + 128 = col.val; omega), column_apply]
      have e : i' = ⟨2 * u.val + col.val / 128, hI⟩ := Fin.ext (by show i'.val = 2 * u.val + col.val / 128; omega)
      subst e
      rfl
  fin_cases u
  · exact key 0 1 rfl rfl
  · exact key 2 3 rfl rfl

/-- A packed byte as the kernel's four-axis copy lays it out, and its scale: element `r`, `col` of the tile of pair `q` of an array. -/
theorem tile_read {nw ns : ℕ} (c : Dev nD) (ms : Memref sig .tc .vmem ⟨2, ![160, ns]⟩ .bf16) (mw : Memref sig .tc .vmem ⟨3, ![320, nw, 128]⟩ .i8)
    (n : Fin 20) (q : ℕ) (hqs : 512 * q + 512 ≤ ns) (hqw : 32 * q + 32 ≤ nw) (fs : Buf (Elt Ideal) (ms.view.loc (c : Thread nD τ))) (fw : Buf (Elt Ideal) (mw.view.loc (c : Thread nD τ)))
    (S : (⟨2, ![160, ns]⟩ : Shape).Idx → EReal) (W : (⟨3, ![320, nw, 128]⟩ : Shape).Idx → BitVec 8)
    (hS : ∀ (off) (hoff) (i : T8x128.Idx), ms.view.readAt (Elt Ideal) (Rect.unit (s := ⟨2, ![160, ns]⟩) off T8x128.size hoff).toLoadRect fs i = S ((Rect.unit (s := ⟨2, ![160, ns]⟩) off T8x128.size hoff).emb i))
    (hW : ∀ (off) (hoff) (i : T1x32x128.Idx), mw.view.readAt (Elt Ideal) (Rect.unit (s := ⟨3, ![320, nw, 128]⟩) off T1x32x128.size hoff).toLoadRect fw i = W ((Rect.unit (s := ⟨3, ![320, nw, 128]⟩) off T1x32x128.size hoff).emb i))
    (u : Fin 2) (r col : Fin 256) :
    tile (scalesAt (τ := τ) c ms (uS n.val q) (uS_inb n q hqs) fs) (weightsAt (τ := τ) c mw (uW n.val q) (uW_inb n q hqw) fw) u (ix2 r col)
      = ((((nib (W (ix3 ⟨16 * n.val + r.val / 16, by omega⟩ ⟨32 * q + (8 * (2 * u.val + col.val / 128) + r.val % 16 / 2), by omega⟩ ⟨col.val % 128, by omega⟩)) (r.val % 2) : ℤ) : ℝ) : EReal)
          * S (ix2 ⟨8 * n.val + r.val / 32, by omega⟩ ⟨512 * q + (256 * u.val + col.val), by omega⟩) : EReal) := by
  rw [tile_apply]
  congr 1
  · congr 4
    unfold weightsAt
    rw [hW]
    refine congrArg W (funext fun a => Fin.ext ?_)
    have h1 := toNat_row ⟨r.val / 16 / 2, by omega⟩
    have h2 := toNat_half ⟨r.val / 16 % 2, by omega⟩
    simp only at h1 h2
    fin_cases a
    · show 16 * n.val + (BitVec.ofNat 32 (2 * (r.val / 16 / 2))).toNat + (BitVec.ofNat 32 (r.val / 16 % 2)).toNat + 1 * 0 = 16 * n.val + r.val / 16
      rw [h1, h2]; omega
    · show 32 * q + 1 * (8 * (2 * u.val + col.val / 128) + r.val % 16 / 2) = _
      rw [Nat.one_mul]
    · show 0 + 1 * (col.val % 128) = col.val % 128
      omega
  · unfold scalesAt
    rw [hS]
    refine congrArg S (funext fun a => Fin.ext ?_)
    fin_cases a
    · show 8 * n.val + 1 * (r.val / 32) = 8 * n.val + r.val / 32
      omega
    · show 512 * q + 128 * (2 * u.val + col.val / 128) + 1 * (col.val % 128) = 512 * q + (256 * u.val + col.val)
      omega

end Cert.KernelIdeal.Hand
-- ==== Proof.Value.Sum.lean ====
/- Re-indexing of sums: the chunks, tiles and halves of groups in which the 5120 features are taken. -/
module

public import Mathlib.Algebra.BigOperators.Group.Finset.Basic
public import Mathlib.Algebra.BigOperators.Fin
public import Mathlib.Data.Fintype.BigOperators
public import Mathlib.Data.EReal.Basic

@[expose] public section

namespace Cert.Qkv

/-- The lane of a tile of 128 that lane `l` of the permuted tile was. -/
def permLane (l : ℕ) : ℕ := 32 * (l / 32) + (16 * (l % 2) + 8 * (l % 32 / 16) + l % 16 / 2)

theorem permLane_lt {l : ℕ} (h : l < 128) : permLane l < 128 := by unfold permLane; omega

/-- The feature at row `r` of chunk `n`. -/
def feature (n : Fin 20) (r : Fin 256) : Fin 5120 :=
  ⟨256 * n.val + (32 * (r.val / 32) + (16 * (r.val % 2) + 8 * (r.val % 32 / 16) + r.val % 16 / 2)), by omega⟩

variable {M : Type} [AddCommMonoid M]

theorem sum_chunks (f : Fin 5120 → M) : ∑ n : Fin 20, ∑ r : Fin 256, f (feature n r) = ∑ d, f d := by
  have hb : Function.Bijective (fun p : Fin 20 × Fin 256 => feature p.1 p.2) := by
    rw [Fintype.bijective_iff_injective_and_card]
    refine ⟨?_, by simp⟩
    rintro ⟨n, r⟩ ⟨n', r'⟩ h
    have h' : (feature n r).val = (feature n' r').val := congrArg Fin.val h
    have key : ∀ (n : Fin 20) (r : Fin 256), ∃ g a s b : ℕ, g < 8 ∧ a < 2 ∧ s < 8 ∧ b < 2 ∧ r.val = 32 * g + 16 * a + 2 * s + b
        ∧ (feature n r).val = 256 * n.val + 32 * g + 16 * b + 8 * a + s := fun n r =>
      ⟨r.val / 32, r.val % 32 / 16, r.val % 16 / 2, r.val % 2, by omega, by omega, by omega, by omega, by omega, by unfold feature; dsimp only; omega⟩
    obtain ⟨g, a, s, b, hg, ha, hs, hb, hr, hf⟩ := key n r
    obtain ⟨g', a', s', b', hg', ha', hs', hb', hr', hf'⟩ := key n' r'
    have e : 256 * n.val + 32 * g + 16 * b + 8 * a + s = 256 * n'.val + 32 * g' + 16 * b' + 8 * a' + s' := by rw [← hf, ← hf', h']
    clear h h' hf hf' key
    have hn : n.val = n'.val := by omega
    rw [hn] at e
    have e1 : 32 * g + (16 * b + 8 * a + s) = 32 * g' + (16 * b' + 8 * a' + s') := by omega
    have hgg : g = g' := by omega
    have e2 : 16 * b + (8 * a + s) = 16 * b' + (8 * a' + s') := by omega
    have hbb : b = b' := by omega
    have e3 : 8 * a + s = 8 * a' + s' := by omega
    have haa : a = a' := by omega
    have hss : s = s' := by omega
    have hr : r.val = r'.val := by rw [hr, hr', hgg, hbb, haa, hss]
    exact Prod.ext (Fin.ext hn) (Fin.ext hr)
  rw [← hb.sum_comp f, Fintype.sum_prod_type]

theorem sum_tiles (f : Fin 5120 → M) : ∑ l : Fin 128, ∑ t : Fin 40, f ⟨128 * t.val + l.val, by omega⟩ = ∑ d, f d := by
  have hb : Function.Bijective (fun p : Fin 128 × Fin 40 => (⟨128 * p.2.val + p.1.val, by omega⟩ : Fin 5120)) := by
    rw [Fintype.bijective_iff_injective_and_card]
    refine ⟨?_, by simp⟩
    rintro ⟨n, r⟩ ⟨n', r'⟩ h
    have h' := congrArg Fin.val h
    simp only at h'
    exact Prod.ext (Fin.ext (show n.val = n'.val by omega)) (Fin.ext (show r.val = r'.val by omega))
  rw [← hb.sum_comp f, Fintype.sum_prod_type]

theorem sum_halves (f : Fin 5120 → M) :
    ∑ g : Fin 160, ∑ j : Fin 16, f ⟨32 * g.val + j.val, by omega⟩ + ∑ g : Fin 160, ∑ j : Fin 16, f ⟨32 * g.val + (16 + j.val), by omega⟩ = ∑ d, f d := by
  have hb : Function.Bijective (fun p : Fin 160 × Fin 16 × Fin 2 => (⟨32 * p.1.val + (16 * p.2.2.val + p.2.1.val), by omega⟩ : Fin 5120)) := by
    rw [Fintype.bijective_iff_injective_and_card]
    refine ⟨?_, by simp⟩
    rintro ⟨n, r, b⟩ ⟨n', r', b'⟩ h
    have h' := congrArg Fin.val h
    simp only at h'
    exact Prod.ext (Fin.ext (show n.val = n'.val by omega)) (Prod.ext (Fin.ext (show r.val = r'.val by omega)) (Fin.ext (show b.val = b'.val by omega)))
  rw [← hb.sum_comp f, Fintype.sum_prod_type, ← Finset.sum_add_distrib]
  refine Finset.sum_congr rfl fun g _ => ?_
  rw [Fintype.sum_prod_type, ← Finset.sum_add_distrib]
  refine Finset.sum_congr rfl fun j _ => ?_
  rw [Fin.sum_univ_two]
  refine congrArg₂ (· + ·) (congrArg f (Fin.ext ?_)) (congrArg f (Fin.ext ?_))
  · show 32 * g.val + j.val = 32 * g.val + (16 * 0 + j.val); omega
  · show 32 * g.val + (16 + j.val) = 32 * g.val + (16 * 1 + j.val); omega

end Cert.Qkv
-- ==== Proof.Value.Perm.lean ====
/- The permutation of the lanes, in closed form. -/
module

public import proofs.«01_k».proof.Proof.Value.Tile
public import proofs.«01_k».proof.Proof.Value.Sum

@[expose] public section

set_option maxRecDepth 20000

noncomputable section

namespace Cert.KernelIdeal.Hand

open Cert.KernelIdeal Cert.KernelIdeal.Gen Cert.Qkv
open Idealize.ShloMosaic Idealize.ShloMosaic.TcCoe Idealize.ShloMosaic.ValueIdx

/-- The divisor of a remainder, one where it would be zero. -/
def divisor (c : BitVec 32) : BitVec 32 := Scalar.select (Scalar.cmpi .eq c 0#32) 1#32 c

/-- The remainder with the divisor's sign, and the quotient rounded down, lane by lane. -/
def remV (c : BitVec 32) (x : IVec S64x128 32) : IVec S64x128 32 :=
  select (andi (xori (cmpi .slt (remsi x (broadcast S64x128 (divisor c))) (broadcast S64x128 0#32))
      (broadcastTo S64x128 (broadcast S64x128 (Scalar.cmpi .slt (divisor c) 0#32)) broadcasts_S64x128_S64x128))
    (cmpi .ne (remsi x (broadcast S64x128 (divisor c))) (broadcast S64x128 0#32)))
    (addi (remsi x (broadcast S64x128 (divisor c))) (broadcast S64x128 (divisor c))) (remsi x (broadcast S64x128 (divisor c)))

@[inherit_doc remV]
def divV (c : BitVec 32) (x : IVec S64x128 32) : IVec S64x128 32 :=
  select (andi (cmpi .ne (subi (extui 32 (cmpi .sgt x (broadcast S64x128 0#32)) natLt_1_32) (extui 32 (cmpi .slt x (broadcast S64x128 0#32)) natLt_1_32))
      (broadcast S64x128 (Scalar.subi (Scalar.extui (Scalar.cmpi .sgt c 0#32)) (Scalar.extui (Scalar.cmpi .slt c 0#32)))))
    (cmpi .ne (remsi x (broadcast S64x128 c)) (broadcast S64x128 0#32)))
    (subi (divsi x (broadcast S64x128 c)) (broadcast S64x128 1#32)) (divsi x (broadcast S64x128 c))

/-- The same of one number. -/
def remS (c x : BitVec 32) : BitVec 32 :=
  Scalar.select (IntOp.andi (IntOp.xori (IntOp.cmpi .slt (IntOp.remsi .vector x (divisor c)) 0#32) (IntOp.cmpi .slt (divisor c) 0#32))
    (IntOp.cmpi .ne (IntOp.remsi .vector x (divisor c)) 0#32)) (IntOp.addi (IntOp.remsi .vector x (divisor c)) (divisor c)) (IntOp.remsi .vector x (divisor c))

@[inherit_doc remS]
def divS (c x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt c 0#32)) (Scalar.extui (Scalar.cmpi .slt c 0#32))))
    (IntOp.cmpi .ne (IntOp.remsi .vector x c) 0#32)) (IntOp.subi (IntOp.divsi .vector x c) 1#32) (IntOp.divsi .vector x c)

theorem remV_apply (c : BitVec 32) (x : IVec S64x128 32) (j : S64x128.Idx) : remV c x j = remS c (x j) := rfl
theorem divV_apply (c : BitVec 32) (x : IVec S64x128 32) (j : S64x128.Idx) : divV c x j = divS c (x j) := rfl

theorem rem32 : ∀ l : Fin 128, remS 32#32 (BitVec.ofNat 32 l.val) = BitVec.ofNat 32 (l.val % 32) := by decide +kernel
theorem rem2 : ∀ l : Fin 32, remS 2#32 (BitVec.ofNat 32 l.val) = BitVec.ofNat 32 (l.val % 2) := by decide +kernel
theorem rem16 : ∀ l : Fin 32, remS 16#32 (BitVec.ofNat 32 l.val) = BitVec.ofNat 32 (l.val % 16) := by decide +kernel
theorem div16 : ∀ l : Fin 32, divS 16#32 (BitVec.ofNat 32 l.val) = BitVec.ofNat 32 (l.val / 16) := by decide +kernel
theorem div2 : ∀ l : Fin 32, divS 2#32 (BitVec.ofNat 32 l.val) = BitVec.ofNat 32 (l.val / 2) := by decide +kernel

theorem perm_eq : perm = addi (addi (addi (subi lanes (remV 32#32 lanes)) (muli (broadcast S64x128 16#32) (remV 2#32 (remV 32#32 lanes))))
    (muli (broadcast S64x128 8#32) (divV 16#32 (remV 32#32 lanes)))) (divV 2#32 (remV 16#32 (remV 32#32 lanes))) := rfl

theorem terms : ∀ l : Fin 128, BitVec.ofNat 32 l.val - BitVec.ofNat 32 (l.val % 32) + 16#32 * BitVec.ofNat 32 (l.val % 32 % 2) + 8#32 * BitVec.ofNat 32 (l.val % 32 / 16)
    + BitVec.ofNat 32 (l.val % 32 % 16 / 2) = BitVec.ofNat 32 (permLane l.val) := by decide +kernel

theorem perm_at (r : Fin 64) (l : Fin 128) : perm (ix2 r l) = BitVec.ofNat 32 (permLane l.val) := by
  have hl : lanes (ix2 r l) = BitVec.ofNat 32 l.val := by
    show BitVec.ofNat 32 (0 * 128 + l.val) = _
    rw [Nat.zero_mul, Nat.zero_add]
  have h32 : remV 32#32 lanes (ix2 r l) = BitVec.ofNat 32 (l.val % 32) := by rw [remV_apply, hl]; exact rem32 l
  have h2 : remV 2#32 (remV 32#32 lanes) (ix2 r l) = BitVec.ofNat 32 (l.val % 32 % 2) := by rw [remV_apply, h32]; exact rem2 ⟨l.val % 32, by omega⟩
  have h16 : remV 16#32 (remV 32#32 lanes) (ix2 r l) = BitVec.ofNat 32 (l.val % 32 % 16) := by rw [remV_apply, h32]; exact rem16 ⟨l.val % 32, by omega⟩
  have hd : divV 16#32 (remV 32#32 lanes) (ix2 r l) = BitVec.ofNat 32 (l.val % 32 / 16) := by rw [divV_apply, h32]; exact div16 ⟨l.val % 32, by omega⟩
  have hd2 : divV 2#32 (remV 16#32 (remV 32#32 lanes)) (ix2 r l) = BitVec.ofNat 32 (l.val % 32 % 16 / 2) := by
    rw [divV_apply, h16]; exact div2 ⟨l.val % 32 % 16, by omega⟩
  have e : ∀ a b c d f : IVec S64x128 32, addi (addi (addi (subi a b) (muli (broadcast S64x128 16#32) c)) (muli (broadcast S64x128 8#32) d)) f (ix2 r l)
      = a (ix2 r l) - b (ix2 r l) + 16#32 * c (ix2 r l) + 8#32 * d (ix2 r l) + f (ix2 r l) := fun _ _ _ _ _ => rfl
  rw [perm_eq, e, hl, h32, h2, hd, hd2]
  exact terms l

theorem wrap : ∀ l : Fin 128, (Scalar.select (IntOp.cmpi .slt (BitVec.ofNat 32 l.val) 0#32) (IntOp.addi (BitVec.ofNat 32 l.val) 128#32) (BitVec.ofNat 32 l.val)).toNat = l.val := by
  decide +kernel

/-- The lane gathered from. -/
theorem perm_apply (r : Fin 64) (l : Fin 128) : (idxOf perm (ix2 r l)).toNat = permLane l.val := by
  have e : ∀ p : IVec S64x128 32, idxOf p (ix2 r l) = Scalar.select (IntOp.cmpi .slt (p (ix2 r l)) 0#32) (IntOp.addi (p (ix2 r l)) 128#32) (p (ix2 r l)) := fun _ => rfl
  rw [e, perm_at]
  exact wrap ⟨permLane l.val, permLane_lt l.isLt⟩

end Cert.KernelIdeal.Hand
-- ==== Proof.Value.Acts.lean ====
/- The activations element by element: the normalised inputs, with the features of a chunk in the order in which the weights'
   four-bit fields unpack. -/
module

public import proofs.«01_k».proof.Proof.Value.Tile
public import proofs.«01_k».proof.Proof.Value.Perm
public import Idealize.ShloMosaic.Lib.IdealHost

@[expose] public section

set_option maxRecDepth 20000

noncomputable section

namespace Cert.KernelIdeal.Hand

open Cert.KernelIdeal Cert.KernelIdeal.Gen Cert.Qkv
open Idealize.ShloMosaic Idealize.ShloMosaic.TcCoe Idealize.ShloMosaic.ValueIdx

/-- A row's inverse norm, from the row. -/
def invOf (x : Fin 5120 → EReal) : EReal :=
  Ideal.rsqrt (Ideal.div (∑ d, x d * x d) (Ideal.ofBits .f32 0x45A00000#32) + Ideal.ofBits .f32 0x358637BD#32)

/-- A row's element, normalised. -/
def normed (x w : Fin 5120 → EReal) (d : Fin 5120) : EReal := x d * invOf x * w d

variable (X : S64x5120.Idx → Elt Ideal .bf16) (N : S40x128.Idx → Elt Ideal .bf16)

/-- A row of the inputs. -/
abbrev rowOf (t : Fin 64) : Fin 5120 → EReal := fun d => X (ix2 t d)
/-- The norm's weights in one row. -/
abbrev weightOf : Fin 5120 → EReal := fun d => N (ix2 ⟨d.val / 128, by omega⟩ ⟨d.val % 128, by omega⟩)

theorem readX (t : Fin 40) (r : Fin 64) (l : Fin 128) :
    arg13.view.readAt (Elt Ideal) (rX t).toLoadRect X (ix2 r l) = X (ix2 r ⟨128 * t.val + l.val, by omega⟩) := by
  refine congrArg X (funext fun a => Fin.ext ?_)
  fin_cases a
  · show 0 + 1 * r.val = r.val; omega
  · show 128 * t.val + 1 * l.val = _; rw [Nat.one_mul]

theorem readN (N : S40x128.Idx → Elt Ideal .f32) (t : Fin 40) (l : Fin 128) :
    arg15.view.readAt (Elt Ideal) (rN t).toLoadRect N (ix2 0 l) = N (ix2 t l) := by
  refine congrArg N (funext fun a => Fin.ext ?_)
  fin_cases a
  · show t.val + 1 * 0 = t.val; omega
  · show 0 + 1 * l.val = l.val; omega

theorem zero16 : Ideal.ofBits .bf16 0 = 0 := Ideal.ofBits_zero_bf16

theorem squares_apply (r : Fin 64) (l : Fin 128) (n : ℕ) :
    squares X n (ix2 r l) = (∑ k ∈ Finset.range n, if h : k < 40 then X (ix2 r ⟨128 * k + l.val, by omega⟩) * X (ix2 r ⟨128 * k + l.val, by omega⟩) else 0 : EReal) := by
  induction n with
  | zero =>
    show Ideal.ofBits .f32 0 = _
    rw [Finset.sum_range_zero]; exact Ideal.ofBits_zero_f32
  | succ n ih =>
    rw [Finset.sum_range_succ, ← ih]
    have e : ∀ (s : FVec Ideal S64x128 .f32) (x : Vec Ideal S64x128 .bf16) (j : S64x128.Idx), addSquares s x j = (s j + x j * x j : EReal) := fun _ _ _ => rfl
    show addSquares _ _ _ = _
    rw [e]
    by_cases h : n < 40
    · rw [dif_pos h, dif_pos h, readX]
    · rw [dif_neg h, dif_neg h]
      have z : (FloatOps.ofBits .bf16 0 : Ideal .bf16) = (0 : EReal) := by
        show Ideal.ofBits .bf16 0 = 0
        exact zero16
      simp only [z, mul_zero]

theorem invNorm_apply (r : Fin 64) (l : Fin 128) : invNorm (squares X 40) (ix2 r l) = invOf (rowOf X r) := by
  have hs : (∑ k : Fin 128, squares X 40 (ix2 r k) : EReal) = ∑ d, rowOf X r d * rowOf X r d := by
    rw [← sum_tiles]
    refine Finset.sum_congr rfl fun k _ => ?_
    rw [squares_apply, Finset.sum_range]
    refine Finset.sum_congr rfl fun t _ => ?_
    rw [dif_pos t.isLt]
  unfold invNorm invOf
  rw [← hs]
  generalize squares X 40 = s
  have e : ∀ (a b d : FVec Ideal S64x1 .f32) (j : S64x1.Idx), rsqrt (addf (divf a b) d) j = Ideal.rsqrt (Ideal.div (a j) (b j) + d j) := fun _ _ _ _ => rfl
  rw [broadcastTo_apply _ _ (ix2 r l) (ix2 r (0 : Fin 1)) (by intro a; fin_cases a <;> rfl), shapeCast_apply _ _ (ix2 r (0 : Fin 1)) (ix2 r (0 : Fin 1)) rfl, e,
    shapeCast_apply _ _ (ix2 r (0 : Fin 1)) (ix1 r) (by
      rw [Shape.rowMajor_val_two, Shape.rowMajor_val_one]; show r.val = r.val * 1 + 0; omega)]
  have e2 : multiReduction .add [1] S64 s 0x00000000#32 reduces_S64x128_S64 (.inl rfl) rfl (ix1 r) = (∑ k : Fin 128, s (ix2 r k) : EReal) := by
    refine (Ideal.multiReduction_add_single (a := 1) s _ reduces_S64x128_S64 _ _ (ix1 r)).trans ?_
    refine Finset.sum_congr rfl fun k _ => congrArg s (funext fun a => ?_)
    fin_cases a <;> rfl
  rw [e2]
  rfl

theorem tileVal_apply (v : FVec Ideal S64x128 .f32) (ix : IVec S64x128 32) (r : Fin 64) (l k : Fin 128) (hk : (ix (ix2 r l)).toNat = k.val) :
    tileVal v ix (ix3 0 r l) = v (ix2 r k) := by
  have e := shapeCast_apply (truncf .bf16 (dynamicGather 1 v (shapeCast S64x128 (shapeCast S64x128x1 ix shapeCasts_S64x128_S64x128x1) shapeCasts_S64x128x1_S64x128)) bitsLt_bf16_f32)
    shapeCasts_S64x128_S1x64x128 (ix3 0 r l) (ix2 r l) (by
      rw [Shape.rowMajor_val_two, Shape.rowMajor_val_three]; show r.val * 128 + l.val = (0 * 64 + r.val) * 128 + l.val; omega)
  refine e.trans ?_
  have e1 : shapeCast S64x128 (shapeCast S64x128x1 ix shapeCasts_S64x128_S64x128x1) shapeCasts_S64x128x1_S64x128 (ix2 r l) = ix (ix2 r l) := by
    rw [shapeCast_apply _ _ (ix2 r l) (ix3 r l 0) (by
        rw [Shape.rowMajor_val_two, Shape.rowMajor_val_three]; show (r.val * 128 + l.val) * 1 + 0 = r.val * 128 + l.val; omega),
      shapeCast_apply _ _ (ix3 r l 0) (ix2 r l) (by
        rw [Shape.rowMajor_val_two, Shape.rowMajor_val_three]; show r.val * 128 + l.val = (r.val * 128 + l.val) * 1 + 0; omega)]
  generalize shapeCast S64x128 (shapeCast S64x128x1 ix shapeCasts_S64x128_S64x128x1) shapeCasts_S64x128x1_S64x128 = y at e1 ⊢
  show v _ = _
  refine congrArg v (funext fun a => Fin.ext ?_)
  fin_cases a
  · rfl
  · show (y (ix2 r l)).toNat % 128 = k.val
    rw [e1, hk]
    exact Nat.mod_eq_of_lt k.isLt

theorem scaled_apply (R : FVec Ideal S64x128 .f32) (x : Vec Ideal S64x128 .bf16) (n : Vec Ideal S1x128 .f32) (r : Fin 64) (k : Fin 128) :
    scaled R x n (ix2 r k) = (x (ix2 r k) * R (ix2 r k) * n (ix2 0 k) : EReal) := by
  have e : ∀ (a b d : FVec Ideal S64x128 .f32) (j : S64x128.Idx), mulf (mulf a b) d j = (a j * b j * d j : EReal) := fun _ _ _ _ => rfl
  unfold scaled
  rw [e, broadcastTo_apply n _ (ix2 r k) (ix2 0 k) (by intro a; fin_cases a <;> rfl)]
  rfl

theorem hFun_apply (W : S40x128.Idx → Elt Ideal .f32) (R : FVec Ideal S64x128 .f32) (p : IVec S64x128 32) (t : Fin 40) (r : Fin 64) (l k : Fin 128)
    (hk : (idxOf p (ix2 r l)).toNat = k.val) :
    hFun X W R p (ix3 t r l) = (X (ix2 r ⟨128 * t.val + k.val, by omega⟩) * R (ix2 r k) * W (ix2 t k) : EReal) := by
  have e2 : hFun X W R p (ix3 t r l) = tileVal (scaledAt X W R t) (idxOf p) (ix3 0 r l) := by
    generalize hq : idxOf p = q at hk
    unfold hFun
    rw [hq]
    refine congrArg (tileVal (scaledAt X W R t) q) (funext fun a => ?_)
    fin_cases a <;> rfl
  rw [e2, tileVal_apply _ _ _ _ k hk]
  unfold scaledAt
  rw [scaled_apply, readX, readN]

theorem acts_apply (t : Fin 40) (r : Fin 64) (l : Fin 128) :
    acts X N (ix3 t r l) = normed (rowOf X r) (weightOf N) ⟨128 * t.val + permLane l.val, by have := permLane_lt l.isLt; omega⟩ := by
  have hp := permLane_lt l.isLt
  unfold acts
  rw [hFun_apply X (wide N) _ perm t r l ⟨permLane l.val, hp⟩ (perm_apply r l), invNorm_apply]
  unfold normed
  refine congrArg (fun w : EReal => (X (ix2 r ⟨128 * t.val + permLane l.val, by omega⟩) * invOf (rowOf X r) * w : EReal)) ?_
  show N _ = N _
  refine congrArg N (funext fun a => Fin.ext ?_)
  fin_cases a
  · show t.val = (128 * t.val + permLane l.val) / 128; omega
  · show permLane l.val = (128 * t.val + permLane l.val) % 128; omega

theorem chunk_left (v w : Vec Ideal S1x64x128 .bf16) (t : Fin 64) (r : Fin 256) (hr : r.val < 128) : hChunk v w (ix2 t r) = v (ix3 0 t ⟨r.val, hr⟩) := by
  refine (concatenate_pair_apply_left (t := S64x256) (s₁ := S64x128) (s₂ := S64x128) 1 _ _ _ (ix2 t r) rfl (ix2 t (⟨r.val, hr⟩ : Fin 128)) (by intro b; fin_cases b <;> rfl)).trans ?_
  exact shapeCast_apply _ _ _ _ (by
      rw [Shape.rowMajor_val_two, Shape.rowMajor_val_three]; show (0 * 64 + t.val) * 128 + r.val = t.val * 128 + r.val; omega)

theorem chunk_right (v w : Vec Ideal S1x64x128 .bf16) (t : Fin 64) (r : Fin 256) (hr : ¬ r.val < 128) :
    hChunk v w (ix2 t r) = w (ix3 0 t ⟨r.val - 128, by omega⟩) := by
  refine (concatenate_pair_apply_right (t := S64x256) (s₁ := S64x128) (s₂ := S64x128) 1 _ _ _ (ix2 t r) rfl rfl (ix2 t (⟨r.val - 128, by omega⟩ : Fin 128)) (by
        intro b hb; fin_cases b
        · rfl
        · exact absurd rfl hb) (by show r.val - 128 + 128 = r.val; omega)).trans ?_
  exact shapeCast_apply _ _ _ _ (by
      rw [Shape.rowMajor_val_two, Shape.rowMajor_val_three]; show (0 * 64 + t.val) * 128 + (r.val - 128) = t.val * 128 + (r.val - 128); omega)

theorem readH (H : S40x64x128.Idx → Elt Ideal .bf16) (o : Fin 3 → ℕ) (ho) (k : Fin 40) (e : o = ![k.val, 0, 0]) (t : Fin 64) (l : Fin 128) :
    arg24.view.readAt (Elt Ideal) (Rect.unit (s := S40x64x128) o S1x64x128.size ho).toLoadRect H (ix3 0 t l) = H (ix3 k t l) := by
  subst e
  refine congrArg H (funext fun a => Fin.ext ?_)
  fin_cases a
  · show k.val + 1 * 0 = k.val; omega
  · show 0 + 1 * t.val = t.val; omega
  · show 0 + 1 * l.val = l.val; omega

theorem feature_left (n : Fin 20) (r : Fin 256) : (feature n r).val = 128 * (2 * n.val) + permLane r.val := by
  show 256 * n.val + permLane r.val = _
  generalize permLane r.val = p
  omega

theorem feature_right (n : Fin 20) (r : Fin 256) (hr : ¬ r.val < 128) : (feature n r).val = 128 * (2 * n.val + 1) + permLane (r.val - 128) := by
  show 256 * n.val + permLane r.val = _
  obtain ⟨q, hq⟩ : ∃ q, r.val = 128 + q := ⟨r.val - 128, by omega⟩
  rw [hq, Nat.add_sub_cancel_left]
  have : permLane (128 + q) = 128 + permLane q := by
    unfold permLane
    rw [show (128 + q) / 32 = 4 + q / 32 by omega, show (128 + q) % 2 = q % 2 by omega, show (128 + q) % 32 = q % 32 by omega, show (128 + q) % 16 = q % 16 by omega]
    ring
  rw [this]
  generalize permLane q = p
  omega

theorem off_left (n : Fin 20) : k0_off17 (at3 n) 0#32 = ![(⟨2 * n.val, by omega⟩ : Fin 40).val, 0, 0] := k0_off17_eq (at3 n) 0
theorem off_right (n : Fin 20) : k0_off17 (at3 n) 1#32 = ![(⟨2 * n.val + 1, by omega⟩ : Fin 40).val, 0, 0] := k0_off17_eq (at3 n) 1

/-- The activations of chunk `n`. -/
theorem hAt_apply (n : Fin 20) (t : Fin 64) (r : Fin 256) : hAt (acts X N) n (ix2 t r) = normed (rowOf X t) (weightOf N) (feature n r) := by
  unfold hAt
  by_cases hr : r.val < 128
  · rw [chunk_left _ _ t r hr, readH _ _ _ _ (off_left n), acts_apply]
    refine congrArg _ (Fin.ext ?_)
    show 128 * (2 * n.val) + permLane r.val = (feature n r).val
    exact (feature_left n r).symm
  · rw [chunk_right _ _ t r hr, readH _ _ _ _ (off_right n), acts_apply]
    refine congrArg _ (Fin.ext ?_)
    show 128 * (2 * n.val + 1) + permLane (r.val - 128) = (feature n r).val
    exact (feature_right n r hr).symm

end Cert.KernelIdeal.Hand
-- ==== Proof.Value.Proj.lean ====
/- The accumulators as projections: an accumulator's element is the sum over the 5120 features, in their own order, of the
   normalised input times the four-bit weight times its group's scale. -/
module

public import proofs.«01_k».proof.Proof.Value.Acc
public import proofs.«01_k».proof.Proof.Value.Acts

@[expose] public section

set_option maxRecDepth 20000

noncomputable section

namespace Cert.KernelIdeal.Hand

open Cert.KernelIdeal Cert.KernelIdeal.Gen Cert.Qkv
open Idealize.ShloMosaic Idealize.ShloMosaic.TcCoe Idealize.ShloMosaic.ValueIdx

/-- One feature's summand: group `d / 32`, byte `d % 16` of the group, the low or the high four bits. -/
def termOf (h : Fin 5120 → EReal) (P : Fin 160 → Fin 16 → BitVec 8) (S : Fin 160 → EReal) (d : Fin 5120) : EReal :=
  h d * ((((nib (P ⟨d.val / 32, by omega⟩ ⟨d.val % 16, by omega⟩) (d.val % 32 / 16) : ℤ) : ℝ) : EReal) * S ⟨d.val / 32, by omega⟩)

/-- A row of activations against an output's packed weights and scales. -/
def projOf (h : Fin 5120 → EReal) (P : Fin 160 → Fin 16 → BitVec 8) (S : Fin 160 → EReal) : EReal := ∑ d, termOf h P S d

theorem feature_digits (n : Fin 20) (r : Fin 256) : (feature n r).val / 32 = 8 * n.val + r.val / 32
    ∧ (feature n r).val % 16 = 8 * (r.val % 32 / 16) + r.val % 16 / 2 ∧ (feature n r).val % 32 / 16 = r.val % 2
    ∧ 16 * n.val + r.val / 16 = 2 * (8 * n.val + r.val / 32) + r.val % 32 / 16 := by
  have e : (feature n r).val = 256 * n.val + (32 * (r.val / 32) + (16 * (r.val % 2) + 8 * (r.val % 32 / 16) + r.val % 16 / 2)) := rfl
  have h1 : r.val % 2 < 2 := Nat.mod_lt _ (by decide)
  have h2 : r.val % 32 / 16 < 2 := by omega
  have h3 : r.val % 16 / 2 < 8 := by omega
  have h4 : r.val / 16 = 2 * (r.val / 32) + r.val % 32 / 16 := by omega
  rw [h4, e]
  generalize r.val % 2 = a at *
  generalize r.val % 32 / 16 = b at *
  generalize r.val % 16 / 2 = s at *
  generalize r.val / 32 = g at *
  refine ⟨by omega, by omega, by omega, by omega⟩

/-- A tile's element at the feature it belongs to. -/
theorem term_feature {nw ns : ℕ} (h : Fin 5120 → EReal) (P : Fin 160 → Fin 16 → BitVec 8) (Sc : Fin 160 → EReal)
    (S : (⟨2, ![160, ns]⟩ : Shape).Idx → EReal) (W : (⟨3, ![320, nw, 128]⟩ : Shape).Idx → BitVec 8) (q : ℕ) (u : Fin 2) (col : Fin 256)
    (hW : ∀ (k : Fin 320) (s : Fin nw) (l : Fin 128) (g : Fin 160) (a : Fin 2) (j : Fin 8), k.val = 2 * g.val + a.val →
      s.val = 8 * (4 * q + 2 * u.val + col.val / 128) + j.val → l.val = col.val % 128 → W (ix3 k s l) = P g ⟨8 * a.val + j.val, by omega⟩)
    (hS : ∀ (g : Fin 160) (o : Fin ns), o.val = 512 * q + (256 * u.val + col.val) → S (ix2 g o) = Sc g)
    (n : Fin 20) (r : Fin 256) (hs hw) :
    (h (feature n r) * ((((nib (W (ix3 ⟨16 * n.val + r.val / 16, by omega⟩ ⟨32 * q + (8 * (2 * u.val + col.val / 128) + r.val % 16 / 2), hw⟩ ⟨col.val % 128, by omega⟩)) (r.val % 2) : ℤ) : ℝ) : EReal)
          * S (ix2 ⟨8 * n.val + r.val / 32, by omega⟩ ⟨512 * q + (256 * u.val + col.val), hs⟩)) : EReal) = termOf h P Sc (feature n r) := by
  obtain ⟨d1, d2, d3, d4⟩ := feature_digits n r
  unfold termOf
  rw [hW _ _ _ ⟨8 * n.val + r.val / 32, by omega⟩ ⟨r.val % 32 / 16, by omega⟩ ⟨r.val % 16 / 2, by omega⟩ d4
      (by show 32 * q + (8 * (2 * u.val + col.val / 128) + r.val % 16 / 2) = 8 * (4 * q + 2 * u.val + col.val / 128) + r.val % 16 / 2
          generalize col.val / 128 = x
          generalize r.val % 16 / 2 = y
          omega) rfl,
    hS _ _ rfl, d3]
  have e1 : (⟨(feature n r).val / 32, by omega⟩ : Fin 160) = ⟨8 * n.val + r.val / 32, by omega⟩ := Fin.ext d1
  have e2 : (⟨(feature n r).val % 16, by omega⟩ : Fin 16) = ⟨8 * (r.val % 32 / 16) + r.val % 16 / 2, by omega⟩ := Fin.ext d2
  rw [e1, e2]

variable (c : Dev nD) (M : Src Ideal) (X : S64x5120.Idx → Elt Ideal .bf16) (N : S40x128.Idx → Elt Ideal .bf16)

theorem acc_q (u : Fin 2) (p : Fin 14) (hp : p.val < 10) (t : Fin 64) (col : Fin 256) (P : Fin 160 → Fin 16 → BitVec 8) (Sc : Fin 160 → EReal)
    (hW : ∀ (k : Fin 320) (s : Fin 320) (l : Fin 128) (g : Fin 160) (a : Fin 2) (j : Fin 8), k.val = 2 * g.val + a.val →
      s.val = 8 * (4 * p.val + 2 * u.val + col.val / 128) + j.val → l.val = col.val % 128 → M.f3 (ix3 k s l) = P g ⟨8 * a.val + j.val, by omega⟩)
    (hS : ∀ (g : Fin 160) (o : Fin 5120), o.val = 512 * p.val + (256 * u.val + col.val) → M.f0 (ix2 g o) = Sc g) :
    accOf u p (sums c M X N) (ix2 t col) = projOf (normed (rowOf X t) (weightOf N)) P Sc := by
  unfold sums projOf
  rw [acc_sum, ← sum_chunks]
  refine Finset.sum_congr rfl fun n _ => Finset.sum_congr rfl fun r _ => ?_
  unfold tileOf
  rw [dif_pos hp]
  refine Eq.trans ?_ (term_feature _ P Sc M.f0 M.f3 p.val u col hW hS n r (by omega) (by omega))
  exact congrArg₂ (fun a b : EReal => a * b) (hAt_apply X N n t r)
    (tile_read c arg21 arg18 n p.val (by omega) (by omega) M.f0 M.f3 M.f0 M.f3 (fun _ _ _ => rfl) (fun _ _ _ => rfl) u r col)

theorem acc_k (u : Fin 2) (p : Fin 14) (hq : ¬ p.val < 10) (hp : p.val < 12) (t : Fin 64) (col : Fin 256) (P : Fin 160 → Fin 16 → BitVec 8) (Sc : Fin 160 → EReal)
    (hW : ∀ (k : Fin 320) (s : Fin 64) (l : Fin 128) (g : Fin 160) (a : Fin 2) (j : Fin 8), k.val = 2 * g.val + a.val →
      s.val = 8 * (4 * (p.val - 10) + 2 * u.val + col.val / 128) + j.val → l.val = col.val % 128 → M.f4 (ix3 k s l) = P g ⟨8 * a.val + j.val, by omega⟩)
    (hS : ∀ (g : Fin 160) (o : Fin 1024), o.val = 512 * (p.val - 10) + (256 * u.val + col.val) → M.f1 (ix2 g o) = Sc g) :
    accOf u p (sums c M X N) (ix2 t col) = projOf (normed (rowOf X t) (weightOf N)) P Sc := by
  unfold sums projOf
  rw [acc_sum, ← sum_chunks]
  refine Finset.sum_congr rfl fun n _ => Finset.sum_congr rfl fun r _ => ?_
  unfold tileOf
  rw [dif_neg hq, dif_pos hp]
  refine Eq.trans ?_ (term_feature _ P Sc M.f1 M.f4 (p.val - 10) u col hW hS n r (by omega) (by omega))
  exact congrArg₂ (fun a b : EReal => a * b) (hAt_apply X N n t r)
    (tile_read c arg22 arg19 n (p.val - 10) (by omega) (by omega) M.f1 M.f4 M.f1 M.f4 (fun _ _ _ => rfl) (fun _ _ _ => rfl) u r col)

theorem acc_v (u : Fin 2) (p : Fin 14) (hq : ¬ p.val < 10) (hp : ¬ p.val < 12) (t : Fin 64) (col : Fin 256) (P : Fin 160 → Fin 16 → BitVec 8) (Sc : Fin 160 → EReal)
    (hW : ∀ (k : Fin 320) (s : Fin 64) (l : Fin 128) (g : Fin 160) (a : Fin 2) (j : Fin 8), k.val = 2 * g.val + a.val →
      s.val = 8 * (4 * (p.val - 12) + 2 * u.val + col.val / 128) + j.val → l.val = col.val % 128 → M.f5 (ix3 k s l) = P g ⟨8 * a.val + j.val, by omega⟩)
    (hS : ∀ (g : Fin 160) (o : Fin 1024), o.val = 512 * (p.val - 12) + (256 * u.val + col.val) → M.f2 (ix2 g o) = Sc g) :
    accOf u p (sums c M X N) (ix2 t col) = projOf (normed (rowOf X t) (weightOf N)) P Sc := by
  unfold sums projOf
  rw [acc_sum, ← sum_chunks]
  refine Finset.sum_congr rfl fun n _ => Finset.sum_congr rfl fun r _ => ?_
  unfold tileOf
  rw [dif_neg hq, dif_neg hp]
  refine Eq.trans ?_ (term_feature _ P Sc M.f2 M.f5 (p.val - 12) u col hW hS n r (by omega) (by omega))
  exact congrArg₂ (fun a b : EReal => a * b) (hAt_apply X N n t r)
    (tile_read c arg23 arg20 n (p.val - 12) (by omega) (by omega) M.f2 M.f5 M.f2 M.f5 (fun _ _ _ => rfl) (fun _ _ _ => rfl) u r col)

end Cert.KernelIdeal.Hand
-- ==== Proof.Value.Host.lean ====
/- What the launch finds in the arrays the kernel reads: the arguments, re-laid. -/
module

public import proofs.«01_k».proof.Proof.Launched
public import Idealize.ShloMosaic.Lib.Claim
public import Idealize.ShloMosaic.Lib.IdealHost

@[expose] public section

set_option maxRecDepth 20000

noncomputable section

namespace Cert.KernelIdeal.Hand

open Cert.KernelIdeal Cert.KernelIdeal.Gen Cert.Qkv
open Idealize.ShloMosaic Idealize.ShloMosaic.TcCoe Idealize.ShloMosaic.ValueIdx Idealize.ShloMosaic.Tactic

variable (m : (ℓ : Loc nD τ sig) → Buf (Elt Ideal) ℓ) (c : Dev nD)

theorem relay_x (x : S64x1x5120.Idx → EReal) (t : Fin 64) (d : Fin 5120) : shapeCast S64x5120 x shapeCasts_S64x1x5120_S64x5120 (ix2 t d) = x (ix3 t 0 d) :=
  shapeCast_apply _ _ _ _ (by
    rw [Shape.rowMajor_val_two, Shape.rowMajor_val_three]; show (t.val * 1 + 0) * 5120 + d.val = t.val * 5120 + d.val; omega)
theorem relay_n (x : S5120.Idx → EReal) (a : Fin 40) (b : Fin 128) : shapeCast S40x128 x shapeCasts_S5120_S40x128 (ix2 a b) = x (ix1 ⟨128 * a.val + b.val, by omega⟩) :=
  shapeCast_apply _ _ _ _ (by
    rw [Shape.rowMajor_val_two, Shape.rowMajor_val_one]; show 128 * a.val + b.val = a.val * 128 + b.val; omega)
theorem relay_pos (x : S64x1.Idx → BitVec 32) (t : Fin 64) : shapeCast S1x64 x shapeCasts_S64x1_S1x64 (ix2 0 t) = x (ix2 t 0) :=
  shapeCast_apply _ _ _ _ (by
    rw [Shape.rowMajor_val_two, Shape.rowMajor_val_two]; show t.val * 1 + 0 = 0 * 64 + t.val; omega)

theorem x_read (t : Fin 64) (d : Fin 5120) : V m c main_v1 (ix2 t d) = (m (c, main_arg0) : S64x1x5120.Idx → EReal) (ix3 t 0 d) := by
  have e : V m c main_v1 = shapeCast S64x5120 (m (c, main_arg0) : S64x1x5120.Idx → EReal) shapeCasts_S64x1x5120_S64x5120 := by entry_read; rfl
  rw [e]
  exact relay_x _ t d

theorem n_read (a : Fin 40) (b : Fin 128) : V m c main_v2 (ix2 a b) = (m (c, main_arg1) : S5120.Idx → EReal) (ix1 ⟨128 * a.val + b.val, by omega⟩) := by
  have e : V m c main_v2 = shapeCast S40x128 (m (c, main_arg1) : S5120.Idx → EReal) shapeCasts_S5120_S40x128 := by entry_read; rfl
  rw [e]
  exact relay_n _ a b

theorem pos_read (t : Fin 64) : V m c main_v3 (ix2 0 t) = (m (c, main_arg2) : S64x1.Idx → BitVec 32) (ix2 t 0) := by
  have e : V m c main_v3 = shapeCast S1x64 (m (c, main_arg2) : S64x1.Idx → BitVec 32) shapeCasts_S64x1_S1x64 := by entry_read; rfl
  rw [e]
  exact relay_pos _ t

theorem freq_read (l : Fin 128) : V m c main_v0 (ix2 0 l) = Ideal.ofBits .f32 (lit0 l) := by
  have e : V m c main_v0 = broadcastInDim S1x128 ![1] bcast_S128_S1x128_1 (fun i => (Ideal.ofBits .f32 (lit0 (S128.rowMajor i)) : EReal)) := by entry_read; rfl
  rw [e]
  refine (broadcastInDim_apply _ _ _ _ (ix1 l) ?_).trans ?_
  · intro a; fin_cases a; rfl
  · exact congrArg (fun k => Ideal.ofBits .f32 (lit0 k)) (Fin.ext (Shape.rowMajor_val_one _))

theorem sq_read (g : Fin 160) (o : Fin 5120) : V m c main_v8 (ix2 g o) = (m (c, main_arg4) : S5120x160.Idx → EReal) (ix2 o g) := by
  have e : V m c main_v8 = transpose S160x5120 [1, 0] (m (c, main_arg4) : S5120x160.Idx → EReal) transposes_S5120x160_S160x5120_1_0 := by entry_read; rfl
  rw [e]
  exact transpose_apply _ _ _ _ _ (by intro a; fin_cases a <;> rfl)
theorem sk_read (g : Fin 160) (o : Fin 1024) : V m c main_v13 (ix2 g o) = (m (c, main_arg6) : S1024x160.Idx → EReal) (ix2 o g) := by
  have e : V m c main_v13 = transpose S160x1024 [1, 0] (m (c, main_arg6) : S1024x160.Idx → EReal) transposes_S1024x160_S160x1024_1_0 := by entry_read; rfl
  rw [e]
  exact transpose_apply _ _ _ _ _ (by intro a; fin_cases a <;> rfl)
theorem sv_read (g : Fin 160) (o : Fin 1024) : V m c main_v18 (ix2 g o) = (m (c, main_arg8) : S1024x160.Idx → EReal) (ix2 o g) := by
  have e : V m c main_v18 = transpose S160x1024 [1, 0] (m (c, main_arg8) : S1024x160.Idx → EReal) transposes_S1024x160_S160x1024_1_0 := by entry_read; rfl
  rw [e]
  exact transpose_apply _ _ _ _ _ (by intro a; fin_cases a <;> rfl)

/-- The packed weights as the kernel finds them. -/
def packS (w : S1024x160x16.Idx → BitVec 8) : S320x64x128.Idx → BitVec 8 :=
  shapeCast S320x64x128 (transpose S160x2x8x8x128 [0, 1, 3, 2, 4] (shapeCast S160x2x8x8x128 (transpose S160x16x1024 [1, 2, 0] w transposes_S1024x160x16_S160x16x1024_1_2_0)
    shapeCasts_S160x16x1024_S160x2x8x8x128) transposes_S160x2x8x8x128_S160x2x8x8x128_0_1_3_2_4) shapeCasts_S160x2x8x8x128_S320x64x128
@[inherit_doc packS]
def packL (w : S5120x160x16.Idx → BitVec 8) : S320x320x128.Idx → BitVec 8 :=
  shapeCast S320x320x128 (transpose S160x2x40x8x128 [0, 1, 3, 2, 4] (shapeCast S160x2x8x40x128 (transpose S160x16x5120 [1, 2, 0] w transposes_S5120x160x16_S160x16x5120_1_2_0)
    shapeCasts_S160x16x5120_S160x2x8x40x128) transposes_S160x2x8x40x128_S160x2x40x8x128_0_1_3_2_4) shapeCasts_S160x2x40x8x128_S320x320x128

theorem wq_entry : V m c main_v7 = packL (m (c, main_arg3)) := by entry_read; rfl
theorem wk_entry : V m c main_v12 = packS (m (c, main_arg5)) := by entry_read; rfl
theorem wv_entry : V m c main_v17 = packS (m (c, main_arg7)) := by entry_read; rfl

theorem packS_apply (w : S1024x160x16.Idx → BitVec 8) (g : Fin 160) (a : Fin 2) (j : Fin 8) (L : Fin 8) (l : Fin 128) :
    packS w (ix3 ⟨2 * g.val + a.val, by omega⟩ ⟨8 * L.val + j.val, by omega⟩ l) = w (ix3 ⟨128 * L.val + l.val, by omega⟩ g ⟨8 * a.val + j.val, by omega⟩) := by
  unfold packS
  refine (shapeCast_apply _ _ _ (ix5 g a L j l) ?_).trans ?_
  · rw [Shape.rowMajor_val_five, Shape.rowMajor_val_three]
    show (((g.val * 2 + a.val) * 8 + L.val) * 8 + j.val) * 128 + l.val = ((2 * g.val + a.val) * 64 + (8 * L.val + j.val)) * 128 + l.val
    ring
  refine (transpose_apply _ _ _ _ (ix5 g a j L l) (by intro b; fin_cases b <;> rfl)).trans ?_
  refine (shapeCast_apply _ _ _ (ix3 g (⟨8 * a.val + j.val, by omega⟩ : Fin 16) (⟨128 * L.val + l.val, by omega⟩ : Fin 1024)) ?_).trans ?_
  · rw [Shape.rowMajor_val_five, Shape.rowMajor_val_three]
    show (g.val * 16 + (8 * a.val + j.val)) * 1024 + (128 * L.val + l.val) = (((g.val * 2 + a.val) * 8 + j.val) * 8 + L.val) * 128 + l.val
    ring
  exact transpose_apply _ _ _ _ _ (by intro b; fin_cases b <;> rfl)

theorem packL_apply (w : S5120x160x16.Idx → BitVec 8) (g : Fin 160) (a : Fin 2) (j : Fin 8) (L : Fin 40) (l : Fin 128) :
    packL w (ix3 ⟨2 * g.val + a.val, by omega⟩ ⟨8 * L.val + j.val, by omega⟩ l) = w (ix3 ⟨128 * L.val + l.val, by omega⟩ g ⟨8 * a.val + j.val, by omega⟩) := by
  unfold packL
  refine (shapeCast_apply _ _ _ (ix5 g a L j l) ?_).trans ?_
  · rw [Shape.rowMajor_val_five, Shape.rowMajor_val_three]
    show (((g.val * 2 + a.val) * 40 + L.val) * 8 + j.val) * 128 + l.val = ((2 * g.val + a.val) * 320 + (8 * L.val + j.val)) * 128 + l.val
    ring
  refine (transpose_apply _ _ _ _ (ix5 g a j L l) (by intro b; fin_cases b <;> rfl)).trans ?_
  refine (shapeCast_apply _ _ _ (ix3 g (⟨8 * a.val + j.val, by omega⟩ : Fin 16) (⟨128 * L.val + l.val, by omega⟩ : Fin 5120)) ?_).trans ?_
  · rw [Shape.rowMajor_val_five, Shape.rowMajor_val_three]
    show (g.val * 16 + (8 * a.val + j.val)) * 5120 + (128 * L.val + l.val) = (((g.val * 2 + a.val) * 8 + j.val) * 40 + L.val) * 128 + l.val
    ring
  exact transpose_apply _ _ _ _ _ (by intro b; fin_cases b <;> rfl)

end Cert.KernelIdeal.Hand
-- ==== Proof.Value.Heads.lean ====
/- The heads before their rotation: projections of the arguments. -/
module

public import proofs.«01_k».proof.Proof.Value.Proj
public import proofs.«01_k».proof.Proof.Value.Host

@[expose] public section

set_option maxRecDepth 20000

noncomputable section

namespace Cert.KernelIdeal.Hand

open Cert.KernelIdeal Cert.KernelIdeal.Gen Cert.Qkv
open Idealize.ShloMosaic Idealize.ShloMosaic.TcCoe Idealize.ShloMosaic.ValueIdx

variable (m : (ℓ : Loc nD τ sig) → Buf (Elt Ideal) ℓ) (c : Dev nD)

/-- The unit a head is taken from. -/
def unitOf (hd : ℕ) : Fin 2 := if hd / 2 % 2 = 0 then 0 else 1

theorem unitOf_val (hd : ℕ) : (unitOf hd).val = hd / 2 % 2 := by
  unfold unitOf
  split
  · next h => exact h.symm
  · next h => show 1 = _; omega

/-- A head before its rotation. -/
def pick (s : Mxu Ideal) (base hd : ℕ) : FVec Ideal S64x128 .f32 :=
  (if hd % 2 = 0 then left else right) (accOf (unitOf hd) ⟨(base + hd / 4) % 14, Nat.mod_lt _ (by decide)⟩ s)

theorem headOf_eq (s : Mxu Ideal) (rope : Bool) (C S : S64x128.Idx → Elt Ideal .f32) (base hd : ℕ) : headOf s rope C S base hd = rot rope C S (pick s base hd) := rfl

theorem left_at (z : FVec Ideal S64x256 .f32) (t : Fin 64) (l : Fin 128) : left z (ix2 t l) = z (ix2 t ⟨l.val, by omega⟩) :=
  extractStridedSlice_apply _ _ _ _ _ (by intro a; fin_cases a <;> simp)
theorem right_at (z : FVec Ideal S64x256 .f32) (t : Fin 64) (l : Fin 128) : right z (ix2 t l) = z (ix2 t ⟨128 + l.val, by omega⟩) :=
  extractStridedSlice_apply _ _ _ _ _ (by intro a; fin_cases a <;> simp)

theorem pick_apply (s : Mxu Ideal) (base hd : ℕ) (t : Fin 64) (l : Fin 128) (h) :
    pick s base hd (ix2 t l) = accOf (unitOf hd) ⟨(base + hd / 4) % 14, Nat.mod_lt _ (by decide)⟩ s (ix2 t ⟨128 * (hd % 2) + l.val, h⟩) := by
  unfold pick
  by_cases e : hd % 2 = 0
  · rw [if_pos e, left_at]
    refine congrArg _ (congrArg _ (Fin.ext ?_))
    show l.val = 128 * (hd % 2) + l.val
    omega
  · rw [if_neg e, right_at]
    refine congrArg _ (congrArg _ (Fin.ext ?_))
    show 128 + l.val = 128 * (hd % 2) + l.val
    omega

theorem row_eq (t : Fin 64) : rowOf (V m c main_v1) t = fun d => (m (c, main_arg0) : S64x1x5120.Idx → EReal) (ix3 t 0 d) := funext fun d => x_read m c t d
theorem weight_eq : weightOf (V m c main_v2) = fun d => (m (c, main_arg1) : S5120.Idx → EReal) (ix1 d) := funext fun d =>
  (n_read m c _ _).trans (congrArg (m (c, main_arg1) : S5120.Idx → EReal) (congrArg ix1 (Fin.ext (by show 128 * (d.val / 128) + d.val % 128 = d.val; omega))))

/-- The normalised row. -/
abbrev hnOf (t : Fin 64) : Fin 5120 → EReal :=
  normed (fun d => (m (c, main_arg0) : S64x1x5120.Idx → EReal) (ix3 t 0 d)) (fun d => (m (c, main_arg1) : S5120.Idx → EReal) (ix1 d))

theorem head_sub (hd : ℕ) (x : ℕ) (hx : x < 128) : 4 * (hd / 4) + 2 * (hd / 2 % 2) + (128 * (hd % 2) + x) / 128 = hd := by omega
theorem head_col (hd : ℕ) (x : ℕ) (hx : x < 128) : 512 * (hd / 4) + (256 * (hd / 2 % 2) + (128 * (hd % 2) + x)) = 128 * hd + x := by omega

theorem pick_q (hd : Fin 40) (t : Fin 64) (l : Fin 128) : pick (sumsOf m c) 0 hd.val (ix2 t l)
    = projOf (hnOf m c t) (fun g j => (m (c, main_arg3) : S5120x160x16.Idx → BitVec 8) (ix3 ⟨128 * hd.val + l.val, by omega⟩ g j))
        (fun g => (m (c, main_arg4) : S5120x160.Idx → EReal) (ix2 ⟨128 * hd.val + l.val, by omega⟩ g)) := by
  have hm : (0 + hd.val / 4) % 14 = hd.val / 4 := by omega
  rw [pick_apply _ _ _ _ _ (by omega)]
  unfold hnOf
  rw [← row_eq, ← weight_eq]
  refine acc_q c (srcOf m c) (V m c main_v1) (V m c main_v2) _ _ (by show (0 + hd.val / 4) % 14 < 10; omega) t _ _ _ ?_ ?_
  · intro k s l' g a j hk hs hl
    show V m c main_v7 (ix3 k s l') = _
    rw [wq_entry]
    have e1 : k = ⟨2 * g.val + a.val, by omega⟩ := Fin.ext hk
    have e2 : s = ⟨8 * hd.val + j.val, by omega⟩ := Fin.ext (hs.trans (by
      show 8 * (4 * ((0 + hd.val / 4) % 14) + 2 * (unitOf hd.val).val + (128 * (hd.val % 2) + l.val) / 128) + j.val = _
      rw [unitOf_val, hm, head_sub _ _ l.isLt]))
    have e3 : l' = l := Fin.ext (hl.trans (by show (128 * (hd.val % 2) + l.val) % 128 = l.val; omega))
    rw [e1, e2, e3]
    exact packL_apply _ g a j hd l
  · intro g o ho
    show V m c main_v8 (ix2 g o) = _
    have e : o = ⟨128 * hd.val + l.val, by omega⟩ := Fin.ext (ho.trans (by
      show 512 * ((0 + hd.val / 4) % 14) + (256 * (unitOf hd.val).val + (128 * (hd.val % 2) + l.val)) = _
      rw [unitOf_val, hm, head_col _ _ l.isLt]))
    rw [e]
    exact sq_read m c g _

theorem pick_k (hd : Fin 8) (t : Fin 64) (l : Fin 128) : pick (sumsOf m c) 10 hd.val (ix2 t l)
    = projOf (hnOf m c t) (fun g j => (m (c, main_arg5) : S1024x160x16.Idx → BitVec 8) (ix3 ⟨128 * hd.val + l.val, by omega⟩ g j))
        (fun g => (m (c, main_arg6) : S1024x160.Idx → EReal) (ix2 ⟨128 * hd.val + l.val, by omega⟩ g)) := by
  have hm : (10 + hd.val / 4) % 14 - 10 = hd.val / 4 := by omega
  rw [pick_apply _ _ _ _ _ (by omega)]
  unfold hnOf
  rw [← row_eq, ← weight_eq]
  refine acc_k c (srcOf m c) (V m c main_v1) (V m c main_v2) _ _ (by show ¬ (10 + hd.val / 4) % 14 < 10; omega) (by show (10 + hd.val / 4) % 14 < 12; omega) t _ _ _ ?_ ?_
  · intro k s l' g a j hk hs hl
    show V m c main_v12 (ix3 k s l') = _
    rw [wk_entry]
    have e1 : k = ⟨2 * g.val + a.val, by omega⟩ := Fin.ext hk
    have e2 : s = ⟨8 * hd.val + j.val, by omega⟩ := Fin.ext (hs.trans (by
      show 8 * (4 * ((10 + hd.val / 4) % 14 - 10) + 2 * (unitOf hd.val).val + (128 * (hd.val % 2) + l.val) / 128) + j.val = _
      rw [unitOf_val, hm, head_sub _ _ l.isLt]))
    have e3 : l' = l := Fin.ext (hl.trans (by show (128 * (hd.val % 2) + l.val) % 128 = l.val; omega))
    rw [e1, e2, e3]
    exact packS_apply _ g a j hd l
  · intro g o ho
    show V m c main_v13 (ix2 g o) = _
    have e : o = ⟨128 * hd.val + l.val, by omega⟩ := Fin.ext (ho.trans (by
      show 512 * ((10 + hd.val / 4) % 14 - 10) + (256 * (unitOf hd.val).val + (128 * (hd.val % 2) + l.val)) = _
      rw [unitOf_val, hm, head_col _ _ l.isLt]))
    rw [e]
    exact sk_read m c g _

theorem pick_v (hd : Fin 8) (t : Fin 64) (l : Fin 128) : pick (sumsOf m c) 12 hd.val (ix2 t l)
    = projOf (hnOf m c t) (fun g j => (m (c, main_arg7) : S1024x160x16.Idx → BitVec 8) (ix3 ⟨128 * hd.val + l.val, by omega⟩ g j))
        (fun g => (m (c, main_arg8) : S1024x160.Idx → EReal) (ix2 ⟨128 * hd.val + l.val, by omega⟩ g)) := by
  have hm : (12 + hd.val / 4) % 14 - 12 = hd.val / 4 := by omega
  rw [pick_apply _ _ _ _ _ (by omega)]
  unfold hnOf
  rw [← row_eq, ← weight_eq]
  refine acc_v c (srcOf m c) (V m c main_v1) (V m c main_v2) _ _ (by show ¬ (12 + hd.val / 4) % 14 < 10; omega) (by show ¬ (12 + hd.val / 4) % 14 < 12; omega) t _ _ _ ?_ ?_
  · intro k s l' g a j hk hs hl
    show V m c main_v17 (ix3 k s l') = _
    rw [wv_entry]
    have e1 : k = ⟨2 * g.val + a.val, by omega⟩ := Fin.ext hk
    have e2 : s = ⟨8 * hd.val + j.val, by omega⟩ := Fin.ext (hs.trans (by
      show 8 * (4 * ((12 + hd.val / 4) % 14 - 12) + 2 * (unitOf hd.val).val + (128 * (hd.val % 2) + l.val) / 128) + j.val = _
      rw [unitOf_val, hm, head_sub _ _ l.isLt]))
    have e3 : l' = l := Fin.ext (hl.trans (by show (128 * (hd.val % 2) + l.val) % 128 = l.val; omega))
    rw [e1, e2, e3]
    exact packS_apply _ g a j hd l
  · intro g o ho
    show V m c main_v18 (ix2 g o) = _
    have e : o = ⟨128 * hd.val + l.val, by omega⟩ := Fin.ext (ho.trans (by
      show 512 * ((12 + hd.val / 4) % 14 - 12) + (256 * (unitOf hd.val).val + (128 * (hd.val % 2) + l.val)) = _
      rw [unitOf_val, hm, head_col _ _ l.isLt]))
    rw [e]
    exact sv_read m c g _

end Cert.KernelIdeal.Hand
-- ==== Proof.Value.Rope.lean ====
/- The kernel's rotation element by element. -/
module

public import proofs.«01_k».proof.Proof.Launched
public import Idealize.ShloMosaic.Lib.Pointwise

@[expose] public section

set_option maxRecDepth 20000

noncomputable section

namespace Cert.KernelIdeal.Hand

open Cert.KernelIdeal Cert.KernelIdeal.Gen Cert.Qkv
open Idealize.ShloMosaic Idealize.ShloMosaic.TcCoe

theorem eq_words : ∀ a b : Fin 64, IntOp.cmpi .eq (BitVec.ofNat 32 a.val) (BitVec.ofNat 32 b.val) = if a = b then 1#1 else 0#1 := by decide +kernel
theorem lt_words : ∀ l : Fin 128, IntOp.cmpi .slt (BitVec.ofNat 32 l.val) 64#32 = if l.val < 64 then 1#1 else 0#1 := by decide +kernel

theorem angle_apply (pos : Vec Ideal S1x64 .i32) (freq : Vec Ideal S1x128 .f32) (t : Fin 64) (l : Fin 128) :
    angle pos freq (ix2 t l) = ((((pos (ix2 0 t)).toInt : ℝ) : EReal) * freq (ix2 0 l) : EReal) := by
  pointwise [angle]
  refine congrArg (fun y : EReal => y * freq (ix2 0 l)) ?_
  rw [Finset.sum_eq_single t]
  · rw [eq_words, if_pos rfl]; rfl
  · intro b _ hb
    rw [eq_words, if_neg (Ne.symm hb)]; rfl
  · intro h; exact absurd (Finset.mem_univ t) h

theorem signed_apply (a : FVec Ideal S64x128 .f32) (t : Fin 64) (l : Fin 128) :
    signed a lanes (ix2 t l) = (if l.val < 64 then - Ideal.sin (a (ix2 t l)) else Ideal.sin (a (ix2 t l)) : EReal) := by
  pointwise [signed]
  rw [lt_words]
  split
  · exact zero_sub _
  · rfl

theorem roped_apply (z C S : FVec Ideal S64x128 .f32) (t : Fin 64) (l : Fin 128) :
    roped z C S (ix2 t l) = (z (ix2 t l) * C (ix2 t l) + z (ix2 t ⟨(l.val + 64) % 128, by omega⟩) * S (ix2 t l) : EReal) := by
  pointwise [roped]
  have e : ∀ h, (⟨(l.val + 128 - 64) % 128, h⟩ : Fin 128) = ⟨(l.val + 64) % 128, by omega⟩ := fun _ => Fin.ext (by show (l.val + 128 - 64) % 128 = (l.val + 64) % 128; omega)
  rw [e]

theorem readC (C : S64x128.Idx → Elt Ideal .f32) (t : Fin 64) (l : Fin 128) : arg25.view.readAt (Elt Ideal) rTrig.toLoadRect C (ix2 t l) = C (ix2 t l) := by
  refine congrArg C (funext fun a => Fin.ext ?_)
  fin_cases a
  · show 0 + 1 * t.val = t.val; omega
  · show 0 + 1 * l.val = l.val; omega
theorem readS (C : S64x128.Idx → Elt Ideal .f32) (t : Fin 64) (l : Fin 128) : arg26.view.readAt (Elt Ideal) rTrig.toLoadRect C (ix2 t l) = C (ix2 t l) := by
  refine congrArg C (funext fun a => Fin.ext ?_)
  fin_cases a
  · show 0 + 1 * t.val = t.val; omega
  · show 0 + 1 * l.val = l.val; omega

end Cert.KernelIdeal.Hand
-- ==== Proof.Value.Ref.lean ====
/- The reference's projections element by element. -/
module

public import proofs.«01_k».proof.Proof.Value.Proj
public import proofs.«01_k».proof.Proof.Gen.ReferenceIdeal.Run
public import Idealize.ShloMosaic.Lib.Pointwise
public import Idealize.ShloMosaic.Lib.TwoAxisContraction

@[expose] public section

set_option maxRecDepth 20000

noncomputable section

namespace Cert.ReferenceIdeal.Hand

open Cert.ReferenceIdeal Cert.ReferenceIdeal.Gen Cert.Qkv
open Idealize.ShloMosaic Idealize.ShloMosaic.TcCoe
open Cert.KernelIdeal.Hand (normed invOf nib termOf projOf)

/-- The normalised inputs in groups of 32. -/
def hRef (x : FVec Ideal S64x1x5120 .bf16) (w : FVec Ideal S5120 .bf16) : FVec Ideal S64x1x160x32 .bf16 :=
  shapeCast _ (truncf .bf16 (mulf (mulf (extf .f32 x bitsLt_bf16_f32) (broadcastInDim S64x1x5120 ![0, 1, 2] bcast_S64x1x1_S64x1x5120_0_1_2 (Host.rsqrt (addf (Host.divf (broadcastInDim S64x1x1 ![0, 1] bcast_S64x1_S64x1x1_0_1 (Host.reduceAdd (mulf (extf .f32 x bitsLt_bf16_f32) (extf .f32 x bitsLt_bf16_f32)) (constant S_ .f32 0x00000000#32) reducesTo_S64x1x5120_S64x1_d2 h_S_)) (broadcastInDim S64x1x1 ![] bcast_S_S64x1x1 (constant S_ .f32 0x45A00000#32))) (broadcastInDim S64x1x1 ![] bcast_S_S64x1x1 (constant S_ .f32 0x358637BD#32)))))) (broadcastInDim S64x1x5120 ![0, 1, 2] bcast_S1x1x5120_S64x1x5120_0_1_2 (broadcastInDim S1x1x5120 ![2] bcast_S5120_S1x1x5120_2 (extf .f32 w bitsLt_bf16_f32)))) bitsLt_bf16_f32) shapeCasts_S64x1x5120_S64x1x160x32

theorem hRef_apply (x : FVec Ideal S64x1x5120 .bf16) (w : FVec Ideal S5120 .bf16) (t : Fin 64) (g : Fin 160) (j : Fin 32) :
    hRef x w (ix4 t 0 g j) = normed (fun d => x (ix3 t 0 d)) (fun d => w (ix1 d)) ⟨32 * g.val + j.val, by omega⟩ := by
  have e : ∀ h, (⟨g.val * 32 + j.val, h⟩ : Fin 5120) = ⟨32 * g.val + j.val, by omega⟩ := fun _ => Fin.ext (by show g.val * 32 + j.val = 32 * g.val + j.val; omega)
  pointwise [hRef, normed, invOf]
  rw [e]

theorem term_low (h : Fin 5120 → EReal) (P : Fin 160 → Fin 16 → BitVec 8) (S : Fin 160 → EReal) (g : Fin 160) (j : Fin 16) :
    termOf h P S ⟨32 * g.val + j.val, by omega⟩ = h ⟨32 * g.val + j.val, by omega⟩ * ((((nib (P g j) 0 : ℤ) : ℝ) : EReal) * S g) := by
  have e1 : (32 * g.val + j.val) / 32 = g.val := by omega
  have e2 : (32 * g.val + j.val) % 16 = j.val := by omega
  have e3 : (32 * g.val + j.val) % 32 / 16 = 0 := by omega
  unfold termOf
  simp only [e1, e2, e3]

theorem term_high (h : Fin 5120 → EReal) (P : Fin 160 → Fin 16 → BitVec 8) (S : Fin 160 → EReal) (g : Fin 160) (j : Fin 16) :
    termOf h P S ⟨32 * g.val + (16 + j.val), by omega⟩ = h ⟨32 * g.val + (16 + j.val), by omega⟩ * ((((nib (P g j) 1 : ℤ) : ℝ) : EReal) * S g) := by
  have e1 : (32 * g.val + (16 + j.val)) / 32 = g.val := by omega
  have e2 : (32 * g.val + (16 + j.val)) % 16 = j.val := by omega
  have e3 : (32 * g.val + (16 + j.val)) % 32 / 16 = 1 := by omega
  unfold termOf
  simp only [e1, e2, e3]

/-- The angles. -/
def angRef (pos : IVec S64x1 32) : FVec Ideal S64x1x1x64 .f32 :=
  mulf (broadcastInDim S64x1x1x64 ![0, 1, 2, 3] bcast_S64x1x1x1_S64x1x1x64_0_1_2_3 (broadcastInDim S64x1x1x1 ![0, 1] bcast_S64x1_S64x1x1x1_0_1 (sitofp .f32 pos))) (broadcastInDim S64x1x1x64 ![0, 1, 2, 3] bcast_S1x1x1x64_S64x1x1x64_0_1_2_3 (broadcastInDim S1x1x1x64 ![3] bcast_S64_S1x1x1x64_3 ((fun i => FloatOps.ofBits .f32 (lit0 (S64.rowMajor i))))))

theorem angRef_apply (pos : IVec S64x1 32) (t : Fin 64) (l : Fin 64) :
    angRef pos (ix4 t 0 0 l) = ((((pos (ix2 t 0)).toInt : ℝ) : EReal) * Ideal.ofBits .f32 (lit0 l) : EReal) := by
  have e : ∀ i : Fin 64, S64.rowMajor (ix1 i) = i := fun i => Fin.ext (Shape.rowMajor_val_one _)
  pointwise [angRef]
  rw [e]
  rfl

/-- The low halves of the groups' weights. -/
def loW (P : IVec S1024x160x16 8) (S : FVec Ideal S1024x160 .bf16) : FVec Ideal S1024x160x16 .bf16 :=
  mulf (subf (sitofp .bf16 (andi (extui 32 P natLt_8_32) (broadcastInDim S1024x160x16 ![] bcast_S_S1024x160x16 (constantI S_ 32 15#32)))) (broadcastInDim S1024x160x16 ![] bcast_S_S1024x160x16 (constant S_ .bf16 0x4100#16))) (broadcastInDim S1024x160x16 ![0, 1, 2] bcast_S1024x160x1_S1024x160x16_0_1_2 (broadcastInDim S1024x160x1 ![0, 1] bcast_S1024x160_S1024x160x1_0_1 S))
/-- The high halves. -/
def hiW (P : IVec S1024x160x16 8) (S : FVec Ideal S1024x160 .bf16) : FVec Ideal S1024x160x16 .bf16 :=
  mulf (subf (sitofp .bf16 (Host.shrsi (extui 32 P natLt_8_32) (broadcastInDim S1024x160x16 ![] bcast_S_S1024x160x16 (constantI S_ 32 4#32)))) (broadcastInDim S1024x160x16 ![] bcast_S_S1024x160x16 (constant S_ .bf16 0x4100#16))) (broadcastInDim S1024x160x16 ![0, 1, 2] bcast_S1024x160x1_S1024x160x16_0_1_2 (broadcastInDim S1024x160x1 ![0, 1] bcast_S1024x160_S1024x160x1_0_1 S))

theorem eight : Ideal.ofBits .bf16 0x4100#16 = ((8 : ℝ) : EReal) := by
  simp [Ideal.ofBits, Ideal.ieee, -EReal.coe_mul]; norm_num

theorem low_nat : ∀ n : Fin 256, (IntOp.andi ((BitVec.ofNat 8 n.val).setWidth 32) 15#32).toInt = nib (BitVec.ofNat 8 n.val) 0 + 8 := by decide +kernel
theorem high_nat : ∀ n : Fin 256, (IntOp.shrsi ArithUnit.host ((BitVec.ofNat 8 n.val).setWidth 32) 4#32).toInt = nib (BitVec.ofNat 8 n.val) 1 + 8 := by decide +kernel
theorem low_int (x : BitVec 8) : (IntOp.andi (x.setWidth 32) 15#32).toInt = nib x 0 + 8 := by
  have h := low_nat ⟨x.toNat, x.isLt⟩
  rwa [BitVec.ofNat_toNat, BitVec.setWidth_eq] at h
theorem high_int (x : BitVec 8) : (IntOp.shrsi ArithUnit.host (x.setWidth 32) 4#32).toInt = nib x 1 + 8 := by
  have h := high_nat ⟨x.toNat, x.isLt⟩
  rwa [BitVec.ofNat_toNat, BitVec.setWidth_eq] at h

theorem less_eight (w : BitVec 32) (k : ℤ) (h : w.toInt = k + 8) : ((FloatOps.sitofp (F := Ideal) FTy.bf16 w : EReal) - Ideal.ofBits FTy.bf16 16640#16 : EReal) = ((k : ℝ) : EReal) := by
  rw [eight]
  show (((w.toInt : ℝ) : EReal) - ((8 : ℝ) : EReal) : EReal) = _
  rw [← EReal.coe_sub, h]
  congr 1
  push_cast
  ring

theorem loW_apply (P : IVec S1024x160x16 8) (S : FVec Ideal S1024x160 .bf16) (o : Fin 1024) (g : Fin 160) (j : Fin 16) :
    loW P S (ix3 o g j) = ((((nib (P (ix3 o g j)) 0 : ℤ) : ℝ) : EReal) * S (ix2 o g) : EReal) := by
  pointwise [loW]
  rw [less_eight _ _ (low_int _)]
theorem hiW_apply (P : IVec S1024x160x16 8) (S : FVec Ideal S1024x160 .bf16) (o : Fin 1024) (g : Fin 160) (j : Fin 16) :
    hiW P S (ix3 o g j) = ((((nib (P (ix3 o g j)) 1 : ℤ) : ℝ) : EReal) * S (ix2 o g) : EReal) := by
  pointwise [hiW]
  rw [less_eight _ _ (high_int _)]

/-- A projection. -/
def projS (h : FVec Ideal S64x1x160x32 .bf16) (lo hi : FVec Ideal S1024x160x16 .bf16) : FVec Ideal S64x1x1024 .f32 :=
  addf (Host.dotGeneral dot_S64x1x160x16_S1024x160x16_S64x1x1024_23_12_01_0_n_n none (extractStridedSlice S64x1x160x16 ![0, 0, 0, 0] h slices_S64x1x160x32_S64x1x160x16_0_0_0_0) lo)
    (Host.dotGeneral dot_S64x1x160x16_S1024x160x16_S64x1x1024_23_12_01_0_n_n none (extractStridedSlice S64x1x160x16 ![0, 0, 0, 16] h slices_S64x1x160x32_S64x1x160x16_0_0_0_16) hi)

theorem projS_apply (h : FVec Ideal S64x1x160x32 .bf16) (lo hi : FVec Ideal S1024x160x16 .bf16) (t : Fin 64) (o : Fin 1024) :
    projS h lo hi (ix3 t 0 o) = (∑ g : Fin 160, ∑ j : Fin 16, (h (ix4 t 0 g ⟨j.val, by omega⟩) * lo (ix3 o g j) : EReal)
      + ∑ g : Fin 160, ∑ j : Fin 16, (h (ix4 t 0 g ⟨16 + j.val, by omega⟩) * hi (ix3 o g j) : EReal) : EReal) := by
  pointwise [projS]

theorem projS_eq (x : FVec Ideal S64x1x5120 .bf16) (w : FVec Ideal S5120 .bf16) (P : IVec S1024x160x16 8) (S : FVec Ideal S1024x160 .bf16) (t : Fin 64) (o : Fin 1024) :
    projS (hRef x w) (loW P S) (hiW P S) (ix3 t 0 o) = projOf (normed (fun d => x (ix3 t 0 d)) (fun d => w (ix1 d))) (fun g j => P (ix3 o g j)) (fun g => S (ix2 o g)) := by
  rw [projS_apply]
  unfold projOf
  rw [← sum_halves]
  refine congrArg₂ (fun a b : EReal => a + b) (Finset.sum_congr rfl fun g _ => Finset.sum_congr rfl fun j _ => ?_) (Finset.sum_congr rfl fun g _ => Finset.sum_congr rfl fun j _ => ?_)
  · rw [hRef_apply, loW_apply, term_low]
  · rw [hRef_apply, hiW_apply, term_high]

/-- A projection as a result. -/
def outS (y : FVec Ideal S64x1x1024 .f32) : FVec Ideal S64x8x128 .bf16 :=
  shapeCast _ (truncf .bf16 (shapeCast S64x1x8x128 y shapeCasts_S64x1x1024_S64x1x8x128) bitsLt_bf16_f32) shapeCasts_S64x1x8x128_S64x8x128

theorem outS_apply (y : FVec Ideal S64x1x1024 .f32) (t : Fin 64) (hd : Fin 8) (l : Fin 128) : outS y (ix3 t hd l) = y (ix3 t 0 ⟨128 * hd.val + l.val, by omega⟩) := by
  have e : ∀ h, (⟨hd.val * 128 + l.val, h⟩ : Fin 1024) = ⟨128 * hd.val + l.val, by omega⟩ := fun _ => Fin.ext (by show hd.val * 128 + l.val = 128 * hd.val + l.val; omega)
  pointwise [outS]
  rw [e]

/-- A projection rotated, as a result. -/
def ropeS (y : FVec Ideal S64x1x1024 .f32) (a : FVec Ideal S64x1x1x64 .f32) : FVec Ideal S64x8x128 .bf16 :=
  shapeCast _ (truncf .bf16 (concatenate S64x1x8x128 3 [⟨S64x1x8x64, (subf (mulf (extractStridedSlice S64x1x8x64 ![0, 0, 0, 0] (shapeCast S64x1x8x128 y shapeCasts_S64x1x1024_S64x1x8x128) slices_S64x1x8x128_S64x1x8x64_0_0_0_0) (broadcastInDim S64x1x8x64 ![0, 1, 2, 3] bcast_S64x1x1x64_S64x1x8x64_0_1_2_3 (Host.cos a))) (mulf (extractStridedSlice S64x1x8x64 ![0, 0, 0, 64] (shapeCast S64x1x8x128 y shapeCasts_S64x1x1024_S64x1x8x128) slices_S64x1x8x128_S64x1x8x64_0_0_0_64) (broadcastInDim S64x1x8x64 ![0, 1, 2, 3] bcast_S64x1x1x64_S64x1x8x64_0_1_2_3 (Host.sin a))))⟩, ⟨S64x1x8x64, (addf (mulf (extractStridedSlice S64x1x8x64 ![0, 0, 0, 64] (shapeCast S64x1x8x128 y shapeCasts_S64x1x1024_S64x1x8x128) slices_S64x1x8x128_S64x1x8x64_0_0_0_64) (broadcastInDim S64x1x8x64 ![0, 1, 2, 3] bcast_S64x1x1x64_S64x1x8x64_0_1_2_3 (Host.cos a))) (mulf (extractStridedSlice S64x1x8x64 ![0, 0, 0, 0] (shapeCast S64x1x8x128 y shapeCasts_S64x1x1024_S64x1x8x128) slices_S64x1x8x128_S64x1x8x64_0_0_0_0) (broadcastInDim S64x1x8x64 ![0, 1, 2, 3] bcast_S64x1x1x64_S64x1x8x64_0_1_2_3 (Host.sin a))))⟩] concatenates_S64x1x8x64_S64x1x8x64_S64x1x8x128_d3) bitsLt_bf16_f32) shapeCasts_S64x1x8x128_S64x8x128

theorem ropeS_left (y : FVec Ideal S64x1x1024 .f32) (a : FVec Ideal S64x1x1x64 .f32) (t : Fin 64) (hd : Fin 8) (l : Fin 64) :
    ropeS y a (ix3 t hd ⟨l.val, by omega⟩) = (y (ix3 t 0 ⟨128 * hd.val + l.val, by omega⟩) * Ideal.cos (a (ix4 t 0 0 l))
      - y (ix3 t 0 ⟨128 * hd.val + (64 + l.val), by omega⟩) * Ideal.sin (a (ix4 t 0 0 l)) : EReal) := by
  have e1 : ∀ h, (⟨hd.val * 128 + l.val, h⟩ : Fin 1024) = ⟨128 * hd.val + l.val, by omega⟩ := fun _ => Fin.ext (by show hd.val * 128 + l.val = 128 * hd.val + l.val; omega)
  have e2 : ∀ h, (⟨hd.val * 128 + (64 + l.val), h⟩ : Fin 1024) = ⟨128 * hd.val + (64 + l.val), by omega⟩ := fun _ => Fin.ext (by show hd.val * 128 + (64 + l.val) = 128 * hd.val + (64 + l.val); omega)
  pointwise [ropeS]
  rw [e1, e2]

theorem ropeS_right (y : FVec Ideal S64x1x1024 .f32) (a : FVec Ideal S64x1x1x64 .f32) (t : Fin 64) (hd : Fin 8) (l : Fin 64) :
    ropeS y a (ix3 t hd ⟨64 + l.val, by omega⟩) = (y (ix3 t 0 ⟨128 * hd.val + (64 + l.val), by omega⟩) * Ideal.cos (a (ix4 t 0 0 l))
      + y (ix3 t 0 ⟨128 * hd.val + l.val, by omega⟩) * Ideal.sin (a (ix4 t 0 0 l)) : EReal) := by
  have e1 : ∀ h, (⟨hd.val * 128 + l.val, h⟩ : Fin 1024) = ⟨128 * hd.val + l.val, by omega⟩ := fun _ => Fin.ext (by show hd.val * 128 + l.val = 128 * hd.val + l.val; omega)
  have e2 : ∀ h, (⟨hd.val * 128 + (64 + l.val), h⟩ : Fin 1024) = ⟨128 * hd.val + (64 + l.val), by omega⟩ := fun _ => Fin.ext (by show hd.val * 128 + (64 + l.val) = 128 * hd.val + (64 + l.val); omega)
  pointwise [ropeS]
  rw [e1, e2]

/-- The low halves of the groups' weights. -/
def loL (P : IVec S5120x160x16 8) (S : FVec Ideal S5120x160 .bf16) : FVec Ideal S5120x160x16 .bf16 :=
  mulf (subf (sitofp .bf16 (andi (extui 32 P natLt_8_32) (broadcastInDim S5120x160x16 ![] bcast_S_S5120x160x16 (constantI S_ 32 15#32)))) (broadcastInDim S5120x160x16 ![] bcast_S_S5120x160x16 (constant S_ .bf16 0x4100#16))) (broadcastInDim S5120x160x16 ![0, 1, 2] bcast_S5120x160x1_S5120x160x16_0_1_2 (broadcastInDim S5120x160x1 ![0, 1] bcast_S5120x160_S5120x160x1_0_1 S))
/-- The high halves. -/
def hiL (P : IVec S5120x160x16 8) (S : FVec Ideal S5120x160 .bf16) : FVec Ideal S5120x160x16 .bf16 :=
  mulf (subf (sitofp .bf16 (Host.shrsi (extui 32 P natLt_8_32) (broadcastInDim S5120x160x16 ![] bcast_S_S5120x160x16 (constantI S_ 32 4#32)))) (broadcastInDim S5120x160x16 ![] bcast_S_S5120x160x16 (constant S_ .bf16 0x4100#16))) (broadcastInDim S5120x160x16 ![0, 1, 2] bcast_S5120x160x1_S5120x160x16_0_1_2 (broadcastInDim S5120x160x1 ![0, 1] bcast_S5120x160_S5120x160x1_0_1 S))

theorem loL_apply (P : IVec S5120x160x16 8) (S : FVec Ideal S5120x160 .bf16) (o : Fin 5120) (g : Fin 160) (j : Fin 16) :
    loL P S (ix3 o g j) = ((((nib (P (ix3 o g j)) 0 : ℤ) : ℝ) : EReal) * S (ix2 o g) : EReal) := by
  pointwise [loL]
  rw [less_eight _ _ (low_int _)]
theorem hiL_apply (P : IVec S5120x160x16 8) (S : FVec Ideal S5120x160 .bf16) (o : Fin 5120) (g : Fin 160) (j : Fin 16) :
    hiL P S (ix3 o g j) = ((((nib (P (ix3 o g j)) 1 : ℤ) : ℝ) : EReal) * S (ix2 o g) : EReal) := by
  pointwise [hiL]
  rw [less_eight _ _ (high_int _)]

/-- A projection. -/
def projL (h : FVec Ideal S64x1x160x32 .bf16) (lo hi : FVec Ideal S5120x160x16 .bf16) : FVec Ideal S64x1x5120 .f32 :=
  addf (Host.dotGeneral dot_S64x1x160x16_S5120x160x16_S64x1x5120_23_12_01_0_n_n none (extractStridedSlice S64x1x160x16 ![0, 0, 0, 0] h slices_S64x1x160x32_S64x1x160x16_0_0_0_0) lo)
    (Host.dotGeneral dot_S64x1x160x16_S5120x160x16_S64x1x5120_23_12_01_0_n_n none (extractStridedSlice S64x1x160x16 ![0, 0, 0, 16] h slices_S64x1x160x32_S64x1x160x16_0_0_0_16) hi)

theorem projL_apply (h : FVec Ideal S64x1x160x32 .bf16) (lo hi : FVec Ideal S5120x160x16 .bf16) (t : Fin 64) (o : Fin 5120) :
    projL h lo hi (ix3 t 0 o) = (∑ g : Fin 160, ∑ j : Fin 16, (h (ix4 t 0 g ⟨j.val, by omega⟩) * lo (ix3 o g j) : EReal)
      + ∑ g : Fin 160, ∑ j : Fin 16, (h (ix4 t 0 g ⟨16 + j.val, by omega⟩) * hi (ix3 o g j) : EReal) : EReal) := by
  pointwise [projL]

theorem projL_eq (x : FVec Ideal S64x1x5120 .bf16) (w : FVec Ideal S5120 .bf16) (P : IVec S5120x160x16 8) (S : FVec Ideal S5120x160 .bf16) (t : Fin 64) (o : Fin 5120) :
    projL (hRef x w) (loL P S) (hiL P S) (ix3 t 0 o) = projOf (normed (fun d => x (ix3 t 0 d)) (fun d => w (ix1 d))) (fun g j => P (ix3 o g j)) (fun g => S (ix2 o g)) := by
  rw [projL_apply]
  unfold projOf
  rw [← sum_halves]
  refine congrArg₂ (fun a b : EReal => a + b) (Finset.sum_congr rfl fun g _ => Finset.sum_congr rfl fun j _ => ?_) (Finset.sum_congr rfl fun g _ => Finset.sum_congr rfl fun j _ => ?_)
  · rw [hRef_apply, loL_apply, term_low]
  · rw [hRef_apply, hiL_apply, term_high]

/-- A projection as a result. -/
def outL (y : FVec Ideal S64x1x5120 .f32) : FVec Ideal S64x40x128 .bf16 :=
  shapeCast _ (truncf .bf16 (shapeCast S64x1x40x128 y shapeCasts_S64x1x5120_S64x1x40x128) bitsLt_bf16_f32) shapeCasts_S64x1x40x128_S64x40x128

theorem outL_apply (y : FVec Ideal S64x1x5120 .f32) (t : Fin 64) (hd : Fin 40) (l : Fin 128) : outL y (ix3 t hd l) = y (ix3 t 0 ⟨128 * hd.val + l.val, by omega⟩) := by
  have e : ∀ h, (⟨hd.val * 128 + l.val, h⟩ : Fin 5120) = ⟨128 * hd.val + l.val, by omega⟩ := fun _ => Fin.ext (by show hd.val * 128 + l.val = 128 * hd.val + l.val; omega)
  pointwise [outL]
  rw [e]

/-- A projection rotated, as a result. -/
def ropeL (y : FVec Ideal S64x1x5120 .f32) (a : FVec Ideal S64x1x1x64 .f32) : FVec Ideal S64x40x128 .bf16 :=
  shapeCast _ (truncf .bf16 (concatenate S64x1x40x128 3 [⟨S64x1x40x64, (subf (mulf (extractStridedSlice S64x1x40x64 ![0, 0, 0, 0] (shapeCast S64x1x40x128 y shapeCasts_S64x1x5120_S64x1x40x128) slices_S64x1x40x128_S64x1x40x64_0_0_0_0) (broadcastInDim S64x1x40x64 ![0, 1, 2, 3] bcast_S64x1x1x64_S64x1x40x64_0_1_2_3 (Host.cos a))) (mulf (extractStridedSlice S64x1x40x64 ![0, 0, 0, 64] (shapeCast S64x1x40x128 y shapeCasts_S64x1x5120_S64x1x40x128) slices_S64x1x40x128_S64x1x40x64_0_0_0_64) (broadcastInDim S64x1x40x64 ![0, 1, 2, 3] bcast_S64x1x1x64_S64x1x40x64_0_1_2_3 (Host.sin a))))⟩, ⟨S64x1x40x64, (addf (mulf (extractStridedSlice S64x1x40x64 ![0, 0, 0, 64] (shapeCast S64x1x40x128 y shapeCasts_S64x1x5120_S64x1x40x128) slices_S64x1x40x128_S64x1x40x64_0_0_0_64) (broadcastInDim S64x1x40x64 ![0, 1, 2, 3] bcast_S64x1x1x64_S64x1x40x64_0_1_2_3 (Host.cos a))) (mulf (extractStridedSlice S64x1x40x64 ![0, 0, 0, 0] (shapeCast S64x1x40x128 y shapeCasts_S64x1x5120_S64x1x40x128) slices_S64x1x40x128_S64x1x40x64_0_0_0_0) (broadcastInDim S64x1x40x64 ![0, 1, 2, 3] bcast_S64x1x1x64_S64x1x40x64_0_1_2_3 (Host.sin a))))⟩] concatenates_S64x1x40x64_S64x1x40x64_S64x1x40x128_d3) bitsLt_bf16_f32) shapeCasts_S64x1x40x128_S64x40x128

theorem ropeL_left (y : FVec Ideal S64x1x5120 .f32) (a : FVec Ideal S64x1x1x64 .f32) (t : Fin 64) (hd : Fin 40) (l : Fin 64) :
    ropeL y a (ix3 t hd ⟨l.val, by omega⟩) = (y (ix3 t 0 ⟨128 * hd.val + l.val, by omega⟩) * Ideal.cos (a (ix4 t 0 0 l))
      - y (ix3 t 0 ⟨128 * hd.val + (64 + l.val), by omega⟩) * Ideal.sin (a (ix4 t 0 0 l)) : EReal) := by
  have e1 : ∀ h, (⟨hd.val * 128 + l.val, h⟩ : Fin 5120) = ⟨128 * hd.val + l.val, by omega⟩ := fun _ => Fin.ext (by show hd.val * 128 + l.val = 128 * hd.val + l.val; omega)
  have e2 : ∀ h, (⟨hd.val * 128 + (64 + l.val), h⟩ : Fin 5120) = ⟨128 * hd.val + (64 + l.val), by omega⟩ := fun _ => Fin.ext (by show hd.val * 128 + (64 + l.val) = 128 * hd.val + (64 + l.val); omega)
  pointwise [ropeL]
  rw [e1, e2]

theorem ropeL_right (y : FVec Ideal S64x1x5120 .f32) (a : FVec Ideal S64x1x1x64 .f32) (t : Fin 64) (hd : Fin 40) (l : Fin 64) :
    ropeL y a (ix3 t hd ⟨64 + l.val, by omega⟩) = (y (ix3 t 0 ⟨128 * hd.val + (64 + l.val), by omega⟩) * Ideal.cos (a (ix4 t 0 0 l))
      + y (ix3 t 0 ⟨128 * hd.val + l.val, by omega⟩) * Ideal.sin (a (ix4 t 0 0 l)) : EReal) := by
  have e1 : ∀ h, (⟨hd.val * 128 + l.val, h⟩ : Fin 5120) = ⟨128 * hd.val + l.val, by omega⟩ := fun _ => Fin.ext (by show hd.val * 128 + l.val = 128 * hd.val + l.val; omega)
  have e2 : ∀ h, (⟨hd.val * 128 + (64 + l.val), h⟩ : Fin 5120) = ⟨128 * hd.val + (64 + l.val), by omega⟩ := fun _ => Fin.ext (by show hd.val * 128 + (64 + l.val) = 128 * hd.val + (64 + l.val); omega)
  pointwise [ropeL]
  rw [e1, e2]

end Cert.ReferenceIdeal.Hand
-- ==== Proof.Value.Results.lean ====
/- The kernel's three results are the reference's. -/
module

public import proofs.«01_k».proof.Proof.Value.Heads
public import proofs.«01_k».proof.Proof.Value.Rope
public import proofs.«01_k».proof.Proof.Value.Ref

@[expose] public section

set_option maxRecDepth 20000

noncomputable section

namespace Cert.KernelIdeal.Hand

open Cert.KernelIdeal Cert.KernelIdeal.Gen Cert.Qkv
open Idealize.ShloMosaic Idealize.ShloMosaic.TcCoe
open Cert.ReferenceIdeal.Hand (hRef loW hiW projS outS ropeS loL hiL projL ropeL angRef projS_eq projL_eq outS_apply ropeS_left ropeS_right ropeL_left ropeL_right angRef_apply)

variable (m : (ℓ : Loc nD τ sig) → Buf (Elt Ideal) ℓ) (c : Dev nD)

/-- The inputs. -/
abbrev argX : FVec Ideal S64x1x5120 .bf16 := (m (c, main_arg0) : S64x1x5120.Idx → EReal)
/-- The norm's weights. -/
abbrev argN : FVec Ideal S5120 .bf16 := (m (c, main_arg1) : S5120.Idx → EReal)
/-- The positions. -/
abbrev argPos : IVec S64x1 32 := (m (c, main_arg2) : S64x1.Idx → BitVec 32)
/-- The packed weights and the scales of the three results. -/
abbrev argWq : IVec S5120x160x16 8 := (m (c, main_arg3) : S5120x160x16.Idx → BitVec 8)
@[inherit_doc argWq]
abbrev argSq : FVec Ideal S5120x160 .bf16 := (m (c, main_arg4) : S5120x160.Idx → EReal)
@[inherit_doc argWq]
abbrev argWk : IVec S1024x160x16 8 := (m (c, main_arg5) : S1024x160x16.Idx → BitVec 8)
@[inherit_doc argWq]
abbrev argSk : FVec Ideal S1024x160 .bf16 := (m (c, main_arg6) : S1024x160.Idx → EReal)
@[inherit_doc argWq]
abbrev argWv : IVec S1024x160x16 8 := (m (c, main_arg7) : S1024x160x16.Idx → BitVec 8)
@[inherit_doc argWq]
abbrev argSv : FVec Ideal S1024x160 .bf16 := (m (c, main_arg8) : S1024x160.Idx → EReal)

/-- The reference's projections. -/
def yq : FVec Ideal Cert.ReferenceIdeal.S64x1x5120 .f32 := projL (hRef (argX m c) (argN m c)) (loL (argWq m c) (argSq m c)) (hiL (argWq m c) (argSq m c))
@[inherit_doc yq]
def yk : FVec Ideal Cert.ReferenceIdeal.S64x1x1024 .f32 := projS (hRef (argX m c) (argN m c)) (loW (argWk m c) (argSk m c)) (hiW (argWk m c) (argSk m c))
@[inherit_doc yq]
def yv : FVec Ideal Cert.ReferenceIdeal.S64x1x1024 .f32 := projS (hRef (argX m c) (argN m c)) (loW (argWv m c) (argSv m c)) (hiW (argWv m c) (argSv m c))

theorem q_pick (hd : Fin 40) (t : Fin 64) (l : Fin 128) : pick (sumsOf m c) 0 hd.val (ix2 t l) = yq m c (ix3 t 0 ⟨128 * hd.val + l.val, by omega⟩) := by
  unfold yq
  rw [projL_eq]
  simp only [ix1_eq_valueIdx, ix2_eq_valueIdx, ix3_eq_valueIdx]
  exact pick_q m c hd t l
theorem k_pick (hd : Fin 8) (t : Fin 64) (l : Fin 128) : pick (sumsOf m c) 10 hd.val (ix2 t l) = yk m c (ix3 t 0 ⟨128 * hd.val + l.val, by omega⟩) := by
  unfold yk
  rw [projS_eq]
  simp only [ix1_eq_valueIdx, ix2_eq_valueIdx, ix3_eq_valueIdx]
  exact pick_k m c hd t l
theorem v_pick (hd : Fin 8) (t : Fin 64) (l : Fin 128) : pick (sumsOf m c) 12 hd.val (ix2 t l) = yv m c (ix3 t 0 ⟨128 * hd.val + l.val, by omega⟩) := by
  unfold yv
  rw [projS_eq]
  simp only [ix1_eq_valueIdx, ix2_eq_valueIdx, ix3_eq_valueIdx]
  exact pick_v m c hd t l

theorem lit_low : ∀ l : Fin 64, Cert.KernelIdeal.lit0 ⟨l.val, by omega⟩ = Cert.ReferenceIdeal.lit0 l := by decide +kernel
theorem lit_high : ∀ l : Fin 64, Cert.KernelIdeal.lit0 ⟨64 + l.val, by omega⟩ = Cert.ReferenceIdeal.lit0 l := by decide +kernel

theorem angle_at (t : Fin 64) (l : Fin 128) (l' : Fin 64) (h : Cert.KernelIdeal.lit0 l = Cert.ReferenceIdeal.lit0 l') :
    angleOf m c (ix2 t l) = angRef (argPos m c) (ix4 t 0 0 l') := by
  have e1 := pos_read m c t
  have e2 := freq_read m c l
  rw [← ix2_eq_valueIdx, ← ix2_eq_valueIdx] at e1
  rw [← ix2_eq_valueIdx, h] at e2
  unfold angleOf
  rw [angle_apply, angRef_apply, e1, e2]

/-- The cosines and the signed sines. -/
abbrev cosOf : FVec Ideal S64x128 .f32 := cos (angleOf m c)
@[inherit_doc cosOf]
abbrev sinOf : FVec Ideal S64x128 .f32 := signed (angleOf m c) lanes

theorem sin_at (t : Fin 64) (l : Fin 128) : sinOf m c (ix2 t l) = (if l.val < 64 then - Ideal.sin (angleOf m c (ix2 t l)) else Ideal.sin (angleOf m c (ix2 t l)) : EReal) :=
  signed_apply (angleOf m c) t l

theorem rot_apply (y : FVec Ideal S64x128 .f32) (t : Fin 64) (l : Fin 128) : rot true (cosOf m c) (sinOf m c) y (ix2 t l)
    = (y (ix2 t l) * Ideal.cos (angleOf m c (ix2 t l)) + y (ix2 t ⟨(l.val + 64) % 128, by omega⟩) * sinOf m c (ix2 t l) : EReal) := by
  show roped y (arg25.view.readAt (Elt Ideal) rTrig.toLoadRect (cosOf m c)) (arg26.view.readAt (Elt Ideal) rTrig.toLoadRect (sinOf m c)) (ix2 t l) = _
  rw [roped_apply, readC, readS]
  rfl

theorem rot_left (y : FVec Ideal S64x128 .f32) (t : Fin 64) (l : Fin 64) : rot true (cosOf m c) (sinOf m c) y (ix2 t ⟨l.val, by omega⟩)
    = (y (ix2 t ⟨l.val, by omega⟩) * Ideal.cos (angRef (argPos m c) (ix4 t 0 0 l)) - y (ix2 t ⟨64 + l.val, by omega⟩) * Ideal.sin (angRef (argPos m c) (ix4 t 0 0 l)) : EReal) := by
  have e : (⟨((⟨l.val, by omega⟩ : Fin 128).val + 64) % 128, by omega⟩ : Fin 128) = ⟨64 + l.val, by omega⟩ := Fin.ext (by show (l.val + 64) % 128 = 64 + l.val; omega)
  rw [rot_apply, e, sin_at, if_pos (show l.val < 64 from l.isLt), angle_at m c t _ l (lit_low l)]
  generalize Ideal.sin _ = s
  rw [sub_eq_add_neg, mul_neg]

theorem rot_right (y : FVec Ideal S64x128 .f32) (t : Fin 64) (l : Fin 64) : rot true (cosOf m c) (sinOf m c) y (ix2 t ⟨64 + l.val, by omega⟩)
    = (y (ix2 t ⟨64 + l.val, by omega⟩) * Ideal.cos (angRef (argPos m c) (ix4 t 0 0 l)) + y (ix2 t ⟨l.val, by omega⟩) * Ideal.sin (angRef (argPos m c) (ix4 t 0 0 l)) : EReal) := by
  have e : (⟨((⟨64 + l.val, by omega⟩ : Fin 128).val + 64) % 128, by omega⟩ : Fin 128) = ⟨l.val, by omega⟩ := Fin.ext (by show (64 + l.val + 64) % 128 = l.val; omega)
  rw [rot_apply, e, sin_at, if_neg (show ¬ 64 + l.val < 64 by omega), angle_at m c t _ l (lit_high l)]

theorem at2_eq (t : Fin 64) (l : Fin 128) : at2 t l = ix2 t l := funext fun a => by fin_cases a <;> rfl

theorem lane_cases (l : Fin 128) : (∃ k : Fin 64, l = ⟨k.val, by omega⟩) ∨ ∃ k : Fin 64, l = ⟨64 + k.val, by omega⟩ := by
  by_cases h : l.val < 64
  · exact .inl ⟨⟨l.val, h⟩, rfl⟩
  · exact .inr ⟨⟨l.val - 64, by omega⟩, Fin.ext (by show l.val = 64 + (l.val - 64); omega)⟩

theorem v_eq : (vOf m c : S64x8x128.Idx → EReal) = outS (yv m c) := by
  funext i
  obtain ⟨t, hd, l, rfl⟩ : ∃ (t : Fin 64) (hd : Fin 8) (l : Fin 128), i = ix3 t hd l := ⟨i 0, i 1, i 2, funext fun a => by fin_cases a <;> rfl⟩
  rw [outS_apply, ← v_pick, ← at2_eq]
  rfl

theorem k_eq : (kOf m c : S64x8x128.Idx → EReal) = ropeS (yk m c) (angRef (argPos m c)) := by
  funext i
  obtain ⟨t, hd, l, rfl⟩ : ∃ (t : Fin 64) (hd : Fin 8) (l : Fin 128), i = ix3 t hd l := ⟨i 0, i 1, i 2, funext fun a => by fin_cases a <;> rfl⟩
  have e : (kOf m c : S64x8x128.Idx → EReal) (ix3 t hd l) = rot true (cosOf m c) (sinOf m c) (pick (sumsOf m c) 10 hd.val) (at2 t l) := rfl
  rw [e, at2_eq]
  obtain ⟨k, rfl⟩ | ⟨k, rfl⟩ := lane_cases l
  · rw [rot_left, ropeS_left, k_pick, k_pick]
  · rw [rot_right, ropeS_right, k_pick, k_pick]

theorem q_eq : (qOf m c : S64x40x128.Idx → EReal) = ropeL (yq m c) (angRef (argPos m c)) := by
  funext i
  obtain ⟨t, hd, l, rfl⟩ : ∃ (t : Fin 64) (hd : Fin 40) (l : Fin 128), i = ix3 t hd l := ⟨i 0, i 1, i 2, funext fun a => by fin_cases a <;> rfl⟩
  have e : (qOf m c : S64x40x128.Idx → EReal) (ix3 t hd l) = rot true (cosOf m c) (sinOf m c) (pick (sumsOf m c) 0 hd.val) (at2 t l) := rfl
  rw [e, at2_eq]
  obtain ⟨k, rfl⟩ | ⟨k, rfl⟩ := lane_cases l
  · rw [rot_left, ropeL_left, q_pick, q_pick]
  · rw [rot_right, ropeL_right, q_pick, q_pick]

end Cert.KernelIdeal.Hand

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem out_q : Value.res_main_v122 m c = ropeL (projL (hRef (m ((c.tc : Thread nD τ).loc main_arg0)) (m ((c.tc : Thread nD τ).loc main_arg1)))
    (loL (m ((c.tc : Thread nD τ).loc main_arg3)) (m ((c.tc : Thread nD τ).loc main_arg4))) (hiL (m ((c.tc : Thread nD τ).loc main_arg3)) (m ((c.tc : Thread nD τ).loc main_arg4)))) (angRef (m ((c.tc : Thread nD τ).loc main_arg2))) := by
  unfold Value.res_main_v122
  rfl

theorem out_k : Value.res_main_v123 m c = ropeS (projS (hRef (m ((c.tc : Thread nD τ).loc main_arg0)) (m ((c.tc : Thread nD τ).loc main_arg1)))
    (loW (m ((c.tc : Thread nD τ).loc main_arg5)) (m ((c.tc : Thread nD τ).loc main_arg6))) (hiW (m ((c.tc : Thread nD τ).loc main_arg5)) (m ((c.tc : Thread nD τ).loc main_arg6)))) (angRef (m ((c.tc : Thread nD τ).loc main_arg2))) := by
  unfold Value.res_main_v123
  rfl

/-- The third result. -/
abbrev outV : FVec Ideal S64x8x128 .bf16 := outS (projS (hRef (m ((c.tc : Thread nD τ).loc main_arg0)) (m ((c.tc : Thread nD τ).loc main_arg1)))
    (loW (m ((c.tc : Thread nD τ).loc main_arg7)) (m ((c.tc : Thread nD τ).loc main_arg8))) (hiW (m ((c.tc : Thread nD τ).loc main_arg7)) (m ((c.tc : Thread nD τ).loc main_arg8))))

end Cert.ReferenceIdeal.Hand
-- ==== Proof.lean ====
/- The certificate: the frames of the kernel (as printed and idealized) and of the reference, what the rewrites of `PI`
   keep, and the equality of the three results with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launched
public import proofs.«01_k».proof.Proof.Plain.Launched
public import proofs.«01_k».proof.Proof.Value.Results
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.ShloMosaic.TcCoe
open Idealize.SL Idealize.SL.Sem

theorem frame_kernel : Cert.quiescent_Kernel (hKernel := Cert.Kernel.Gen.facts) :=
  fun m ρ _ => (θ_run _ _ _).mono (fun _ h => ⟨h.1, h.2.1⟩) (Cert.Kernel.Hand.run_main m ρ)

theorem frame_kernelIdeal : Cert.quiescent_KernelIdeal (hKernelIdeal := Cert.KernelIdeal.Gen.facts) :=
  fun m ρ _ => (θ_run _ _ _).mono (fun _ h => ⟨h.1, h.2.1⟩) (Cert.KernelIdeal.Hand.run_main m ρ)

theorem frame_reference : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩) (Cert.ReferenceIdeal.Value.run m ρ)

theorem equal_results : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Hand.qOf m, Cert.KernelIdeal.Hand.kOf m, Cert.KernelIdeal.Hand.vOf m, ?_, ?_⟩
  · exact (θ_run _ _ _).mono (fun _ h c => ⟨(h.2.2 c).1, (h.2.2 c).2.1, (h.2.2 c).2.2, h.1 c⟩) (Cert.KernelIdeal.Hand.run_main m g)
  · refine (θ_run Cert.ReferenceIdeal.defs _ _).mono (fun r h c => ?_) (Cert.ReferenceIdeal.Value.run m' g')
    obtain ⟨h0, h1, h2, h3, h4, h5, h6, h7, h8⟩ := hargs c
    obtain ⟨hq, hk, hv, hrest⟩ := h c
    refine ⟨(hq.trans (Cert.ReferenceIdeal.Hand.out_q m' c)).trans ?_, (hk.trans (Cert.ReferenceIdeal.Hand.out_k m' c)).trans ?_,
      (hv.trans (show _ = Cert.ReferenceIdeal.Hand.outV m' c from rfl)).trans ?_, hrest⟩
    · rw [h0, h1, h2, h3, h4]
      exact (Cert.KernelIdeal.Hand.q_eq m c).symm
    · rw [h0, h1, h2, h5, h6]
      exact (Cert.KernelIdeal.Hand.k_eq m c).symm
    · unfold Cert.ReferenceIdeal.Hand.outV
      rw [h0, h1, h7, h8]
      exact (Cert.KernelIdeal.Hand.v_eq m c).symm

theorem claim : Cert.Claim :=
  ⟨Cert.Kernel.Gen.facts, Cert.KernelIdeal.Gen.facts, Cert.ReferenceIdeal.Gen.facts, frame_kernel, frame_kernelIdeal,
    frame_reference, ⟨IdealRules.bf16_pair.packStatement _, IdealRules.bf16_pair.statement _ _⟩, equal_results⟩

end Cert.Proof

end
